-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4224, 10240]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v63_0) i = v0 c i)
          ∧ (∀ i : (⟨3, ![4, 512, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v63_1) i = v1 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v63_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4224, 10240]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v134) i = v0 c i)
          ∧ (∀ i : (⟨3, ![4, 512, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v87) i = v1 c i)
          ∧ (∀ i : (⟨2, ![1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v79) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_v9) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_v7) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v12_0)) (v1 : (c : Dev Cert.Kernel13Ideal.nD) → Buf (Elt Ideal) ((c.tc : Thread Cert.Kernel13Ideal.nD Cert.Kernel13Ideal.τ).loc Cert.Kernel13Ideal.main_v12_1)) (v2 : (c : Dev Cert.Kernel13Ideal.nD) → Buf (Elt Ideal) ((c.tc : Thread Cert.Kernel13Ideal.nD Cert.Kernel13Ideal.τ).loc Cert.Kernel13Ideal.main_v12_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v12_0) = v0 c
          ∧ r.2.mem ((c.tc : Thread Cert.Kernel13Ideal.nD Cert.Kernel13Ideal.τ).loc Cert.Kernel13Ideal.main_v12_1) = v1 c
          ∧ r.2.mem ((c.tc : Thread Cert.Kernel13Ideal.nD Cert.Kernel13Ideal.τ).loc Cert.Kernel13Ideal.main_v12_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_v19) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_on_written14 [hKernel14Ideal : Cert.Kernel14Ideal.Facts] [hReference14Ideal : Cert.Reference14Ideal.Facts] [hOn_written14 : Cert.On_written14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v12_0)) (v1 : (c : Dev Cert.Kernel14Ideal.nD) → Buf (Elt Ideal) ((c.tc : Thread Cert.Kernel14Ideal.nD Cert.Kernel14Ideal.τ).loc Cert.Kernel14Ideal.main_v12_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          (∀ i : (⟨2, ![4224, 2048]⟩ : Shape).Idx, (Cert.On_written14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 i = 1#1 → r.2.mem ((c.tc : Thread Cert.Kernel14Ideal.nD Cert.Kernel14Ideal.τ).loc Cert.Kernel14Ideal.main_v12_0) i = v0 c i)
          ∧ (∀ i : (⟨2, ![1, 2048]⟩ : Shape).Idx, (Cert.On_written14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2 i = 1#1 → r.2.mem ((c.tc : Thread Cert.Kernel14Ideal.nD Cert.Kernel14Ideal.τ).loc Cert.Kernel14Ideal.main_v12_1) i = v1 c i)
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          (∀ i : (⟨2, ![4224, 2048]⟩ : Shape).Idx, (Cert.On_written14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 i = 1#1 → r.2.mem ((c.tc : Thread Cert.Reference14Ideal.nD Cert.Reference14Ideal.τ).loc Cert.Reference14Ideal.main_v41) i = v0 c i)
          ∧ (∀ i : (⟨2, ![1, 2048]⟩ : Shape).Idx, (Cert.On_written14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2 i = 1#1 → r.2.mem ((c.tc : Thread Cert.Reference14Ideal.nD Cert.Reference14Ideal.τ).loc Cert.Reference14Ideal.main_v22) i = v1 c i)
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v12_0)) (v1 : (c : Dev Cert.Kernel15Ideal.nD) → Buf (Elt Ideal) ((c.tc : Thread Cert.Kernel15Ideal.nD Cert.Kernel15Ideal.τ).loc Cert.Kernel15Ideal.main_v12_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v12_0) = v0 c
          ∧ r.2.mem ((c.tc : Thread Cert.Kernel15Ideal.nD Cert.Kernel15Ideal.τ).loc Cert.Kernel15Ideal.main_v12_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v41) = v0 c
          ∧ r.2.mem ((c.tc : Thread Cert.Reference15Ideal.nD Cert.Reference15Ideal.τ).loc Cert.Reference15Ideal.main_v42) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v60) = v0 c
          ∧ r.2.mem ((c.tc : Thread Cert.Reference16Ideal.nD Cert.Reference16Ideal.τ).loc Cert.Reference16Ideal.main_v61) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hOn_written : Cert.On_written.Facts) (hOn_written14 : Cert.On_written14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_on_written14 (hKernel14Ideal := hKernel14Ideal) (hReference14Ideal := hReference14Ideal) (hOn_written14 := hOn_written14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== On_written.lean ====
abbrev S4224x10240 : Shape := ⟨2, ![4224, 10240]⟩
abbrev S4x512x512 : Shape := ⟨3, ![4, 512, 512]⟩
abbrev S1x2048 : Shape := ⟨2, ![1, 2048]⟩
abbrev S4224x2048 : Shape := ⟨2, ![4224, 2048]⟩
abbrev S_ : Shape := ⟨0, ![]⟩

class Facts : Prop where
  bcast_S_S4224x10240 : S_.BroadcastsInDim S4224x10240 (![] : Fin 0 → Fin S4224x10240.rank)
  bcast_S_S4x512x512 : S_.BroadcastsInDim S4x512x512 (![] : Fin 0 → Fin S4x512x512.rank)
  bcast_S_S1x2048 : S_.BroadcastsInDim S1x2048 (![] : Fin 0 → Fin S1x2048.rank)

variable [Facts]

def fn {F : FTy → Type} [FloatOps F] (main_arg0 : FVec F S4224x10240 .f32) (main_arg1 : FVec F S4x512x512 .f32) (main_arg2 : FVec F S1x2048 .f32) (main_arg3 : FVec F S4224x2048 .f32) : IVec S4224x10240 1 × IVec S4x512x512 1 × IVec S1x2048 1 :=
  let main_v0 : IVec S4224x10240 32 := iotaInDim S4224x10240 32 1
  let main_c : IVec S_ 32 := constantI S_ 32 2048#32
  let main_v1 : IVec S4224x10240 32 := broadcastInDim S4224x10240 ![] bcast_S_S4224x10240 main_c
  let main_v2 : IVec S4224x10240 1 := cmpi .slt main_v0 main_v1
  let main_c_0 : IVec S_ 32 := constantI S_ 32 6144#32
  let main_v3 : IVec S4224x10240 32 := broadcastInDim S4224x10240 ![] bcast_S_S4224x10240 main_c_0
  let main_v4 : IVec S4224x10240 1 := cmpi .sge main_v0 main_v3
  let main_c_1 : IVec S_ 32 := constantI S_ 32 8192#32
  let main_v5 : IVec S4224x10240 32 := broadcastInDim S4224x10240 ![] bcast_S_S4224x10240 main_c_1
  let main_v6 : IVec S4224x10240 1 := cmpi .slt main_v0 main_v5
  let main_v7 : IVec S4224x10240 1 := andi main_v4 main_v6
  let main_v8 : IVec S4224x10240 1 := ori main_v2 main_v7
  let main_c_2 : IVec S_ 1 := constantI S_ 1 1#1
  let main_v9 : IVec S4x512x512 1 := broadcastInDim S4x512x512 ![] bcast_S_S4x512x512 main_c_2
  let main_c_3 : IVec S_ 1 := constantI S_ 1 1#1
  let main_v10 : IVec S1x2048 1 := broadcastInDim S1x2048 ![] bcast_S_S1x2048 main_c_3
  (main_v8, main_v9, main_v10)
-- ==== On_written14.lean ====
abbrev S4224x10240 : Shape := ⟨2, ![4224, 10240]⟩
abbrev S2048x10240 : Shape := ⟨2, ![2048, 10240]⟩
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x10240 .f32) (main_arg1 : FVec F S2048x10240 .f32) (main_arg2 : FVec F S4224x2048 .f32) (main_arg3 : FVec F S4224x2048 .f32) (main_arg4 : FVec F S1x2048 .f32) : IVec S4224x2048 1 × IVec S1x2048 1 :=
  let main_v0 : IVec S4224x2048 32 := iotaInDim S4224x2048 32 0
  let main_c : IVec S_ 32 := constantI S_ 32 2112#32
  let main_v1 : IVec S4224x2048 32 := broadcastInDim S4224x2048 ![] bcast_S_S4224x2048 main_c
  let main_v2 : IVec S4224x2048 1 := cmpi .slt main_v0 main_v1
  let main_c_0 : IVec S_ 1 := constantI S_ 1 1#1
  let main_v3 : IVec S1x2048 1 := broadcastInDim S1x2048 ![] bcast_S_S1x2048 main_c_0
  (main_v2, main_v3)
-- ==== Kernel.lean ====
abbrev S4224x10240 : Shape := ⟨2, ![4224, 10240]⟩
abbrev S4x512x512 : Shape := ⟨3, ![4, 512, 512]⟩
abbrev S1x2048 : Shape := ⟨2, ![1, 2048]⟩
abbrev S4224x2048 : Shape := ⟨2, ![4224, 2048]⟩
abbrev S4224x512 : Shape := ⟨2, ![4224, 512]⟩
abbrev S_ : Shape := ⟨0, ![]⟩
abbrev S4224 : Shape := ⟨1, ![4224]⟩
abbrev S4224x1 : Shape := ⟨2, ![4224, 1]⟩
abbrev S4224x1x512 : Shape := ⟨3, ![4224, 1, 512]⟩
abbrev S4224x4x512 : Shape := ⟨3, ![4224, 4, 512]⟩
abbrev S4x512x4224 : Shape := ⟨3, ![4, 512, 4224]⟩
abbrev S384x2048 : Shape := ⟨2, ![384, 2048]⟩
abbrev S16x2048 : Shape := ⟨2, ![16, 2048]⟩
abbrev S2x2x384x2048 : Shape := ⟨4, ![2, 2, 384, 2048]⟩
abbrev S4 : Shape := ⟨1, ![4]⟩
abbrev S1 : Shape := ⟨1, ![1]⟩
abbrev S1x1x384x2048 : Shape := ⟨4, ![1, 1, 384, 2048]⟩
abbrev S384x1 : Shape := ⟨2, ![384, 1]⟩
abbrev S2048 : Shape := ⟨1, ![2048]⟩
abbrev S384x512 : Shape := ⟨2, ![384, 512]⟩
abbrev S1x512x512 : Shape := ⟨3, ![1, 512, 512]⟩
abbrev S512x512 : Shape := ⟨2, ![512, 512]⟩
abbrev S16x512 : Shape := ⟨2, ![16, 512]⟩
abbrev S400x512 : Shape := ⟨2, ![400, 512]⟩
abbrev S1x1x384x512 : Shape := ⟨4, ![1, 1, 384, 512]⟩

abbrev nBuf : Space → Nat
  | .hbm => 82
  | .vmem => 14
  | .smem => 0
  | _ => 0

abbrev bufTy : (tb : Table) → Fin (tcTables nBuf tb) → BufTy
  | .hbm, ⟨0, _⟩ => ⟨S4224x10240, .f32⟩
  | .hbm, ⟨1, _⟩ => ⟨S4x512x512, .f32⟩
  | .hbm, ⟨2, _⟩ => ⟨S1x2048, .f32⟩
  | .hbm, ⟨3, _⟩ => ⟨S4224x2048, .f32⟩
  | .hbm, ⟨4, _⟩ => ⟨S4224x512, .f32⟩
  | .hbm, ⟨5, _⟩ => ⟨S_, .f32⟩
  | .hbm, ⟨6, _⟩ => ⟨S_, .f32⟩
  | .hbm, ⟨7, _⟩ => ⟨S4224x512, .f32⟩
  | .hbm, ⟨8, _⟩ => ⟨S4224, .i32⟩
  | .hbm, ⟨9, _⟩ => ⟨S_, .i32⟩
  | .hbm, ⟨10, _⟩ => ⟨S4224, .i32⟩
  | .hbm, ⟨11, _⟩ => ⟨S4224, .i32⟩
  | .hbm, ⟨12, _⟩ => ⟨S_, .i32⟩
  | .hbm, ⟨13, _⟩ => ⟨S4224, .i32⟩
  | .hbm, ⟨14, _⟩ => ⟨S4224, .i32⟩
  | .hbm, ⟨15, _⟩ => ⟨S4224, .f32⟩
  | .hbm, ⟨16, _⟩ => ⟨S4224x1, .f32⟩
  | .hbm, ⟨17, _⟩ => ⟨S4224x512, .f32⟩
  | .hbm, ⟨18, _⟩ => ⟨S4224x512, .f32⟩
  | .hbm, ⟨19, _⟩ => ⟨S4224x512, .f32⟩
  | .hbm, ⟨20, _⟩ => ⟨S4224x512, .f32⟩
  | .hbm, ⟨21, _⟩ => ⟨S_, .f32⟩
  | .hbm, ⟨22, _⟩ => ⟨S_, .f32⟩
  | .hbm, ⟨23, _⟩ => ⟨S4224x512, .f32⟩
  | .hbm, ⟨24, _⟩ => ⟨S4224, .i32⟩
  | .hbm, ⟨25, _⟩ => ⟨S_, .i32⟩
  | .hbm, ⟨26, _⟩ => ⟨S4224, .i32⟩
  | .hbm, ⟨27, _⟩ => ⟨S4224, .i32⟩
  | .hbm, ⟨28, _⟩ => ⟨S_, .i32⟩
  | .hbm, ⟨29, _⟩ => ⟨S4224, .i32⟩
  | .hbm, ⟨30, _⟩ => ⟨S4224, .i32⟩
  | .hbm, ⟨31, _⟩ => ⟨S4224, .f32⟩
  | .hbm, ⟨32, _⟩ => ⟨S4224x1, .f32⟩
  | .hbm, ⟨33, _⟩ => ⟨S4224x512, .f32⟩
  | .hbm, ⟨34, _⟩ => ⟨S4224x512, .f32⟩
  | .hbm, ⟨35, _⟩ => ⟨S4224x512, .f32⟩
  | .hbm, ⟨36, _⟩ => ⟨S4224x512, .f32⟩
  | .hbm, ⟨37, _⟩ => ⟨S_, .f32⟩
  | .hbm, ⟨38, _⟩ => ⟨S_, .f32⟩
  | .hbm, ⟨39, _⟩ => ⟨S4224x512, .f32⟩
  | .hbm, ⟨40, _⟩ => ⟨S4224, .i32⟩
  | .hbm, ⟨41, _⟩ => ⟨S_, .i32⟩
  | .hbm, ⟨42, _⟩ => ⟨S4224, .i32⟩
  | .hbm, ⟨43, _⟩ => ⟨S4224, .i32⟩
  | .hbm, ⟨44, _⟩ => ⟨S_, .i32⟩
  | .hbm, ⟨45, _⟩ => ⟨S4224, .i32⟩
  | .hbm, ⟨46, _⟩ => ⟨S4224, .i32⟩
  | .hbm, ⟨47, _⟩ => ⟨S4224, .f32⟩
  | .hbm, ⟨48, _⟩ => ⟨S4224x1, .f32⟩
  | .hbm, ⟨49, _⟩ => ⟨S4224x512, .f32⟩
  | .hbm, ⟨50, _⟩ => ⟨S4224x512, .f32⟩
  | .hbm, ⟨51, _⟩ => ⟨S4224x512, .f32⟩
  | .hbm, ⟨52, _⟩ => ⟨S4224x512, .f32⟩
  | .hbm, ⟨53, _⟩ => ⟨S_, .f32⟩
  | .hbm, ⟨54, _⟩ => ⟨S_, .f32⟩
  | .hbm, ⟨55, _⟩ => ⟨S4224x512, .f32⟩
  | .hbm, ⟨56, _⟩ => ⟨S4224, .i32⟩
  | .hbm, ⟨57, _⟩ => ⟨S_, .i32⟩
  | .hbm, ⟨58, _⟩ => ⟨S4224, .i32⟩
  | .hbm, ⟨59, _⟩ => ⟨S4224, .i32⟩
  | .hbm, ⟨60, _⟩ => ⟨S_, .i32⟩
  | .hbm, ⟨61, _⟩ => ⟨S4224, .i32⟩
  | .hbm, ⟨62, _⟩ => ⟨S4224, .i32⟩
  | .hbm, ⟨63, _⟩ => ⟨S4224, .f32⟩
  | .hbm, ⟨64, _⟩ => ⟨S4224x1, .f32⟩
  | .hbm, ⟨65, _⟩ => ⟨S4224x512, .f32⟩
  | .hbm, ⟨66, _⟩ => ⟨S4224x512, .f32⟩
  | .hbm, ⟨67, _⟩ => ⟨S4224x512, .f32⟩
  | .hbm, ⟨68, _⟩ => ⟨S4224x1x512, .f32⟩
  | .hbm, ⟨69, _⟩ => ⟨S4224x1x512, .f32⟩
  | .hbm, ⟨70, _⟩ => ⟨S4224x1x512, .f32⟩
  | .hbm, ⟨71, _⟩ => ⟨S4224x1x512, .f32⟩
  | .hbm, ⟨72, _⟩ => ⟨S4224x4x512, .f32⟩
  | .hbm, ⟨73, _⟩ => ⟨S4x512x4224, .f32⟩
  | .hbm, ⟨74, _⟩ => ⟨S4224x4x512, .f32⟩
  | .hbm, ⟨75, _⟩ => ⟨S4224x2048, .f32⟩
  | .hbm, ⟨76, _⟩ => ⟨S4224x2048, .bf16⟩
  | .hbm, ⟨77, _⟩ => ⟨S4224x2048, .f32⟩
  | .hbm, ⟨78, _⟩ => ⟨S4x512x512, .bf16⟩
  | .hbm, ⟨79, _⟩ => ⟨S4224x10240, .bf16⟩
  | .hbm, ⟨80, _⟩ => ⟨S4x512x512, .f32⟩
  | .hbm, ⟨81, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .f32⟩
  | .local _ .vmem, ⟨6, _⟩ => ⟨S384x2048, .bf16⟩
  | .local _ .vmem, ⟨7, _⟩ => ⟨S384x2048, .bf16⟩
  | .local _ .vmem, ⟨8, _⟩ => ⟨S1x2048, .f32⟩
  | .local _ .vmem, ⟨9, _⟩ => ⟨S4x512x512, .bf16⟩
  | .local _ .vmem, ⟨10, _⟩ => ⟨S4x512x512, .f32⟩
  | .local _ .vmem, ⟨11, _⟩ => ⟨S1x2048, .f32⟩
  | .local _ .vmem, ⟨12, _⟩ => ⟨S16x2048, .f32⟩
  | .local _ .vmem, ⟨13, _⟩ => ⟨S2x2x384x2048, .bf16⟩
  | _, _ => ⟨S4224x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63_0 : Ref sig .tc := ⟨.hbm, 79, rfl⟩
abbrev main_v63_1 : Ref sig .tc := ⟨.hbm, 80, rfl⟩
abbrev main_v63_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![11], ![false]⟩

def k0_mult1 (i : grid0.Coords) : BitVec 32 :=
  let c10_i32 : BitVec 32 := 10#32
  let arg0 : BitVec 32 := BitVec.ofNat 32 (i 0).val
  let v0 : BitVec 32 := Scalar.subi c10_i32 arg0
  let c384_i32 : BitVec 32 := 384#32
  let v11 : BitVec 32 := Scalar.muli v0 c384_i32
  v11
def k0_cond1 (i : grid0.Coords) : BitVec 1 :=
  let arg0 : BitVec 32 := BitVec.ofNat 32 (i 0).val
  let c2_i32_3 : BitVec 32 := 2#32
  let v13 : BitVec 1 := Scalar.cmpi .sge arg0 c2_i32_3
  let v14 : BitVec 32 := Scalar.extui v13
  let c0_i32_4 : BitVec 32 := 0#32
  let v15 : BitVec 1 := Scalar.cmpi .ne v14 c0_i32_4
  v15

def k0_off1 (i : grid0.Coords) (c0_i32_130 : BitVec 32) : Fin 1 → Nat :=
  let c2_i32_129 : BitVec 32 := 2#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v225 : BitVec 32 := Scalar.muli c2_i32_129 v10
  let v226 : BitVec 32 := Scalar.addi v225 c0_i32_130
  ![v226.toNat]
def k0_off2 (i : grid0.Coords) : Fin 2 → Nat :=
  let c10_i32 : BitVec 32 := 10#32
  let arg0 : BitVec 32 := BitVec.ofNat 32 (i 0).val
  let v0 : BitVec 32 := Scalar.subi c10_i32 arg0
  let c384_i32 : BitVec 32 := 384#32
  let v11 : BitVec 32 := Scalar.muli v0 c384_i32
  let v12 : BitVec 32 := v11
  let c0_i32_134 : BitVec 32 := 0#32
  ![v12.toNat, 0]
def k0_off3 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_133 : BitVec 32 := 0#32
  let c0_i32_135 : BitVec 32 := 0#32
  let c0_i32_136 : BitVec 32 := 0#32
  ![v10.toNat, 0, 0, 0]
def k0_off4 (i : grid0.Coords) : Fin 2 → Nat :=
  let c10_i32 : BitVec 32 := 10#32
  let arg0 : BitVec 32 := BitVec.ofNat 32 (i 0).val
  let v0 : BitVec 32 := Scalar.subi c10_i32 arg0
  let c384_i32 : BitVec 32 := 384#32
  let v11 : BitVec 32 := Scalar.muli v0 c384_i32
  let v12 : BitVec 32 := v11
  let c6144_i32_138 : BitVec 32 := 6144#32
  ![v12.toNat, 6144]
def k0_off5 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c1_i32_137 : BitVec 32 := 1#32
  let c0_i32_139 : BitVec 32 := 0#32
  let c0_i32_140 : BitVec 32 := 0#32
  ![v10.toNat, 1, 0, 0]
def k0_off6 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v38 : Index := Scalar.indexCast v10
  let c1 : Index := 1#32
  let c0_15 : Index := 0#32
  let c0_16 : Index := 0#32
  ![v38.toNat, 1, 0, 0]
def k0_off7 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_39 : BitVec 32 := 0#32
  let c0_i32_40 : BitVec 32 := 0#32
  let c0_i32_41 : BitVec 32 := 0#32
  ![v10.toNat, 0, 0, 0]
def k0_off8 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_39 : BitVec 32 := 0#32
  let c0_i32_40 : BitVec 32 := 0#32
  let c0_i32_41 : BitVec 32 := 0#32
  ![v10.toNat, 0, 0, 0]
def k0_off9 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_62 : BitVec 32 := 0#32
  let c0_i32_63 : BitVec 32 := 0#32
  ![v10.toNat, 0, 0, 512]
def k0_off10 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_85 : BitVec 32 := 0#32
  let c0_i32_86 : BitVec 32 := 0#32
  ![v10.toNat, 0, 0, 1024]
def k0_off11 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_109 : BitVec 32 := 0#32
  let c0_i32_110 : BitVec 32 := 0#32
  ![v10.toNat, 0, 0, 1536]
def k0_off12 (i : grid0.Coords) (c0_i32_117 : BitVec 32) : Fin 1 → Nat :=
  let c2_i32_116 : BitVec 32 := 2#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v208 : BitVec 32 := Scalar.muli c2_i32_116 v10
  let v209 : BitVec 32 := Scalar.addi v208 c0_i32_117
  ![v209.toNat]
def k0_off13 (i : grid0.Coords) : Fin 2 → Nat :=
  let c10_i32 : BitVec 32 := 10#32
  let arg0 : BitVec 32 := BitVec.ofNat 32 (i 0).val
  let v0 : BitVec 32 := Scalar.subi c10_i32 arg0
  let c384_i32 : BitVec 32 := 384#32
  let v11 : BitVec 32 := Scalar.muli v0 c384_i32
  let v12 : BitVec 32 := v11
  let c0_i32_121 : BitVec 32 := 0#32
  ![v12.toNat, 0]
def k0_off14 (i : grid0.Coords) : Fin 2 → Nat :=
  let c10_i32 : BitVec 32 := 10#32
  let arg0 : BitVec 32 := BitVec.ofNat 32 (i 0).val
  let v0 : BitVec 32 := Scalar.subi c10_i32 arg0
  let c384_i32 : BitVec 32 := 384#32
  let v11 : BitVec 32 := Scalar.muli v0 c384_i32
  let v12 : BitVec 32 := v11
  let c6144_i32 : BitVec 32 := 6144#32
  ![v12.toNat, 6144]
def k0_off15 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c1_i32_124 : BitVec 32 := 1#32
  let c0_i32_125 : BitVec 32 := 0#32
  let c0_i32_126 : BitVec 32 := 0#32
  ![v10.toNat, 1, 0, 0]
def k0_cond3 (i : grid0.Coords) : BitVec 1 :=
  let arg0 : BitVec 32 := BitVec.ofNat 32 (i 0).val
  let c10_i32_127 : BitVec 32 := 10#32
  let v222 : BitVec 1 := Scalar.cmpi .eq arg0 c10_i32_127
  let v223 : BitVec 32 := Scalar.extui v222
  let c0_i32_128 : BitVec 32 := 0#32
  let v224 : BitVec 1 := Scalar.cmpi .ne v223 c0_i32_128
  v224

def k0_off16 (i : grid0.Coords) (c0_i32_130 : BitVec 32) : Fin 1 → Nat :=
  let c2_i32_129 : BitVec 32 := 2#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v225 : BitVec 32 := Scalar.muli c2_i32_129 v10
  let v226 : BitVec 32 := Scalar.addi v225 c0_i32_130
  ![v226.toNat]
def k0_off17 (i : grid0.Coords) : Fin 2 → Nat :=
  let c10_i32 : BitVec 32 := 10#32
  let arg0 : BitVec 32 := BitVec.ofNat 32 (i 0).val
  let v0 : BitVec 32 := Scalar.subi c10_i32 arg0
  let c384_i32 : BitVec 32 := 384#32
  let v11 : BitVec 32 := Scalar.muli v0 c384_i32
  let v12 : BitVec 32 := v11
  let c0_i32_139 : BitVec 32 := 0#32
  ![v12.toNat, 0]
def k0_off18 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_138 : BitVec 32 := 0#32
  let c0_i32_140 : BitVec 32 := 0#32
  let c0_i32_141 : BitVec 32 := 0#32
  ![v10.toNat, 0, 0, 0]
def k0_off19 (i : grid0.Coords) : Fin 2 → Nat :=
  let c10_i32 : BitVec 32 := 10#32
  let arg0 : BitVec 32 := BitVec.ofNat 32 (i 0).val
  let v0 : BitVec 32 := Scalar.subi c10_i32 arg0
  let c384_i32 : BitVec 32 := 384#32
  let v11 : BitVec 32 := Scalar.muli v0 c384_i32
  let v12 : BitVec 32 := v11
  let c6144_i32_143 : BitVec 32 := 6144#32
  ![v12.toNat, 6144]
def k0_off20 (i : grid0.Coords) : Fin 4 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c1_i32_142 : BitVec 32 := 1#32
  let c0_i32_144 : BitVec 32 := 0#32
  let c0_i32_145 : BitVec 32 := 0#32
  ![v10.toNat, 1, 0, 0]
def k0_off21 (i : grid0.Coords) (c0_i32_135 : BitVec 32) : Fin 1 → Nat :=
  let c2_i32_134 : BitVec 32 := 2#32
  let c1_i32_133 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v229 : BitVec 32 := Scalar.subi c1_i32_133 v10
  let v230 : BitVec 32 := Scalar.muli c2_i32_134 v229
  let v231 : BitVec 32 := Scalar.addi v230 c0_i32_135
  ![v231.toNat]
def k0_off22 (i : grid0.Coords) : Fin 4 → Nat :=
  let c1_i32_133 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v229 : BitVec 32 := Scalar.subi c1_i32_133 v10
  let c0_i32_146 : BitVec 32 := 0#32
  let c0_i32_148 : BitVec 32 := 0#32
  let c0_i32_149 : BitVec 32 := 0#32
  ![v229.toNat, 0, 0, 0]
def k0_off23 (i : grid0.Coords) : Fin 4 → Nat :=
  let c1_i32_133 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v229 : BitVec 32 := Scalar.subi c1_i32_133 v10
  let c1_i32_150 : BitVec 32 := 1#32
  let c0_i32_152 : BitVec 32 := 0#32
  let c0_i32_153 : BitVec 32 := 0#32
  ![v229.toNat, 1, 0, 0]
def cc0_transform_0 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.subi c10_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4224x10240 : Shape := ⟨2, ![4224, 10240]⟩
abbrev S4x512x512 : Shape := ⟨3, ![4, 512, 512]⟩
abbrev S1x2048 : Shape := ⟨2, ![1, 2048]⟩
abbrev S4224x2048 : Shape := ⟨2, ![4224, 2048]⟩
abbrev S4224x512 : Shape := ⟨2, ![4224, 512]⟩
abbrev S_ : Shape := ⟨0, ![]⟩
abbrev S4224 : Shape := ⟨1, ![4224]⟩
abbrev S4224x1 : Shape := ⟨2, ![4224, 1]⟩
abbrev S4224x1x512 : Shape := ⟨3, ![4224, 1, 512]⟩
abbrev S4224x4x512 : Shape := ⟨3, ![4224, 4, 512]⟩
abbrev S4x512x4224 : Shape := ⟨3, ![4, 512, 4224]⟩
abbrev S2048 : Shape := ⟨1, ![2048]⟩
abbrev S4x4224x512 : Shape := ⟨3, ![4, 4224, 512]⟩
abbrev S4239x512 : Shape := ⟨2, ![4239, 512]⟩
abbrev S4231x512 : Shape := ⟨2, ![4231, 512]⟩
abbrev S4227x512 : Shape := ⟨2, ![4227, 512]⟩
abbrev S4225x512 : Shape := ⟨2, ![4225, 512]⟩

abbrev nBuf : Space → Nat
  | .hbm => 169
  | .vmem => 0
  | .smem => 0
  | _ => 0

abbrev hbmTy0_0 (i : Nat) : BufTy := match i % 128 with
  | 0 => ⟨S4224x10240, .f32⟩
  | 1 => ⟨S4x512x512, .f32⟩
  | 2 => ⟨S1x2048, .f32⟩
  | 3 => ⟨S4224x2048, .f32⟩
  | 4 => ⟨S4224x2048, .f32⟩
  | 5 => ⟨S4224x2048, .f32⟩
  | 6 => ⟨S4224x512, .f32⟩
  | 7 => ⟨S_, .f32⟩
  | 8 => ⟨S_, .f32⟩
  | 9 => ⟨S4224x512, .f32⟩
  | 10 => ⟨S4224, .i32⟩
  | 11 => ⟨S_, .i32⟩
  | 12 => ⟨S4224, .i32⟩
  | 13 => ⟨S4224, .i32⟩
  | 14 => ⟨S_, .i32⟩
  | 15 => ⟨S4224, .i32⟩
  | 16 => ⟨S4224, .i32⟩
  | 17 => ⟨S4224, .f32⟩
  | 18 => ⟨S4224x1, .f32⟩
  | 19 => ⟨S4224x512, .f32⟩
  | 20 => ⟨S4224x512, .f32⟩
  | 21 => ⟨S4224x512, .f32⟩
  | 22 => ⟨S4224x512, .f32⟩
  | 23 => ⟨S_, .f32⟩
  | 24 => ⟨S_, .f32⟩
  | 25 => ⟨S4224x512, .f32⟩
  | 26 => ⟨S4224, .i32⟩
  | 27 => ⟨S_, .i32⟩
  | 28 => ⟨S4224, .i32⟩
  | 29 => ⟨S4224, .i32⟩
  | 30 => ⟨S_, .i32⟩
  | 31 => ⟨S4224, .i32⟩
  | 32 => ⟨S4224, .i32⟩
  | 33 => ⟨S4224, .f32⟩
  | 34 => ⟨S4224x1, .f32⟩
  | 35 => ⟨S4224x512, .f32⟩
  | 36 => ⟨S4224x512, .f32⟩
  | 37 => ⟨S4224x512, .f32⟩
  | 38 => ⟨S4224x512, .f32⟩
  | 39 => ⟨S_, .f32⟩
  | 40 => ⟨S_, .f32⟩
  | 41 => ⟨S4224x512, .f32⟩
  | 42 => ⟨S4224, .i32⟩
  | 43 => ⟨S_, .i32⟩
  | 44 => ⟨S4224, .i32⟩
  | 45 => ⟨S4224, .i32⟩
  | 46 => ⟨S_, .i32⟩
  | 47 => ⟨S4224, .i32⟩
  | 48 => ⟨S4224, .i32⟩
  | 49 => ⟨S4224, .f32⟩
  | 50 => ⟨S4224x1, .f32⟩
  | 51 => ⟨S4224x512, .f32⟩
  | 52 => ⟨S4224x512, .f32⟩
  | 53 => ⟨S4224x512, .f32⟩
  | 54 => ⟨S4224x512, .f32⟩
  | 55 => ⟨S_, .f32⟩
  | 56 => ⟨S_, .f32⟩
  | 57 => ⟨S4224x512, .f32⟩
  | 58 => ⟨S4224, .i32⟩
  | 59 => ⟨S_, .i32⟩
  | 60 => ⟨S4224, .i32⟩
  | 61 => ⟨S4224, .i32⟩
  | 62 => ⟨S_, .i32⟩
  | 63 => ⟨S4224, .i32⟩
  | 64 => ⟨S4224, .i32⟩
  | 65 => ⟨S4224, .f32⟩
  | 66 => ⟨S4224x1, .f32⟩
  | 67 => ⟨S4224x512, .f32⟩
  | 68 => ⟨S4224x512, .f32⟩
  | 69 => ⟨S4224x512, .f32⟩
  | 70 => ⟨S4224x1x512, .f32⟩
  | 71 => ⟨S4224x1x512, .f32⟩
  | 72 => ⟨S4224x1x512, .f32⟩
  | 73 => ⟨S4224x1x512, .f32⟩
  | 74 => ⟨S4224x4x512, .f32⟩
  | 75 => ⟨S4x512x4224, .f32⟩
  | 76 => ⟨S4224x4x512, .f32⟩
  | 77 => ⟨S4224x2048, .f32⟩
  | 78 => ⟨S4224x2048, .f32⟩
  | 79 => ⟨S4224x2048, .f32⟩
  | 80 => ⟨S4224x2048, .f32⟩
  | 81 => ⟨S4224x2048, .f32⟩
  | 82 => ⟨S_, .f32⟩
  | 83 => ⟨S4224x2048, .f32⟩
  | 84 => ⟨S4224x2048, .f32⟩
  | 85 => ⟨S_, .f32⟩
  | 86 => ⟨S4224x2048, .f32⟩
  | 87 => ⟨S4224x2048, .f32⟩
  | 88 => ⟨S_, .f32⟩
  | 89 => ⟨S4224x2048, .f32⟩
  | 90 => ⟨S4224x2048, .f32⟩
  | 91 => ⟨S4224x2048, .f32⟩
  | 92 => ⟨S4224x2048, .f32⟩
  | 93 => ⟨S4224x2048, .f32⟩
  | 94 => ⟨S4224x2048, .f32⟩
  | 95 => ⟨S4224x2048, .f32⟩
  | 96 => ⟨S4224x2048, .f32⟩
  | 97 => ⟨S_, .f32⟩
  | 98 => ⟨S2048, .f32⟩
  | 99 => ⟨S1x2048, .f32⟩
  | 100 => ⟨S4224x2048, .f32⟩
  | 101 => ⟨S4224x2048, .f32⟩
  | 102 => ⟨S4224x4x512, .f32⟩
  | 103 => ⟨S4x512x4224, .f32⟩
  | 104 => ⟨S4x4224x512, .f32⟩
  | 105 => ⟨S4224x4x512, .f32⟩
  | 106 => ⟨S4x512x512, .f32⟩
  | 107 => ⟨S4x512x512, .f32⟩
  | 108 => ⟨S4224x1x512, .f32⟩
  | 109 => ⟨S4224x512, .f32⟩
  | 110 => ⟨S4224x1x512, .f32⟩
  | 111 => ⟨S4224x512, .f32⟩
  | 112 => ⟨S4224x1x512, .f32⟩
  | 113 => ⟨S4224x512, .f32⟩
  | 114 => ⟨S4224x1x512, .f32⟩
  | 115 => ⟨S4224x512, .f32⟩
  | 116 => ⟨S4224x512, .f32⟩
  | 117 => ⟨S4224x512, .f32⟩
  | 118 => ⟨S4224x512, .f32⟩
  | 119 => ⟨S_, .f32⟩
  | 120 => ⟨S4239x512, .f32⟩
  | 121 => ⟨S_, .f32⟩
  | 122 => ⟨S_, .f32⟩
  | 123 => ⟨S4224x512, .f32⟩
  | 124 => ⟨S4224x512, .f32⟩
  | 125 => ⟨S_, .f32⟩
  | 126 => ⟨S4224x2048, .f32⟩
  | 127 => ⟨S4224x512, .f32⟩
  | _ => ⟨S4224x10240, .f32⟩

abbrev hbmTy0_1 (i : Nat) : BufTy := match i % 128 with
  | 0 => ⟨S4224x512, .f32⟩
  | 1 => ⟨S4224x512, .f32⟩
  | 2 => ⟨S_, .f32⟩
  | 3 => ⟨S4231x512, .f32⟩
  | 4 => ⟨S_, .f32⟩
  | 5 => ⟨S_, .f32⟩
  | 6 => ⟨S4224x512, .f32⟩
  | 7 => ⟨S4224x512, .f32⟩
  | 8 => ⟨S_, .f32⟩
  | 9 => ⟨S4224x2048, .f32⟩
  | 10 => ⟨S4224x2048, .f32⟩
  | 11 => ⟨S4224x512, .f32⟩
  | 12 => ⟨S4224x512, .f32⟩
  | 13 => ⟨S4224x512, .f32⟩
  | 14 => ⟨S_, .f32⟩
  | 15 => ⟨S4227x512, .f32⟩
  | 16 => ⟨S_, .f32⟩
  | 17 => ⟨S_, .f32⟩
  | 18 => ⟨S4224x512, .f32⟩
  | 19 => ⟨S4224x512, .f32⟩
  | 20 => ⟨S_, .f32⟩
  | 21 => ⟨S4224x2048, .f32⟩
  | 22 => ⟨S4224x2048, .f32⟩
  | 23 => ⟨S4224x512, .f32⟩
  | 24 => ⟨S4224x512, .f32⟩
  | 25 => ⟨S4224x512, .f32⟩
  | 26 => ⟨S_, .f32⟩
  | 27 => ⟨S4225x512, .f32⟩
  | 28 => ⟨S_, .f32⟩
  | 29 => ⟨S_, .f32⟩
  | 30 => ⟨S4224x512, .f32⟩
  | 31 => ⟨S4224x512, .f32⟩
  | 32 => ⟨S_, .f32⟩
  | 33 => ⟨S4224x2048, .f32⟩
  | 34 => ⟨S4224x2048, .f32⟩
  | 35 => ⟨S_, .f32⟩
  | 36 => ⟨S4224x10240, .f32⟩
  | 37 => ⟨S_, .f32⟩
  | 38 => ⟨S4224x10240, .f32⟩
  | 39 => ⟨S4224x10240, .f32⟩
  | 40 => ⟨S4224x10240, .bf16⟩
  | _ => ⟨S4224x10240, .f32⟩

abbrev hbmTy (i : Nat) : BufTy := match i / 128 with
  | 0 => hbmTy0_0 i
  | 1 => hbmTy0_1 i
  | _ => ⟨S4224x10240, .f32⟩

abbrev bufTy : (tb : Table) → Fin (tcTables nBuf tb) → BufTy
  | .hbm, ⟨i, _⟩ => hbmTy i
  | _, _ => ⟨S4224x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_13 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_14 : Ref sig .tc := ⟨.hbm, 119, rfl⟩
abbrev main_v99 : Ref sig .tc := ⟨.hbm, 120, rfl⟩
abbrev main_cst_15 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_16 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_17 : Ref sig .tc := ⟨.hbm, 130, rfl⟩
abbrev main_v107 : Ref sig .tc := ⟨.hbm, 131, rfl⟩
abbrev main_cst_18 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_19 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_20 : Ref sig .tc := ⟨.hbm, 142, rfl⟩
abbrev main_v116 : Ref sig .tc := ⟨.hbm, 143, rfl⟩
abbrev main_cst_21 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_22 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_23 : Ref sig .tc := ⟨.hbm, 154, rfl⟩
abbrev main_v125 : Ref sig .tc := ⟨.hbm, 155, rfl⟩
abbrev main_cst_24 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_25 : Ref sig .tc := ⟨.hbm, 160, rfl⟩
abbrev main_v129 : Ref sig .tc := ⟨.hbm, 161, rfl⟩
abbrev main_v130 : Ref sig .tc := ⟨.hbm, 162, rfl⟩
abbrev main_cst_26 : Ref sig .tc := ⟨.hbm, 163, rfl⟩
abbrev main_v131 : Ref sig .tc := ⟨.hbm, 164, rfl⟩
abbrev main_cst_27 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩

abbrev nD : Nat := 1
abbrev τ : Topo := Topo.v7x

variable {F : FTy → Type} [FloatOps F]
-- ==== Kernel2.lean ====
abbrev S4224x8192 : Shape := ⟨2, ![4224, 8192]⟩
abbrev S8192x2048 : Shape := ⟨2, ![8192, 2048]⟩
abbrev S4224x2048 : Shape := ⟨2, ![4224, 2048]⟩
abbrev S8x1024x2048 : Shape := ⟨3, ![8, 1024, 2048]⟩
abbrev S1408x2048 : Shape := ⟨2, ![1408, 2048]⟩
abbrev S1x1024x2048 : Shape := ⟨3, ![1, 1024, 2048]⟩
abbrev S1408x1024 : Shape := ⟨2, ![1408, 1024]⟩
abbrev S1024x2048 : Shape := ⟨2, ![1024, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4224x8192, .f32⟩
  | .hbm, ⟨1, _⟩ => ⟨S8192x2048, .f32⟩
  | .hbm, ⟨2, _⟩ => ⟨S4224x2048, .f32⟩
  | .hbm, ⟨3, _⟩ => ⟨S4224x2048, .bf16⟩
  | .hbm, ⟨4, _⟩ => ⟨S8192x2048, .bf16⟩
  | .hbm, ⟨5, _⟩ => ⟨S8x1024x2048, .bf16⟩
  | .hbm, ⟨6, _⟩ => ⟨S4224x8192, .bf16⟩
  | .hbm, ⟨7, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4224x8192 : Shape := ⟨2, ![4224, 8192]⟩
abbrev S8192x2048 : Shape := ⟨2, ![8192, 2048]⟩
abbrev S4224x2048 : Shape := ⟨2, ![4224, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S8192x2048, .f32⟩
  | .hbm, ⟨2, _⟩ => ⟨S4224x2048, .f32⟩
  | .hbm, ⟨3, _⟩ => ⟨S_, .f32⟩
  | .hbm, ⟨4, _⟩ => ⟨S4224x8192, .f32⟩
  | .hbm, ⟨5, _⟩ => ⟨S4224x8192, .f32⟩
  | .hbm, ⟨6, _⟩ => ⟨S_, .f32⟩
  | .hbm, ⟨7, _⟩ => ⟨S4224x8192, .f32⟩
  | .hbm, ⟨8, _⟩ => ⟨S4224x8192, .i1⟩
  | .hbm, ⟨9, _⟩ => ⟨S_, .f32⟩
  | .hbm, ⟨10, _⟩ => ⟨S4224x8192, .f32⟩
  | .hbm, ⟨11, _⟩ => ⟨S4224x8192, .f32⟩
  | .hbm, ⟨12, _⟩ => ⟨S_, .f32⟩
  | .hbm, ⟨13, _⟩ => ⟨S4224x8192, .f32⟩
  | .hbm, ⟨14, _⟩ => ⟨S4224x8192, .f32⟩
  | .hbm, ⟨15, _⟩ => ⟨S4224x2048, .f32⟩
  | .hbm, ⟨16, _⟩ => ⟨S4224x8192, .f32⟩
  | .hbm, ⟨17, _⟩ => ⟨S4224x8192, .f32⟩
  | .hbm, ⟨18, _⟩ => ⟨S_, .f32⟩
  | .hbm, ⟨19, _⟩ => ⟨S4224x8192, .f32⟩
  | .hbm, ⟨20, _⟩ => ⟨S4224x8192, .f32⟩
  | .hbm, ⟨21, _⟩ => ⟨S4224x8192, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S4224x8192 : Shape := ⟨2, ![4224, 8192]⟩
abbrev S4224x2048 : Shape := ⟨2, ![4224, 2048]⟩
abbrev S_ : Shape := ⟨0, ![]⟩
abbrev S8x1024x2048 : Shape := ⟨3, ![8, 1024, 2048]⟩
abbrev S2112x1024 : Shape := ⟨2, ![2112, 1024]⟩
abbrev S2112x2048 : Shape := ⟨2, ![2112, 2048]⟩
abbrev S1x1024x2048 : Shape := ⟨3, ![1, 1024, 2048]⟩
abbrev S1024x2048 : Shape := ⟨2, ![1024, 2048]⟩

abbrev nBuf : Space → Nat
  | .hbm => 9
  | .vmem => 7
  | .smem => 0
  | _ => 0

abbrev bufTy : (tb : Table) → Fin (tcTables nBuf tb) → BufTy
  | .hbm, ⟨0, _⟩ => ⟨S4224x8192, .f32⟩
  | .hbm, ⟨1, _⟩ => ⟨S4224x2048, .f32⟩
  | .hbm, ⟨2, _⟩ => ⟨S_, .f32⟩
  | .hbm, ⟨3, _⟩ => ⟨S4224x8192, .f32⟩
  | .hbm, ⟨4, _⟩ => ⟨S4224x8192, .f32⟩
  | .hbm, ⟨5, _⟩ => ⟨S4224x8192, .f32⟩
  | .hbm, ⟨6, _⟩ => ⟨S4224x8192, .bf16⟩
  | .hbm, ⟨7, _⟩ => ⟨S4224x2048, .bf16⟩
  | .hbm, ⟨8, _⟩ => ⟨S8x1024x2048, .bf16⟩
  | .local _ .vmem, ⟨0, _⟩ => ⟨S2112x1024, .bf16⟩
  | .local _ .vmem, ⟨1, _⟩ => ⟨S2112x1024, .bf16⟩
  | .local _ .vmem, ⟨2, _⟩ => ⟨S2112x2048, .bf16⟩
  | .local _ .vmem, ⟨3, _⟩ => ⟨S2112x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4224x8192 : Shape := ⟨2, ![4224, 8192]⟩
abbrev S4224x2048 : Shape := ⟨2, ![4224, 2048]⟩
abbrev S_ : Shape := ⟨0, ![]⟩
abbrev S8192x2048 : Shape := ⟨2, ![8192, 2048]⟩
abbrev S2048x8192 : Shape := ⟨2, ![2048, 8192]⟩
abbrev S8x1024x2048 : Shape := ⟨3, ![8, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S4224x2048, .f32⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4224x8192, .f32⟩
  | .hbm, ⟨6, _⟩ => ⟨S4224x8192, .f32⟩
  | .hbm, ⟨7, _⟩ => ⟨S4224x8192, .f32⟩
  | .hbm, ⟨8, _⟩ => ⟨S4224x2048, .f32⟩
  | .hbm, ⟨9, _⟩ => ⟨S2048x8192, .f32⟩
  | .hbm, ⟨10, _⟩ => ⟨S8192x2048, .f32⟩
  | .hbm, ⟨11, _⟩ => ⟨S8x1024x2048, .f32⟩
  | .hbm, ⟨12, _⟩ => ⟨S8x1024x2048, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4224x2048 : Shape := ⟨2, ![4224, 2048]⟩
abbrev S4224x8192 : Shape := ⟨2, ![4224, 8192]⟩
abbrev S8x2048x1024 : Shape := ⟨3, ![8, 2048, 1024]⟩
abbrev S2112x2048 : Shape := ⟨2, ![2112, 2048]⟩
abbrev S2112x1024 : Shape := ⟨2, ![2112, 1024]⟩
abbrev S1x2048x1024 : Shape := ⟨3, ![1, 2048, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x8192, .f32⟩
  | .hbm, ⟨2, _⟩ => ⟨S4224x2048, .bf16⟩
  | .hbm, ⟨3, _⟩ => ⟨S4224x8192, .bf16⟩
  | .hbm, ⟨4, _⟩ => ⟨S8x2048x1024, .bf16⟩
  | .local _ .vmem, ⟨0, _⟩ => ⟨S2112x2048, .bf16⟩
  | .local _ .vmem, ⟨1, _⟩ => ⟨S2112x2048, .bf16⟩
  | .local _ .vmem, ⟨2, _⟩ => ⟨S2112x1024, .bf16⟩
  | .local _ .vmem, ⟨3, _⟩ => ⟨S2112x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4224x2048 : Shape := ⟨2, ![4224, 2048]⟩
abbrev S4224x8192 : Shape := ⟨2, ![4224, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x8192, .f32⟩
  | .hbm, ⟨2, _⟩ => ⟨S_, .f32⟩
  | .hbm, ⟨3, _⟩ => ⟨S2048x8192, .f32⟩
  | .hbm, ⟨4, _⟩ => ⟨S4224x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x2048 : Shape := ⟨2, ![2048, 2048]⟩
abbrev S4224x2048 : Shape := ⟨2, ![4224, 2048]⟩
abbrev S704x2048 : Shape := ⟨2, ![704, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S4224x2048, .f32⟩
  | .hbm, ⟨2, _⟩ => ⟨S4224x2048, .bf16⟩
  | .hbm, ⟨3, _⟩ => ⟨S2048x2048, .bf16⟩
  | .hbm, ⟨4, _⟩ => ⟨S4224x2048, .f32⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S704x2048, .f32⟩
  | .local _ .vmem, ⟨4, _⟩ => ⟨S704x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2048x2048 : Shape := ⟨2, ![2048, 2048]⟩
abbrev S4224x2048 : Shape := ⟨2, ![4224, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4224x2048, .f32⟩
  | .hbm, ⟨2, _⟩ => ⟨S_, .f32⟩
  | .hbm, ⟨3, _⟩ => ⟨S4224x2048, .f32⟩
  | .hbm, ⟨4, _⟩ => ⟨S4224x2048, .f32⟩
  | .hbm, ⟨5, _⟩ => ⟨S4224x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4224x2048 : Shape := ⟨2, ![4224, 2048]⟩
abbrev S2x1024x2048 : Shape := ⟨3, ![2, 1024, 2048]⟩
abbrev S2112x1024 : Shape := ⟨2, ![2112, 1024]⟩
abbrev S2112x2048 : Shape := ⟨2, ![2112, 2048]⟩
abbrev S1x1024x2048 : Shape := ⟨3, ![1, 1024, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .bf16⟩
  | .hbm, ⟨3, _⟩ => ⟨S4224x2048, .bf16⟩
  | .hbm, ⟨4, _⟩ => ⟨S2x1024x2048, .bf16⟩
  | .local _ .vmem, ⟨0, _⟩ => ⟨S2112x1024, .bf16⟩
  | .local _ .vmem, ⟨1, _⟩ => ⟨S2112x1024, .bf16⟩
  | .local _ .vmem, ⟨2, _⟩ => ⟨S2112x2048, .bf16⟩
  | .local _ .vmem, ⟨3, _⟩ => ⟨S2112x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4224x2048 : Shape := ⟨2, ![4224, 2048]⟩
abbrev S_ : Shape := ⟨0, ![]⟩
abbrev S2048x2048 : Shape := ⟨2, ![2048, 2048]⟩
abbrev S2x1024x2048 : Shape := ⟨3, ![2, 1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S2048x2048, .f32⟩
  | .hbm, ⟨6, _⟩ => ⟨S2048x2048, .f32⟩
  | .hbm, ⟨7, _⟩ => ⟨S2x1024x2048, .f32⟩
  | .hbm, ⟨8, _⟩ => ⟨S2x1024x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4224x2048 : Shape := ⟨2, ![4224, 2048]⟩
abbrev S4224x10240 : Shape := ⟨2, ![4224, 10240]⟩
abbrev S8x1024x1280 : Shape := ⟨3, ![8, 1024, 1280]⟩
abbrev S2112x1024 : Shape := ⟨2, ![2112, 1024]⟩
abbrev S2112x1280 : Shape := ⟨2, ![2112, 1280]⟩
abbrev S1x1024x1280 : Shape := ⟨3, ![1, 1024, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x10240, .f32⟩
  | .hbm, ⟨2, _⟩ => ⟨S4224x2048, .bf16⟩
  | .hbm, ⟨3, _⟩ => ⟨S4224x10240, .bf16⟩
  | .hbm, ⟨4, _⟩ => ⟨S8x1024x1280, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1280, .bf16⟩
  | .local _ .vmem, ⟨3, _⟩ => ⟨S2112x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4224x2048 : Shape := ⟨2, ![4224, 2048]⟩
abbrev S4224x10240 : Shape := ⟨2, ![4224, 10240]⟩
abbrev S_ : Shape := ⟨0, ![]⟩
abbrev S2048x10240 : Shape := ⟨2, ![2048, 10240]⟩
abbrev S10240x2048 : Shape := ⟨2, ![10240, 2048]⟩
abbrev S1024x10240 : Shape := ⟨2, ![1024, 10240]⟩
abbrev S1024x8x1280 : Shape := ⟨3, ![1024, 8, 1280]⟩
abbrev S8x1024x1280 : Shape := ⟨3, ![8, 1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x10240, .f32⟩
  | .hbm, ⟨2, _⟩ => ⟨S_, .f32⟩
  | .hbm, ⟨3, _⟩ => ⟨S2048x10240, .f32⟩
  | .hbm, ⟨4, _⟩ => ⟨S4224x10240, .f32⟩
  | .hbm, ⟨5, _⟩ => ⟨S10240x2048, .f32⟩
  | .hbm, ⟨6, _⟩ => ⟨S2048x10240, .f32⟩
  | .hbm, ⟨7, _⟩ => ⟨S1024x10240, .f32⟩
  | .hbm, ⟨8, _⟩ => ⟨S1024x8x1280, .f32⟩
  | .hbm, ⟨9, _⟩ => ⟨S8x1024x1280, .f32⟩
  | .hbm, ⟨10, _⟩ => ⟨S8x1024x1280, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4224x2048 : Shape := ⟨2, ![4224, 2048]⟩
abbrev S4224x10240 : Shape := ⟨2, ![4224, 10240]⟩
abbrev S8x1024x1280 : Shape := ⟨3, ![8, 1024, 1280]⟩
abbrev S2112x1024 : Shape := ⟨2, ![2112, 1024]⟩
abbrev S2112x1280 : Shape := ⟨2, ![2112, 1280]⟩
abbrev S1x1024x1280 : Shape := ⟨3, ![1, 1024, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x10240, .f32⟩
  | .hbm, ⟨2, _⟩ => ⟨S4224x2048, .bf16⟩
  | .hbm, ⟨3, _⟩ => ⟨S4224x10240, .bf16⟩
  | .hbm, ⟨4, _⟩ => ⟨S8x1024x1280, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1280, .bf16⟩
  | .local _ .vmem, ⟨3, _⟩ => ⟨S2112x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4224x2048 : Shape := ⟨2, ![4224, 2048]⟩
abbrev S4224x10240 : Shape := ⟨2, ![4224, 10240]⟩
abbrev S_ : Shape := ⟨0, ![]⟩
abbrev S2048x10240 : Shape := ⟨2, ![2048, 10240]⟩
abbrev S10240x2048 : Shape := ⟨2, ![10240, 2048]⟩
abbrev S1024x10240 : Shape := ⟨2, ![1024, 10240]⟩
abbrev S1024x8x1280 : Shape := ⟨3, ![1024, 8, 1280]⟩
abbrev S8x1024x1280 : Shape := ⟨3, ![8, 1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x10240, .f32⟩
  | .hbm, ⟨2, _⟩ => ⟨S_, .f32⟩
  | .hbm, ⟨3, _⟩ => ⟨S2048x10240, .f32⟩
  | .hbm, ⟨4, _⟩ => ⟨S4224x10240, .f32⟩
  | .hbm, ⟨5, _⟩ => ⟨S10240x2048, .f32⟩
  | .hbm, ⟨6, _⟩ => ⟨S2048x10240, .f32⟩
  | .hbm, ⟨7, _⟩ => ⟨S1024x10240, .f32⟩
  | .hbm, ⟨8, _⟩ => ⟨S1024x8x1280, .f32⟩
  | .hbm, ⟨9, _⟩ => ⟨S8x1024x1280, .f32⟩
  | .hbm, ⟨10, _⟩ => ⟨S8x1024x1280, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4224x2048 : Shape := ⟨2, ![4224, 2048]⟩
abbrev S2048x10240 : Shape := ⟨2, ![2048, 10240]⟩
abbrev S2048x8x1280 : Shape := ⟨3, ![2048, 8, 1280]⟩
abbrev S8x2048x1280 : Shape := ⟨3, ![8, 2048, 1280]⟩
abbrev S4224x10240 : Shape := ⟨2, ![4224, 10240]⟩
abbrev S1408x2048 : Shape := ⟨2, ![1408, 2048]⟩
abbrev S1x2048x1280 : Shape := ⟨3, ![1, 2048, 1280]⟩
abbrev S1408x1280 : Shape := ⟨2, ![1408, 1280]⟩
abbrev S2048x1280 : Shape := ⟨2, ![2048, 1280]⟩

abbrev nBuf : Space → Nat
  | .hbm => 7
  | .vmem => 6
  | .smem => 0
  | _ => 0

abbrev bufTy : (tb : Table) → Fin (tcTables nBuf tb) → BufTy
  | .hbm, ⟨0, _⟩ => ⟨S4224x2048, .f32⟩
  | .hbm, ⟨1, _⟩ => ⟨S2048x10240, .f32⟩
  | .hbm, ⟨2, _⟩ => ⟨S4224x2048, .bf16⟩
  | .hbm, ⟨3, _⟩ => ⟨S2048x10240, .bf16⟩
  | .hbm, ⟨4, _⟩ => ⟨S2048x8x1280, .bf16⟩
  | .hbm, ⟨5, _⟩ => ⟨S8x2048x1280, .bf16⟩
  | .hbm, ⟨6, _⟩ => ⟨S4224x10240, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1408x1280, .f32⟩
  | .local _ .vmem, ⟨5, _⟩ => ⟨S1408x1280, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4224x2048 : Shape := ⟨2, ![4224, 2048]⟩
abbrev S2048x10240 : Shape := ⟨2, ![2048, 10240]⟩
abbrev S4224x10240 : Shape := ⟨2, ![4224, 10240]⟩

abbrev nBuf : Space → Nat
  | .hbm => 3
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x10240, .f32⟩
  | .hbm, ⟨2, _⟩ => ⟨S4224x10240, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4224x2048 : Shape := ⟨2, ![4224, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4224x8192 : Shape := ⟨2, ![4224, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4224x2048, .f32⟩
  | .hbm, ⟨1, _⟩ => ⟨S2048x8192, .f32⟩
  | .hbm, ⟨2, _⟩ => ⟨S4224x2048, .bf16⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S4224x8192, .bf16⟩
  | .hbm, ⟨7, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4224x2048 : Shape := ⟨2, ![4224, 2048]⟩
abbrev S2048x8192 : Shape := ⟨2, ![2048, 8192]⟩
abbrev S4224x8192 : Shape := ⟨2, ![4224, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x8192, .f32⟩
  | .hbm, ⟨2, _⟩ => ⟨S4224x8192, .f32⟩
  | .hbm, ⟨3, _⟩ => ⟨S_, .f32⟩
  | .hbm, ⟨4, _⟩ => ⟨S4224x8192, .f32⟩
  | .hbm, ⟨5, _⟩ => ⟨S4224x8192, .f32⟩
  | .hbm, ⟨6, _⟩ => ⟨S4224x8192, .f32⟩
  | .hbm, ⟨7, _⟩ => ⟨S4224x8192, .bf16⟩
  | .hbm, ⟨8, _⟩ => ⟨S4224x8192, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S4224x2048 : Shape := ⟨2, ![4224, 2048]⟩
abbrev S2048x2048 : Shape := ⟨2, ![2048, 2048]⟩
abbrev S1x2048 : Shape := ⟨2, ![1, 2048]⟩
abbrev S4224x1 : Shape := ⟨2, ![4224, 1]⟩
abbrev S384x2048 : Shape := ⟨2, ![384, 2048]⟩
abbrev S384x1 : Shape := ⟨2, ![384, 1]⟩
abbrev S384 : Shape := ⟨1, ![384]⟩

abbrev nBuf : Space → Nat
  | .hbm => 9
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | .hbm, ⟨3, _⟩ => ⟨S1x2048, .f32⟩
  | .hbm, ⟨4, _⟩ => ⟨S4224x2048, .bf16⟩
  | .hbm, ⟨5, _⟩ => ⟨S2048x2048, .bf16⟩
  | .hbm, ⟨6, _⟩ => ⟨S4224x2048, .f32⟩
  | .hbm, ⟨7, _⟩ => ⟨S4224x2048, .bf16⟩
  | .hbm, ⟨8, _⟩ => ⟨S4224x1, .f32⟩
  | .local _ .vmem, ⟨0, _⟩ => ⟨S384x2048, .bf16⟩
  | .local _ .vmem, ⟨1, _⟩ => ⟨S384x2048, .bf16⟩
  | .local _ .vmem, ⟨2, _⟩ => ⟨S2048x2048, .bf16⟩
  | .local _ .vmem, ⟨3, _⟩ => ⟨S384x2048, .f32⟩
  | .local _ .vmem, ⟨4, _⟩ => ⟨S384x2048, .f32⟩
  | .local _ .vmem, ⟨5, _⟩ => ⟨S1x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | .local _ .vmem, ⟨10, _⟩ => ⟨S384x1, .f32⟩
  | .local _ .vmem, ⟨11, _⟩ => ⟨S384x1, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4224x2048 : Shape := ⟨2, ![4224, 2048]⟩
abbrev S2048x2048 : Shape := ⟨2, ![2048, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 22
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x2048, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel12.lean ====
abbrev S4224x2048 : Shape := ⟨2, ![4224, 2048]⟩
abbrev S1x2048 : Shape := ⟨2, ![1, 2048]⟩
abbrev S4224x1 : Shape := ⟨2, ![4224, 1]⟩
abbrev S384x2048 : Shape := ⟨2, ![384, 2048]⟩
abbrev S384x1 : Shape := ⟨2, ![384, 1]⟩
abbrev S384 : Shape := ⟨1, ![384]⟩

abbrev nBuf : Space → Nat
  | .hbm => 4
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .hbm, ⟨3, _⟩ => ⟨S4224x1, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | .local _ .vmem, ⟨5, _⟩ => ⟨S384x1, .f32⟩
  | .local _ .vmem, ⟨6, _⟩ => ⟨S384x1, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel13.lean ====
abbrev S4224x8192 : Shape := ⟨2, ![4224, 8192]⟩
abbrev S2048x8192 : Shape := ⟨2, ![2048, 8192]⟩
abbrev S4224x2048 : Shape := ⟨2, ![4224, 2048]⟩
abbrev S1x2048 : Shape := ⟨2, ![1, 2048]⟩
abbrev S2048x8x1024 : Shape := ⟨3, ![2048, 8, 1024]⟩
abbrev S8x2048x1024 : Shape := ⟨3, ![8, 2048, 1024]⟩
abbrev S_ : Shape := ⟨0, ![]⟩
abbrev S4224 : Shape := ⟨1, ![4224]⟩
abbrev S4224x1 : Shape := ⟨2, ![4224, 1]⟩
abbrev S704x1024 : Shape := ⟨2, ![704, 1024]⟩
abbrev S1x2048x1024 : Shape := ⟨3, ![1, 2048, 1024]⟩
abbrev S704x1 : Shape := ⟨2, ![704, 1]⟩
abbrev S704x2048 : Shape := ⟨2, ![704, 2048]⟩
abbrev S2 : Shape := ⟨1, ![2]⟩
abbrev S1 : Shape := ⟨1, ![1]⟩
abbrev S2048x1024 : Shape := ⟨2, ![2048, 1024]⟩
abbrev S176x2048 : Shape := ⟨2, ![176, 2048]⟩
abbrev S176x1 : Shape := ⟨2, ![176, 1]⟩
abbrev S176 : Shape := ⟨1, ![176]⟩
abbrev S2048 : Shape := ⟨1, ![2048]⟩

abbrev nBuf : Space → Nat
  | .hbm => 23
  | .vmem => 14
  | .smem => 0
  | _ => 0

abbrev bufTy : (tb : Table) → Fin (tcTables nBuf tb) → BufTy
  | .hbm, ⟨0, _⟩ => ⟨S4224x8192, .f32⟩
  | .hbm, ⟨1, _⟩ => ⟨S2048x8192, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S2048x8192, .bf16⟩
  | .hbm, ⟨6, _⟩ => ⟨S2048x8x1024, .bf16⟩
  | .hbm, ⟨7, _⟩ => ⟨S8x2048x1024, .bf16⟩
  | .hbm, ⟨8, _⟩ => ⟨S4224x8192, .bf16⟩
  | .hbm, ⟨9, _⟩ => ⟨S4224x2048, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x2048, .f32⟩
  | .hbm, ⟨21, _⟩ => ⟨S4224x2048, .bf16⟩
  | .hbm, ⟨22, _⟩ => ⟨S1x2048, .f32⟩
  | .local _ .vmem, ⟨0, _⟩ => ⟨S704x1024, .bf16⟩
  | .local _ .vmem, ⟨1, _⟩ => ⟨S704x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S704x1, .f32⟩
  | .local _ .vmem, ⟨5, _⟩ => ⟨S704x1, .f32⟩
  | .local _ .vmem, ⟨6, _⟩ => ⟨S1x2048, .f32⟩
  | .local _ .vmem, ⟨7, _⟩ => ⟨S704x2048, .f32⟩
  | .local _ .vmem, ⟨8, _⟩ => ⟨S704x2048, .f32⟩
  | .local _ .vmem, ⟨9, _⟩ => ⟨S704x2048, .bf16⟩
  | .local _ .vmem, ⟨10, _⟩ => ⟨S704x2048, .bf16⟩
  | .local _ .vmem, ⟨11, _⟩ => ⟨S1x2048, .f32⟩
  | .local _ .vmem, ⟨12, _⟩ => ⟨S704x2048, .f32⟩
  | .local _ .vmem, ⟨13, _⟩ => ⟨S704x2048, .f32⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c0_i32 : BitVec 32 := 0#32
  let arg0 : BitVec 32 := BitVec.ofNat 32 (i 0).val
  let v0 : BitVec 32 := Scalar.addi c0_i32 arg0
  let c704_i32 : BitVec 32 := 704#32
  let v1 : BitVec 32 := Scalar.muli v0 c704_i32
  v1
def k0_cond1 (i : grid0.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_2 : BitVec 32 := 0#32
  let v5 : BitVec 1 := Scalar.cmpi .ne v4 c0_i32_2
  v5

def k0_off1 (i : grid0.Coords) : Fin 2 → Nat :=
  let c0_i32 : BitVec 32 := 0#32
  let arg0 : BitVec 32 := BitVec.ofNat 32 (i 0).val
  let v0 : BitVec 32 := Scalar.addi c0_i32 arg0
  let c704_i32 : BitVec 32 := 704#32
  let v1 : BitVec 32 := Scalar.muli v0 c704_i32
  let v2 : BitVec 32 := v1
  let c0_i32_17 : BitVec 32 := 0#32
  ![v2.toNat, 0]
def k0_cond4 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_16 : BitVec 32 := 0#32
  let v26 : BitVec 1 := Scalar.cmpi .ne v25 c0_i32_16
  v26

def k0_off2 (i : grid0.Coords) : Fin 2 → Nat :=
  let c0_i32 : BitVec 32 := 0#32
  let arg0 : BitVec 32 := BitVec.ofNat 32 (i 0).val
  let v0 : BitVec 32 := Scalar.addi c0_i32 arg0
  let c704_i32 : BitVec 32 := 704#32
  let v1 : BitVec 32 := Scalar.muli v0 c704_i32
  let v2 : BitVec 32 := v1
  let c0_i32_17 : BitVec 32 := 0#32
  ![v2.toNat, 0]
@[reducible] def k0_t1_loop : Scf.Loop 32 :=
  let c0_i32_22 : BitVec 32 := 0#32
  let c4_i32 : BitVec 32 := 4#32
  let v37 : BitVec 32 := Scalar.addi c0_i32_22 c4_i32
  let c1_i32_23 : BitVec 32 := 1#32
  ⟨c0_i32_22, v37, c1_i32_23⟩
def k0_mult2 (k0_t1 : Fin k0_t1_loop.trips) : BitVec 32 :=
  let c0_i32_22 : BitVec 32 := 0#32
  let c1_i32_23 : BitVec 32 := 1#32
  let arg14 : BitVec 32 := Scf.iv c0_i32_22 c1_i32_23 k0_t1
  let c176_i32 : BitVec 32 := 176#32
  let v41 : BitVec 32 := Scalar.muli arg14 c176_i32
  v41
def k0_off3 (k0_t1 : Fin k0_t1_loop.trips) : Fin 2 → Nat :=
  let c0_i32_22 : BitVec 32 := 0#32
  let c1_i32_23 : BitVec 32 := 1#32
  let arg14 : BitVec 32 := Scf.iv c0_i32_22 c1_i32_23 k0_t1
  let c176_i32 : BitVec 32 := 176#32
  let v41 : BitVec 32 := Scalar.muli arg14 c176_i32
  let v42 : BitVec 32 := v41
  let v43 : Index := Scalar.indexCast v42
  let c0_27 : Index := 0#32
  ![v43.toNat, 0]
def k0_off4 (k0_t1 : Fin k0_t1_loop.trips) : Fin 2 → Nat :=
  let c0_i32_22 : BitVec 32 := 0#32
  let c1_i32_23 : BitVec 32 := 1#32
  let arg14 : BitVec 32 := Scf.iv c0_i32_22 c1_i32_23 k0_t1
  let c176_i32 : BitVec 32 := 176#32
  let v41 : BitVec 32 := Scalar.muli arg14 c176_i32
  let v42 : BitVec 32 := v41
  let v48 : Index := Scalar.indexCast v42
  let c0_29 : Index := 0#32
  ![v48.toNat, 0]
def k0_cond3 (i : grid0.Coords) : BitVec 1 :=
  let arg1 : BitVec 32 := BitVec.ofNat 32 (i 1).val
  let c1_i32_6 : BitVec 32 := 1#32
  let c0_i32_7 : BitVec 32 := 0#32
  let v11 : BitVec 1 := Scalar.cmpi .eq c1_i32_6 c0_i32_7
  let c1_i32_8 : BitVec 32 := 1#32
  let v12 : BitVec 32 := Scalar.select v11 c1_i32_8 c1_i32_6
  let v13 : BitVec 32 := Scalar.remsi arg1 v12
  let c0_i32_10 : BitVec 32 := 0#32
  let v15 : BitVec 1 := Scalar.cmpi .slt v13 c0_i32_10
  let c0_i32_11 : BitVec 32 := 0#32
  let v16 : BitVec 1 := Scalar.cmpi .slt v12 c0_i32_11
  let v17 : BitVec 1 := Scalar.xori v15 v16
  let c0_i32_9 : BitVec 32 := 0#32
  let v14 : BitVec 1 := Scalar.cmpi .ne v13 c0_i32_9
  let v18 : BitVec 1 := Scalar.andi v17 v14
  let v19 : BitVec 32 := Scalar.addi v13 v12
  let v20 : BitVec 32 := Scalar.select v18 v19 v13
  let c0_i32_12 : BitVec 32 := 0#32
  let v21 : BitVec 1 := Scalar.cmpi .eq v20 c0_i32_12
  let v22 : BitVec 32 := Scalar.extui v21
  let c0_i32_13 : BitVec 32 := 0#32
  let v23 : BitVec 1 := Scalar.cmpi .ne v22 c0_i32_13
  v23

def k0_cond2 (i : grid0.Coords) : BitVec 1 :=
  let arg0 : BitVec 32 := BitVec.ofNat 32 (i 0).val
  let c0_i32_3 : BitVec 32 := 0#32
  let v6 : BitVec 1 := Scalar.cmpi .eq arg0 c0_i32_3
  let arg1 : BitVec 32 := BitVec.ofNat 32 (i 1).val
  let c0_i32_4 : BitVec 32 := 0#32
  let v7 : BitVec 1 := Scalar.cmpi .eq arg1 c0_i32_4
  let v8 : BitVec 1 := Scalar.andi v6 v7
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S704x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference13Ideal.lean ====
abbrev S4224x8192 : Shape := ⟨2, ![4224, 8192]⟩
abbrev S2048x8192 : Shape := ⟨2, ![2048, 8192]⟩
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S2048x8192, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S4224x2048, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x8192, .f32⟩
  | .hbm, ⟨25, _⟩ => ⟨S4224x2048, .f32⟩
  | .hbm, ⟨26, _⟩ => ⟨S4224x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4224x2048, .f32⟩
  | .hbm, ⟨31, _⟩ => ⟨S4224x2048, .f32⟩
  | .hbm, ⟨32, _⟩ => ⟨S4224x2048, .f32⟩
  | .hbm, ⟨33, _⟩ => ⟨S_, .f32⟩
  | .hbm, ⟨34, _⟩ => ⟨S4224, .f32⟩
  | .hbm, ⟨35, _⟩ => ⟨S4224x1, .f32⟩
  | .hbm, ⟨36, _⟩ => ⟨S4224x2048, .f32⟩
  | .hbm, ⟨37, _⟩ => ⟨S4224x2048, .f32⟩
  | .hbm, ⟨38, _⟩ => ⟨S4224x2048, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S4224x2048, .bf16⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel14.lean ====
abbrev S4224x10240 : Shape := ⟨2, ![4224, 10240]⟩
abbrev S2048x10240 : Shape := ⟨2, ![2048, 10240]⟩
abbrev S4224x2048 : Shape := ⟨2, ![4224, 2048]⟩
abbrev S1x2048 : Shape := ⟨2, ![1, 2048]⟩
abbrev S2048x8x1280 : Shape := ⟨3, ![2048, 8, 1280]⟩
abbrev S8x2048x1280 : Shape := ⟨3, ![8, 2048, 1280]⟩
abbrev S_ : Shape := ⟨0, ![]⟩
abbrev S4224 : Shape := ⟨1, ![4224]⟩
abbrev S4224x1 : Shape := ⟨2, ![4224, 1]⟩
abbrev S704x1280 : Shape := ⟨2, ![704, 1280]⟩
abbrev S1x2048x1280 : Shape := ⟨3, ![1, 2048, 1280]⟩
abbrev S704x1 : Shape := ⟨2, ![704, 1]⟩
abbrev S704x2048 : Shape := ⟨2, ![704, 2048]⟩
abbrev S2 : Shape := ⟨1, ![2]⟩
abbrev S1 : Shape := ⟨1, ![1]⟩
abbrev S2048x1280 : Shape := ⟨2, ![2048, 1280]⟩
abbrev S176x2048 : Shape := ⟨2, ![176, 2048]⟩
abbrev S176x1 : Shape := ⟨2, ![176, 1]⟩
abbrev S176 : Shape := ⟨1, ![176]⟩
abbrev S2048 : Shape := ⟨1, ![2048]⟩

abbrev nBuf : Space → Nat
  | .hbm => 22
  | .vmem => 12
  | .smem => 0
  | _ => 0

abbrev bufTy : (tb : Table) → Fin (tcTables nBuf tb) → BufTy
  | .hbm, ⟨0, _⟩ => ⟨S4224x10240, .f32⟩
  | .hbm, ⟨1, _⟩ => ⟨S2048x10240, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S2048x10240, .bf16⟩
  | .hbm, ⟨6, _⟩ => ⟨S2048x8x1280, .bf16⟩
  | .hbm, ⟨7, _⟩ => ⟨S8x2048x1280, .bf16⟩
  | .hbm, ⟨8, _⟩ => ⟨S4224x10240, .bf16⟩
  | .hbm, ⟨9, _⟩ => ⟨S4224x2048, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x2048, .f32⟩
  | .hbm, ⟨21, _⟩ => ⟨S1x2048, .f32⟩
  | .local _ .vmem, ⟨0, _⟩ => ⟨S704x1280, .bf16⟩
  | .local _ .vmem, ⟨1, _⟩ => ⟨S704x1280, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S704x1, .f32⟩
  | .local _ .vmem, ⟨5, _⟩ => ⟨S704x1, .f32⟩
  | .local _ .vmem, ⟨6, _⟩ => ⟨S1x2048, .f32⟩
  | .local _ .vmem, ⟨7, _⟩ => ⟨S704x2048, .f32⟩
  | .local _ .vmem, ⟨8, _⟩ => ⟨S704x2048, .f32⟩
  | .local _ .vmem, ⟨9, _⟩ => ⟨S1x2048, .f32⟩
  | .local _ .vmem, ⟨10, _⟩ => ⟨S704x2048, .f32⟩
  | .local _ .vmem, ⟨11, _⟩ => ⟨S704x2048, .f32⟩
  | _, _ => ⟨S4224x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c0_i32 : BitVec 32 := 0#32
  let arg0 : BitVec 32 := BitVec.ofNat 32 (i 0).val
  let v0 : BitVec 32 := Scalar.addi c0_i32 arg0
  let c704_i32 : BitVec 32 := 704#32
  let v1 : BitVec 32 := Scalar.muli v0 c704_i32
  v1
def k0_cond1 (i : grid0.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_2 : BitVec 32 := 0#32
  let v5 : BitVec 1 := Scalar.cmpi .ne v4 c0_i32_2
  v5

def k0_off1 (i : grid0.Coords) : Fin 2 → Nat :=
  let c0_i32 : BitVec 32 := 0#32
  let arg0 : BitVec 32 := BitVec.ofNat 32 (i 0).val
  let v0 : BitVec 32 := Scalar.addi c0_i32 arg0
  let c704_i32 : BitVec 32 := 704#32
  let v1 : BitVec 32 := Scalar.muli v0 c704_i32
  let v2 : BitVec 32 := v1
  let c0_i32_17 : BitVec 32 := 0#32
  ![v2.toNat, 0]
def k0_cond4 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_16 : BitVec 32 := 0#32
  let v26 : BitVec 1 := Scalar.cmpi .ne v25 c0_i32_16
  v26

def k0_off2 (i : grid0.Coords) : Fin 2 → Nat :=
  let c0_i32 : BitVec 32 := 0#32
  let arg0 : BitVec 32 := BitVec.ofNat 32 (i 0).val
  let v0 : BitVec 32 := Scalar.addi c0_i32 arg0
  let c704_i32 : BitVec 32 := 704#32
  let v1 : BitVec 32 := Scalar.muli v0 c704_i32
  let v2 : BitVec 32 := v1
  let c0_i32_17 : BitVec 32 := 0#32
  ![v2.toNat, 0]
@[reducible] def k0_t1_loop : Scf.Loop 32 :=
  let c0_i32_22 : BitVec 32 := 0#32
  let c4_i32 : BitVec 32 := 4#32
  let v37 : BitVec 32 := Scalar.addi c0_i32_22 c4_i32
  let c1_i32_23 : BitVec 32 := 1#32
  ⟨c0_i32_22, v37, c1_i32_23⟩
def k0_mult2 (k0_t1 : Fin k0_t1_loop.trips) : BitVec 32 :=
  let c0_i32_22 : BitVec 32 := 0#32
  let c1_i32_23 : BitVec 32 := 1#32
  let arg13 : BitVec 32 := Scf.iv c0_i32_22 c1_i32_23 k0_t1
  let c176_i32 : BitVec 32 := 176#32
  let v41 : BitVec 32 := Scalar.muli arg13 c176_i32
  v41
def k0_off3 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c176_i32 : BitVec 32 := 176#32
  let v41 : BitVec 32 := Scalar.muli arg13 c176_i32
  let v42 : BitVec 32 := v41
  let v43 : Index := Scalar.indexCast v42
  let c0_27 : Index := 0#32
  ![v43.toNat, 0]
def k0_off4 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c176_i32 : BitVec 32 := 176#32
  let v41 : BitVec 32 := Scalar.muli arg13 c176_i32
  let v42 : BitVec 32 := v41
  let v48 : Index := Scalar.indexCast v42
  let c0_29 : Index := 0#32
  ![v48.toNat, 0]
def k0_cond3 (i : grid0.Coords) : BitVec 1 :=
  let arg1 : BitVec 32 := BitVec.ofNat 32 (i 1).val
  let c1_i32_6 : BitVec 32 := 1#32
  let c0_i32_7 : BitVec 32 := 0#32
  let v11 : BitVec 1 := Scalar.cmpi .eq c1_i32_6 c0_i32_7
  let c1_i32_8 : BitVec 32 := 1#32
  let v12 : BitVec 32 := Scalar.select v11 c1_i32_8 c1_i32_6
  let v13 : BitVec 32 := Scalar.remsi arg1 v12
  let c0_i32_10 : BitVec 32 := 0#32
  let v15 : BitVec 1 := Scalar.cmpi .slt v13 c0_i32_10
  let c0_i32_11 : BitVec 32 := 0#32
  let v16 : BitVec 1 := Scalar.cmpi .slt v12 c0_i32_11
  let v17 : BitVec 1 := Scalar.xori v15 v16
  let c0_i32_9 : BitVec 32 := 0#32
  let v14 : BitVec 1 := Scalar.cmpi .ne v13 c0_i32_9
  let v18 : BitVec 1 := Scalar.andi v17 v14
  let v19 : BitVec 32 := Scalar.addi v13 v12
  let v20 : BitVec 32 := Scalar.select v18 v19 v13
  let c0_i32_12 : BitVec 32 := 0#32
  let v21 : BitVec 1 := Scalar.cmpi .eq v20 c0_i32_12
  let v22 : BitVec 32 := Scalar.extui v21
  let c0_i32_13 : BitVec 32 := 0#32
  let v23 : BitVec 1 := Scalar.cmpi .ne v22 c0_i32_13
  v23

def k0_cond2 (i : grid0.Coords) : BitVec 1 :=
  let arg0 : BitVec 32 := BitVec.ofNat 32 (i 0).val
  let c0_i32_3 : BitVec 32 := 0#32
  let v6 : BitVec 1 := Scalar.cmpi .eq arg0 c0_i32_3
  let arg1 : BitVec 32 := BitVec.ofNat 32 (i 1).val
  let c0_i32_4 : BitVec 32 := 0#32
  let v7 : BitVec 1 := Scalar.cmpi .eq arg1 c0_i32_4
  let v8 : BitVec 1 := Scalar.andi v6 v7
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S704x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference14Ideal.lean ====
abbrev S4224x10240 : Shape := ⟨2, ![4224, 10240]⟩
abbrev S2048x10240 : Shape := ⟨2, ![2048, 10240]⟩
abbrev S4224x2048 : Shape := ⟨2, ![4224, 2048]⟩
abbrev S1x2048 : Shape := ⟨2, ![1, 2048]⟩
abbrev S2112x2048 : Shape := ⟨2, ![2112, 2048]⟩
abbrev S_ : Shape := ⟨0, ![]⟩
abbrev S2112 : Shape := ⟨1, ![2112]⟩
abbrev S2112x1 : Shape := ⟨2, ![2112, 1]⟩
abbrev S2112x10240 : Shape := ⟨2, ![2112, 10240]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S4224x10240, .f32⟩
  | .hbm, ⟨1, _⟩ => ⟨S2048x10240, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S2112x2048, .f32⟩
  | .hbm, ⟨6, _⟩ => ⟨S2112x2048, .f32⟩
  | .hbm, ⟨7, _⟩ => ⟨S_, .f32⟩
  | .hbm, ⟨8, _⟩ => ⟨S2112, .f32⟩
  | .hbm, ⟨9, _⟩ => ⟨S2112x1, .f32⟩
  | .hbm, ⟨10, _⟩ => ⟨S_, .f32⟩
  | .hbm, ⟨11, _⟩ => ⟨S2112x1, .f32⟩
  | .hbm, ⟨12, _⟩ => ⟨S2112x1, .f32⟩
  | .hbm, ⟨13, _⟩ => ⟨S_, .f32⟩
  | .hbm, ⟨14, _⟩ => ⟨S2112x1, .f32⟩
  | .hbm, ⟨15, _⟩ => ⟨S2112x1, .f32⟩
  | .hbm, ⟨16, _⟩ => ⟨S2112x1, .f32⟩
  | .hbm, ⟨17, _⟩ => ⟨S2112x1, .f32⟩
  | .hbm, ⟨18, _⟩ => ⟨S_, .f32⟩
  | .hbm, ⟨19, _⟩ => ⟨S2112x1, .f32⟩
  | .hbm, ⟨20, _⟩ => ⟨S2112x1, .f32⟩
  | .hbm, ⟨21, _⟩ => ⟨S2112x2048, .f32⟩
  | .hbm, ⟨22, _⟩ => ⟨S2112x2048, .f32⟩
  | .hbm, ⟨23, _⟩ => ⟨S2112x2048, .f32⟩
  | .hbm, ⟨24, _⟩ => ⟨S2112x2048, .f32⟩
  | .hbm, ⟨25, _⟩ => ⟨S2112x10240, .f32⟩
  | .hbm, ⟨26, _⟩ => ⟨S2112x2048, .f32⟩
  | .hbm, ⟨27, _⟩ => ⟨S2112x10240, .f32⟩
  | .hbm, ⟨28, _⟩ => ⟨S2112x2048, .f32⟩
  | .hbm, ⟨29, _⟩ => ⟨S2112x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2112x2048, .f32⟩
  | .hbm, ⟨34, _⟩ => ⟨S2112x2048, .f32⟩
  | .hbm, ⟨35, _⟩ => ⟨S2112x2048, .f32⟩
  | .hbm, ⟨36, _⟩ => ⟨S_, .f32⟩
  | .hbm, ⟨37, _⟩ => ⟨S2112, .f32⟩
  | .hbm, ⟨38, _⟩ => ⟨S2112x1, .f32⟩
  | .hbm, ⟨39, _⟩ => ⟨S2112x2048, .f32⟩
  | .hbm, ⟨40, _⟩ => ⟨S2112x2048, .f32⟩
  | .hbm, ⟨41, _⟩ => ⟨S2112x2048, .f32⟩
  | .hbm, ⟨42, _⟩ => ⟨S2112x1, .f32⟩
  | .hbm, ⟨43, _⟩ => ⟨S_, .f32⟩
  | .hbm, ⟨44, _⟩ => ⟨S2112x1, .f32⟩
  | .hbm, ⟨45, _⟩ => ⟨S2112x1, .f32⟩
  | .hbm, ⟨46, _⟩ => ⟨S_, .f32⟩
  | .hbm, ⟨47, _⟩ => ⟨S2112, .f32⟩
  | .hbm, ⟨48, _⟩ => ⟨S2112x2048, .f32⟩
  | .hbm, ⟨49, _⟩ => ⟨S2112x2048, .f32⟩
  | .hbm, ⟨50, _⟩ => ⟨S2112x2048, .f32⟩
  | .hbm, ⟨51, _⟩ => ⟨S2112x2048, .f32⟩
  | .hbm, ⟨52, _⟩ => ⟨S2112x2048, .f32⟩
  | .hbm, ⟨53, _⟩ => ⟨S_, .f32⟩
  | .hbm, ⟨54, _⟩ => ⟨S2112x2048, .f32⟩
  | .hbm, ⟨55, _⟩ => ⟨S4224x2048, .f32⟩
  | _, _ => ⟨S4224x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel15.lean ====
abbrev S4224x10240 : Shape := ⟨2, ![4224, 10240]⟩
abbrev S2048x10240 : Shape := ⟨2, ![2048, 10240]⟩
abbrev S4224x2048 : Shape := ⟨2, ![4224, 2048]⟩
abbrev S1x2048 : Shape := ⟨2, ![1, 2048]⟩
abbrev S2048x8x1280 : Shape := ⟨3, ![2048, 8, 1280]⟩
abbrev S8x2048x1280 : Shape := ⟨3, ![8, 2048, 1280]⟩
abbrev S_ : Shape := ⟨0, ![]⟩
abbrev S4224 : Shape := ⟨1, ![4224]⟩
abbrev S4224x1 : Shape := ⟨2, ![4224, 1]⟩
abbrev S704x1280 : Shape := ⟨2, ![704, 1280]⟩
abbrev S1x2048x1280 : Shape := ⟨3, ![1, 2048, 1280]⟩
abbrev S704x1 : Shape := ⟨2, ![704, 1]⟩
abbrev S704x2048 : Shape := ⟨2, ![704, 2048]⟩
abbrev S2 : Shape := ⟨1, ![2]⟩
abbrev S1 : Shape := ⟨1, ![1]⟩
abbrev S2048x1280 : Shape := ⟨2, ![2048, 1280]⟩
abbrev S176x2048 : Shape := ⟨2, ![176, 2048]⟩
abbrev S176x1 : Shape := ⟨2, ![176, 1]⟩
abbrev S176 : Shape := ⟨1, ![176]⟩
abbrev S2048 : Shape := ⟨1, ![2048]⟩

abbrev nBuf : Space → Nat
  | .hbm => 24
  | .vmem => 13
  | .smem => 0
  | _ => 0

abbrev bufTy : (tb : Table) → Fin (tcTables nBuf tb) → BufTy
  | .hbm, ⟨0, _⟩ => ⟨S4224x10240, .f32⟩
  | .hbm, ⟨1, _⟩ => ⟨S2048x10240, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S4224x2048, .f32⟩
  | .hbm, ⟨6, _⟩ => ⟨S1x2048, .f32⟩
  | .hbm, ⟨7, _⟩ => ⟨S2048x10240, .bf16⟩
  | .hbm, ⟨8, _⟩ => ⟨S2048x8x1280, .bf16⟩
  | .hbm, ⟨9, _⟩ => ⟨S8x2048x1280, .bf16⟩
  | .hbm, ⟨10, _⟩ => ⟨S4224x10240, .bf16⟩
  | .hbm, ⟨11, _⟩ => ⟨S4224x2048, .f32⟩
  | .hbm, ⟨12, _⟩ => ⟨S_, .f32⟩
  | .hbm, ⟨13, _⟩ => ⟨S4224, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S4224x2048, .f32⟩
  | .hbm, ⟨23, _⟩ => ⟨S1x2048, .f32⟩
  | .local _ .vmem, ⟨0, _⟩ => ⟨S704x1280, .bf16⟩
  | .local _ .vmem, ⟨1, _⟩ => ⟨S704x1280, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S704x1, .f32⟩
  | .local _ .vmem, ⟨5, _⟩ => ⟨S704x1, .f32⟩
  | .local _ .vmem, ⟨6, _⟩ => ⟨S1x2048, .f32⟩
  | .local _ .vmem, ⟨7, _⟩ => ⟨S1x2048, .f32⟩
  | .local _ .vmem, ⟨8, _⟩ => ⟨S704x2048, .f32⟩
  | .local _ .vmem, ⟨9, _⟩ => ⟨S704x2048, .f32⟩
  | .local _ .vmem, ⟨10, _⟩ => ⟨S1x2048, .f32⟩
  | .local _ .vmem, ⟨11, _⟩ => ⟨S704x2048, .f32⟩
  | .local _ .vmem, ⟨12, _⟩ => ⟨S704x2048, .f32⟩
  | _, _ => ⟨S4224x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c3_i32 : BitVec 32 := 3#32
  let arg0 : BitVec 32 := BitVec.ofNat 32 (i 0).val
  let v0 : BitVec 32 := Scalar.addi c3_i32 arg0
  let c704_i32 : BitVec 32 := 704#32
  let v1 : BitVec 32 := Scalar.muli v0 c704_i32
  v1
def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c3_i32 : BitVec 32 := 3#32
  let arg0 : BitVec 32 := BitVec.ofNat 32 (i 0).val
  let v0 : BitVec 32 := Scalar.addi c3_i32 arg0
  let c704_i32 : BitVec 32 := 704#32
  let v1 : BitVec 32 := Scalar.muli v0 c704_i32
  let v2 : BitVec 32 := v1
  let c0_i32_16 : BitVec 32 := 0#32
  ![v2.toNat, 0]
def k0_cond4 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def k0_off2 (i : grid0.Coords) : Fin 2 → Nat :=
  let c3_i32 : BitVec 32 := 3#32
  let arg0 : BitVec 32 := BitVec.ofNat 32 (i 0).val
  let v0 : BitVec 32 := Scalar.addi c3_i32 arg0
  let c704_i32 : BitVec 32 := 704#32
  let v1 : BitVec 32 := Scalar.muli v0 c704_i32
  let v2 : BitVec 32 := v1
  let c0_i32_16 : BitVec 32 := 0#32
  ![v2.toNat, 0]
@[reducible] def k0_t1_loop : Scf.Loop 32 :=
  let c0_i32_21 : BitVec 32 := 0#32
  let c4_i32 : BitVec 32 := 4#32
  let v37 : BitVec 32 := Scalar.addi c0_i32_21 c4_i32
  let c1_i32_22 : BitVec 32 := 1#32
  ⟨c0_i32_21, v37, c1_i32_22⟩
def k0_mult2 (k0_t1 : Fin k0_t1_loop.trips) : BitVec 32 :=
  let c0_i32_21 : BitVec 32 := 0#32
  let c1_i32_22 : BitVec 32 := 1#32
  let arg15 : BitVec 32 := Scf.iv c0_i32_21 c1_i32_22 k0_t1
  let c176_i32 : BitVec 32 := 176#32
  let v41 : BitVec 32 := Scalar.muli arg15 c176_i32
  v41
def k0_off3 (k0_t1 : Fin k0_t1_loop.trips) : Fin 2 → Nat :=
  let c0_i32_21 : BitVec 32 := 0#32
  let c1_i32_22 : BitVec 32 := 1#32
  let arg15 : BitVec 32 := Scf.iv c0_i32_21 c1_i32_22 k0_t1
  let c176_i32 : BitVec 32 := 176#32
  let v41 : BitVec 32 := Scalar.muli arg15 c176_i32
  let v42 : BitVec 32 := v41
  let v43 : Index := Scalar.indexCast v42
  let c0_26 : Index := 0#32
  ![v43.toNat, 0]
def k0_off4 (k0_t1 : Fin k0_t1_loop.trips) : Fin 2 → Nat :=
  let c0_i32_21 : BitVec 32 := 0#32
  let c1_i32_22 : BitVec 32 := 1#32
  let arg15 : BitVec 32 := Scf.iv c0_i32_21 c1_i32_22 k0_t1
  let c176_i32 : BitVec 32 := 176#32
  let v41 : BitVec 32 := Scalar.muli arg15 c176_i32
  let v42 : BitVec 32 := v41
  let v48 : Index := Scalar.indexCast v42
  let c0_28 : Index := 0#32
  ![v48.toNat, 0]
def k0_cond3 (i : grid0.Coords) : BitVec 1 :=
  let arg1 : BitVec 32 := BitVec.ofNat 32 (i 1).val
  let c1_i32_5 : BitVec 32 := 1#32
  let c0_i32_6 : BitVec 32 := 0#32
  let v11 : BitVec 1 := Scalar.cmpi .eq c1_i32_5 c0_i32_6
  let c1_i32_7 : BitVec 32 := 1#32
  let v12 : BitVec 32 := Scalar.select v11 c1_i32_7 c1_i32_5
  let v13 : BitVec 32 := Scalar.remsi arg1 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let c0_i32_11 : BitVec 32 := 0#32
  let v21 : BitVec 1 := Scalar.cmpi .eq v20 c0_i32_11
  let v22 : BitVec 32 := Scalar.extui v21
  let c0_i32_12 : BitVec 32 := 0#32
  let v23 : BitVec 1 := Scalar.cmpi .ne v22 c0_i32_12
  v23

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let arg1 : BitVec 32 := BitVec.ofNat 32 (i 1).val
  let c0_i32_3 : BitVec 32 := 0#32
  let v7 : BitVec 1 := Scalar.cmpi .eq arg1 c0_i32_3
  let v8 : BitVec 1 := Scalar.andi v6 v7
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S704x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S704x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference15Ideal.lean ====
abbrev S4224x10240 : Shape := ⟨2, ![4224, 10240]⟩
abbrev S2048x10240 : Shape := ⟨2, ![2048, 10240]⟩
abbrev S4224x2048 : Shape := ⟨2, ![4224, 2048]⟩
abbrev S1x2048 : Shape := ⟨2, ![1, 2048]⟩
abbrev S2112x2048 : Shape := ⟨2, ![2112, 2048]⟩
abbrev S_ : Shape := ⟨0, ![]⟩
abbrev S2112 : Shape := ⟨1, ![2112]⟩
abbrev S2112x1 : Shape := ⟨2, ![2112, 1]⟩
abbrev S2112x10240 : Shape := ⟨2, ![2112, 10240]⟩
abbrev S2048 : Shape := ⟨1, ![2048]⟩

abbrev nBuf : Space → Nat
  | .hbm => 58
  | .vmem => 0
  | .smem => 0
  | _ => 0

abbrev bufTy : (tb : Table) → Fin (tcTables nBuf tb) → BufTy
  | .hbm, ⟨0, _⟩ => ⟨S4224x10240, .f32⟩
  | .hbm, ⟨1, _⟩ => ⟨S2048x10240, .f32⟩
  | .hbm, ⟨2, _⟩ => ⟨S4224x2048, .f32⟩
  | .hbm, ⟨3, _⟩ => ⟨S4224x2048, .f32⟩
  | .hbm, ⟨4, _⟩ => ⟨S1x2048, .f32⟩
  | .hbm, ⟨5, _⟩ => ⟨S4224x2048, .f32⟩
  | .hbm, ⟨6, _⟩ => ⟨S1x2048, .f32⟩
  | .hbm, ⟨7, _⟩ => ⟨S2112x2048, .f32⟩
  | .hbm, ⟨8, _⟩ => ⟨S2112x2048, .f32⟩
  | .hbm, ⟨9, _⟩ => ⟨S_, .f32⟩
  | .hbm, ⟨10, _⟩ => ⟨S2112, .f32⟩
  | .hbm, ⟨11, _⟩ => ⟨S2112x1, .f32⟩
  | .hbm, ⟨12, _⟩ => ⟨S_, .f32⟩
  | .hbm, ⟨13, _⟩ => ⟨S2112x1, .f32⟩
  | .hbm, ⟨14, _⟩ => ⟨S2112x1, .f32⟩
  | .hbm, ⟨15, _⟩ => ⟨S_, .f32⟩
  | .hbm, ⟨16, _⟩ => ⟨S2112x1, .f32⟩
  | .hbm, ⟨17, _⟩ => ⟨S2112x1, .f32⟩
  | .hbm, ⟨18, _⟩ => ⟨S2112x1, .f32⟩
  | .hbm, ⟨19, _⟩ => ⟨S2112x1, .f32⟩
  | .hbm, ⟨20, _⟩ => ⟨S_, .f32⟩
  | .hbm, ⟨21, _⟩ => ⟨S2112x1, .f32⟩
  | .hbm, ⟨22, _⟩ => ⟨S2112x1, .f32⟩
  | .hbm, ⟨23, _⟩ => ⟨S2112x2048, .f32⟩
  | .hbm, ⟨24, _⟩ => ⟨S2112x2048, .f32⟩
  | .hbm, ⟨25, _⟩ => ⟨S2112x2048, .f32⟩
  | .hbm, ⟨26, _⟩ => ⟨S2112x2048, .f32⟩
  | .hbm, ⟨27, _⟩ => ⟨S2112x10240, .f32⟩
  | .hbm, ⟨28, _⟩ => ⟨S2112x2048, .f32⟩
  | .hbm, ⟨29, _⟩ => ⟨S2112x10240, .f32⟩
  | .hbm, ⟨30, _⟩ => ⟨S2112x2048, .f32⟩
  | .hbm, ⟨31, _⟩ => ⟨S2112x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S2112x2048, .f32⟩
  | .hbm, ⟨36, _⟩ => ⟨S2112x2048, .f32⟩
  | .hbm, ⟨37, _⟩ => ⟨S2112x2048, .f32⟩
  | .hbm, ⟨38, _⟩ => ⟨S_, .f32⟩
  | .hbm, ⟨39, _⟩ => ⟨S2112, .f32⟩
  | .hbm, ⟨40, _⟩ => ⟨S2112x1, .f32⟩
  | .hbm, ⟨41, _⟩ => ⟨S2112x2048, .f32⟩
  | .hbm, ⟨42, _⟩ => ⟨S2112x2048, .f32⟩
  | .hbm, ⟨43, _⟩ => ⟨S2112x2048, .f32⟩
  | .hbm, ⟨44, _⟩ => ⟨S2112x1, .f32⟩
  | .hbm, ⟨45, _⟩ => ⟨S_, .f32⟩
  | .hbm, ⟨46, _⟩ => ⟨S2112x1, .f32⟩
  | .hbm, ⟨47, _⟩ => ⟨S2112x1, .f32⟩
  | .hbm, ⟨48, _⟩ => ⟨S_, .f32⟩
  | .hbm, ⟨49, _⟩ => ⟨S2112, .f32⟩
  | .hbm, ⟨50, _⟩ => ⟨S2112x2048, .f32⟩
  | .hbm, ⟨51, _⟩ => ⟨S2112x2048, .f32⟩
  | .hbm, ⟨52, _⟩ => ⟨S2112x2048, .f32⟩
  | .hbm, ⟨53, _⟩ => ⟨S2112x2048, .f32⟩
  | .hbm, ⟨54, _⟩ => ⟨S2112x2048, .f32⟩
  | .hbm, ⟨55, _⟩ => ⟨S2112x2048, .f32⟩
  | .hbm, ⟨56, _⟩ => ⟨S4224x2048, .f32⟩
  | .hbm, ⟨57, _⟩ => ⟨S1x2048, .f32⟩
  | _, _ => ⟨S4224x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel16.lean ====
abbrev S4224x10240 : Shape := ⟨2, ![4224, 10240]⟩
abbrev S4x512x512 : Shape := ⟨3, ![4, 512, 512]⟩
abbrev S4224x2048 : Shape := ⟨2, ![4224, 2048]⟩
abbrev S384x2048 : Shape := ⟨2, ![384, 2048]⟩
abbrev S16x2048 : Shape := ⟨2, ![16, 2048]⟩
abbrev S384x1 : Shape := ⟨2, ![384, 1]⟩
abbrev S384x512 : Shape := ⟨2, ![384, 512]⟩
abbrev S16x512 : Shape := ⟨2, ![16, 512]⟩
abbrev S400x512 : Shape := ⟨2, ![400, 512]⟩
abbrev S1x512x512 : Shape := ⟨3, ![1, 512, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S4224x10240, .f32⟩
  | .hbm, ⟨1, _⟩ => ⟨S4x512x512, .f32⟩
  | .hbm, ⟨2, _⟩ => ⟨S4x512x512, .bf16⟩
  | .hbm, ⟨3, _⟩ => ⟨S4224x2048, .bf16⟩
  | .hbm, ⟨4, _⟩ => ⟨S4224x2048, .f32⟩
  | .local _ .vmem, ⟨0, _⟩ => ⟨S384x2048, .f32⟩
  | .local _ .vmem, ⟨1, _⟩ => ⟨S384x2048, .f32⟩
  | .local _ .vmem, ⟨2, _⟩ => ⟨S4x512x512, .bf16⟩
  | .local _ .vmem, ⟨3, _⟩ => ⟨S384x2048, .bf16⟩
  | .local _ .vmem, ⟨4, _⟩ => ⟨S384x2048, .bf16⟩
  | .local _ .vmem, ⟨5, _⟩ => ⟨S384x2048, .f32⟩
  | .local _ .vmem, ⟨6, _⟩ => ⟨S384x2048, .f32⟩
  | .local _ .vmem, ⟨7, _⟩ => ⟨S16x2048, .f32⟩
  | _, _ => ⟨S4224x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4224x10240 : Shape := ⟨2, ![4224, 10240]⟩
abbrev S4x512x512 : Shape := ⟨3, ![4, 512, 512]⟩
abbrev S4224x512 : Shape := ⟨2, ![4224, 512]⟩
abbrev S_ : Shape := ⟨0, ![]⟩
abbrev S4224 : Shape := ⟨1, ![4224]⟩
abbrev S4224x1 : Shape := ⟨2, ![4224, 1]⟩
abbrev S4224x1x512 : Shape := ⟨3, ![4224, 1, 512]⟩
abbrev S4224x4x512 : Shape := ⟨3, ![4224, 4, 512]⟩
abbrev S4x512x4224 : Shape := ⟨3, ![4, 512, 4224]⟩
abbrev S4224x2048 : Shape := ⟨2, ![4224, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4224x10240, .f32⟩
  | .hbm, ⟨1, _⟩ => ⟨S4x512x512, .f32⟩
  | .hbm, ⟨2, _⟩ => ⟨S4224x512, .f32⟩
  | .hbm, ⟨3, _⟩ => ⟨S_, .f32⟩
  | .hbm, ⟨4, _⟩ => ⟨S_, .f32⟩
  | .hbm, ⟨5, _⟩ => ⟨S4224x512, .f32⟩
  | .hbm, ⟨6, _⟩ => ⟨S4224, .i32⟩
  | .hbm, ⟨7, _⟩ => ⟨S_, .i32⟩
  | .hbm, ⟨8, _⟩ => ⟨S4224, .i32⟩
  | .hbm, ⟨9, _⟩ => ⟨S4224, .i32⟩
  | .hbm, ⟨10, _⟩ => ⟨S_, .i32⟩
  | .hbm, ⟨11, _⟩ => ⟨S4224, .i32⟩
  | .hbm, ⟨12, _⟩ => ⟨S4224, .i32⟩
  | .hbm, ⟨13, _⟩ => ⟨S4224, .f32⟩
  | .hbm, ⟨14, _⟩ => ⟨S4224x1, .f32⟩
  | .hbm, ⟨15, _⟩ => ⟨S4224x512, .f32⟩
  | .hbm, ⟨16, _⟩ => ⟨S4224x512, .f32⟩
  | .hbm, ⟨17, _⟩ => ⟨S4224x512, .f32⟩
  | .hbm, ⟨18, _⟩ => ⟨S4224x512, .f32⟩
  | .hbm, ⟨19, _⟩ => ⟨S_, .f32⟩
  | .hbm, ⟨20, _⟩ => ⟨S_, .f32⟩
  | .hbm, ⟨21, _⟩ => ⟨S4224x512, .f32⟩
  | .hbm, ⟨22, _⟩ => ⟨S4224, .i32⟩
  | .hbm, ⟨23, _⟩ => ⟨S_, .i32⟩
  | .hbm, ⟨24, _⟩ => ⟨S4224, .i32⟩
  | .hbm, ⟨25, _⟩ => ⟨S4224, .i32⟩
  | .hbm, ⟨26, _⟩ => ⟨S_, .i32⟩
  | .hbm, ⟨27, _⟩ => ⟨S4224, .i32⟩
  | .hbm, ⟨28, _⟩ => ⟨S4224, .i32⟩
  | .hbm, ⟨29, _⟩ => ⟨S4224, .f32⟩
  | .hbm, ⟨30, _⟩ => ⟨S4224x1, .f32⟩
  | .hbm, ⟨31, _⟩ => ⟨S4224x512, .f32⟩
  | .hbm, ⟨32, _⟩ => ⟨S4224x512, .f32⟩
  | .hbm, ⟨33, _⟩ => ⟨S4224x512, .f32⟩
  | .hbm, ⟨34, _⟩ => ⟨S4224x512, .f32⟩
  | .hbm, ⟨35, _⟩ => ⟨S_, .f32⟩
  | .hbm, ⟨36, _⟩ => ⟨S_, .f32⟩
  | .hbm, ⟨37, _⟩ => ⟨S4224x512, .f32⟩
  | .hbm, ⟨38, _⟩ => ⟨S4224, .i32⟩
  | .hbm, ⟨39, _⟩ => ⟨S_, .i32⟩
  | .hbm, ⟨40, _⟩ => ⟨S4224, .i32⟩
  | .hbm, ⟨41, _⟩ => ⟨S4224, .i32⟩
  | .hbm, ⟨42, _⟩ => ⟨S_, .i32⟩
  | .hbm, ⟨43, _⟩ => ⟨S4224, .i32⟩
  | .hbm, ⟨44, _⟩ => ⟨S4224, .i32⟩
  | .hbm, ⟨45, _⟩ => ⟨S4224, .f32⟩
  | .hbm, ⟨46, _⟩ => ⟨S4224x1, .f32⟩
  | .hbm, ⟨47, _⟩ => ⟨S4224x512, .f32⟩
  | .hbm, ⟨48, _⟩ => ⟨S4224x512, .f32⟩
  | .hbm, ⟨49, _⟩ => ⟨S4224x512, .f32⟩
  | .hbm, ⟨50, _⟩ => ⟨S4224x512, .f32⟩
  | .hbm, ⟨51, _⟩ => ⟨S_, .f32⟩
  | .hbm, ⟨52, _⟩ => ⟨S_, .f32⟩
  | .hbm, ⟨53, _⟩ => ⟨S4224x512, .f32⟩
  | .hbm, ⟨54, _⟩ => ⟨S4224, .i32⟩
  | .hbm, ⟨55, _⟩ => ⟨S_, .i32⟩
  | .hbm, ⟨56, _⟩ => ⟨S4224, .i32⟩
  | .hbm, ⟨57, _⟩ => ⟨S4224, .i32⟩
  | .hbm, ⟨58, _⟩ => ⟨S_, .i32⟩
  | .hbm, ⟨59, _⟩ => ⟨S4224, .i32⟩
  | .hbm, ⟨60, _⟩ => ⟨S4224, .i32⟩
  | .hbm, ⟨61, _⟩ => ⟨S4224, .f32⟩
  | .hbm, ⟨62, _⟩ => ⟨S4224x1, .f32⟩
  | .hbm, ⟨63, _⟩ => ⟨S4224x512, .f32⟩
  | .hbm, ⟨64, _⟩ => ⟨S4224x512, .f32⟩
  | .hbm, ⟨65, _⟩ => ⟨S4224x512, .f32⟩
  | .hbm, ⟨66, _⟩ => ⟨S4224x1x512, .f32⟩
  | .hbm, ⟨67, _⟩ => ⟨S4224x1x512, .f32⟩
  | .hbm, ⟨68, _⟩ => ⟨S4224x1x512, .f32⟩
  | .hbm, ⟨69, _⟩ => ⟨S4224x1x512, .f32⟩
  | .hbm, ⟨70, _⟩ => ⟨S4224x4x512, .f32⟩
  | .hbm, ⟨71, _⟩ => ⟨S4x512x4224, .f32⟩
  | .hbm, ⟨72, _⟩ => ⟨S4224x4x512, .f32⟩
  | .hbm, ⟨73, _⟩ => ⟨S4224x2048, .f32⟩
  | .hbm, ⟨74, _⟩ => ⟨S4224x2048, .bf16⟩
  | .hbm, ⟨75, _⟩ => ⟨S4224x2048, .f32⟩
  | _, _ => ⟨S4224x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_5 : Ref sig .tc := ⟨.hbm, 39, rfl⟩
abbrev main_v30 : Ref sig .tc := ⟨.hbm, 40, rfl⟩
abbrev main_v31 : Ref sig .tc := ⟨.hbm, 41, rfl⟩
abbrev main_c_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_c_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Proof.Copies.lean ====
/-
  The outgoing copies of the pooling-gradient kernel. At each of its eleven steps the kernel fills one of two groups
  of two tiles in vector memory and copies the two tiles out to two blocks of the result array: member 0 to the
  columns from 0, member 1 to the columns from 6144. A group is refilled two steps later, once its copies have been
  waited for. The steps go through the row blocks from the last one down, so step `u` writes rows `384 * (10 - u)`.

  This file names the tiles, the blocks and the semaphore cells, shows that the blocks (and the tiles) are disjoint,
  and identifies the slices the body takes at a step with these names.
-/

module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.PoolBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## When the body's branches are taken -/

/-- From the third step on, the copies of two steps earlier are waited for. -/
abbrev Waits2 (t : Fin cfg0.N) : Prop := k0_cond1 (grid0.coords t) = 1#1
/-- The first step clears the accumulators and the rows kept for the next step. -/
abbrev Clears (t : Fin cfg0.N) : Prop :=
  (Scalar.cmpi .ne (Scalar.extui (Scalar.cmpi .eq (BitVec.ofNat 32 (grid0.coords t 0).val) 0#32)) 0#32) = 1#1
/-- The last step waits for every copy still under way. -/
abbrev Drains (t : Fin cfg0.N) : Prop := k0_cond3 (grid0.coords t) = 1#1

theorem waits2_iff : ∀ t : Fin cfg0.N, Waits2 t ↔ 2 ≤ t.val :=
  (by decide +kernel : ∀ t : Fin grid0.N, Waits2 t ↔ 2 ≤ t.val)
theorem clears_iff : ∀ t : Fin cfg0.N, Clears t ↔ t.val = 0 :=
  (by decide +kernel : ∀ t : Fin grid0.N, Clears t ↔ t.val = 0)
theorem drains_iff : ∀ t : Fin cfg0.N, Drains t ↔ t.val = 10 :=
  (by decide +kernel : ∀ t : Fin grid0.N, Drains t ↔ t.val = 10)

/-! ## The operands of a step -/

/-- The eight staged operands at step `t`. -/
abbrev stg0 (t : Fin cfg0.N) : Memref sig .tc .vmem S384x2048 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S384x2048 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S384x2048 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S384x2048 .bf16 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S1x2048 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S4x512x512 .bf16 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S4x512x512 .f32 := win0_6.stage (cfg0.slots t 6)
abbrev stg6_whole (t : Fin cfg0.N) : (stg6 t).IsWhole := hstage0_6 ((cfg0.slots t 6).cast nbuf0_6)
abbrev stg7 (t : Fin cfg0.N) : Memref sig .tc .vmem S1x2048 .f32 := win0_7.stage (cfg0.slots t 7)
abbrev stg7_whole (t : Fin cfg0.N) : (stg7 t).IsWhole := hstage0_7 ((cfg0.slots t 7).cast nbuf0_7)
/-- The sixteen rows kept from the row block of the step before. -/
abbrev halo : Memref sig .tc .vmem S16x2048 .f32 := Memref.whole cc0_scratch0
/-- The two groups of two tiles the copies go out from. -/
abbrev tiles : Memref sig .tc .vmem S2x2x384x2048 .bf16 := Memref.whole cc0_scratch1
/-- The result array the copies go out to. -/
abbrev dest : Memref sig .tc .hbm S4224x10240 .bf16 := Memref.whole main_v63_0

/-- What a memref of core `c` holds, and holding it whole. -/
abbrev BufOf (c : Dev nD) {sp : Space} {S : Shape} {e : EltTy} (M : Memref sig .tc sp S e) : Type :=
  Buf (Elt F) (M.view.loc (c : Thread nD τ))
abbrev holds (c : Dev nD) {sp : Space} {S : Shape} {e : EltTy} (M : Memref sig .tc sp S e) (f : BufOf (F := F) c M) : sProp 𝕄 :=
  M.view.loc (c : Thread nD τ) ↦{fullShare} f

/-! ## Tiles, blocks and cells -/

instance : NeZero grid0.N := ⟨by rw [N_0]; decide⟩

theorem tileBox_inb (g k : Fin 2) : ∀ a, (![g.val, k.val, 0, 0] : Fin 4 → Nat) a + S1x1x384x2048.size a ≤ S2x2x384x2048.size a := by
  have := g.isLt; have := k.isLt; intro a; fin_cases a <;> simp <;> omega
theorem outBox_inb (u : Fin 11) (k : Fin 2) : ∀ a, (![384 * (10 - u.val), 6144 * k.val] : Fin 2 → Nat) a + S384x2048.size a ≤ S4224x10240.size a := by
  have := u.isLt; have := k.isLt; intro a; fin_cases a <;> simp <;> omega
theorem copyCell_inb (g k : Fin 2) : ∀ a, (![2 * g.val + k.val] : Fin 1 → Nat) a + S1.size a ≤ S4.size a := by
  have := g.isLt; have := k.isLt; intro a; fin_cases a <;> simp <;> omega

/-- Member `k` of group `g`. -/
def tileBox (g k : Fin 2) : Memref sig .tc .vmem S384x2048 .bf16 :=
  (tiles.slice (Rect.unit (s := S2x2x384x2048) ![g.val, k.val, 0, 0] S1x1x384x2048.size (tileBox_inb g k)) (fun _ => rfl)).squeeze
    S384x2048 squeezes_S1x1x384x2048_S384x2048
/-- The block member `k` of step `u` is copied to. -/
def outBox (u : Fin 11) (k : Fin 2) : Memref sig .tc .hbm S384x2048 .bf16 :=
  dest.slice (Rect.unit (s := S4224x10240) ![384 * (10 - u.val), 6144 * k.val] S384x2048.size (outBox_inb u k)) (fun _ => rfl)
/-- The cell counting the copy of member `k` of group `g`. -/
def copyCell (g k : Fin 2) : DmaSems sig S_ :=
  (cc0_scratch2.slice (Rect.unit (s := S4) ![2 * g.val + k.val] S1.size (copyCell_inb g k))).squeeze S_ squeezes_S1_S_
abbrev cellLoc (g k : Fin 2) : SemLoc sig := SemLoc.dma (copyCell g k).sem
theorem cellLoc_00 : cellLoc 0 0 = SemLoc.dma 12 := by decide
theorem cellLoc_01 : cellLoc 0 1 = SemLoc.dma 13 := by decide
theorem cellLoc_10 : cellLoc 1 0 = SemLoc.dma 14 := by decide
theorem cellLoc_11 : cellLoc 1 1 = SemLoc.dma 15 := by decide

/-! ### Boxes of one size at different places are disjoint -/

abbrev tileSet (i : Fin 2 × Fin 2) : Finset S2x2x384x2048.Idx :=
  (Rect.unit (s := S2x2x384x2048) ![i.1.val, i.2.val, 0, 0] S1x1x384x2048.size (tileBox_inb i.1 i.2)).set
theorem tileBox_set (g k : Fin 2) : (tileBox g k).view.set = tileSet (g, k) := by
  simp only [tileBox, Memref.view_squeeze, View.set_reshape]; exact View.set_slice_whole _ _
theorem tileSet_disjoint (i i' : Fin 2 × Fin 2) (h : i ≠ i') : Disjoint (tileSet i) (tileSet i') :=
  Ring.boxes_disjoint (s := S2x2x384x2048) S1x1x384x2048.size (fun i : Fin 2 × Fin 2 => ![i.1.val, i.2.val, 0, 0])
    (fun i => tileBox_inb i.1 i.2) (fun i => ![i.1.val, i.2.val, 0, 0])
    (fun i a => by fin_cases a <;> simp) (fun v => (Fin.ofNat 2 (v 0), Fin.ofNat 2 (v 1))) (by decide +kernel) i i' h

abbrev outSet (i : Fin 11 × Fin 2) : Finset S4224x10240.Idx :=
  (Rect.unit (s := S4224x10240) ![384 * (10 - i.1.val), 6144 * i.2.val] S384x2048.size (outBox_inb i.1 i.2)).set
theorem outBox_set (u : Fin 11) (k : Fin 2) : (outBox u k).view.set = outSet (u, k) := by
  simp only [outBox]; exact View.set_slice_whole _ _
theorem outSet_disjoint (i i' : Fin 11 × Fin 2) (h : i ≠ i') : Disjoint (outSet i) (outSet i') :=
  Ring.boxes_disjoint (s := S4224x10240) S384x2048.size (fun i : Fin 11 × Fin 2 => ![384 * (10 - i.1.val), 6144 * i.2.val])
    (fun i => outBox_inb i.1 i.2) (fun i => ![10 - i.1.val, 3 * i.2.val])
    (fun i a => by fin_cases a <;> simp <;> omega) (fun v => (Fin.ofNat 11 (10 - v 0), Fin.ofNat 2 (v 1 / 3))) (by decide +kernel) i i' h

/-! ## What is held of the copies between steps -/

section Holding
variable (c : Dev nD) (val : Fin 11 → Fin 2 → Vec F S384x2048 .bf16)

abbrev cellAt0 (g k : Fin 2) : sProp 𝕄 := semVal ((c : Thread nD τ), cellLoc g k) 0
abbrev tileAt (g k : Fin 2) (e : BufOf (F := F) c (tileBox g k)) : sProp 𝕄 :=
  (tileBox g k).view.loc (c : Thread nD τ) ↦[(tileBox g k).view.set]{fullShare} e
abbrev outAt (u : Fin 11) (k : Fin 2) (f : BufOf (F := F) c (outBox u k)) : sProp 𝕄 :=
  (outBox u k).view.loc (c : Thread nD τ) ↦[(outBox u k).view.set]{fullShare} f
/-- The block of step `u` and member `k` holding `val u k`. -/
abbrev outDone (u : Fin 11) (k : Fin 2) : sProp 𝕄 :=
  iprop(∃ f, ⌜(outBox u k).view.read (Elt F) f = val u k⌝ ∗ outAt c u k f)
/-- The copy of step `u`'s member `k` under way from group `g`: when it lands it gives back the tile, and the block
    holding `val u k`. -/
abbrev flying (g k : Fin 2) (u : Fin 11) : sProp 𝕄 :=
  iprop(∃ f e, ⌜(outBox u k).view.read (Elt F) f = val u k⌝ ∗ Transfers.Flight countersEmb (c : Thread nD τ) (cellLoc g k) default
    ((outBox u k).view.amount (cellLoc g k)) iprop(outAt c u k f ∗ tileAt c g k e))
/-- A group at rest, a group whose copies are under way, the blocks of a step before and after they are written. -/
abbrev groupFree (g : Fin 2) : sProp 𝕄 :=
  iprop((cellAt0 c g 0 ∗ ∃ e, tileAt c g 0 e) ∗ (cellAt0 c g 1 ∗ ∃ e, tileAt c g 1 e))
abbrev groupBusy (g : Fin 2) (u : Fin 11) : sProp 𝕄 := iprop(flying c val g 0 u ∗ flying c val g 1 u)
abbrev blocksAhead (u : Fin 11) : sProp 𝕄 := iprop((∃ f, outAt (F := F) c u 0 f) ∗ ∃ f, outAt c u 1 f)
abbrev blocksDone (u : Fin 11) : sProp 𝕄 := iprop(outDone c val u 0 ∗ outDone c val u 1)
/-- Everything about the copies before step `k`. -/
def copiesAt (k : ℕ) : sProp 𝕄 := Ring.AtBΦ 2 (groupFree c) (groupBusy c val) (blocksAhead c) (blocksDone c val) k

theorem groupFree_eq (g : Fin 2) :
    (bigSep Finset.univ (fun k : Fin 2 => iprop(cellAt0 (F := F) c g k ∗ ∃ e, tileAt c g k e)) : sProp 𝕄) = groupFree c g := by
  rw [BI.bigSep_eq_bigSepL_of_eq [0, 1] (by decide) (by decide)]; rfl
theorem blocksAhead_eq (u : Fin 11) :
    (bigSep Finset.univ (fun k : Fin 2 => iprop(∃ f, outAt (F := F) c u k f)) : sProp 𝕄) = blocksAhead c u := by
  rw [BI.bigSep_eq_bigSepL_of_eq [0, 1] (by decide) (by decide)]; rfl
theorem blocksDone_eq (u : Fin 11) :
    (bigSep Finset.univ (fun k : Fin 2 => outDone c val u k) : sProp 𝕄) = blocksDone c val u := by
  rw [BI.bigSep_eq_bigSepL_of_eq [0, 1] (by decide) (by decide)]; rfl
theorem cellAt0_eq {g k : Fin 2} {l : SemLoc sig} (h : cellLoc g k = l) :
    cellAt0 (F := F) c g k = (semVal ((c : Thread nD τ), l) 0 : sProp 𝕄) :=
  congrArg (fun x => (semVal ((c : Thread nD τ), x) 0 : sProp 𝕄)) h

theorem tileAt_eq (g k : Fin 2) (e) :
    tileAt (F := F) c g k e = (((c : Thread nD τ).loc cc0_scratch1) ↦[tileSet (g, k)]{fullShare} e : sProp 𝕄) := by
  unfold tileAt; rw [tileBox_set]; rfl
theorem outAt_eq (u : Fin 11) (k : Fin 2) (f) :
    outAt (F := F) c u k f = (((c : Thread nD τ).loc main_v63_0) ↦[outSet (u, k)]{fullShare} f : sProp 𝕄) := by
  unfold outAt; rw [outBox_set]; rfl

/-- The four cells one by one. -/
abbrev cellsAt0 : sProp 𝕄 :=
  iprop(semVal ((c : Thread nD τ), SemLoc.dma 12) 0 ∗ semVal ((c : Thread nD τ), SemLoc.dma 13) 0
    ∗ semVal ((c : Thread nD τ), SemLoc.dma 14) 0 ∗ semVal ((c : Thread nD τ), SemLoc.dma 15) 0)
theorem cells_eq : (bigSep Finset.univ (fun i : Fin 2 × Fin 2 => cellAt0 (F := F) c i.1 i.2) : sProp 𝕄) = cellsAt0 c := by
  rw [BI.bigSep_eq_bigSepL_of_eq [(0, 0), (0, 1), (1, 0), (1, 1)] (by decide) (by decide)]
  simp only [BI.bigSepL_cons_cons, BI.bigSepL_singleton, cellAt0_eq c cellLoc_00, cellAt0_eq c cellLoc_01,
    cellAt0_eq c cellLoc_10, cellAt0_eq c cellLoc_11]
  rfl
theorem groups_eq :
    iprop(bigSep Finset.univ (fun i : Fin 2 × Fin 2 => cellAt0 (F := F) c i.1 i.2)
      ∗ bigSep Finset.univ (fun i : Fin 2 × Fin 2 => iprop(∃ e, tileAt (F := F) c i.1 i.2 e)))
      = (bigSep Finset.univ (groupFree c) : sProp 𝕄) :=
  (Ring.groups_of_parts (fun g k => cellAt0 (F := F) c g k) (fun g k => iprop(∃ e, tileAt (F := F) c g k e))).trans
    (BI.bigSep_congr fun g _ => groupFree_eq c g)
theorem aheads_eq : (bigSep Finset.univ (fun i : Fin 11 × Fin 2 => iprop(∃ f, outAt (F := F) c i.1 i.2 f)) : sProp 𝕄)
    = bigSep Finset.univ (blocksAhead c) := by
  rw [BI.bigSep_univ_prod]; exact BI.bigSep_congr fun u _ => blocksAhead_eq c u
theorem dones_eq : (bigSep Finset.univ (fun i : Fin 11 × Fin 2 => outDone c val i.1 i.2) : sProp 𝕄)
    = bigSep Finset.univ (blocksDone c val) := by
  rw [BI.bigSep_univ_prod]; exact BI.bigSep_congr fun u _ => blocksDone_eq c val u

/-- The part of the tile buffer outside the four tiles (none of it, but nothing depends on that). -/
abbrev tileRest : sProp 𝕄 :=
  iprop(∃ f : Buf (Elt F) ((c : Thread nD τ).loc cc0_scratch1),
    ((c : Thread nD τ).loc cc0_scratch1) ↦[Finset.univ \ Finset.univ.biUnion tileSet]{fullShare} f)
/-- The part of the result array outside every block, at contents `f`. -/
abbrev outRest (f : Buf (Elt F) ((c : Thread nD τ).loc main_v63_0)) : sProp 𝕄 :=
  ((c : Thread nD τ).loc main_v63_0) ↦[Finset.univ \ Finset.univ.biUnion outSet]{fullShare} f

theorem tiles_open : iprop(∃ d, owns (c : Thread nD τ) tiles fullShare d)
    ⊢ (iprop(bigSep Finset.univ (fun i : Fin 2 × Fin 2 => iprop(∃ e, tileAt (F := F) c i.1 i.2 e)) ∗ tileRest c) : sProp 𝕄) := by
  simp only [tiles, owns_whole]
  exact Ring.pieces_split_spare (U := Pipeline.UD sig nD τ) (ℓ := (c : Thread nD τ).loc cc0_scratch1) (q := fullShare)
    tileSet tileSet_disjoint (fun i e => tileAt c i.1 i.2 e) (fun i e => tileAt_eq c i.1 i.2 e)
theorem tiles_close :
    (iprop(bigSep Finset.univ (fun i : Fin 2 × Fin 2 => iprop(∃ e, tileAt (F := F) c i.1 i.2 e)) ∗ tileRest c) : sProp 𝕄)
      ⊢ iprop(∃ d, owns (c : Thread nD τ) tiles fullShare d) := by
  simp only [tiles, owns_whole]
  exact Ring.pieces_join_spare (U := Pipeline.UD sig nD τ) (ℓ := (c : Thread nD τ).loc cc0_scratch1) (q := fullShare)
    tileSet tileSet_disjoint (fun i e => tileAt c i.1 i.2 e) (fun i e => tileAt_eq c i.1 i.2 e)

/-- The result array whole is its blocks, each at the same contents, and the rest. -/
theorem dest_split (f : Buf (Elt F) ((c : Thread nD τ).loc main_v63_0)) :
    (holds c dest f : sProp 𝕄)
      = iprop(bigSep Finset.univ (fun i : Fin 11 × Fin 2 => ((c : Thread nD τ).loc main_v63_0) ↦[outSet i]{fullShare} f)
          ∗ outRest c f) := by
  have hs := pointsTo_split_subset (Ix := Unit) (Name := ℕ) (U := Pipeline.UD sig nD τ) (Lvl := ℕ) (q := fullShare)
    (f := f) (Finset.subset_univ (Finset.univ.biUnion outSet))
  refine (Idealize.SL.BI.Entails.antisymm hs.1 hs.2).trans ?_
  exact congrArg (fun P : sProp 𝕄 => iprop(P ∗ outRest c f))
    (pointsTo_biUnion (Ix := Unit) (Name := ℕ) (U := Pipeline.UD sig nD τ) (q := fullShare) (f := f) Finset.univ outSet
      (fun i _ i' _ h => outSet_disjoint i i' h))

theorem family_mono {ι : Type} [Fintype ι] {Φ Ψ : ι → sProp 𝕄} (h : ∀ i, Φ i ⊢ Ψ i) :
    bigSep Finset.univ Φ ⊢ bigSep Finset.univ Ψ := BI.bigSep_mono fun i _ => h i

theorem ahead_of_whole (f : Buf (Elt F) ((c : Thread nD τ).loc main_v63_0)) (i : Fin 11 × Fin 2) :
    (((c : Thread nD τ).loc main_v63_0) ↦[outSet i]{fullShare} f : sProp 𝕄) ⊢ iprop(∃ f, outAt c i.1 i.2 f) := by
  iintro H; iexists f; iapply (Entails.of_eq (outAt_eq c i.1 i.2 f).symm); iexact H

theorem whole_of_done (g : Buf (Elt F) ((c : Thread nD τ).loc main_v63_0))
    (hblock : ∀ u k, (outBox u k).view.read (Elt F) g = val u k) (i : Fin 11 × Fin 2) :
    outDone c val i.1 i.2 ⊢ (((c : Thread nD τ).loc main_v63_0) ↦[outSet i]{fullShare} g : sProp 𝕄) := by
  have h : outDone c val i.1 i.2 ⊢ (outAt c i.1 i.2 g : sProp 𝕄) := by
    iintro ⟨%h, %hh, H⟩
    iapply (Entails.of_eq (pointsTo_congr (f := h) (g := g) fun x hx => by
      obtain ⟨j, -, rfl⟩ := Finset.mem_map.mp hx
      exact congrFun (hh.trans (hblock i.1 i.2).symm) j))
    iexact H
  exact h.trans (Entails.of_eq (outAt_eq c i.1 i.2 g))

/-- Before the first step: the tiles, the cells and the result array are the copies at rest. -/
theorem copies_start (f : Buf (Elt F) ((c : Thread nD τ).loc main_v63_0)) :
    iprop((∃ d, owns (c : Thread nD τ) tiles fullShare d) ∗ cellsAt0 c ∗ holds c dest f)
      ⊢ iprop(copiesAt c val 0 ∗ tileRest c ∗ outRest c f) := by
  unfold copiesAt; rw [Ring.AtBΦ_lt _ _ _ _ _ 0 (by decide), Ring.AtB_zero]; unfold Ring.AtB₀
  rw [← aheads_eq, ← groups_eq, cells_eq, dest_split]
  iintro ⟨HT, HC, HO, HOr⟩
  ihave HT' := (tiles_open (F := F) c) $$ HT
  icases HT' with ⟨HT, HTr⟩
  isplitl [HO HC HT]
  · isplitl [HO]
    · iapply (family_mono (ahead_of_whole c f))
      iexact HO
    isplitl [HC]
    · iexact HC
    iexact HT
  isplitl [HTr]
  · iexact HTr
  iexact HOr

/-- After the last step: the result array holds any contents `f` that every block reads as written and that agree
    with the contents at the start outside the blocks. -/
theorem copies_finish (f g : Buf (Elt F) ((c : Thread nD τ).loc main_v63_0))
    (hblock : ∀ u k, (outBox u k).view.read (Elt F) g = val u k)
    (hrest : ∀ i ∈ Finset.univ \ Finset.univ.biUnion outSet, f i = g i) :
    iprop(copiesAt c val 11 ∗ tileRest c ∗ outRest c f)
      ⊢ iprop((∃ d, owns (c : Thread nD τ) tiles fullShare d) ∗ cellsAt0 c ∗ holds c dest g) := by
  unfold copiesAt; rw [Ring.AtBΦ_ge _ _ _ _ _ 11 (by decide)]; unfold Ring.AtBEnd
  rw [← dones_eq, ← groups_eq, cells_eq, dest_split c g]
  iintro ⟨⟨HO, HC, HT⟩, HTr, HOr⟩
  isplitl [HT HTr]
  · iapply (tiles_close (F := F) c)
    isplitl [HT]
    · iexact HT
    iexact HTr
  isplitl [HC]
  · iexact HC
  isplitl [HO]
  · iapply (family_mono (whole_of_done c val g hblock))
    iexact HO
  iapply (Entails.of_eq (pointsTo_congr (f := f) (g := g) hrest))
  iexact HOr
end Holding

/-! ## The slices the body takes, by name -/

section Names
omit [FloatOps F]
theorem tile_named {g k : Fin 2} {o : Fin 4 → Nat} (e : o = ![g.val, k.val, 0, 0]) (h) :
    (tiles.slice (Rect.unit (s := S2x2x384x2048) o S1x1x384x2048.size h) (fun _ => rfl)).squeeze S384x2048
      squeezes_S1x1x384x2048_S384x2048 = tileBox g k := by subst e; rfl
theorem block_named {u : Fin 11} {k : Fin 2} {o : Fin 2 → Nat} (e : o = ![384 * (10 - u.val), 6144 * k.val]) (h) :
    dest.slice (Rect.unit (s := S4224x10240) o S384x2048.size h) (fun _ => rfl) = outBox u k := by subst e; rfl
theorem cell_named {g k : Fin 2} {o : Fin 1 → Nat} (e : o = ![2 * g.val + k.val]) (h) :
    (cc0_scratch2.slice (Rect.unit (s := S4) o S1.size h)).squeeze S_ squeezes_S1_S_ = copyCell g k := by subst e; rfl

set_option synthInstance.maxSize 4096 in
theorem off12_0 : ∀ t : Fin grid0.N, k0_off12 (grid0.coords t) 0#32 = ![2 * (Ring.sl 2 t.val).val + (0 : Fin 2).val] := by decide +kernel
@[sl_canon] theorem off12_0_is (t : Fin grid0.N) :
    (cc0_scratch2.slice (Rect.unit (s := S4) (k0_off12 (grid0.coords t) 0#32) S1.size (k0_off12_inb (grid0.coords t) 0))).squeeze S_ squeezes_S1_S_ = copyCell (Ring.sl 2 t.val) 0 := cell_named (off12_0 t) _
@[sl_canon] theorem off12_0_is' (t : Fin grid0.N) :
    (cc0_scratch2.slice (Rect.unit (s := S4) (k0_off12 (grid0.coords t) 0#32) ![1] (k0_off12_inb (grid0.coords t) 0))).squeeze S_ squeezes_S1_S_ = copyCell (Ring.sl 2 t.val) 0 := cell_named (off12_0 t) _
set_option synthInstance.maxSize 4096 in
theorem off12_1 : ∀ t : Fin grid0.N, k0_off12 (grid0.coords t) 1#32 = ![2 * (Ring.sl 2 t.val).val + (1 : Fin 2).val] := by decide +kernel
@[sl_canon] theorem off12_1_is (t : Fin grid0.N) :
    (cc0_scratch2.slice (Rect.unit (s := S4) (k0_off12 (grid0.coords t) 1#32) S1.size (k0_off12_inb (grid0.coords t) 1))).squeeze S_ squeezes_S1_S_ = copyCell (Ring.sl 2 t.val) 1 := cell_named (off12_1 t) _
@[sl_canon] theorem off12_1_is' (t : Fin grid0.N) :
    (cc0_scratch2.slice (Rect.unit (s := S4) (k0_off12 (grid0.coords t) 1#32) ![1] (k0_off12_inb (grid0.coords t) 1))).squeeze S_ squeezes_S1_S_ = copyCell (Ring.sl 2 t.val) 1 := cell_named (off12_1 t) _
set_option synthInstance.maxSize 4096 in
theorem off7 : ∀ t : Fin grid0.N, k0_off7 (grid0.coords t) = ![(Ring.sl 2 t.val).val, (0 : Fin 2).val, 0, 0] := by decide +kernel
@[sl_canon] theorem off7_is (t : Fin grid0.N) :
    (tiles.slice (Rect.unit (s := S2x2x384x2048) (k0_off7 (grid0.coords t)) S1x1x384x2048.size (k0_off7_inb (grid0.coords t))) (fun _ => rfl)).squeeze S384x2048 squeezes_S1x1x384x2048_S384x2048 = tileBox (Ring.sl 2 t.val) 0 := tile_named (off7 t) _
@[sl_canon] theorem off7_is' (t : Fin grid0.N) :
    (tiles.slice (Rect.unit (s := S2x2x384x2048) (k0_off7 (grid0.coords t)) ![1, 1, 384, 2048] (k0_off7_inb (grid0.coords t))) (fun _ => rfl)).squeeze S384x2048 squeezes_S1x1x384x2048_S384x2048 = tileBox (Ring.sl 2 t.val) 0 := tile_named (off7 t) _
set_option synthInstance.maxSize 4096 in
theorem off15 : ∀ t : Fin grid0.N, k0_off15 (grid0.coords t) = ![(Ring.sl 2 t.val).val, (1 : Fin 2).val, 0, 0] := by decide +kernel
@[sl_canon] theorem off15_is (t : Fin grid0.N) :
    (tiles.slice (Rect.unit (s := S2x2x384x2048) (k0_off15 (grid0.coords t)) S1x1x384x2048.size (k0_off15_inb (grid0.coords t))) (fun _ => rfl)).squeeze S384x2048 squeezes_S1x1x384x2048_S384x2048 = tileBox (Ring.sl 2 t.val) 1 := tile_named (off15 t) _
@[sl_canon] theorem off15_is' (t : Fin grid0.N) :
    (tiles.slice (Rect.unit (s := S2x2x384x2048) (k0_off15 (grid0.coords t)) ![1, 1, 384, 2048] (k0_off15_inb (grid0.coords t))) (fun _ => rfl)).squeeze S384x2048 squeezes_S1x1x384x2048_S384x2048 = tileBox (Ring.sl 2 t.val) 1 := tile_named (off15 t) _
set_option synthInstance.maxSize 4096 in
theorem off13 : ∀ t : Fin grid0.N, k0_off13 (grid0.coords t) = ![384 * (10 - (Ring.bk 11 t.val).val), 6144 * (0 : Fin 2).val] := by decide +kernel
@[sl_canon] theorem off13_is (t : Fin grid0.N) :
    dest.slice (Rect.unit (s := S4224x10240) (k0_off13 (grid0.coords t)) S384x2048.size (k0_off13_inb (grid0.coords t))) (fun _ => rfl) = outBox (Ring.bk 11 t.val) 0 := block_named (off13 t) _
@[sl_canon] theorem off13_is' (t : Fin grid0.N) :
    dest.slice (Rect.unit (s := S4224x10240) (k0_off13 (grid0.coords t)) ![384, 2048] (k0_off13_inb (grid0.coords t))) (fun _ => rfl) = outBox (Ring.bk 11 t.val) 0 := block_named (off13 t) _
set_option synthInstance.maxSize 4096 in
theorem off14 : ∀ t : Fin grid0.N, k0_off14 (grid0.coords t) = ![384 * (10 - (Ring.bk 11 t.val).val), 6144 * (1 : Fin 2).val] := by decide +kernel
@[sl_canon] theorem off14_is (t : Fin grid0.N) :
    dest.slice (Rect.unit (s := S4224x10240) (k0_off14 (grid0.coords t)) S384x2048.size (k0_off14_inb (grid0.coords t))) (fun _ => rfl) = outBox (Ring.bk 11 t.val) 1 := block_named (off14 t) _
@[sl_canon] theorem off14_is' (t : Fin grid0.N) :
    dest.slice (Rect.unit (s := S4224x10240) (k0_off14 (grid0.coords t)) ![384, 2048] (k0_off14_inb (grid0.coords t))) (fun _ => rfl) = outBox (Ring.bk 11 t.val) 1 := block_named (off14 t) _
set_option synthInstance.maxSize 4096 in
theorem off1_0 : ∀ t : Fin grid0.N, k0_off1 (grid0.coords t) 0#32 = ![2 * (Ring.sl 2 t.val).val + (0 : Fin 2).val] := by decide +kernel
@[sl_canon] theorem off1_0_is (t : Fin grid0.N) (h : Waits2 t) :
    (cc0_scratch2.slice (Rect.unit (s := S4) (k0_off1 (grid0.coords t) 0#32) S1.size (k0_off1_inb (grid0.coords t) h 0))).squeeze S_ squeezes_S1_S_ = copyCell (Ring.sl 2 t.val) 0 := cell_named (off1_0 t) _
@[sl_canon] theorem off1_0_is' (t : Fin grid0.N) (h : Waits2 t) :
    (cc0_scratch2.slice (Rect.unit (s := S4) (k0_off1 (grid0.coords t) 0#32) ![1] (k0_off1_inb (grid0.coords t) h 0))).squeeze S_ squeezes_S1_S_ = copyCell (Ring.sl 2 t.val) 0 := cell_named (off1_0 t) _
set_option synthInstance.maxSize 4096 in
theorem off1_1 : ∀ t : Fin grid0.N, k0_off1 (grid0.coords t) 1#32 = ![2 * (Ring.sl 2 t.val).val + (1 : Fin 2).val] := by decide +kernel
@[sl_canon] theorem off1_1_is (t : Fin grid0.N) (h : Waits2 t) :
    (cc0_scratch2.slice (Rect.unit (s := S4) (k0_off1 (grid0.coords t) 1#32) S1.size (k0_off1_inb (grid0.coords t) h 1))).squeeze S_ squeezes_S1_S_ = copyCell (Ring.sl 2 t.val) 1 := cell_named (off1_1 t) _
@[sl_canon] theorem off1_1_is' (t : Fin grid0.N) (h : Waits2 t) :
    (cc0_scratch2.slice (Rect.unit (s := S4) (k0_off1 (grid0.coords t) 1#32) ![1] (k0_off1_inb (grid0.coords t) h 1))).squeeze S_ squeezes_S1_S_ = copyCell (Ring.sl 2 t.val) 1 := cell_named (off1_1 t) _
set_option synthInstance.maxSize 4096 in
theorem off3 : ∀ t : Fin grid0.N, k0_off3 (grid0.coords t) = ![(Ring.sl 2 t.val).val, (0 : Fin 2).val, 0, 0] := by decide +kernel
@[sl_canon] theorem off3_is (t : Fin grid0.N) (h : Waits2 t) :
    (tiles.slice (Rect.unit (s := S2x2x384x2048) (k0_off3 (grid0.coords t)) S1x1x384x2048.size (k0_off3_inb (grid0.coords t) h)) (fun _ => rfl)).squeeze S384x2048 squeezes_S1x1x384x2048_S384x2048 = tileBox (Ring.sl 2 t.val) 0 := tile_named (off3 t) _
@[sl_canon] theorem off3_is' (t : Fin grid0.N) (h : Waits2 t) :
    (tiles.slice (Rect.unit (s := S2x2x384x2048) (k0_off3 (grid0.coords t)) ![1, 1, 384, 2048] (k0_off3_inb (grid0.coords t) h)) (fun _ => rfl)).squeeze S384x2048 squeezes_S1x1x384x2048_S384x2048 = tileBox (Ring.sl 2 t.val) 0 := tile_named (off3 t) _
set_option synthInstance.maxSize 4096 in
theorem off5 : ∀ t : Fin grid0.N, k0_off5 (grid0.coords t) = ![(Ring.sl 2 t.val).val, (1 : Fin 2).val, 0, 0] := by decide +kernel
@[sl_canon] theorem off5_is (t : Fin grid0.N) (h : Waits2 t) :
    (tiles.slice (Rect.unit (s := S2x2x384x2048) (k0_off5 (grid0.coords t)) S1x1x384x2048.size (k0_off5_inb (grid0.coords t) h)) (fun _ => rfl)).squeeze S384x2048 squeezes_S1x1x384x2048_S384x2048 = tileBox (Ring.sl 2 t.val) 1 := tile_named (off5 t) _
@[sl_canon] theorem off5_is' (t : Fin grid0.N) (h : Waits2 t) :
    (tiles.slice (Rect.unit (s := S2x2x384x2048) (k0_off5 (grid0.coords t)) ![1, 1, 384, 2048] (k0_off5_inb (grid0.coords t) h)) (fun _ => rfl)).squeeze S384x2048 squeezes_S1x1x384x2048_S384x2048 = tileBox (Ring.sl 2 t.val) 1 := tile_named (off5 t) _
set_option synthInstance.maxSize 4096 in
theorem off16_0 : ∀ t : Fin grid0.N, k0_off16 (grid0.coords t) 0#32 = ![2 * (Ring.sl 2 t.val).val + (0 : Fin 2).val] := by decide +kernel
@[sl_canon] theorem off16_0_is (t : Fin grid0.N) (h : Drains t) :
    (cc0_scratch2.slice (Rect.unit (s := S4) (k0_off16 (grid0.coords t) 0#32) S1.size (k0_off16_inb (grid0.coords t) h 0))).squeeze S_ squeezes_S1_S_ = copyCell (Ring.sl 2 t.val) 0 := cell_named (off16_0 t) _
@[sl_canon] theorem off16_0_is' (t : Fin grid0.N) (h : Drains t) :
    (cc0_scratch2.slice (Rect.unit (s := S4) (k0_off16 (grid0.coords t) 0#32) ![1] (k0_off16_inb (grid0.coords t) h 0))).squeeze S_ squeezes_S1_S_ = copyCell (Ring.sl 2 t.val) 0 := cell_named (off16_0 t) _
set_option synthInstance.maxSize 4096 in
theorem off16_1 : ∀ t : Fin grid0.N, k0_off16 (grid0.coords t) 1#32 = ![2 * (Ring.sl 2 t.val).val + (1 : Fin 2).val] := by decide +kernel
@[sl_canon] theorem off16_1_is (t : Fin grid0.N) (h : Drains t) :
    (cc0_scratch2.slice (Rect.unit (s := S4) (k0_off16 (grid0.coords t) 1#32) S1.size (k0_off16_inb (grid0.coords t) h 1))).squeeze S_ squeezes_S1_S_ = copyCell (Ring.sl 2 t.val) 1 := cell_named (off16_1 t) _
@[sl_canon] theorem off16_1_is' (t : Fin grid0.N) (h : Drains t) :
    (cc0_scratch2.slice (Rect.unit (s := S4) (k0_off16 (grid0.coords t) 1#32) ![1] (k0_off16_inb (grid0.coords t) h 1))).squeeze S_ squeezes_S1_S_ = copyCell (Ring.sl 2 t.val) 1 := cell_named (off16_1 t) _
set_option synthInstance.maxSize 4096 in
theorem off18 : ∀ t : Fin grid0.N, k0_off18 (grid0.coords t) = ![(Ring.sl 2 t.val).val, (0 : Fin 2).val, 0, 0] := by decide +kernel
@[sl_canon] theorem off18_is (t : Fin grid0.N) (h : Drains t) :
    (tiles.slice (Rect.unit (s := S2x2x384x2048) (k0_off18 (grid0.coords t)) S1x1x384x2048.size (k0_off18_inb (grid0.coords t) h)) (fun _ => rfl)).squeeze S384x2048 squeezes_S1x1x384x2048_S384x2048 = tileBox (Ring.sl 2 t.val) 0 := tile_named (off18 t) _
@[sl_canon] theorem off18_is' (t : Fin grid0.N) (h : Drains t) :
    (tiles.slice (Rect.unit (s := S2x2x384x2048) (k0_off18 (grid0.coords t)) ![1, 1, 384, 2048] (k0_off18_inb (grid0.coords t) h)) (fun _ => rfl)).squeeze S384x2048 squeezes_S1x1x384x2048_S384x2048 = tileBox (Ring.sl 2 t.val) 0 := tile_named (off18 t) _
set_option synthInstance.maxSize 4096 in
theorem off20 : ∀ t : Fin grid0.N, k0_off20 (grid0.coords t) = ![(Ring.sl 2 t.val).val, (1 : Fin 2).val, 0, 0] := by decide +kernel
@[sl_canon] theorem off20_is (t : Fin grid0.N) (h : Drains t) :
    (tiles.slice (Rect.unit (s := S2x2x384x2048) (k0_off20 (grid0.coords t)) S1x1x384x2048.size (k0_off20_inb (grid0.coords t) h)) (fun _ => rfl)).squeeze S384x2048 squeezes_S1x1x384x2048_S384x2048 = tileBox (Ring.sl 2 t.val) 1 := tile_named (off20 t) _
@[sl_canon] theorem off20_is' (t : Fin grid0.N) (h : Drains t) :
    (tiles.slice (Rect.unit (s := S2x2x384x2048) (k0_off20 (grid0.coords t)) ![1, 1, 384, 2048] (k0_off20_inb (grid0.coords t) h)) (fun _ => rfl)).squeeze S384x2048 squeezes_S1x1x384x2048_S384x2048 = tileBox (Ring.sl 2 t.val) 1 := tile_named (off20 t) _
set_option synthInstance.maxSize 4096 in
theorem off21_0 : ∀ t : Fin grid0.N, k0_off21 (grid0.coords t) 0#32 = ![2 * (Ring.sl 2 (t.val + 1)).val + (0 : Fin 2).val] := by decide +kernel
@[sl_canon] theorem off21_0_is (t : Fin grid0.N) (h : Drains t) :
    (cc0_scratch2.slice (Rect.unit (s := S4) (k0_off21 (grid0.coords t) 0#32) S1.size (k0_off21_inb (grid0.coords t) h 0))).squeeze S_ squeezes_S1_S_ = copyCell (Ring.sl 2 (t.val + 1)) 0 := cell_named (off21_0 t) _
@[sl_canon] theorem off21_0_is' (t : Fin grid0.N) (h : Drains t) :
    (cc0_scratch2.slice (Rect.unit (s := S4) (k0_off21 (grid0.coords t) 0#32) ![1] (k0_off21_inb (grid0.coords t) h 0))).squeeze S_ squeezes_S1_S_ = copyCell (Ring.sl 2 (t.val + 1)) 0 := cell_named (off21_0 t) _
set_option synthInstance.maxSize 4096 in
theorem off21_1 : ∀ t : Fin grid0.N, k0_off21 (grid0.coords t) 1#32 = ![2 * (Ring.sl 2 (t.val + 1)).val + (1 : Fin 2).val] := by decide +kernel
@[sl_canon] theorem off21_1_is (t : Fin grid0.N) (h : Drains t) :
    (cc0_scratch2.slice (Rect.unit (s := S4) (k0_off21 (grid0.coords t) 1#32) S1.size (k0_off21_inb (grid0.coords t) h 1))).squeeze S_ squeezes_S1_S_ = copyCell (Ring.sl 2 (t.val + 1)) 1 := cell_named (off21_1 t) _
@[sl_canon] theorem off21_1_is' (t : Fin grid0.N) (h : Drains t) :
    (cc0_scratch2.slice (Rect.unit (s := S4) (k0_off21 (grid0.coords t) 1#32) ![1] (k0_off21_inb (grid0.coords t) h 1))).squeeze S_ squeezes_S1_S_ = copyCell (Ring.sl 2 (t.val + 1)) 1 := cell_named (off21_1 t) _
set_option synthInstance.maxSize 4096 in
theorem off22 : ∀ t : Fin grid0.N, k0_off22 (grid0.coords t) = ![(Ring.sl 2 (t.val + 1)).val, (0 : Fin 2).val, 0, 0] := by decide +kernel
@[sl_canon] theorem off22_is (t : Fin grid0.N) (h : Drains t) :
    (tiles.slice (Rect.unit (s := S2x2x384x2048) (k0_off22 (grid0.coords t)) S1x1x384x2048.size (k0_off22_inb (grid0.coords t) h)) (fun _ => rfl)).squeeze S384x2048 squeezes_S1x1x384x2048_S384x2048 = tileBox (Ring.sl 2 (t.val + 1)) 0 := tile_named (off22 t) _
@[sl_canon] theorem off22_is' (t : Fin grid0.N) (h : Drains t) :
    (tiles.slice (Rect.unit (s := S2x2x384x2048) (k0_off22 (grid0.coords t)) ![1, 1, 384, 2048] (k0_off22_inb (grid0.coords t) h)) (fun _ => rfl)).squeeze S384x2048 squeezes_S1x1x384x2048_S384x2048 = tileBox (Ring.sl 2 (t.val + 1)) 0 := tile_named (off22 t) _
set_option synthInstance.maxSize 4096 in
theorem off23 : ∀ t : Fin grid0.N, k0_off23 (grid0.coords t) = ![(Ring.sl 2 (t.val + 1)).val, (1 : Fin 2).val, 0, 0] := by decide +kernel
@[sl_canon] theorem off23_is (t : Fin grid0.N) (h : Drains t) :
    (tiles.slice (Rect.unit (s := S2x2x384x2048) (k0_off23 (grid0.coords t)) S1x1x384x2048.size (k0_off23_inb (grid0.coords t) h)) (fun _ => rfl)).squeeze S384x2048 squeezes_S1x1x384x2048_S384x2048 = tileBox (Ring.sl 2 (t.val + 1)) 1 := tile_named (off23 t) _
@[sl_canon] theorem off23_is' (t : Fin grid0.N) (h : Drains t) :
    (tiles.slice (Rect.unit (s := S2x2x384x2048) (k0_off23 (grid0.coords t)) ![1, 1, 384, 2048] (k0_off23_inb (grid0.coords t) h)) (fun _ => rfl)).squeeze S384x2048 squeezes_S1x1x384x2048_S384x2048 = tileBox (Ring.sl 2 (t.val + 1)) 1 := tile_named (off23 t) _
set_option synthInstance.maxSize 4096 in
theorem off6 : ∀ t : Fin grid0.N, k0_off6 (grid0.coords t) = ![(Ring.sl 2 t.val).val, 1, 0, 0] := by decide +kernel
instance (priority := high) off6_closed (t : Fin grid0.N) : ClosedOff (k0_off6 (grid0.coords t)) := ⟨![(Ring.sl 2 t.val).val, 1, 0, 0], off6 t⟩
set_option synthInstance.maxSize 4096 in
theorem off8 : ∀ t : Fin grid0.N, k0_off8 (grid0.coords t) = ![(Ring.sl 2 t.val).val, 0, 0, 0] := by decide +kernel
instance (priority := high) off8_closed (t : Fin grid0.N) : ClosedOff (k0_off8 (grid0.coords t)) := ⟨![(Ring.sl 2 t.val).val, 0, 0, 0], off8 t⟩
set_option synthInstance.maxSize 4096 in
theorem off9 : ∀ t : Fin grid0.N, k0_off9 (grid0.coords t) = ![(Ring.sl 2 t.val).val, 0, 0, 512] := by decide +kernel
instance (priority := high) off9_closed (t : Fin grid0.N) : ClosedOff (k0_off9 (grid0.coords t)) := ⟨![(Ring.sl 2 t.val).val, 0, 0, 512], off9 t⟩
set_option synthInstance.maxSize 4096 in
theorem off10 : ∀ t : Fin grid0.N, k0_off10 (grid0.coords t) = ![(Ring.sl 2 t.val).val, 0, 0, 1024] := by decide +kernel
instance (priority := high) off10_closed (t : Fin grid0.N) : ClosedOff (k0_off10 (grid0.coords t)) := ⟨![(Ring.sl 2 t.val).val, 0, 0, 1024], off10 t⟩
set_option synthInstance.maxSize 4096 in
theorem off11 : ∀ t : Fin grid0.N, k0_off11 (grid0.coords t) = ![(Ring.sl 2 t.val).val, 0, 0, 1536] := by decide +kernel
instance (priority := high) off11_closed (t : Fin grid0.N) : ClosedOff (k0_off11 (grid0.coords t)) := ⟨![(Ring.sl 2 t.val).val, 0, 0, 1536], off11 t⟩
end Names

end Cert.KernelIdeal.PoolBwd

end
-- ==== Proof.Tiles.lean ====
/-
  What one step of the pooling-gradient kernel computes, as functions of what its operands hold: the two tiles it
  copies out, the rows it keeps for the next step and the two sums it carries on. The step works through four groups
  of 512 columns; each function puts the four groups' results side by side.
-/

module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp
public import proofs.«01_k».proof.Proof.Copies
public import Idealize.ShloMosaic.Lib.WritesUnit
public import Idealize.ShloMosaic.Lib.ValueLayout

@[expose] public section

set_option maxRecDepth 16384

noncomputable section

namespace Cert.KernelIdeal.PoolBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Idealize.ShloMosaic.ValueIdx

/-! ## Four groups put together -/

section Four
variable {α : Type}

/-- Four arrays of 512 columns side by side. -/
def beside {R : ℕ} (w0 w1 w2 w3 : (⟨2, ![R, 512]⟩ : Shape).Idx → α) : (⟨2, ![R, 2048]⟩ : Shape).Idx → α := fun q =>
  if h0 : (q 1).val < 512 then w0 (ix2 (n0 := R) (n1 := 512) (q 0) ⟨(q 1).val, h0⟩)
  else if h1 : (q 1).val < 1024 then w1 (ix2 (n0 := R) (n1 := 512) (q 0) ⟨(q 1).val - 512, by omega⟩)
  else if h2 : (q 1).val < 1536 then w2 (ix2 (n0 := R) (n1 := 512) (q 0) ⟨(q 1).val - 1024, by omega⟩)
  else w3 (ix2 (n0 := R) (n1 := 512) (q 0) ⟨(q 1).val - 1536, by have h : (q 1).val < 2048 := (q 1).isLt; omega⟩)

/-- Four 512 × 512 arrays above one another. -/
def stacked (w0 w1 w2 w3 : S1x512x512.Idx → α) : S4x512x512.Idx → α := fun q =>
  let x : S1x512x512.Idx := ix3 (n0 := 1) (n1 := 512) (n2 := 512) 0 (q 1) (q 2)
  if (q 0).val < 1 then w0 x else if (q 0).val < 2 then w1 x else if (q 0).val < 3 then w2 x else w3 x

/-- A 384-row array under two leading axes of one element. -/
def inner {C : ℕ} (w : (⟨4, ![1, 1, 384, C]⟩ : Shape).Idx → α) : (⟨2, ![384, C]⟩ : Shape).Idx → α := fun q =>
  w (ix4 (n0 := 1) (n1 := 1) (n2 := 384) (n3 := C) 0 0 (q 0) (q 1))
end Four

/-! ## Reading a buffer written group by group -/

section Reading
variable {sg : RefSig} {κ : Kind} {sp : Space} {e : EltTy} {Val : EltTy → Type}

theorem read_beside {R : ℕ} (v : View sg κ sp (⟨2, ![R, 2048]⟩ : Shape) e) (f : v.ty.Contents Val)
    (i0 : ∀ a, (![0, 0] : Fin 2 → ℕ) a + (![R, 512] : Fin 2 → ℕ) a ≤ (![R, 2048] : Fin 2 → ℕ) a)
    (i1 : ∀ a, (![0, 512] : Fin 2 → ℕ) a + (![R, 512] : Fin 2 → ℕ) a ≤ (![R, 2048] : Fin 2 → ℕ) a)
    (i2 : ∀ a, (![0, 1024] : Fin 2 → ℕ) a + (![R, 512] : Fin 2 → ℕ) a ≤ (![R, 2048] : Fin 2 → ℕ) a)
    (i3 : ∀ a, (![0, 1536] : Fin 2 → ℕ) a + (![R, 512] : Fin 2 → ℕ) a ≤ (![R, 2048] : Fin 2 → ℕ) a)
    (w0 w1 w2 w3 : (⟨2, ![R, 512]⟩ : Shape).Idx → Val e) (L : List (View.Piece Val (⟨2, ![R, 2048]⟩ : Shape) e)) :
    v.read Val (v.writes Val f (⟨Rect.unit (s := ⟨2, ![R, 2048]⟩) ![0, 1536] ![R, 512] i3, w3⟩ :: ⟨Rect.unit (s := ⟨2, ![R, 2048]⟩) ![0, 1024] ![R, 512] i2, w2⟩
      :: ⟨Rect.unit (s := ⟨2, ![R, 2048]⟩) ![0, 512] ![R, 512] i1, w1⟩ :: ⟨Rect.unit (s := ⟨2, ![R, 2048]⟩) ![0, 0] ![R, 512] i0, w0⟩ :: L)) = beside w0 w1 w2 w3 := by
  funext q
  have hq : (q 1).val < 2048 := (q 1).isLt
  unfold beside
  split
  · rw [View.read_writes_cons_unit_of_not_mem v f i3 w3 _ q rfl 1 (.inl (show (q 1).val < 1536 by omega)),
      View.read_writes_cons_unit_of_not_mem v f i2 w2 _ q rfl 1 (.inl (show (q 1).val < 1024 by omega)),
      View.read_writes_cons_unit_of_not_mem v f i1 w1 _ q rfl 1 (.inl (show (q 1).val < 512 by omega))]
    exact View.read_writes_cons_unit_of_mem v f i0 w0 _ q _ rfl fun a => by
      match a with
      | ⟨0, _⟩ => exact (Nat.zero_add _).symm
      | ⟨1, _⟩ => exact (Nat.zero_add _).symm
  split
  · rw [View.read_writes_cons_unit_of_not_mem v f i3 w3 _ q rfl 1 (.inl (show (q 1).val < 1536 by omega)),
      View.read_writes_cons_unit_of_not_mem v f i2 w2 _ q rfl 1 (.inl (show (q 1).val < 1024 by omega))]
    exact View.read_writes_cons_unit_of_mem v f i1 w1 _ q _ rfl fun a => by
      match a with
      | ⟨0, _⟩ => exact (Nat.zero_add _).symm
      | ⟨1, _⟩ => exact (show (q 1).val = 512 + ((q 1).val - 512) by omega)
  split
  · rw [View.read_writes_cons_unit_of_not_mem v f i3 w3 _ q rfl 1 (.inl (show (q 1).val < 1536 by omega))]
    exact View.read_writes_cons_unit_of_mem v f i2 w2 _ q _ rfl fun a => by
      match a with
      | ⟨0, _⟩ => exact (Nat.zero_add _).symm
      | ⟨1, _⟩ => exact (show (q 1).val = 1024 + ((q 1).val - 1024) by omega)
  · exact View.read_writes_cons_unit_of_mem v f i3 w3 _ q _ rfl fun a => by
      match a with
      | ⟨0, _⟩ => exact (Nat.zero_add _).symm
      | ⟨1, _⟩ => exact (show (q 1).val = 1536 + ((q 1).val - 1536) by omega)

theorem read_stacked (v : View sg κ sp S4x512x512 e) (f : v.ty.Contents Val)
    (i0 : ∀ a, (![0, 0, 0] : Fin 3 → ℕ) a + S1x512x512.size a ≤ S4x512x512.size a) (i1 : ∀ a, (![1, 0, 0] : Fin 3 → ℕ) a + S1x512x512.size a ≤ S4x512x512.size a)
    (i2 : ∀ a, (![2, 0, 0] : Fin 3 → ℕ) a + S1x512x512.size a ≤ S4x512x512.size a) (i3 : ∀ a, (![3, 0, 0] : Fin 3 → ℕ) a + S1x512x512.size a ≤ S4x512x512.size a)
    (w0 w1 w2 w3 : S1x512x512.Idx → Val e) (L : List (View.Piece Val S4x512x512 e)) :
    v.read Val (v.writes Val f (⟨Rect.unit (s := S4x512x512) ![3, 0, 0] S1x512x512.size i3, w3⟩ :: ⟨Rect.unit (s := S4x512x512) ![2, 0, 0] S1x512x512.size i2, w2⟩
      :: ⟨Rect.unit (s := S4x512x512) ![1, 0, 0] S1x512x512.size i1, w1⟩ :: ⟨Rect.unit (s := S4x512x512) ![0, 0, 0] S1x512x512.size i0, w0⟩ :: L)) = stacked w0 w1 w2 w3 := by
  funext q
  have hq : (q 0).val < 4 := (q 0).isLt
  unfold stacked
  dsimp only
  split
  · rw [View.read_writes_cons_unit_of_not_mem v f i3 w3 _ q rfl 0 (.inl (show (q 0).val < 3 by omega)),
      View.read_writes_cons_unit_of_not_mem v f i2 w2 _ q rfl 0 (.inl (show (q 0).val < 2 by omega)),
      View.read_writes_cons_unit_of_not_mem v f i1 w1 _ q rfl 0 (.inl (show (q 0).val < 1 by omega))]
    exact View.read_writes_cons_unit_of_mem v f i0 w0 _ q _ rfl fun a => by
      match a with
      | ⟨0, _⟩ => exact (show (q 0).val = 0 + 0 by omega)
      | ⟨1, _⟩ => exact (Nat.zero_add _).symm
      | ⟨2, _⟩ => exact (Nat.zero_add _).symm
  split
  · rw [View.read_writes_cons_unit_of_not_mem v f i3 w3 _ q rfl 0 (.inl (show (q 0).val < 3 by omega)),
      View.read_writes_cons_unit_of_not_mem v f i2 w2 _ q rfl 0 (.inl (show (q 0).val < 2 by omega))]
    exact View.read_writes_cons_unit_of_mem v f i1 w1 _ q _ rfl fun a => by
      match a with
      | ⟨0, _⟩ => exact (show (q 0).val = 1 + 0 by omega)
      | ⟨1, _⟩ => exact (Nat.zero_add _).symm
      | ⟨2, _⟩ => exact (Nat.zero_add _).symm
  split
  · rw [View.read_writes_cons_unit_of_not_mem v f i3 w3 _ q rfl 0 (.inl (show (q 0).val < 3 by omega))]
    exact View.read_writes_cons_unit_of_mem v f i2 w2 _ q _ rfl fun a => by
      match a with
      | ⟨0, _⟩ => exact (show (q 0).val = 2 + 0 by omega)
      | ⟨1, _⟩ => exact (Nat.zero_add _).symm
      | ⟨2, _⟩ => exact (Nat.zero_add _).symm
  · exact View.read_writes_cons_unit_of_mem v f i3 w3 _ q _ rfl fun a => by
      match a with
      | ⟨0, _⟩ => exact (show (q 0).val = 3 + 0 by omega)
      | ⟨1, _⟩ => exact (Nat.zero_add _).symm
      | ⟨2, _⟩ => exact (Nat.zero_add _).symm
end Reading

/-! ## Reading a tile written group by group -/

section Tile

/-- Where element `q` of member `k` of group `g` lies in the tile buffer. -/
abbrev tileIdx (g k : Fin 2) (q : S384x2048.Idx) : S2x2x384x2048.Idx := ix4 (n0 := 2) (n1 := 2) (n2 := 384) (n3 := 2048) g k (q 0) (q 1)

theorem tile_read (c : Dev nD) (g k : Fin 2) (f : BufOf (F := F) c (tileBox g k)) (q : S384x2048.Idx) :
    (tileBox g k).view.read (Elt F) f q = tiles.view.read (Elt F) f (tileIdx g k q) := by
  have hc : S1x1x384x2048.ShapeCasts S384x2048 := Shape.Squeezes.numel_eq squeezes_S1x1x384x2048_S384x2048
  refine (congrFun (Memref.read_squeeze_slice (Val := Elt F) tiles
      (Rect.unit (s := S2x2x384x2048) ![g.val, k.val, 0, 0] S1x1x384x2048.size (tileBox_inb g k)) (fun _ => rfl)
      squeezes_S1x1x384x2048_S384x2048 hc f) q).trans
    ((shapeCast_apply _ hc q (ix4 (n0 := 1) (n1 := 1) (n2 := 384) (n3 := 2048) 0 0 (q 0) (q 1)) ?_).trans ?_)
  · rw [Shape.rowMajor_val_four, Shape.rowMajor_val_two]
    show ((0 * 1 + 0) * 384 + (q 0).val) * 2048 + (q 1).val = (q 0).val * 2048 + (q 1).val
    omega
  · refine congrArg (tiles.view.read (Elt F) f) (funext fun a => Fin.ext ?_)
    match a with
    | ⟨0, _⟩ => exact (show g.val + 1 * 0 = g.val by omega)
    | ⟨1, _⟩ => exact (show k.val + 1 * 0 = k.val by omega)
    | ⟨2, _⟩ => exact (show 0 + 1 * (q 0).val = (q 0).val by omega)
    | ⟨3, _⟩ => exact (show 0 + 1 * (q 1).val = (q 1).val by omega)

/-- A tile written whole. -/
theorem tile_read_one (c : Dev nD) (g k : Fin 2) (f : BufOf (F := F) c (tileBox g k)) {o : Fin 4 → ℕ} (e : o = ![g.val, k.val, 0, 0])
    (h : ∀ a, o a + S1x1x384x2048.size a ≤ S2x2x384x2048.size a) (w : Vec F S1x1x384x2048 .bf16) :
    (tileBox g k).view.read (Elt F) ((tiles.access (Rect.unit (s := S2x2x384x2048) o S1x1x384x2048.size h)).write (Elt F) f w Finset.univ) = inner w := by
  funext q
  refine (tile_read c g k _ q).trans ?_
  exact View.read_writes_cons_unit_of_mem tiles.view f h w [] (tileIdx g k q) _ e fun a => by
    match a with
    | ⟨0, _⟩ => exact (show g.val = g.val + 0 by omega)
    | ⟨1, _⟩ => exact (show k.val = k.val + 0 by omega)
    | ⟨2, _⟩ => exact (show (q 0).val = 0 + (q 0).val by omega)
    | ⟨3, _⟩ => exact (show (q 1).val = 0 + (q 1).val by omega)

/-- One group's write into a tile: it is read at its own columns, -/
theorem tile_hit (g k : Fin 2) (p : ℕ) (f : tiles.view.ty.Contents (Elt F)) {o : Fin 4 → ℕ} (e : o = ![g.val, k.val, 0, p])
    (h : ∀ a, o a + S1x1x384x512.size a ≤ S2x2x384x2048.size a) (w : Vec F S1x1x384x512 .bf16) (q : S384x2048.Idx)
    (y : Fin 512) (hq : (q 1).val = p + y.val) :
    tiles.view.read (Elt F) ((tiles.access (Rect.unit (s := S2x2x384x2048) o S1x1x384x512.size h)).write (Elt F) f w Finset.univ) (tileIdx g k q)
      = inner w (ix2 (n0 := 384) (n1 := 512) (q 0) y) :=
  View.read_writes_cons_unit_of_mem tiles.view f h w [] (tileIdx g k q) _ e fun a => by
    match a with
    | ⟨0, _⟩ => exact (show g.val = g.val + 0 by omega)
    | ⟨1, _⟩ => exact (show k.val = k.val + 0 by omega)
    | ⟨2, _⟩ => exact (show (q 0).val = 0 + (q 0).val by omega)
    | ⟨3, _⟩ => exact hq

/-- and leaves the other columns. -/
theorem tile_miss (g k : Fin 2) (p : ℕ) (f : tiles.view.ty.Contents (Elt F)) {o : Fin 4 → ℕ} (e : o = ![g.val, k.val, 0, p])
    (h : ∀ a, o a + S1x1x384x512.size a ≤ S2x2x384x2048.size a) (w : Vec F S1x1x384x512 .bf16) (q : S384x2048.Idx)
    (hq : (q 1).val < p ∨ p + 512 ≤ (q 1).val) :
    tiles.view.read (Elt F) ((tiles.access (Rect.unit (s := S2x2x384x2048) o S1x1x384x512.size h)).write (Elt F) f w Finset.univ) (tileIdx g k q)
      = tiles.view.read (Elt F) f (tileIdx g k q) :=
  View.read_writes_cons_unit_of_not_mem tiles.view f h w [] (tileIdx g k q) e 3 hq

/-- A tile written in four groups of columns. -/
theorem tile_read_four (c : Dev nD) (g k : Fin 2) (f : BufOf (F := F) c (tileBox g k)) {o0 o1 o2 o3 : Fin 4 → ℕ}
    (e0 : o0 = ![g.val, k.val, 0, 0]) (e1 : o1 = ![g.val, k.val, 0, 512]) (e2 : o2 = ![g.val, k.val, 0, 1024]) (e3 : o3 = ![g.val, k.val, 0, 1536])
    (h0 : ∀ a, o0 a + S1x1x384x512.size a ≤ S2x2x384x2048.size a) (h1 : ∀ a, o1 a + S1x1x384x512.size a ≤ S2x2x384x2048.size a)
    (h2 : ∀ a, o2 a + S1x1x384x512.size a ≤ S2x2x384x2048.size a) (h3 : ∀ a, o3 a + S1x1x384x512.size a ≤ S2x2x384x2048.size a)
    (w0 w1 w2 w3 : Vec F S1x1x384x512 .bf16) :
    (tileBox g k).view.read (Elt F)
        ((tiles.access (Rect.unit (s := S2x2x384x2048) o3 S1x1x384x512.size h3)).write (Elt F)
          ((tiles.access (Rect.unit (s := S2x2x384x2048) o2 S1x1x384x512.size h2)).write (Elt F)
            ((tiles.access (Rect.unit (s := S2x2x384x2048) o1 S1x1x384x512.size h1)).write (Elt F)
              ((tiles.access (Rect.unit (s := S2x2x384x2048) o0 S1x1x384x512.size h0)).write (Elt F) f w0 Finset.univ)
              w1 Finset.univ) w2 Finset.univ) w3 Finset.univ)
      = beside (inner w0) (inner w1) (inner w2) (inner w3) := by
  funext q
  have hq : (q 1).val < 2048 := (q 1).isLt
  refine (tile_read c g k _ q).trans ?_
  unfold beside
  split
  · rw [tile_miss g k 1536 _ e3 h3 w3 q (by omega), tile_miss g k 1024 _ e2 h2 w2 q (by omega), tile_miss g k 512 _ e1 h1 w1 q (by omega)]
    exact tile_hit g k 0 _ e0 h0 w0 q _ (Nat.zero_add _).symm
  split
  · rw [tile_miss g k 1536 _ e3 h3 w3 q (by omega), tile_miss g k 1024 _ e2 h2 w2 q (by omega)]
    exact tile_hit g k 512 _ e1 h1 w1 q _ (show (q 1).val = 512 + ((q 1).val - 512) by omega)
  split
  · rw [tile_miss g k 1536 _ e3 h3 w3 q (by omega)]
    exact tile_hit g k 1024 _ e2 h2 w2 q _ (show (q 1).val = 1024 + ((q 1).val - 1024) by omega)
  · exact tile_hit g k 1536 _ e3 h3 w3 q _ (show (q 1).val = 1536 + ((q 1).val - 1536) by omega)

/-- A block written whole holds what was written. -/
theorem block_read (u : Fin 11) (k : Fin 2) (f : (outBox u k).view.ty.Contents (Elt F)) (w : Vec F S384x2048 .bf16) :
    (outBox u k).view.read (Elt F) ((outBox u k).view.writes (Elt F) f [⟨Rect.whole S384x2048, w⟩]) = w :=
  View.read_writes_whole _ f w
end Tile

/-! ## What a step computes

`dm`, `gp`, `y`, `d`, `sc`, `w` are the step's rows of the cotangent, of the gate before its logistic, of the product
`d · w` and of the pooled rows, and the scale and the four weights. -/

section Step
variable (i : grid0.Coords) (dm gp y : Vec F S384x2048 .f32) (d : Vec F S384x2048 .bf16) (sc : Vec F S1x2048 .f32) (w : Vec F S4x512x512 .bf16)

/-- One weight, one group of columns. -/
abbrev wBox (g : ℕ) (h : ∀ a, (![g, 0, 0] : Fin 3 → ℕ) a + S1x512x512.size a ≤ S4x512x512.size a) : Rect S4x512x512 :=
  Rect.unit (s := S4x512x512) ![g, 0, 0] S1x512x512.size h

/-- The gated cotangent, and it scaled. -/
abbrev gated : FVec F S384x2048 .f32 := k0_pay8 dm gp
abbrev scaled : FVec F S384x2048 .bf16 := k0_pay13 sc (gated dm gp)
/-- The four groups' gradients of the pooled rows. -/
abbrev dd0 : FVec F S384x512 .f32 := k0_pay15 sc (gated dm gp) (View.ld w (Rect.unit (s := S4x512x512) ![0, 0, 0] S1x512x512.size inb_S4x512x512_S1x512x512_0_0_0))
abbrev dd1 : FVec F S384x512 .f32 := k0_pay22 (scaled dm gp sc) (View.ld w (Rect.unit (s := S4x512x512) ![1, 0, 0] S1x512x512.size inb_S4x512x512_S1x512x512_1_0_0))
abbrev dd2 : FVec F S384x512 .f32 := k0_pay28 (scaled dm gp sc) (View.ld w (Rect.unit (s := S4x512x512) ![2, 0, 0] S1x512x512.size inb_S4x512x512_S1x512x512_2_0_0))
abbrev dd3 : FVec F S384x512 .f32 := k0_pay35 (scaled dm gp sc) (View.ld w (Rect.unit (s := S4x512x512) ![3, 0, 0] S1x512x512.size inb_S4x512x512_S1x512x512_3_0_0))

/-- The tile for the gate's columns. -/
def gateTile : Vec F S384x2048 .bf16 := inner (k0_pay11 (k0_pay7 gp) (k0_pay9 dm y sc gp) k0_pay10)
/-- The tile for the values' columns; `h` is what was kept from the step before. -/
def valueTile (h : Vec F S16x2048 .f32) : Vec F S384x2048 .bf16 :=
  beside (inner (k0_pay19 (dd0 dm gp sc w) (k0_pay17 (k0_pay5 i)) (View.ld h (Rect.unit (s := S16x2048) ![0, 0] S16x512.size inb_S16x2048_S16x512_0_0))))
    (inner (k0_pay25 (k0_pay5 i) (dd1 dm gp sc w) 1#32 (View.ld h (Rect.unit (s := S16x2048) ![0, 512] S16x512.size inb_S16x2048_S16x512_0_512))))
    (inner (k0_pay32 (k0_pay5 i) (dd2 dm gp sc w) (View.ld h (Rect.unit (s := S16x2048) ![0, 1024] S16x512.size inb_S16x2048_S16x512_0_1024))))
    (inner (k0_pay38 (k0_pay5 i) (dd3 dm gp sc w) (View.ld h (Rect.unit (s := S16x2048) ![0, 1536] S16x512.size inb_S16x2048_S16x512_0_1536))))
/-- What is kept for the next step. -/
def kept : Vec F S16x2048 .f32 :=
  beside (k0_pay20 (dd0 dm gp sc w) (k0_pay17 (k0_pay5 i))) (k0_pay26 (k0_pay5 i) (dd1 dm gp sc w) 1#32)
    (k0_pay33 (k0_pay5 i) (dd2 dm gp sc w)) (k0_pay1 (k0_pay39 (k0_pay5 i) (dd3 dm gp sc w)))
/-- The weights' gradient so far, and the scale's. -/
def wAcc (a : Vec F S4x512x512 .f32) : Vec F S4x512x512 .f32 :=
  stacked (k0_pay16 sc (gated dm gp) (View.ld a (Rect.unit (s := S4x512x512) ![0, 0, 0] S1x512x512.size inb_S4x512x512_S1x512x512_0_0_0)) (View.ld d (Rect.unit (s := S384x2048) ![0, 0] S384x512.size inb_S384x2048_S384x512_0_0)))
    (k0_pay23 (scaled dm gp sc) (View.ld a (Rect.unit (s := S4x512x512) ![1, 0, 0] S1x512x512.size inb_S4x512x512_S1x512x512_1_0_0)) (View.ld d (Rect.unit (s := S384x2048) ![0, 512] S384x512.size inb_S384x2048_S384x512_0_512)))
    (k0_pay30 (k0_pay29 (scaled dm gp sc) (View.ld a (Rect.unit (s := S4x512x512) ![2, 0, 0] S1x512x512.size inb_S4x512x512_S1x512x512_2_0_0)) (View.ld d (Rect.unit (s := S384x2048) ![0, 1024] S384x512.size inb_S384x2048_S384x512_0_1024))))
    (k0_pay36 (k0_pay34 (scaled dm gp sc)) (View.ld a (Rect.unit (s := S4x512x512) ![3, 0, 0] S1x512x512.size inb_S4x512x512_S1x512x512_3_0_0)) (View.ld d (Rect.unit (s := S384x2048) ![0, 1536] S384x512.size inb_S384x2048_S384x512_0_1536)))
def scAcc (a : Vec F S1x2048 .f32) : Vec F S1x2048 .f32 := k0_pay12 (k0_pay6 y) (gated dm gp) a

/-! A load of a whole operand reads the operand, so a step's functions of the loaded operands are those of the operands. -/
abbrev all {e : EltTy} (x : Vec F S384x2048 e) : Vec F S384x2048 e := View.ld x (Rect.unit (s := S384x2048) ![0, 0] S384x2048.size inb_S384x2048_S384x2048_0_0)
abbrev allRow {e : EltTy} (x : Vec F S1x2048 e) : Vec F S1x2048 e := View.ld x (Rect.unit (s := S1x2048) ![0, 0] S1x2048.size inb_S1x2048_S1x2048_0_0)
theorem all_eq {e : EltTy} (x : Vec F S384x2048 e) : all x = x := View.ld_unit_zero (S := S384x2048) (by decide) _ x
theorem allRow_eq {e : EltTy} (x : Vec F S1x2048 e) : allRow x = x := View.ld_unit_zero (S := S1x2048) (by decide) _ x
variable {i dm gp y d sc w}
theorem valueTile_at {h : Vec F S16x2048 .f32} : valueTile i (all dm) (all gp) (allRow sc) w h = valueTile i dm gp sc w h := by
  rw [all_eq, all_eq, allRow_eq]
theorem gateTile_at : gateTile (all dm) (all gp) (all y) (allRow sc) = gateTile dm gp y sc := by rw [all_eq, all_eq, all_eq, allRow_eq]
theorem kept_at : kept i (all dm) (all gp) (allRow sc) w = kept i dm gp sc w := by rw [all_eq, all_eq, allRow_eq]
theorem wAcc_at {a : Vec F S4x512x512 .f32} : wAcc (all dm) (all gp) d (allRow sc) a = wAcc dm gp d sc a := by rw [all_eq, all_eq, allRow_eq]
theorem scAcc_at {a : Vec F S1x2048 .f32} : scAcc (all dm) (all gp) (all y) (allRow a) = scAcc dm gp y a := by
  rw [all_eq, all_eq, all_eq, allRow_eq]

/-! ### The first step reads back what it has just cleared -/

theorem stack_apart {g g' : ℕ} (hg : g ≠ g') (h : ∀ a, (![g, 0, 0] : Fin 3 → ℕ) a + S1x512x512.size a ≤ S4x512x512.size a)
    (h' : ∀ a, (![g', 0, 0] : Fin 3 → ℕ) a + S1x512x512.size a ≤ S4x512x512.size a) (w' : S1x512x512.Idx → Elt F EltTy.f32)
    (v : View sig .tc .vmem S4x512x512 .f32) (f : v.ty.Contents (Elt F)) (L : List (View.Piece (Elt F) S4x512x512 .f32)) :
    v.readAt (Elt F) (Rect.unit (s := S4x512x512) ![g, 0, 0] S1x512x512.size h).toLoadRect (v.writes (Elt F) f (⟨Rect.unit (s := S4x512x512) ![g', 0, 0] S1x512x512.size h', w'⟩ :: L))
      = v.readAt (Elt F) (Rect.unit (s := S4x512x512) ![g, 0, 0] S1x512x512.size h).toLoadRect (v.writes (Elt F) f L) := by
  funext x
  exact View.read_writes_cons_unit_of_not_mem v f h' w' L _ rfl 0
    (by
      have hx : (x 0).val < 1 := (x 0).isLt
      show g + 1 * (x 0).val < g' ∨ g' + 1 ≤ g + 1 * (x 0).val
      omega)

theorem cols_apart {p p' : ℕ} (hp : p + 512 ≤ p' ∨ p' + 512 ≤ p) (h : ∀ a, (![0, p] : Fin 2 → ℕ) a + S16x512.size a ≤ S16x2048.size a)
    (h' : ∀ a, (![0, p'] : Fin 2 → ℕ) a + S16x512.size a ≤ S16x2048.size a) (w' : S16x512.Idx → Elt F EltTy.f32)
    (v : View sig .tc .vmem S16x2048 .f32) (f : v.ty.Contents (Elt F)) (L : List (View.Piece (Elt F) S16x2048 .f32)) :
    v.readAt (Elt F) (Rect.unit (s := S16x2048) ![0, p] S16x512.size h).toLoadRect (v.writes (Elt F) f (⟨Rect.unit (s := S16x2048) ![0, p'] S16x512.size h', w'⟩ :: L))
      = v.readAt (Elt F) (Rect.unit (s := S16x2048) ![0, p] S16x512.size h).toLoadRect (v.writes (Elt F) f L) := by
  funext x
  exact View.read_writes_cons_unit_of_not_mem v f h' w' L _ rfl 1
    (by
      have hx : (x 1).val < 512 := (x 1).isLt
      show p + 1 * (x 1).val < p' ∨ p' + 512 ≤ p + 1 * (x 1).val
      omega)

theorem read_all {s : Shape} {e : EltTy} (v : View sig .tc .vmem s e) (f : v.ty.Contents (Elt F)) {o : Fin s.rank → ℕ} (inb : ∀ a, o a + s.size a ≤ s.size a)
    (z : Vec F s e) (L : List (View.Piece (Elt F) s e)) : v.read (Elt F) (v.writes (Elt F) f (⟨Rect.unit o s.size inb, z⟩ :: L)) = z := by
  funext q
  exact View.read_writes_cons_unit_of_mem v f inb z L q q rfl fun a => by have := inb a; omega

abbrev slab0 : Rect S4x512x512 := Rect.unit (s := S4x512x512) ![0, 0, 0] S1x512x512.size inb_S4x512x512_S1x512x512_0_0_0
abbrev slab1 : Rect S4x512x512 := Rect.unit (s := S4x512x512) ![1, 0, 0] S1x512x512.size inb_S4x512x512_S1x512x512_1_0_0
abbrev slab2 : Rect S4x512x512 := Rect.unit (s := S4x512x512) ![2, 0, 0] S1x512x512.size inb_S4x512x512_S1x512x512_2_0_0
abbrev slab3 : Rect S4x512x512 := Rect.unit (s := S4x512x512) ![3, 0, 0] S1x512x512.size inb_S4x512x512_S1x512x512_3_0_0
abbrev slabs : Rect S4x512x512 := Rect.unit (s := S4x512x512) ![0, 0, 0] S4x512x512.size inb_S4x512x512_S4x512x512_0_0_0
abbrev hcol0 : Rect S16x2048 := Rect.unit (s := S16x2048) ![0, 0] S16x512.size inb_S16x2048_S16x512_0_0
abbrev hcol1 : Rect S16x2048 := Rect.unit (s := S16x2048) ![0, 512] S16x512.size inb_S16x2048_S16x512_0_512
abbrev hcol2 : Rect S16x2048 := Rect.unit (s := S16x2048) ![0, 1024] S16x512.size inb_S16x2048_S16x512_0_1024
abbrev hcol3 : Rect S16x2048 := Rect.unit (s := S16x2048) ![0, 1536] S16x512.size inb_S16x2048_S16x512_0_1536
abbrev hcols : Rect S16x2048 := Rect.unit (s := S16x2048) ![0, 0] S16x2048.size inb_S16x2048_S16x2048_0_0

theorem wAcc_cleared (v : View sig .tc .vmem S4x512x512 .f32) (w0 w1 w2 : S1x512x512.Idx → Elt F EltTy.f32) :
    stacked (k0_pay16 (allRow sc) (gated (all dm) (all gp)) (v.readCov [⟨slabs, k0_pay3⟩] slab0.toLoadRect) (View.ld d (Rect.unit (s := S384x2048) ![0, 0] S384x512.size inb_S384x2048_S384x512_0_0)))
        (k0_pay23 (scaled (all dm) (all gp) (allRow sc)) (v.readCov [⟨slab0, w0⟩, ⟨slabs, k0_pay3⟩] slab1.toLoadRect) (View.ld d (Rect.unit (s := S384x2048) ![0, 512] S384x512.size inb_S384x2048_S384x512_0_512)))
        (k0_pay30 (k0_pay29 (scaled (all dm) (all gp) (allRow sc)) (v.readCov [⟨slab1, w1⟩, ⟨slab0, w0⟩, ⟨slabs, k0_pay3⟩] slab2.toLoadRect) (View.ld d (Rect.unit (s := S384x2048) ![0, 1024] S384x512.size inb_S384x2048_S384x512_0_1024))))
        (k0_pay36 (k0_pay34 (scaled (all dm) (all gp) (allRow sc))) (v.readCov [⟨slab2, w2⟩, ⟨slab1, w1⟩, ⟨slab0, w0⟩, ⟨slabs, k0_pay3⟩] slab3.toLoadRect) (View.ld d (Rect.unit (s := S384x2048) ![0, 1536] S384x512.size inb_S384x2048_S384x512_0_1536)))
      = wAcc dm gp d sc k0_pay3 := by
  have hz (B : Rect S4x512x512) : v.readAt (Elt F) B.toLoadRect (v.writes (Elt F) v.junk [⟨slabs, k0_pay3⟩]) = View.ld k0_pay3 B := by
    rw [View.readAt_eq_ld, read_all]
  have e0 : v.readCov [⟨slabs, k0_pay3⟩] slab0.toLoadRect = View.ld (Val := Elt F) (k0_pay3 : Vec F S4x512x512 .f32) slab0 := hz slab0
  have e1 : v.readCov [⟨slab0, w0⟩, ⟨slabs, k0_pay3⟩] slab1.toLoadRect = View.ld (Val := Elt F) (k0_pay3 : Vec F S4x512x512 .f32) slab1 :=
    (stack_apart (by decide) _ _ _ _ _ _).trans (hz slab1)
  have e2 : v.readCov [⟨slab1, w1⟩, ⟨slab0, w0⟩, ⟨slabs, k0_pay3⟩] slab2.toLoadRect = View.ld (Val := Elt F) (k0_pay3 : Vec F S4x512x512 .f32) slab2 :=
    (stack_apart (by decide) _ _ _ _ _ _).trans ((stack_apart (by decide) _ _ _ _ _ _).trans (hz slab2))
  have e3 : v.readCov [⟨slab2, w2⟩, ⟨slab1, w1⟩, ⟨slab0, w0⟩, ⟨slabs, k0_pay3⟩] slab3.toLoadRect = View.ld (Val := Elt F) (k0_pay3 : Vec F S4x512x512 .f32) slab3 :=
    (stack_apart (by decide) _ _ _ _ _ _).trans ((stack_apart (by decide) _ _ _ _ _ _).trans ((stack_apart (by decide) _ _ _ _ _ _).trans (hz slab3)))
  rw [e0, e1, e2, e3, ← wAcc_at]; rfl

theorem scAcc_cleared (v : View sig .tc .vmem S1x2048 .f32) :
    k0_pay12 (k0_pay6 (all y)) (gated (all dm) (all gp)) (v.readCov [⟨Rect.unit (s := S1x2048) ![0, 0] S1x2048.size inb_S1x2048_S1x2048_0_0, k0_pay4⟩]
        (Rect.unit (s := S1x2048) ![0, 0] S1x2048.size inb_S1x2048_S1x2048_0_0).toLoadRect)
      = scAcc dm gp y k0_pay4 := by
  have e : v.readCov [⟨Rect.unit (s := S1x2048) ![0, 0] S1x2048.size inb_S1x2048_S1x2048_0_0, k0_pay4⟩]
        (Rect.unit (s := S1x2048) ![0, 0] S1x2048.size inb_S1x2048_S1x2048_0_0).toLoadRect = allRow (k0_pay4 : Vec F S1x2048 .f32) := by
    refine (View.readAt_eq_ld v _ _).trans ?_
    rw [read_all]
  rw [e, ← scAcc_at]; rfl

theorem valueTile_cleared (v : View sig .tc .vmem S16x2048 .f32) (w0 w1 w2 : S16x512.Idx → Elt F EltTy.f32) :
    beside (inner (k0_pay19 (dd0 (all dm) (all gp) (allRow sc) w) (k0_pay17 (k0_pay5 i)) (v.readCov [⟨hcols, k0_pay2⟩] hcol0.toLoadRect)))
        (inner (k0_pay25 (k0_pay5 i) (dd1 (all dm) (all gp) (allRow sc) w) 1#32 (v.readCov [⟨hcol0, w0⟩, ⟨hcols, k0_pay2⟩] hcol1.toLoadRect)))
        (inner (k0_pay32 (k0_pay5 i) (dd2 (all dm) (all gp) (allRow sc) w) (v.readCov [⟨hcol1, w1⟩, ⟨hcol0, w0⟩, ⟨hcols, k0_pay2⟩] hcol2.toLoadRect)))
        (inner (k0_pay38 (k0_pay5 i) (dd3 (all dm) (all gp) (allRow sc) w) (v.readCov [⟨hcol2, w2⟩, ⟨hcol1, w1⟩, ⟨hcol0, w0⟩, ⟨hcols, k0_pay2⟩] hcol3.toLoadRect)))
      = valueTile i dm gp sc w k0_pay2 := by
  have hz (B : Rect S16x2048) : v.readAt (Elt F) B.toLoadRect (v.writes (Elt F) v.junk [⟨hcols, k0_pay2⟩]) = View.ld k0_pay2 B := by
    rw [View.readAt_eq_ld, read_all]
  have e0 : v.readCov [⟨hcols, k0_pay2⟩] hcol0.toLoadRect = View.ld (Val := Elt F) (k0_pay2 : Vec F S16x2048 .f32) hcol0 := hz hcol0
  have e1 : v.readCov [⟨hcol0, w0⟩, ⟨hcols, k0_pay2⟩] hcol1.toLoadRect = View.ld (Val := Elt F) (k0_pay2 : Vec F S16x2048 .f32) hcol1 :=
    (cols_apart (by decide) _ _ _ _ _ _).trans (hz hcol1)
  have e2 : v.readCov [⟨hcol1, w1⟩, ⟨hcol0, w0⟩, ⟨hcols, k0_pay2⟩] hcol2.toLoadRect = View.ld (Val := Elt F) (k0_pay2 : Vec F S16x2048 .f32) hcol2 :=
    (cols_apart (by decide) _ _ _ _ _ _).trans ((cols_apart (by decide) _ _ _ _ _ _).trans (hz hcol2))
  have e3 : v.readCov [⟨hcol2, w2⟩, ⟨hcol1, w1⟩, ⟨hcol0, w0⟩, ⟨hcols, k0_pay2⟩] hcol3.toLoadRect = View.ld (Val := Elt F) (k0_pay2 : Vec F S16x2048 .f32) hcol3 :=
    (cols_apart (by decide) _ _ _ _ _ _).trans ((cols_apart (by decide) _ _ _ _ _ _).trans ((cols_apart (by decide) _ _ _ _ _ _).trans (hz hcol3)))
  rw [e0, e1, e2, e3, ← valueTile_at]; rfl
end Step
end Cert.KernelIdeal.PoolBwd
-- ==== Proof.StepC.lean ====
/-
  One run of the pooling-gradient kernel's body. A step from the third on: the copies of two steps before are waited for first.
-/

module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp
public import proofs.«01_k».proof.Proof.Tiles

@[expose] public section

set_option maxRecDepth 16384

noncomputable section

namespace Cert.KernelIdeal.PoolBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 2000000 in
/-- A step from the third on: the copies of two steps before are waited for first. -/
theorem stepC (c : Dev nD) (t : Fin cfg0.N) (a1 : Memref sig .tc .vmem S384x2048 .f32) (w1 : a1.IsWhole) (a2 : Memref sig .tc .vmem S384x2048 .f32) (w2 : a2.IsWhole) (a3 : Memref sig .tc .vmem S384x2048 .f32) (w3 : a3.IsWhole) (a4 : Memref sig .tc .vmem S384x2048 .bf16) (w4 : a4.IsWhole) (a5 : Memref sig .tc .vmem S1x2048 .f32) (w5 : a5.IsWhole) (a6 : Memref sig .tc .vmem S4x512x512 .bf16) (w6 : a6.IsWhole) (a8 : Memref sig .tc .vmem S4x512x512 .f32) (w8 : a8.IsWhole) (a9 : Memref sig .tc .vmem S1x2048 .f32) (w9 : a9.IsWhole) (a10 : Memref sig .tc .vmem S16x2048 .f32) (w10 : a10.IsWhole) (hc0 : Waits2 t) (hc1 : ¬Clears t) (hc2 : ¬Drains t)
    (dm : Vec F S384x2048 .f32) (gp : Vec F S384x2048 .f32) (y : Vec F S384x2048 .f32) (d : Vec F S384x2048 .bf16) (sc : Vec F S1x2048 .f32) (w : Vec F S4x512x512 .bf16) (aw : Vec F S4x512x512 .f32) (sa : Vec F S1x2048 .f32) (h : Vec F S16x2048 .f32)
    (val : Fin 11 → Fin 2 → Vec F S384x2048 .bf16)
    (hv0 : val (Ring.bk 11 t.val) 0 = valueTile (grid0.coords t) dm gp sc w h) (hv1 : val (Ring.bk 11 t.val) 1 = gateTile dm gp y sc)
    (W : Waits sig Unit) (K : PUnit → sProp 𝕄) :
    iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ owns (c : Thread nD τ) a8 fullShare aw ∗ owns (c : Thread nD τ) a9 fullShare sa ∗ owns (c : Thread nD τ) a10 fullShare h ∗ (∃ f, outAt c (Ring.bk 11 t.val) 0 f) ∗ (∃ f, outAt c (Ring.bk 11 t.val) 1 f) ∗ flying c val (Ring.sl 2 t.val) 0 (Ring.bk 11 (t.val - 2)) ∗ flying c val (Ring.sl 2 t.val) 1 (Ring.bk 11 (t.val - 2)) ∗ owes (c : Thread nD τ) 0 W
        ∗ (iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ owns (c : Thread nD τ) a8 fullShare (wAcc dm gp d sc aw) ∗ owns (c : Thread nD τ) a9 fullShare (scAcc dm gp y sa) ∗ owns (c : Thread nD τ) a10 fullShare (kept (grid0.coords t) dm gp sc w) ∗ outDone c val (Ring.bk 11 (t.val - 2)) 0 ∗ outDone c val (Ring.bk 11 (t.val - 2)) 1 ∗ flying c val (Ring.sl 2 t.val) 0 (Ring.bk 11 t.val) ∗ flying c val (Ring.sl 2 t.val) 1 (Ring.bk 11 t.val) ∗ (∃ W', owes (c : Thread nD τ) 0 W')) -∗ K ⟨⟩))
      ⊢ wp frame (wpE (defs₀ (F := F)) Variants.none c none) Set.univ (cc0_pool_bwd (grid0.coords t) a1 w1 a2 w2 a3 w3 a4 w4 a5 w5 a6 w6 (Memref.whole main_v63_0) (Memref.isWhole_whole _) a8 w8 a9 w9 a10 w10 tiles (Memref.isWhole_whole _) cc0_scratch2) K := by
    haveI : Fact (Waits2 t) := ⟨hc0⟩; haveI : Fact (¬Clears t) := ⟨hc1⟩; haveI : Fact (¬Drains t) := ⟨hc2⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton]
    have hcanon0 := off7_is t
    have hcanon1 := off7_is' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fh, %hfh, Hh⟩, ⟨%fp0, Hp0⟩, ⟨%fp1, Hp1⟩, ⟨%ff0, %fe0, %hr0, HF0⟩, ⟨%ff1, %fe1, %hr1, HF1⟩, HW, Hk⟩
    subst hf0 hf1 hf2 hf3 hf4 hf5 hf6 hf7 hfh
    sl_exec (disch := first | sl_exact hc0 | sl_exact hc1 | sl_exact hc2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact (read_stacked _ _ _ _ _ _ _ _ _ _ _).trans wAcc_at
    isplitl [H7]
    · iexists _; isplitr; swap; · iexact H7
      ipureintro; exact (read_all _ _ _ _ _).trans scAcc_at
    isplitl [Hh]
    · iexists _; isplitr; swap; · iexact Hh
      ipureintro; exact (read_beside _ _ _ _ _ _ _ _ _ _ _).trans kept_at
    isplitl [HF0_dst]
    · iexists _; isplitr; swap; · iexact HF0_dst
      ipureintro; exact hr0
    isplitl [HF1_dst]
    · iexists _; isplitr; swap; · iexact HF1_dst
      ipureintro; exact hr1
    isplitl [HF0]
    · iexists _, _; isplitr; swap; · iexact HF0
      ipureintro; exact (block_read _ _ _ _).trans ((tile_read_four c _ _ fe0 (off8 t) (off9 t) (off10 t) (off11 t) _ _ _ _ _ _ _ _).trans (valueTile_at.trans hv0.symm))
    isplitl [HF1]
    · iexists _, _; isplitr; swap; · iexact HF1
      ipureintro; exact (block_read _ _ _ _).trans ((tile_read_one c _ _ fe1 (off6 t) _ _).trans (gateTile_at.trans hv1.symm))
    iexists _; iexact HW

end Cert.KernelIdeal.PoolBwd
-- ==== Proof.StepA.lean ====
/-
  One run of the pooling-gradient kernel's body. The first step: the sums and the kept rows are cleared, then the step is as the others, out of a group at rest.
-/

module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp
public import proofs.«01_k».proof.Proof.StepC

@[expose] public section

set_option maxRecDepth 16384

noncomputable section

namespace Cert.KernelIdeal.PoolBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 2000000 in
/-- The first step: the sums and the kept rows are cleared, then the step is as the others, out of a group at rest. -/
theorem stepA (c : Dev nD) (t : Fin cfg0.N) (a1 : Memref sig .tc .vmem S384x2048 .f32) (w1 : a1.IsWhole) (a2 : Memref sig .tc .vmem S384x2048 .f32) (w2 : a2.IsWhole) (a3 : Memref sig .tc .vmem S384x2048 .f32) (w3 : a3.IsWhole) (a4 : Memref sig .tc .vmem S384x2048 .bf16) (w4 : a4.IsWhole) (a5 : Memref sig .tc .vmem S1x2048 .f32) (w5 : a5.IsWhole) (a6 : Memref sig .tc .vmem S4x512x512 .bf16) (w6 : a6.IsWhole) (a8 : Memref sig .tc .vmem S4x512x512 .f32) (w8 : a8.IsWhole) (a9 : Memref sig .tc .vmem S1x2048 .f32) (w9 : a9.IsWhole) (a10 : Memref sig .tc .vmem S16x2048 .f32) (w10 : a10.IsWhole) (hc0 : ¬Waits2 t) (hc1 : Clears t) (hc2 : ¬Drains t)
    (dm : Vec F S384x2048 .f32) (gp : Vec F S384x2048 .f32) (y : Vec F S384x2048 .f32) (d : Vec F S384x2048 .bf16) (sc : Vec F S1x2048 .f32) (w : Vec F S4x512x512 .bf16)
    (val : Fin 11 → Fin 2 → Vec F S384x2048 .bf16)
    (hv0 : val (Ring.bk 11 t.val) 0 = valueTile (grid0.coords t) dm gp sc w k0_pay2) (hv1 : val (Ring.bk 11 t.val) 1 = gateTile dm gp y sc)
    (W : Waits sig Unit) (K : PUnit → sProp 𝕄) :
    iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ (∃ d, owns (c : Thread nD τ) a8 fullShare d) ∗ (∃ d, owns (c : Thread nD τ) a9 fullShare d) ∗ (∃ d, owns (c : Thread nD τ) a10 fullShare d) ∗ (∃ f, outAt c (Ring.bk 11 t.val) 0 f) ∗ (∃ f, outAt c (Ring.bk 11 t.val) 1 f) ∗ cellAt0 c (Ring.sl 2 t.val) 0 ∗ (∃ e, tileAt c (Ring.sl 2 t.val) 0 e) ∗ cellAt0 c (Ring.sl 2 t.val) 1 ∗ (∃ e, tileAt c (Ring.sl 2 t.val) 1 e) ∗ owes (c : Thread nD τ) 0 W
        ∗ (iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ owns (c : Thread nD τ) a8 fullShare (wAcc dm gp d sc k0_pay3) ∗ owns (c : Thread nD τ) a9 fullShare (scAcc dm gp y k0_pay4) ∗ owns (c : Thread nD τ) a10 fullShare (kept (grid0.coords t) dm gp sc w) ∗ flying c val (Ring.sl 2 t.val) 0 (Ring.bk 11 t.val) ∗ flying c val (Ring.sl 2 t.val) 1 (Ring.bk 11 t.val) ∗ (∃ W', owes (c : Thread nD τ) 0 W')) -∗ K ⟨⟩))
      ⊢ wp frame (wpE (defs₀ (F := F)) Variants.none c none) Set.univ (cc0_pool_bwd (grid0.coords t) a1 w1 a2 w2 a3 w3 a4 w4 a5 w5 a6 w6 (Memref.whole main_v63_0) (Memref.isWhole_whole _) a8 w8 a9 w9 a10 w10 tiles (Memref.isWhole_whole _) cc0_scratch2) K := by
    haveI : Fact (¬Waits2 t) := ⟨hc0⟩; haveI : Fact (Clears t) := ⟨hc1⟩; haveI : Fact (¬Drains t) := ⟨hc2⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton]
    have hcanon0 := off7_is t
    have hcanon1 := off7_is' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%dh, %fh, -, Hh⟩, ⟨%fp0, Hp0⟩, ⟨%fp1, Hp1⟩, HF0, ⟨%fe0, Ht0⟩, HF1, ⟨%fe1, Ht1⟩, HW, Hk⟩
    subst hf0 hf1 hf2 hf3 hf4 hf5
    sl_exec (disch := first | sl_exact hc0 | sl_exact hc1 | sl_exact hc2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact (read_stacked _ _ _ _ _ _ _ _ _ _ _).trans (wAcc_cleared _ _ _ _)
    isplitl [H7]
    · iexists _; isplitr; swap; · iexact H7
      ipureintro; exact (read_all _ _ _ _ _).trans (scAcc_cleared _)
    isplitl [Hh]
    · iexists _; isplitr; swap; · iexact Hh
      ipureintro; exact (read_beside _ _ _ _ _ _ _ _ _ _ _).trans kept_at
    isplitl [HF0]
    · iexists _, _; isplitr; swap; · iexact HF0
      ipureintro; exact (block_read _ _ _ _).trans ((tile_read_four c _ _ fe0 (off8 t) (off9 t) (off10 t) (off11 t) _ _ _ _ _ _ _ _).trans ((valueTile_cleared _ _ _ _).trans hv0.symm))
    isplitl [HF1]
    · iexists _, _; isplitr; swap; · iexact HF1
      ipureintro; exact (block_read _ _ _ _).trans ((tile_read_one c _ _ fe1 (off6 t) _ _).trans (gateTile_at.trans hv1.symm))
    iexists _; iexact HW

end Cert.KernelIdeal.PoolBwd
-- ==== Proof.StepB.lean ====
/-
  One run of the pooling-gradient kernel's body. The second step: its group is at rest.
-/

module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp
public import proofs.«01_k».proof.Proof.StepA

@[expose] public section

set_option maxRecDepth 16384

noncomputable section

namespace Cert.KernelIdeal.PoolBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 2000000 in
/-- The second step: its group is at rest. -/
theorem stepB (c : Dev nD) (t : Fin cfg0.N) (a1 : Memref sig .tc .vmem S384x2048 .f32) (w1 : a1.IsWhole) (a2 : Memref sig .tc .vmem S384x2048 .f32) (w2 : a2.IsWhole) (a3 : Memref sig .tc .vmem S384x2048 .f32) (w3 : a3.IsWhole) (a4 : Memref sig .tc .vmem S384x2048 .bf16) (w4 : a4.IsWhole) (a5 : Memref sig .tc .vmem S1x2048 .f32) (w5 : a5.IsWhole) (a6 : Memref sig .tc .vmem S4x512x512 .bf16) (w6 : a6.IsWhole) (a8 : Memref sig .tc .vmem S4x512x512 .f32) (w8 : a8.IsWhole) (a9 : Memref sig .tc .vmem S1x2048 .f32) (w9 : a9.IsWhole) (a10 : Memref sig .tc .vmem S16x2048 .f32) (w10 : a10.IsWhole) (hc0 : ¬Waits2 t) (hc1 : ¬Clears t) (hc2 : ¬Drains t)
    (dm : Vec F S384x2048 .f32) (gp : Vec F S384x2048 .f32) (y : Vec F S384x2048 .f32) (d : Vec F S384x2048 .bf16) (sc : Vec F S1x2048 .f32) (w : Vec F S4x512x512 .bf16) (aw : Vec F S4x512x512 .f32) (sa : Vec F S1x2048 .f32) (h : Vec F S16x2048 .f32)
    (val : Fin 11 → Fin 2 → Vec F S384x2048 .bf16)
    (hv0 : val (Ring.bk 11 t.val) 0 = valueTile (grid0.coords t) dm gp sc w h) (hv1 : val (Ring.bk 11 t.val) 1 = gateTile dm gp y sc)
    (W : Waits sig Unit) (K : PUnit → sProp 𝕄) :
    iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ owns (c : Thread nD τ) a8 fullShare aw ∗ owns (c : Thread nD τ) a9 fullShare sa ∗ owns (c : Thread nD τ) a10 fullShare h ∗ (∃ f, outAt c (Ring.bk 11 t.val) 0 f) ∗ (∃ f, outAt c (Ring.bk 11 t.val) 1 f) ∗ cellAt0 c (Ring.sl 2 t.val) 0 ∗ (∃ e, tileAt c (Ring.sl 2 t.val) 0 e) ∗ cellAt0 c (Ring.sl 2 t.val) 1 ∗ (∃ e, tileAt c (Ring.sl 2 t.val) 1 e) ∗ owes (c : Thread nD τ) 0 W
        ∗ (iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ owns (c : Thread nD τ) a8 fullShare (wAcc dm gp d sc aw) ∗ owns (c : Thread nD τ) a9 fullShare (scAcc dm gp y sa) ∗ owns (c : Thread nD τ) a10 fullShare (kept (grid0.coords t) dm gp sc w) ∗ flying c val (Ring.sl 2 t.val) 0 (Ring.bk 11 t.val) ∗ flying c val (Ring.sl 2 t.val) 1 (Ring.bk 11 t.val) ∗ (∃ W', owes (c : Thread nD τ) 0 W')) -∗ K ⟨⟩))
      ⊢ wp frame (wpE (defs₀ (F := F)) Variants.none c none) Set.univ (cc0_pool_bwd (grid0.coords t) a1 w1 a2 w2 a3 w3 a4 w4 a5 w5 a6 w6 (Memref.whole main_v63_0) (Memref.isWhole_whole _) a8 w8 a9 w9 a10 w10 tiles (Memref.isWhole_whole _) cc0_scratch2) K := by
    haveI : Fact (¬Waits2 t) := ⟨hc0⟩; haveI : Fact (¬Clears t) := ⟨hc1⟩; haveI : Fact (¬Drains t) := ⟨hc2⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton]
    have hcanon0 := off7_is t
    have hcanon1 := off7_is' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fh, %hfh, Hh⟩, ⟨%fp0, Hp0⟩, ⟨%fp1, Hp1⟩, HF0, ⟨%fe0, Ht0⟩, HF1, ⟨%fe1, Ht1⟩, HW, Hk⟩
    subst hf0 hf1 hf2 hf3 hf4 hf5 hf6 hf7 hfh
    sl_exec (disch := first | sl_exact hc0 | sl_exact hc1 | sl_exact hc2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact (read_stacked _ _ _ _ _ _ _ _ _ _ _).trans wAcc_at
    isplitl [H7]
    · iexists _; isplitr; swap; · iexact H7
      ipureintro; exact (read_all _ _ _ _ _).trans scAcc_at
    isplitl [Hh]
    · iexists _; isplitr; swap; · iexact Hh
      ipureintro; exact (read_beside _ _ _ _ _ _ _ _ _ _ _).trans kept_at
    isplitl [HF0]
    · iexists _, _; isplitr; swap; · iexact HF0
      ipureintro; exact (block_read _ _ _ _).trans ((tile_read_four c _ _ fe0 (off8 t) (off9 t) (off10 t) (off11 t) _ _ _ _ _ _ _ _).trans (valueTile_at.trans hv0.symm))
    isplitl [HF1]
    · iexists _, _; isplitr; swap; · iexact HF1
      ipureintro; exact (block_read _ _ _ _).trans ((tile_read_one c _ _ fe1 (off6 t) _ _).trans (gateTile_at.trans hv1.symm))
    iexists _; iexact HW

end Cert.KernelIdeal.PoolBwd
-- ==== Proof.StepD.lean ====
/-
  One run of the pooling-gradient kernel's body. The last step: the copies of the last three steps are waited for.
-/

module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp
public import proofs.«01_k».proof.Proof.StepB

@[expose] public section

set_option maxRecDepth 16384

noncomputable section

namespace Cert.KernelIdeal.PoolBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 2000000 in
/-- The last step: the copies of the last three steps are waited for. -/
theorem stepD (c : Dev nD) (t : Fin cfg0.N) (a1 : Memref sig .tc .vmem S384x2048 .f32) (w1 : a1.IsWhole) (a2 : Memref sig .tc .vmem S384x2048 .f32) (w2 : a2.IsWhole) (a3 : Memref sig .tc .vmem S384x2048 .f32) (w3 : a3.IsWhole) (a4 : Memref sig .tc .vmem S384x2048 .bf16) (w4 : a4.IsWhole) (a5 : Memref sig .tc .vmem S1x2048 .f32) (w5 : a5.IsWhole) (a6 : Memref sig .tc .vmem S4x512x512 .bf16) (w6 : a6.IsWhole) (a8 : Memref sig .tc .vmem S4x512x512 .f32) (w8 : a8.IsWhole) (a9 : Memref sig .tc .vmem S1x2048 .f32) (w9 : a9.IsWhole) (a10 : Memref sig .tc .vmem S16x2048 .f32) (w10 : a10.IsWhole) (hc0 : Waits2 t) (hc1 : ¬Clears t) (hc2 : Drains t)
    (dm : Vec F S384x2048 .f32) (gp : Vec F S384x2048 .f32) (y : Vec F S384x2048 .f32) (d : Vec F S384x2048 .bf16) (sc : Vec F S1x2048 .f32) (w : Vec F S4x512x512 .bf16) (aw : Vec F S4x512x512 .f32) (sa : Vec F S1x2048 .f32) (h : Vec F S16x2048 .f32)
    (val : Fin 11 → Fin 2 → Vec F S384x2048 .bf16)
    (hv0 : val (Ring.bk 11 t.val) 0 = valueTile (grid0.coords t) dm gp sc w h) (hv1 : val (Ring.bk 11 t.val) 1 = gateTile dm gp y sc)
    (W : Waits sig Unit) (K : PUnit → sProp 𝕄) :
    iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ owns (c : Thread nD τ) a8 fullShare aw ∗ owns (c : Thread nD τ) a9 fullShare sa ∗ owns (c : Thread nD τ) a10 fullShare h ∗ (∃ f, outAt c (Ring.bk 11 t.val) 0 f) ∗ (∃ f, outAt c (Ring.bk 11 t.val) 1 f) ∗ flying c val (Ring.sl 2 t.val) 0 (Ring.bk 11 (t.val - 2)) ∗ flying c val (Ring.sl 2 t.val) 1 (Ring.bk 11 (t.val - 2)) ∗ flying c val (Ring.sl 2 (t.val + 1)) 0 (Ring.bk 11 (t.val - 1)) ∗ flying c val (Ring.sl 2 (t.val + 1)) 1 (Ring.bk 11 (t.val - 1)) ∗ owes (c : Thread nD τ) 0 W
        ∗ (iprop(owns (c : Thread nD τ) a1 fullShare dm ∗ owns (c : Thread nD τ) a2 fullShare gp ∗ owns (c : Thread nD τ) a3 fullShare y ∗ owns (c : Thread nD τ) a4 fullShare d ∗ owns (c : Thread nD τ) a5 fullShare sc ∗ owns (c : Thread nD τ) a6 fullShare w ∗ owns (c : Thread nD τ) a8 fullShare (wAcc dm gp d sc aw) ∗ owns (c : Thread nD τ) a9 fullShare (scAcc dm gp y sa) ∗ owns (c : Thread nD τ) a10 fullShare (kept (grid0.coords t) dm gp sc w) ∗ outDone c val (Ring.bk 11 t.val) 0 ∗ outDone c val (Ring.bk 11 t.val) 1 ∗ outDone c val (Ring.bk 11 (t.val - 2)) 0 ∗ outDone c val (Ring.bk 11 (t.val - 2)) 1 ∗ outDone c val (Ring.bk 11 (t.val - 1)) 0 ∗ outDone c val (Ring.bk 11 (t.val - 1)) 1 ∗ cellAt0 c (Ring.sl 2 t.val) 0 ∗ (∃ e, tileAt c (Ring.sl 2 t.val) 0 e) ∗ cellAt0 c (Ring.sl 2 t.val) 1 ∗ (∃ e, tileAt c (Ring.sl 2 t.val) 1 e) ∗ cellAt0 c (Ring.sl 2 (t.val + 1)) 0 ∗ (∃ e, tileAt c (Ring.sl 2 (t.val + 1)) 0 e) ∗ cellAt0 c (Ring.sl 2 (t.val + 1)) 1 ∗ (∃ e, tileAt c (Ring.sl 2 (t.val + 1)) 1 e) ∗ (∃ W', owes (c : Thread nD τ) 0 W')) -∗ K ⟨⟩))
      ⊢ wp frame (wpE (defs₀ (F := F)) Variants.none c none) Set.univ (cc0_pool_bwd (grid0.coords t) a1 w1 a2 w2 a3 w3 a4 w4 a5 w5 a6 w6 (Memref.whole main_v63_0) (Memref.isWhole_whole _) a8 w8 a9 w9 a10 w10 tiles (Memref.isWhole_whole _) cc0_scratch2) K := by
    haveI : Fact (Waits2 t) := ⟨hc0⟩; haveI : Fact (¬Clears t) := ⟨hc1⟩; haveI : Fact (Drains t) := ⟨hc2⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton]
    have hcanon0 := off7_is t
    have hcanon1 := off7_is' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fh, %hfh, Hh⟩, ⟨%fp0, Hp0⟩, ⟨%fp1, Hp1⟩, ⟨%ff0, %fe0, %hr0, HF0⟩, ⟨%ff1, %fe1, %hr1, HF1⟩, ⟨%gf0, %ge0, %hs0, HI0⟩, ⟨%gf1, %ge1, %hs1, HI1⟩, HW, Hk⟩
    subst hf0 hf1 hf2 hf3 hf4 hf5 hf6 hf7 hfh
    sl_exec (disch := first | sl_exact hc0 | sl_exact hc1 | sl_exact hc2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; exact (read_stacked _ _ _ _ _ _ _ _ _ _ _).trans wAcc_at
    isplitl [H7]
    · iexists _; isplitr; swap; · iexact H7
      ipureintro; exact (read_all _ _ _ _ _).trans scAcc_at
    isplitl [Hh]
    · iexists _; isplitr; swap; · iexact Hh
      ipureintro; exact (read_beside _ _ _ _ _ _ _ _ _ _ _).trans kept_at
    isplitl [Hp0]
    · iexists _; isplitr; swap; · iexact Hp0
      ipureintro; exact (block_read _ _ _ _).trans ((tile_read_four c _ _ fe0 (off8 t) (off9 t) (off10 t) (off11 t) _ _ _ _ _ _ _ _).trans (valueTile_at.trans hv0.symm))
    isplitl [Hp1]
    · iexists _; isplitr; swap; · iexact Hp1
      ipureintro; exact (block_read _ _ _ _).trans ((tile_read_one c _ _ fe1 (off6 t) _ _).trans (gateTile_at.trans hv1.symm))
    isplitl [HF0_dst]
    · iexists _; isplitr; swap; · iexact HF0_dst
      ipureintro; exact hr0
    isplitl [HF1_dst]
    · iexists _; isplitr; swap; · iexact HF1_dst
      ipureintro; exact hr1
    isplitl [HI0_dst]
    · iexists _; isplitr; swap; · iexact HI0_dst
      ipureintro; exact hs0
    isplitl [HI1_dst]
    · iexists _; isplitr; swap; · iexact HI1_dst
      ipureintro; exact hs1
    isplitl [HF0]
    · iexact HF0
    isplitl [HF0_src]
    · iexists _; iexact HF0_src
    isplitl [HF1]
    · iexact HF1
    isplitl [HF1_src]
    · iexists _; iexact HF1_src
    isplitl [HI0]
    · iexact HI0
    isplitl [HI0_src]
    · iexists _; iexact HI0_src
    isplitl [HI1]
    · iexact HI1
    isplitl [HI1_src]
    · iexists _; iexact HI1_src
    iexists _; iexact HW

end Cert.KernelIdeal.PoolBwd
-- ==== Proof.Call.lean ====
/-
  The whole call of the pooling-gradient kernel. What every step leaves is named: the sums after a step, the rows kept
  for the next step, and the two tiles copied out. The staged windows, the kept rows and the copies are put together
  into what holds between two steps, every step is shown to carry it on, and the call ends with the three results
  holding what the steps wrote.
-/

module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp
public import proofs.«01_k».proof.Proof.StepD

@[expose] public section

set_option maxRecDepth 16384

noncomputable section

namespace Cert.KernelIdeal.PoolBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the steps leave -/

/-- Step `k` of the eleven. -/
def stp (k : ℕ) : Fin cfg0.N := ⟨k % 11, by rw [show cfg0.N = 11 from N_0]; omega⟩
theorem stp_val (t : Fin cfg0.N) : stp t.val = t :=
  Fin.ext (Nat.mod_eq_of_lt (lt_of_lt_of_eq t.isLt (show cfg0.N = 11 from N_0)))

/-- The blocks of the six staged arrays at a step. -/
def dmAt (c : Dev nD) (t : Fin cfg0.N) : Vec F S384x2048 .f32 := iblk m c 0 t
def gpAt (c : Dev nD) (t : Fin cfg0.N) : Vec F S384x2048 .f32 := iblk m c 1 t
def yAt (c : Dev nD) (t : Fin cfg0.N) : Vec F S384x2048 .f32 := iblk m c 2 t
def dAt (c : Dev nD) (t : Fin cfg0.N) : Vec F S384x2048 .bf16 := iblk m c 3 t
def scAt (c : Dev nD) (t : Fin cfg0.N) : Vec F S1x2048 .f32 := iblk m c 4 t
def wAt (c : Dev nD) (t : Fin cfg0.N) : Vec F S4x512x512 .bf16 := iblk m c 5 t

/-- The rows kept when step `k` begins. -/
def rowsAt (c : Dev nD) : ℕ → Vec F S16x2048 .f32
  | 0 => k0_pay2
  | k + 1 => kept (grid0.coords (stp k)) (dmAt m c (stp k)) (gpAt m c (stp k)) (scAt m c (stp k)) (wAt m c (stp k))
/-- The sum for the weights before step `k`. -/
def wSum (c : Dev nD) : ℕ → Vec F S4x512x512 .f32
  | 0 => k0_pay3
  | k + 1 => wAcc (dmAt m c (stp k)) (gpAt m c (stp k)) (dAt m c (stp k)) (scAt m c (stp k)) (wSum c k)
/-- The sum for the scale before step `k`. -/
def scSum (c : Dev nD) : ℕ → Vec F S1x2048 .f32
  | 0 => k0_pay4
  | k + 1 => scAcc (dmAt m c (stp k)) (gpAt m c (stp k)) (yAt m c (stp k)) (scSum c k)
/-- The tile step `u` copies out as member `k`. -/
def tileOf (c : Dev nD) (u : Fin 11) (k : Fin 2) : Vec F S384x2048 .bf16 :=
  if k = 0 then valueTile (grid0.coords (stp u)) (dmAt m c (stp u)) (gpAt m c (stp u)) (scAt m c (stp u)) (wAt m c (stp u)) (rowsAt m c u)
  else gateTile (dmAt m c (stp u)) (gpAt m c (stp u)) (yAt m c (stp u)) (scAt m c (stp u))

theorem bk_val11 (t : Fin cfg0.N) : (Ring.bk 11 t.val).val = t.val :=
  Ring.bk_val (lt_of_lt_of_eq t.isLt (show cfg0.N = 11 from N_0))
theorem tileOf_zero (c : Dev nD) (t : Fin cfg0.N) :
    tileOf m c (Ring.bk 11 t.val) 0 = valueTile (grid0.coords t) (dmAt m c t) (gpAt m c t) (scAt m c t) (wAt m c t) (rowsAt m c t.val) := by
  unfold tileOf; rw [if_pos rfl, bk_val11, stp_val]
theorem tileOf_one (c : Dev nD) (t : Fin cfg0.N) :
    tileOf m c (Ring.bk 11 t.val) 1 = gateTile (dmAt m c t) (gpAt m c t) (yAt m c t) (scAt m c t) := by
  unfold tileOf; rw [if_neg (by decide), bk_val11, stp_val]
theorem rowsAt_succ (c : Dev nD) (t : Fin cfg0.N) :
    rowsAt m c (t.val + 1) = kept (grid0.coords t) (dmAt m c t) (gpAt m c t) (scAt m c t) (wAt m c t) := by
  show kept _ _ _ _ _ = _; rw [stp_val]
theorem wSum_succ (c : Dev nD) (t : Fin cfg0.N) :
    wSum m c (t.val + 1) = wAcc (dmAt m c t) (gpAt m c t) (dAt m c t) (scAt m c t) (wSum m c t.val) := by
  show wAcc _ _ _ _ _ = _; rw [stp_val]
theorem scSum_succ (c : Dev nD) (t : Fin cfg0.N) :
    scSum m c (t.val + 1) = scAcc (dmAt m c t) (gpAt m c t) (yAt m c t) (scSum m c t.val) := by
  show scAcc _ _ _ _ = _; rw [stp_val]

/-! ## What holds between two steps -/

/-- The kept rows before step `k`: any before the first. -/
def rowsHeld (c : Dev nD) (k : ℕ) : sProp 𝕄 :=
  if k = 0 then iprop(∃ d, owns (c : Thread nD τ) halo fullShare d) else owns (c : Thread nD τ) halo fullShare (rowsAt m c k)
theorem rowsHeld_zero (c : Dev nD) (k : ℕ) (h : k = 0) : rowsHeld m c k = iprop(∃ d, owns (c : Thread nD τ) halo fullShare d) := if_pos h
theorem rowsHeld_pos (c : Dev nD) (k : ℕ) (h : k ≠ 0) : rowsHeld m c k = (owns (c : Thread nD τ) halo fullShare (rowsAt m c k)) := if_neg h

/-- Before step `k`: the kept rows, the generator register, and the copies. -/
def heldAt (c : Dev nD) (k : ℕ) : sProp 𝕄 :=
  iprop(rowsHeld m c k ∗ (∃ r, prngReg c r) ∗ copiesAt c (tileOf m c) k ∗ tileRest c ∗ outRest c (V m c main_v63_0))

/-- The windows, step by step: an input holds its block, the two outputs the sums so far. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => wSum m c (t.val + 1)
    | ⟨7, _⟩ => scSum m c (t.val + 1)
  Φ t := heldAt m c t.val
  q _ := fullShare
  owed _ := 0

theorem A_eq (c : Dev nD) (w : Fin cfg0.W) : (dats m 0 c).A w = V m c (Pipeline.arrRef spec0 w) := by
  dsimp only [dats]
theorem held_before (c : Dev nD) (t : Fin cfg0.N) : (dats m 0 c).Φ t.castSucc = heldAt m c t.val := by
  dsimp only [dats]; simp only [Fin.coe_castSucc]
theorem held_after (c : Dev nD) (t : Fin cfg0.N) : (dats m 0 c).Φ t.succ = heldAt m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = wSum m c (t.val + 1) := by dsimp only [dats]
theorem after_7 (c : Dev nD) (t : Fin cfg0.N) : (dats m 0 c).after 7 t = scSum m c (t.val + 1) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
      (fun t => by rw [after_5]; unfold Dat.blockOf iblk; rw [A_eq]; try rfl) t d).trans
    (by unfold Dat.fetched Dat.blockOf iblk; rw [A_eq]; try rfl)
theorem before_6 (c : Dev nD) (t : Fin cfg0.N) (h : t.val ≠ 0) (d) : (dats m 0 c).before 6 t d = wSum m c t.val := by
  rw [Dat.before_out_kept _ 6 rfl t h (Bool.eq_false_iff.mpr fun hf => by
      have := (flush0_6 _).mp hf; have := lt_of_lt_of_eq t.isLt (show cfg0.N = 11 from N_0); dsimp only at *; omega)
    (fun _ => rfl) (fun _ _ => rfl), after_6]
  exact congrArg (wSum m c) (by dsimp only; omega)
theorem before_7 (c : Dev nD) (t : Fin cfg0.N) (h : t.val ≠ 0) (d) : (dats m 0 c).before 7 t d = scSum m c t.val := by
  rw [Dat.before_out_kept _ 7 rfl t h (Bool.eq_false_iff.mpr fun hf => by
      have := (flush0_7 _).mp hf; have := lt_of_lt_of_eq t.isLt (show cfg0.N = 11 from N_0); dsimp only at *; omega)
    (fun _ => rfl) (fun _ _ => rfl), after_7]
  exact congrArg (scSum m c) (by dsimp only; omega)

/-! ## Every step carries it on -/

/-- What the body is given at step `t`, window by window, -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))
/-- and what it gives back. -/
def givenBack (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t))

set_option maxHeartbeats 3200000 in
theorem step_sound (c : Dev nD) (t : Fin cfg0.N) :
    given m c t ⊢ wp frame (wpE (defs₀ (F := F)) Variants.none c none) Set.univ (bodyAt0 t) (fun _ => givenBack m c t) := by
  unfold given givenBack bodyAt0
  simp only [before_0, before_1, before_2, before_3, before_4, before_5]
  rw [after_0, after_1, after_2, after_3, after_4, after_5, after_6, after_7]
  rw [held_before m c t, held_after m c t]
  unfold Dat.owesAt Pipeline.owesWithin
  rw [show (dats m 0 c).owed t.castSucc = 0 from rfl, show (dats m 0 c).owed t.succ = 0 from rfl]
  unfold heldAt copiesAt
  have hN : t.val < 11 := lt_of_lt_of_eq t.isLt (show cfg0.N = 11 from N_0)
  rw [rowsHeld_pos m c (t.val + 1) (by omega), rowsAt_succ]
  have hv0 := tileOf_zero m c t
  have hv1 := tileOf_one m c t

  by_cases h0 : t.val = 0
  · rw [Ring.AtBΦ_lt _ _ _ _ _ t.val (by omega), Ring.AtB2_zero' 2 _ _ _ _ t.val h0, Ring.AtBΦ_lt _ _ _ _ _ (t.val + 1) (by omega), Ring.AtB22_next_zero' _ _ _ _ t.val h0]
    rw [rowsHeld_zero m c t.val h0]
    iintro ⟨⟨HS0, Hg, ⟨⟨⟨Hp0, Hp1⟩, HA⟩, ⟨⟨Hq0, Ht0⟩, ⟨Hq1, Ht1⟩⟩, Hfx⟩, HTr, HOr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (stepA c t _ _ _ _ _ _ _ _ _ _ _ _ _ _ _ _ _ _ (fun h => absurd ((waits2_iff t).mp h) (by omega)) ((clears_iff t).mpr h0) (fun h => absurd ((drains_iff t).mp h) (by omega)) (iblk m c 0 t) (iblk m c 1 t) (iblk m c 2 t) (iblk m c 3 t) (iblk m c 4 t) (iblk m c 5 t) (tileOf m c) (hv0.trans (by rw [h0]; rfl)) hv1 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [Hp0]; · iexact Hp0
    isplitl [Hp1]; · iexact Hp1
    isplitl [Hq0]; · iexact Hq0
    isplitl [Ht0]; · iexact Ht0
    isplitl [Hq1]; · iexact Hq1
    isplitl [Ht1]; · iexact Ht1
    isplitl [HW]; · iexact HW
    iintro ⟨H0, H1, H2, H3, H4, H5, H6, H7, HS0, Hn0, Hn1, ⟨%W', HW'⟩⟩
    isplitl [HS0 Hg HA Hfx Hn0 Hn1 HTr HOr]
    · isplitl [HS0]
      · iexact HS0
      isplitl [Hg]
      · iexact Hg
      isplitl [HA Hfx Hn0 Hn1]
      · isplitl [HA]
        · iexact HA
        isplitl [Hfx]
        · iexact Hfx
        isplitl [Hn0]
        · iexact Hn0
        iexact Hn1
      isplitl [HTr]
      · iexact HTr
      iexact HOr
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iapply (Entails.of_eq (congrArg (fun x => (owns (c : Thread nD τ) (stg6 t) fullShare x : sProp 𝕄)) ((wSum_succ m c t).trans (by rw [h0]; first | done | rfl)).symm)); iexact H6
    iapply (Entails.of_eq (congrArg (fun x => (owns (c : Thread nD τ) (stg7 t) fullShare x : sProp 𝕄)) ((scSum_succ m c t).trans (by rw [h0]; first | done | rfl)).symm)); iexact H7
  by_cases h1 : t.val = 1
  · simp only [before_6 m c t h0, before_7 m c t h0]
    rw [Ring.AtBΦ_lt _ _ _ _ _ t.val (by omega), Ring.AtB22_one' _ _ _ _ t.val h1 (by decide), Ring.AtBΦ_lt _ _ _ _ _ (t.val + 1) (by omega), Ring.AtB22_next_one' _ _ _ _ t.val h1]
    rw [rowsHeld_pos m c t.val h0]
    iintro ⟨⟨HS0, Hg, ⟨⟨⟨Hp0, Hp1⟩, HA⟩, ⟨⟨Hq0, Ht0⟩, ⟨Hq1, Ht1⟩⟩, Hcar⟩, HTr, HOr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (stepB c t _ _ _ _ _ _ _ _ _ _ _ _ _ _ _ _ _ _ (fun h => absurd ((waits2_iff t).mp h) (by omega)) (fun h => h0 ((clears_iff t).mp h)) (fun h => absurd ((drains_iff t).mp h) (by omega)) (iblk m c 0 t) (iblk m c 1 t) (iblk m c 2 t) (iblk m c 3 t) (iblk m c 4 t) (iblk m c 5 t) (wSum m c t.val) (scSum m c t.val) (rowsAt m c t.val) (tileOf m c) hv0 hv1 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [Hp0]; · iexact Hp0
    isplitl [Hp1]; · iexact Hp1
    isplitl [Hq0]; · iexact Hq0
    isplitl [Ht0]; · iexact Ht0
    isplitl [Hq1]; · iexact Hq1
    isplitl [Ht1]; · iexact Ht1
    isplitl [HW]; · iexact HW
    iintro ⟨H0, H1, H2, H3, H4, H5, H6, H7, HS0, Hn0, Hn1, ⟨%W', HW'⟩⟩
    isplitl [HS0 Hg HA Hcar Hn0 Hn1 HTr HOr]
    · isplitl [HS0]
      · iexact HS0
      isplitl [Hg]
      · iexact Hg
      isplitl [HA Hcar Hn0 Hn1]
      · isplitl [HA]
        · iexact HA
        isplitl [Hcar]
        · iexact Hcar
        isplitl [Hn0]
        · iexact Hn0
        iexact Hn1
      isplitl [HTr]
      · iexact HTr
      iexact HOr
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iapply (Entails.of_eq (congrArg (fun x => (owns (c : Thread nD τ) (stg6 t) fullShare x : sProp 𝕄)) (wSum_succ m c t).symm)); iexact H6
    iapply (Entails.of_eq (congrArg (fun x => (owns (c : Thread nD τ) (stg7 t) fullShare x : sProp 𝕄)) (scSum_succ m c t).symm)); iexact H7
  have h2 : 2 ≤ t.val := by omega
  by_cases h10 : t.val = 10
  · simp only [before_6 m c t h0, before_7 m c t h0]
    rw [Ring.AtBΦ_lt _ _ _ _ _ t.val (by omega), Ring.AtB22_here_last _ _ _ _ t.val h2 (by omega), Ring.AtBΦ_end _ _ _ _ _ (t.val + 1) (by omega), Ring.AtB22_drained _ _ t.val h2 (by omega)]
    rw [rowsHeld_pos m c t.val h0]
    iintro ⟨⟨HS0, Hg, ⟨⟨Hp0, Hp1⟩, HB, ⟨HF0, HF1⟩, ⟨HI0, HI1⟩⟩, HTr, HOr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (stepD c t _ _ _ _ _ _ _ _ _ _ _ _ _ _ _ _ _ _ ((waits2_iff t).mpr h2) (fun h => h0 ((clears_iff t).mp h)) ((drains_iff t).mpr h10) (iblk m c 0 t) (iblk m c 1 t) (iblk m c 2 t) (iblk m c 3 t) (iblk m c 4 t) (iblk m c 5 t) (wSum m c t.val) (scSum m c t.val) (rowsAt m c t.val) (tileOf m c) hv0 hv1 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [Hp0]; · iexact Hp0
    isplitl [Hp1]; · iexact Hp1
    isplitl [HF0]; · iexact HF0
    isplitl [HF1]; · iexact HF1
    isplitl [HI0]; · iexact HI0
    isplitl [HI1]; · iexact HI1
    isplitl [HW]; · iexact HW
    iintro ⟨H0, H1, H2, H3, H4, H5, H6, H7, HS0, Ho0, Ho1, Hl0, Hl1, Hm0, Hm1, Hqo0, Hto0, Hqo1, Hto1, Hqp0, Htp0, Hqp1, Htp1, ⟨%W', HW'⟩⟩
    isplitl [HS0 Hg Ho0 Ho1 Hl0 Hl1 Hm0 Hm1 HB Hqo0 Hto0 Hqo1 Hto1 Hqp0 Htp0 Hqp1 Htp1 HTr HOr]
    · isplitl [HS0]
      · iexact HS0
      isplitl [Hg]
      · iexact Hg
      isplitl [Ho0 Ho1 Hl0 Hl1 Hm0 Hm1 HB Hqo0 Hto0 Hqo1 Hto1 Hqp0 Htp0 Hqp1 Htp1]
      · isplitl [Ho0 Ho1 Hl0 Hl1 Hm0 Hm1 HB]
        · isplitl [Ho0 Ho1]
          · isplitl [Ho0]
            · iexact Ho0
            iexact Ho1
          isplitl [Hl0 Hl1]
          · isplitl [Hl0]
            · iexact Hl0
            iexact Hl1
          isplitl [Hm0 Hm1]
          · isplitl [Hm0]
            · iexact Hm0
            iexact Hm1
          iexact HB
        isplitl [Hqo0 Hto0 Hqo1 Hto1]
        · isplitl [Hqo0 Hto0]
          · isplitl [Hqo0]
            · iexact Hqo0
            iexact Hto0
          isplitl [Hqo1]
          · iexact Hqo1
          iexact Hto1
        isplitl [Hqp0 Htp0]
        · isplitl [Hqp0]
          · iexact Hqp0
          iexact Htp0
        isplitl [Hqp1]
        · iexact Hqp1
        iexact Htp1
      isplitl [HTr]
      · iexact HTr
      iexact HOr
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iapply (Entails.of_eq (congrArg (fun x => (owns (c : Thread nD τ) (stg6 t) fullShare x : sProp 𝕄)) (wSum_succ m c t).symm)); iexact H6
    iapply (Entails.of_eq (congrArg (fun x => (owns (c : Thread nD τ) (stg7 t) fullShare x : sProp 𝕄)) (scSum_succ m c t).symm)); iexact H7
  · simp only [before_6 m c t h0, before_7 m c t h0]
    rw [Ring.AtBΦ_lt _ _ _ _ _ t.val (by omega), Ring.AtB22_here _ _ _ _ t.val h2 (by omega), Ring.AtBΦ_lt _ _ _ _ _ (t.val + 1) (by omega), Ring.AtB22_next _ _ _ _ t.val h2 (by omega)]
    rw [rowsHeld_pos m c t.val h0]
    iintro ⟨⟨HS0, Hg, ⟨⟨⟨Hp0, Hp1⟩, HA⟩, HB, ⟨HF0, HF1⟩, Hcar⟩, HTr, HOr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (stepC c t _ _ _ _ _ _ _ _ _ _ _ _ _ _ _ _ _ _ ((waits2_iff t).mpr h2) (fun h => h0 ((clears_iff t).mp h)) (fun h => absurd ((drains_iff t).mp h) (by omega)) (iblk m c 0 t) (iblk m c 1 t) (iblk m c 2 t) (iblk m c 3 t) (iblk m c 4 t) (iblk m c 5 t) (wSum m c t.val) (scSum m c t.val) (rowsAt m c t.val) (tileOf m c) hv0 hv1 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [Hp0]; · iexact Hp0
    isplitl [Hp1]; · iexact Hp1
    isplitl [HF0]; · iexact HF0
    isplitl [HF1]; · iexact HF1
    isplitl [HW]; · iexact HW
    iintro ⟨H0, H1, H2, H3, H4, H5, H6, H7, HS0, Hl0, Hl1, Hn0, Hn1, ⟨%W', HW'⟩⟩
    isplitl [HS0 Hg HA Hl0 Hl1 HB Hcar Hn0 Hn1 HTr HOr]
    · isplitl [HS0]
      · iexact HS0
      isplitl [Hg]
      · iexact Hg
      isplitl [HA Hl0 Hl1 HB Hcar Hn0 Hn1]
      · isplitl [HA]
        · iexact HA
        isplitl [Hl0 Hl1 HB]
        · isplitl [Hl0 Hl1]
          · isplitl [Hl0]
            · iexact Hl0
            iexact Hl1
          iexact HB
        isplitl [Hcar]
        · iexact Hcar
        isplitl [Hn0]
        · iexact Hn0
        iexact Hn1
      isplitl [HTr]
      · iexact HTr
      iexact HOr
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iapply (Entails.of_eq (congrArg (fun x => (owns (c : Thread nD τ) (stg6 t) fullShare x : sProp 𝕄)) (wSum_succ m c t).symm)); iexact H6
    iapply (Entails.of_eq (congrArg (fun x => (owns (c : Thread nD τ) (stg7 t) fullShare x : sProp 𝕄)) (scSum_succ m c t).symm)); iexact H7

theorem defs₀_row (t : Fin cfg0.N) : defs₀ (F := F) .tc cfg0.body (cfg0.bodyArgs t (cfg0.slots t)) = bodyAt0 t := by
  unfold defs₀; rw [Defs.onTc_tc]

theorem steps_sound (c : Dev nD) : BodyObligation (dats (F := F) m 0 c) (defs₀ (F := F)) Variants.none () Set.univ := fun t => by
  rw [bigSep_W0, bigSep_W0, defs₀_row]
  exact triple_restated (step_sound m c t) rfl .rfl fun _ => .rfl

/-! ## The result the copies write -/

/-- The result array after the call: the blocks of the first and the fourth quarter's columns as the steps wrote them,
    and elsewhere what was there. -/
def destEnd (c : Dev nD) : Buf (Elt F) ((c : Thread nD τ).loc main_v63_0) := fun i : S4224x10240.Idx =>
  if (i 1).val < 2048 then
    tileOf m c (Ring.bk 11 (10 - (i 0).val / 384)) 0 (ValueIdx.ix2 (Fin.ofNat 384 (i 0).val) (Fin.ofNat 2048 (i 1).val))
  else if 6144 ≤ (i 1).val ∧ (i 1).val < 8192 then
    tileOf m c (Ring.bk 11 (10 - (i 0).val / 384)) 1 (ValueIdx.ix2 (Fin.ofNat 384 (i 0).val) (Fin.ofNat 2048 (i 1).val))
  else V m c main_v63_0 i

theorem destEnd_block (c : Dev nD) (u : Fin 11) (k : Fin 2) : (outBox u k).view.read (Elt F) (destEnd m c) = tileOf m c u k := by
  funext j
  have hj0 : (j 0).val < 384 := (j 0).isLt
  have hj1 : (j 1).val < 2048 := (j 1).isLt
  have hu := u.isLt
  set i : S4224x10240.Idx := (Rect.unit (s := S4224x10240) ![384 * (10 - u.val), 6144 * k.val] S384x2048.size (outBox_inb u k)).idx j with hi
  have h0 : (i 0).val = 384 * (10 - u.val) + 1 * (j 0).val := rfl
  have h1 : (i 1).val = 6144 * k.val + 1 * (j 1).val := rfl
  have hb : Ring.bk 11 (10 - (i 0).val / 384) = u := Fin.ext ((Ring.bk_val (by omega)).trans (by omega))
  have hx : (ValueIdx.ix2 (Fin.ofNat 384 (i 0).val) (Fin.ofNat 2048 (i 1).val) : S384x2048.Idx) = j := by
    funext a
    match a with
    | ⟨0, _⟩ => exact Fin.ext (by show (i 0).val % 384 = (j 0).val; omega)
    | ⟨1, _⟩ => exact Fin.ext (by show (i 1).val % 2048 = (j 1).val; omega)
  show destEnd m c i = _
  unfold destEnd
  rw [hb, hx]
  have hk := k.isLt
  rcases (show k = 0 ∨ k = 1 by omega) with rfl | rfl
  · rw [if_pos (by simp at h1; omega)]
  · rw [if_neg (by simp at h1; omega), if_pos (by simp at h1; omega)]

theorem destEnd_rest (c : Dev nD) : ∀ i ∈ Finset.univ \ Finset.univ.biUnion outSet, V m c main_v63_0 i = destEnd m c i := by
  intro (i : S4224x10240.Idx) hi
  have hni : ∀ u k, i ∉ outSet (u, k) := fun u k h => (Finset.mem_sdiff.mp hi).2 (Finset.mem_biUnion.mpr ⟨(u, k), Finset.mem_univ _, h⟩)
  have hi0 : (i 0).val < 4224 := (i 0).isLt
  have hmem : ∀ (u : Fin 11) (k : Fin 2), u.val = 10 - (i 0).val / 384 → 6144 * k.val ≤ (i 1).val → (i 1).val < 6144 * k.val + 2048 → i ∈ outSet (u, k) := by
    intro u k h0 h1 h2
    have hu := u.isLt
    refine Rect.mem_set_unit.mpr fun a => ?_
    match a with
    | ⟨0, _⟩ => exact ⟨by show 384 * (10 - u.val) ≤ (i 0).val; omega, by show (i 0).val < 384 * (10 - u.val) + 384; omega⟩
    | ⟨1, _⟩ => exact ⟨h1, h2⟩
  unfold destEnd
  rw [if_neg, if_neg]
  · intro h
    exact hni ⟨10 - (i 0).val / 384, by omega⟩ 1 (hmem _ _ rfl h.1 h.2)
  · intro h
    exact hni ⟨10 - (i 0).val / 384, by omega⟩ 0 (hmem _ _ rfl (by simp) (by simpa using h))

/-! ## The call -/

/-- The cells the copies are counted on. -/
def copyCells : Fin 4 → SemLoc sig := fun j => (![SemLoc.dma 12, SemLoc.dma 13, SemLoc.dma 14, SemLoc.dma 15] : Fin 4 → SemLoc sig) j
theorem copyCells_own : Pipeline.OwnSemFacts spec0 copyCells := by decide
theorem copyCells_eq (c : Dev nD) :
    (Pipeline.ownSems0 (Ix := Unit) (Name := ℕ) (U := Pipeline.UD sig nD τ) (Lvl := ℕ) (Val := Elt F) (τ := τ) copyCells c : sProp 𝕄) = cellsAt0 c := by
  rw [Pipeline.ownSems0_eq_of_list c copyCells [0, 1, 2, 3] (by decide) (by decide)]; rfl
abbrev writtenRefs : Finset (Ref sig .tc) := {main_v63_0}
theorem writtenRefs_sub : writtenRefs ⊆ Pipeline.restRefs sig spec0 \ (∅ : Finset (Ref sig .tc)) := by decide

/-- Every array after the call, as far as the copies write them. -/
def arraysEnd (c : Dev nD) (b : Ref sig .tc) : Buf (Elt F) ((c : Thread nD τ).loc b) :=
  Function.update (V m c) main_v63_0 (destEnd m c) b

theorem ends_eq (W : (c : Dev nD) → (b : Ref sig .tc) → Buf (Elt F) ((c : Thread nD τ).loc b)) (c : Dev nD) :
    (Pipeline.ΦDRG copyCells spec0 ∅ writtenRefs (V m) W c : sProp 𝕄)
      = iprop(((∃ d, owns (c : Thread nD τ) halo fullShare d) ∗ (∃ d, owns (c : Thread nD τ) tiles fullShare d)) ∗ (∃ r, prngReg c r)
          ∗ cellsAt0 c ∗ iprop(emp) ∗ holds c dest (W c main_v63_0)) := by
  rw [Pipeline.ΦDRG_eq, scopedRest0_eq, copyCells_eq]
  unfold Pipeline.routed
  rw [BI.bigSep_empty, BI.bigSep_singleton]
  simp only [halo, tiles, owns_whole]
  rfl

theorem call_begins (c : Dev nD) : Pipeline.ΦDRG copyCells spec0 ∅ writtenRefs (V m) (V m) c ⊢ (dats m 0 c).Φ 0 := by
  rw [ends_eq, show (dats m 0 c).Φ 0 = heldAt m c 0 from rfl]
  unfold heldAt; rw [rowsHeld_zero m c 0 rfl]
  iintro ⟨⟨HS, HT⟩, Hg, HC, -, HO⟩
  isplitl [HS]; · iexact HS
  isplitl [Hg]; · iexact Hg
  iapply (copies_start c (tileOf m c) (V m c main_v63_0))
  isplitl [HT]; · iexact HT
  isplitl [HC]; · iexact HC
  iexact HO

theorem arraysEnd_dest (c : Dev nD) : arraysEnd m c main_v63_0 = destEnd m c := by
  unfold arraysEnd; rw [Function.update_self]

theorem call_ends (c : Dev nD) : (dats m 0 c).Φ (Fin.last cfg0.N) ⊢ Pipeline.ΦDRG copyCells spec0 ∅ writtenRefs (V m) (arraysEnd m) c := by
  rw [ends_eq, arraysEnd_dest, show (dats m 0 c).Φ (Fin.last cfg0.N) = heldAt m c grid0.N from rfl]
  unfold heldAt
  rw [show grid0.N = 11 from N_0, rowsHeld_pos m c 11 (by decide)]
  iintro ⟨HS, Hg, HR⟩
  ihave HX := (copies_finish c (tileOf m c) (V m c main_v63_0) (destEnd m c) (destEnd_block m c) (destEnd_rest m c)) $$ HR
  icases HX with ⟨HT, HC, HO⟩
  isplitl [HS HT]
  · isplitl [HS]; · iexists _; iexact HS
    iexact HT
  isplitl [Hg]; · iexact Hg
  isplitl [HC]; · iexact HC
  isplitr; · iempintro
  iexact HO

set_option maxHeartbeats 800000 in
theorem main_reaches : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program: it ends, the windows' arrays and the copied-out array hold what the steps wrote, every other
    array is as the call found it, and every semaphore is at zero. -/
theorem call_run : θ_run defs (onTc (τ := τ) (main (F := F))) (s₀ m ρ)
    (fun r => Pipeline.FramePostRG cfgs (dats m) 0 writtenRefs (V m) (arraysEnd m) r ∧ r.2.sem = fun _ => 0) :=
  Pipeline.θ_run_frame_dmaRG (Q' := _) cfgs (dats m) (0 : Fin 1) launch0 copyCells defs₀ Variants.none copyCells_own ∅ writtenRefs
    (Finset.empty_subset _) writtenRefs_sub m ρ main
    (hbody := fun c => (steps_sound m c).loose) (hshare := fun c => (dats m 0 c).share_full fun _ => rfl)
    (howed := fun _ _ => rfl) (V := V m) (hmain := main_reaches m) (hA := A_eq m) (G := arraysEnd m) (hin := call_begins m) (hout := call_ends m)

/-- The arguments are unchanged and every semaphore is at zero. -/
theorem call_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1.1 c).1 1).trans (((dats m 0 c).arrAt_in 1 rfl _).trans ((A_eq m c 1).trans (V_main_arg0 m c))),
      ((h.1.1 c).2 main_arg1 (Finset.mem_sdiff.mpr ⟨Pipeline.mem_restRefs_of main_arg1 (by decide) (by decide), by decide⟩)).trans (V_main_arg1 m c),
      ((h.1.1 c).1 4).trans (((dats m 0 c).arrAt_in 4 rfl _).trans ((A_eq m c 4).trans (V_main_arg2 m c))),
      ((h.1.1 c).1 0).trans (((dats m 0 c).arrAt_in 0 rfl _).trans ((A_eq m c 0).trans (V_main_arg3 m c)))⟩, h.2⟩) (call_run m ρ)

end Cert.KernelIdeal.PoolBwd

end
-- ==== Proof.Spec.lean ====
/-
  The gradient of the pooling mixer, entry by entry, as both programs compute it: the cotangent through the gate, the
  gradient of the pooled rows, its quotient by the number of rows pooled, and sums of that over a window.
-/

module

public import Idealize.ShloMosaic.Lib.Pointwise
public import Idealize.ShloMosaic.PureOps.Ideal

@[expose] public section

noncomputable section

namespace Cert.PoolSpec

open Idealize.ShloMosaic

/-- Column `k` of group `g`. -/
def gcol (g : Fin 4) (k : Fin 512) : Fin 2048 := ⟨g.val * 512 + k.val, by omega⟩

theorem gcol_0 (k : Fin 512) : gcol 0 k = ⟨k.val, by omega⟩ := Fin.ext (by simp [gcol])
theorem gcol_1 (k : Fin 512) : gcol 1 k = ⟨512 + k.val, by omega⟩ := Fin.ext (by simp [gcol])
theorem gcol_2 (k : Fin 512) : gcol 2 k = ⟨1024 + k.val, by omega⟩ := Fin.ext (by simp [gcol])
theorem gcol_3 (k : Fin 512) : gcol 3 k = ⟨1536 + k.val, by omega⟩ := Fin.ext (by simp [gcol])

/-- How many rows each group pools. -/
def winN : Fin 4 → ℕ := ![2, 4, 8, 16]
def winB : Fin 4 → BitVec 32 := ![2#32, 4#32, 8#32, 16#32]

/-- The number of rows group `g` has pooled at row `n`: fewer at the first rows. -/
def count (g : Fin 4) (n : ℕ) : EReal := FloatOps.sitofp (F := Ideal) .f32 (IntOp.minsi (BitVec.ofNat 32 (n + 1)) (winB g))

section
variable {R : ℕ} (dm gp : (⟨2, ![R, 2048]⟩ : Shape).Idx → EReal) (sc : (⟨2, ![1, 2048]⟩ : Shape).Idx → EReal)
  (w : (⟨3, ![4, 512, 512]⟩ : Shape).Idx → EReal)

/-- The cotangent through the gate. -/
def gatedS (r : Fin R) (j : Fin 2048) : EReal := dm (ix2 r j) * Ideal.logistic (gp (ix2 r j))

/-- It scaled. -/
def dyS (r : Fin R) (j : Fin 2048) : EReal := gatedS dm gp r j * sc (ix2 0 j)

/-- The gradient of the pooled rows of group `g`. -/
def ddS (g : Fin 4) (r : Fin R) (c : Fin 512) : EReal := ∑ k : Fin 512, dyS dm gp sc r (gcol g k) * w (ix3 g c k)
end

section
variable (dm gp : (⟨2, ![4224, 2048]⟩ : Shape).Idx → EReal) (sc : (⟨2, ![1, 2048]⟩ : Shape).Idx → EReal)
  (w : (⟨3, ![4, 512, 512]⟩ : Shape).Idx → EReal)

/-- That gradient's share per pooled row; nothing past the last row. -/
def qS (g : Fin 4) (c : Fin 512) (n : ℕ) : EReal := if h : n < 4224 then Ideal.div (ddS dm gp sc w g ⟨n, h⟩ c) (count g n) else 0

/-- The gradient of the values: the shares of the rows whose window holds this row, less the row's own. -/
def dvS (g : Fin 4) (c : Fin 512) (r : Fin 4224) : EReal := (∑ j ∈ Finset.range (winN g), qS dm gp sc w g c (r.val + j)) - ddS dm gp sc w g r c

/-- The gradient of the gate before its logistic. -/
def dgS (y : (⟨2, ![4224, 2048]⟩ : Shape).Idx → EReal) (r : Fin 4224) (j : Fin 2048) : EReal :=
  dm (ix2 r j) * (y (ix2 r j) * sc (ix2 0 j)) * Ideal.logistic (gp (ix2 r j)) * (1 - Ideal.logistic (gp (ix2 r j)))

/-- The gradients of the weights and of the scale, summed over the rows. -/
def dwS (d : (⟨2, ![4224, 2048]⟩ : Shape).Idx → EReal) (g : Fin 4) (c k : Fin 512) : EReal := ∑ r : Fin 4224, d (ix2 r (gcol g c)) * dyS dm gp sc r (gcol g k)
def dsS (y : (⟨2, ![4224, 2048]⟩ : Shape).Idx → EReal) (j : Fin 2048) : EReal := ∑ r : Fin 4224, gatedS dm gp r j * y (ix2 r j)
end

end Cert.PoolSpec
-- ==== Proof.Pure.lean ====
/-
  The functions of one step of the kernel at the exact numbers, read entry by entry.
-/

module

public import proofs.«01_k».proof.Proof.Tiles
public import proofs.«01_k».proof.Proof.Spec

@[expose] public section

set_option maxRecDepth 16384

noncomputable section

namespace Cert.KernelIdeal.PoolBwd

open Idealize.ShloMosaic Cert.PoolSpec Cert.KernelIdeal.Gen

theorem inner_apply {α : Type} {C : ℕ} (v : (⟨4, ![1, 1, 384, C]⟩ : Shape).Idx → α) (r : Fin 384) (j : Fin C) : inner v (ix2 r j) = v (ix4 0 0 r j) :=
  congrArg v (ix4_eq_valueIdx 0 0 r j).symm

theorem stacked_apply {α : Type} (w0 w1 w2 w3 : S1x512x512.Idx → α) (g : Fin 4) (c k : Fin 512) :
    stacked w0 w1 w2 w3 (ix3 g c k) = if g.val < 1 then w0 (ix3 0 c k) else if g.val < 2 then w1 (ix3 0 c k) else if g.val < 3 then w2 (ix3 0 c k) else w3 (ix3 0 c k) := by
  rw [ix3_eq_valueIdx 0 c k]; rfl

section Beside
variable {α : Type} {R : ℕ} (w0 w1 w2 w3 : (⟨2, ![R, 512]⟩ : Shape).Idx → α) (r : Fin R) (c : Fin 512)
theorem beside_0 : beside w0 w1 w2 w3 (ix2 r (gcol 0 c)) = w0 (ix2 r c) := by
  rw [gcol_0]
  unfold beside
  refine (dif_pos (show c.val < 512 by omega)).trans ?_
  refine congrArg w0 ((congrArg (ValueIdx.ix2 r) (Fin.ext ?_)).trans (ix2_eq_valueIdx r c).symm)
  show c.val = c.val
  omega
theorem beside_1 : beside w0 w1 w2 w3 (ix2 r (gcol 1 c)) = w1 (ix2 r c) := by
  rw [gcol_1]
  unfold beside
  refine (dif_neg (show ¬ 512 + c.val < 512 by omega)).trans ?_
  refine (dif_pos (show 512 + c.val < 1024 by omega)).trans ?_
  refine congrArg w1 ((congrArg (ValueIdx.ix2 r) (Fin.ext ?_)).trans (ix2_eq_valueIdx r c).symm)
  show 512 + c.val - 512 = c.val
  omega
theorem beside_2 : beside w0 w1 w2 w3 (ix2 r (gcol 2 c)) = w2 (ix2 r c) := by
  rw [gcol_2]
  unfold beside
  refine (dif_neg (show ¬ 1024 + c.val < 512 by omega)).trans ?_
  refine (dif_neg (show ¬ 1024 + c.val < 1024 by omega)).trans ?_
  refine (dif_pos (show 1024 + c.val < 1536 by omega)).trans ?_
  refine congrArg w2 ((congrArg (ValueIdx.ix2 r) (Fin.ext ?_)).trans (ix2_eq_valueIdx r c).symm)
  show 1024 + c.val - 1024 = c.val
  omega
theorem beside_3 : beside w0 w1 w2 w3 (ix2 r (gcol 3 c)) = w3 (ix2 r c) := by
  rw [gcol_3]
  unfold beside
  refine (dif_neg (show ¬ 1536 + c.val < 512 by omega)).trans ?_
  refine (dif_neg (show ¬ 1536 + c.val < 1024 by omega)).trans ?_
  refine (dif_neg (show ¬ 1536 + c.val < 1536 by omega)).trans ?_
  refine congrArg w3 ((congrArg (ValueIdx.ix2 r) (Fin.ext ?_)).trans (ix2_eq_valueIdx r c).symm)
  show 1536 + c.val - 1536 = c.val
  omega
end Beside

/-! ## Sums of a window by doubling

`s` is 400 rows; added to itself moved by a row it holds sums of two, and so on. -/

section Roll
/-- The first `m` rows of column `c` of `s` are `Q`'s. -/
def Rows (s : FVec Ideal S400x512 .f32) (c : Fin 512) (Q : ℕ → EReal) (m : ℕ) : Prop := ∀ n (hn : n < 400), n < m → s (ix2 ⟨n, hn⟩ c) = Q n

variable {s : FVec Ideal S400x512 .f32} {c : Fin 512} {Q : ℕ → EReal} {m : ℕ}
theorem roll_1 (h : Rows s c Q (m + 1)) (hm : m + 1 ≤ 400) :
    Rows (addf s (dynamicRotate 0 399#32 none s rotates_S400x512_d0)) c (fun n => Q n + Q (n + 1)) m := by
  intro n hn hnm
  pointwise
  rw [h n hn (by omega), ← h (n + 1) (by omega) (by omega)]
  refine congrArg (fun q => Q n + s (ix2 q c)) (Fin.ext ?_)
  show (n + 400 - 399) % 400 = n + 1
  omega
theorem roll_2 (h : Rows s c Q (m + 2)) (hm : m + 2 ≤ 400) :
    Rows (addf s (dynamicRotate 0 398#32 none s rotates_S400x512_d0)) c (fun n => Q n + Q (n + 2)) m := by
  intro n hn hnm
  pointwise
  rw [h n hn (by omega), ← h (n + 2) (by omega) (by omega)]
  refine congrArg (fun q => Q n + s (ix2 q c)) (Fin.ext ?_)
  show (n + 400 - 398) % 400 = n + 2
  omega
theorem roll_4 (h : Rows s c Q (m + 4)) (hm : m + 4 ≤ 400) :
    Rows (addf s (dynamicRotate 0 396#32 none s rotates_S400x512_d0)) c (fun n => Q n + Q (n + 4)) m := by
  intro n hn hnm
  pointwise
  rw [h n hn (by omega), ← h (n + 4) (by omega) (by omega)]
  refine congrArg (fun q => Q n + s (ix2 q c)) (Fin.ext ?_)
  show (n + 400 - 396) % 400 = n + 4
  omega
theorem roll_8 (h : Rows s c Q (m + 8)) (hm : m + 8 ≤ 400) :
    Rows (addf s (dynamicRotate 0 392#32 none s rotates_S400x512_d0)) c (fun n => Q n + Q (n + 8)) m := by
  intro n hn hnm
  pointwise
  rw [h n hn (by omega), ← h (n + 8) (by omega) (by omega)]
  refine congrArg (fun q => Q n + s (ix2 q c)) (Fin.ext ?_)
  show (n + 400 - 392) % 400 = n + 8
  omega

theorem rows_concat (q : FVec Ideal S384x512 .f32) (h : FVec Ideal S16x512 .f32) (b : ℕ) (c : Fin 512) (Q : ℕ → EReal)
    (hq : ∀ r : Fin 384, q (ix2 r c) = Q (b + r.val)) (hh : ∀ r : Fin 16, h (ix2 r c) = Q (b + 384 + r.val)) :
    Rows (concatenate S400x512 0 [⟨S384x512, q⟩, ⟨S16x512, h⟩] concatenates_S384x512_S16x512_S400x512_d0) c (fun n => Q (b + n)) 400 := by
  intro n hn _
  pointwise
  split
  · exact hq _
  · refine (hh _).trans (congrArg Q ?_)
    show b + 384 + (n - 384) = b + n
    omega
end Roll

section Step
variable (i : grid0.Coords) (dm gp y : FVec Ideal S384x2048 .f32) (d : FVec Ideal S384x2048 .bf16) (sc : FVec Ideal S1x2048 .f32) (w : FVec Ideal S4x512x512 .bf16)

theorem gated_apply (r : Fin 384) (j : Fin 2048) : gated (F := Ideal) dm gp (ix2 r j) = gatedS dm gp r j := by
  pointwise [k0_pay8, k0_pay7, gatedS]

theorem gateTile_apply (r : Fin 384) (j : Fin 2048) :
    gateTile (F := Ideal) dm gp y sc (ix2 r j)
      = dm (ix2 r j) * (y (ix2 r j) * sc (ix2 0 j)) * Ideal.logistic (gp (ix2 r j)) * (1 - Ideal.logistic (gp (ix2 r j))) := by
  pointwise [gateTile, inner_apply, k0_pay7, k0_pay9, k0_pay10, k0_pay11, k0_pay6]

theorem scAcc_apply (a : FVec Ideal S1x2048 .f32) (j : Fin 2048) :
    scAcc (F := Ideal) dm gp y a (ix2 0 j) = a (ix2 0 j) + ∑ r : Fin 384, gatedS dm gp r j * y (ix2 r j) := by
  pointwise [scAcc, k0_pay12, k0_pay6, k0_pay8, k0_pay7, gatedS]

theorem dd0_apply (r : Fin 384) (c : Fin 512) : dd0 (F := Ideal) dm gp sc w (ix2 r c) = ddS dm gp sc w 0 r c := by
  pointwise [k0_pay15, k0_pay14, k0_pay13, k0_pay8, k0_pay7, ddS, dyS, gatedS, gcol_0]
theorem dd1_apply (r : Fin 384) (c : Fin 512) : dd1 (F := Ideal) dm gp sc w (ix2 r c) = ddS dm gp sc w 1 r c := by
  pointwise [k0_pay22, k0_pay21, k0_pay13, k0_pay8, k0_pay7, ddS, dyS, gatedS, gcol_1]
theorem dd2_apply (r : Fin 384) (c : Fin 512) : dd2 (F := Ideal) dm gp sc w (ix2 r c) = ddS dm gp sc w 2 r c := by
  pointwise [k0_pay28, k0_pay27, k0_pay13, k0_pay8, k0_pay7, ddS, dyS, gatedS, gcol_2]
theorem dd3_apply (r : Fin 384) (c : Fin 512) : dd3 (F := Ideal) dm gp sc w (ix2 r c) = ddS dm gp sc w 3 r c := by
  pointwise [k0_pay35, k0_pay34, k0_pay13, k0_pay8, k0_pay7, ddS, dyS, gatedS, gcol_3]

theorem wAcc_apply (a : FVec Ideal S4x512x512 .f32) (g : Fin 4) (c k : Fin 512) :
    wAcc (F := Ideal) dm gp d sc a (ix3 g c k) = a (ix3 g c k) + ∑ r : Fin 384, d (ix2 r (gcol g c)) * dyS dm gp sc r (gcol g k) := by
  match g with
  | 0 => pointwise [wAcc, stacked_apply, k0_pay16, k0_pay14, k0_pay13, k0_pay8, k0_pay7, dyS, gatedS, gcol_0]
  | 1 => pointwise [wAcc, stacked_apply, k0_pay23, k0_pay21, k0_pay13, k0_pay8, k0_pay7, dyS, gatedS, gcol_1]
  | 2 => pointwise [wAcc, stacked_apply, k0_pay30, k0_pay29, k0_pay27, k0_pay13, k0_pay8, k0_pay7, dyS, gatedS, gcol_2]
  | 3 => pointwise [wAcc, stacked_apply, k0_pay36, k0_pay34, k0_pay13, k0_pay8, k0_pay7, dyS, gatedS, gcol_3]

/-- The step's first row, counted from the end of the rows. -/
theorem pay5_apply (b : ℕ) (hb : (i 0).val + b = 10) (r : Fin 384) : IntOp.addi (k0_pay5 i (ix2 r 0)) 1#32 = BitVec.ofNat 32 (b * 384 + r.val + 1) := by
  pointwise [k0_pay5]
  have h10 : Scalar.subi (10#32) (BitVec.ofNat 32 (i 0).val) = BitVec.ofNat 32 b := by
    have : (i 0).val < 11 := (i 0).isLt
    apply BitVec.eq_of_toNat_eq
    simp [Scalar.subi, IntOp.subi]
    omega
  rw [h10]
  simp only [Scalar.muli, IntOp.muli, IntOp.addi, ← BitVec.ofNat_mul, ← BitVec.ofNat_add]

theorem quot0_apply (v : FVec Ideal S384x512 .f32) (b : ℕ) (hb : (i 0).val + b = 10) (r : Fin 384) (c : Fin 512) :
    k0_pay18 (F := Ideal) v (k0_pay17 (k0_pay5 i)) (ix2 r c) = Ideal.div (v (ix2 r c)) (count 0 (b * 384 + r.val)) := by
  pointwise [k0_pay18, k0_pay17]
  rw [pay5_apply i b hb r]; rfl
theorem quot1_apply (v : FVec Ideal S384x512 .f32) (b : ℕ) (hb : (i 0).val + b = 10) (r : Fin 384) (c : Fin 512) :
    k0_pay24 (F := Ideal) (k0_pay5 i) v 1#32 (ix2 r c) = Ideal.div (v (ix2 r c)) (count 1 (b * 384 + r.val)) := by
  pointwise [k0_pay24]
  rw [pay5_apply i b hb r]; rfl
theorem quot2_apply (v : FVec Ideal S384x512 .f32) (b : ℕ) (hb : (i 0).val + b = 10) (r : Fin 384) (c : Fin 512) :
    k0_pay31 (F := Ideal) (k0_pay5 i) v (ix2 r c) = Ideal.div (v (ix2 r c)) (count 2 (b * 384 + r.val)) := by
  pointwise [k0_pay31]
  rw [pay5_apply i b hb r]; rfl
theorem quot3_apply (v : FVec Ideal S384x512 .f32) (b : ℕ) (hb : (i 0).val + b = 10) (r : Fin 384) (c : Fin 512) :
    k0_pay37 (F := Ideal) (k0_pay5 i) v (ix2 r c) = Ideal.div (v (ix2 r c)) (count 3 (b * 384 + r.val)) := by
  pointwise [k0_pay37]
  rw [pay5_apply i b hb r]; rfl
theorem win0_apply (v : FVec Ideal S384x512 .f32) (h : FVec Ideal S16x512 .f32) (b : ℕ) (r : Fin 384) (c : Fin 512) (Q : ℕ → EReal)
    (hq : ∀ r : Fin 384, k0_pay18 (F := Ideal) v (k0_pay17 (k0_pay5 i)) (ix2 r c) = Q (b + r.val)) (hh : ∀ r : Fin 16, h (ix2 r c) = Q (b + 384 + r.val)) :
    inner (k0_pay19 (F := Ideal) v (k0_pay17 (k0_pay5 i)) h) (ix2 r c) = (∑ j ∈ Finset.range (winN 0), Q (b + r.val + j)) - v (ix2 r c) := by
  rw [inner_apply]
  unfold k0_pay19
  revert hq
  generalize k0_pay18 (F := Ideal) v (k0_pay17 (k0_pay5 i)) = q
  intro hq
  have hr := roll_1 (m := 399) (rows_concat q h b c Q hq hh) (by omega)
  have hv := hr r.val (by omega) (by omega)
  revert hv
  generalize addf (F := Ideal) (s := S400x512) (φ := .f32) _ _ = s
  intro hv
  pointwise
  rw [hv]
  show _ - _ = (∑ j ∈ Finset.range 2, Q (b + r.val + j)) - _
  simp only [Finset.sum_range_succ, Finset.sum_range_zero, zero_add, add_zero, Nat.add_assoc, add_assoc, Nat.reduceAdd]
theorem win1_apply (v : FVec Ideal S384x512 .f32) (h : FVec Ideal S16x512 .f32) (b : ℕ) (r : Fin 384) (c : Fin 512) (Q : ℕ → EReal)
    (hq : ∀ r : Fin 384, k0_pay24 (F := Ideal) (k0_pay5 i) v 1#32 (ix2 r c) = Q (b + r.val)) (hh : ∀ r : Fin 16, h (ix2 r c) = Q (b + 384 + r.val)) :
    inner (k0_pay25 (F := Ideal) (k0_pay5 i) v 1#32 h) (ix2 r c) = (∑ j ∈ Finset.range (winN 1), Q (b + r.val + j)) - v (ix2 r c) := by
  rw [inner_apply]
  unfold k0_pay25
  revert hq
  generalize k0_pay24 (F := Ideal) (k0_pay5 i) v 1#32 = q
  intro hq
  have hr := roll_2 (m := 397) (roll_1 (m := 399) (rows_concat q h b c Q hq hh) (by omega)) (by omega)
  have hv := hr r.val (by omega) (by omega)
  revert hv
  generalize addf (F := Ideal) (s := S400x512) (φ := .f32) _ _ = s
  intro hv
  pointwise
  rw [hv]
  show _ - _ = (∑ j ∈ Finset.range 4, Q (b + r.val + j)) - _
  simp only [Finset.sum_range_succ, Finset.sum_range_zero, zero_add, add_zero, Nat.add_assoc, add_assoc, Nat.reduceAdd]
theorem win2_apply (v : FVec Ideal S384x512 .f32) (h : FVec Ideal S16x512 .f32) (b : ℕ) (r : Fin 384) (c : Fin 512) (Q : ℕ → EReal)
    (hq : ∀ r : Fin 384, k0_pay31 (F := Ideal) (k0_pay5 i) v (ix2 r c) = Q (b + r.val)) (hh : ∀ r : Fin 16, h (ix2 r c) = Q (b + 384 + r.val)) :
    inner (k0_pay32 (F := Ideal) (k0_pay5 i) v h) (ix2 r c) = (∑ j ∈ Finset.range (winN 2), Q (b + r.val + j)) - v (ix2 r c) := by
  rw [inner_apply]
  unfold k0_pay32
  revert hq
  generalize k0_pay31 (F := Ideal) (k0_pay5 i) v = q
  intro hq
  have hr := roll_4 (m := 393) (roll_2 (m := 397) (roll_1 (m := 399) (rows_concat q h b c Q hq hh) (by omega)) (by omega)) (by omega)
  have hv := hr r.val (by omega) (by omega)
  revert hv
  generalize addf (F := Ideal) (s := S400x512) (φ := .f32) _ _ = s
  intro hv
  pointwise
  rw [hv]
  show _ - _ = (∑ j ∈ Finset.range 8, Q (b + r.val + j)) - _
  simp only [Finset.sum_range_succ, Finset.sum_range_zero, zero_add, add_zero, Nat.add_assoc, add_assoc, Nat.reduceAdd]
theorem win3_apply (v : FVec Ideal S384x512 .f32) (h : FVec Ideal S16x512 .f32) (b : ℕ) (r : Fin 384) (c : Fin 512) (Q : ℕ → EReal)
    (hq : ∀ r : Fin 384, k0_pay37 (F := Ideal) (k0_pay5 i) v (ix2 r c) = Q (b + r.val)) (hh : ∀ r : Fin 16, h (ix2 r c) = Q (b + 384 + r.val)) :
    inner (k0_pay38 (F := Ideal) (k0_pay5 i) v h) (ix2 r c) = (∑ j ∈ Finset.range (winN 3), Q (b + r.val + j)) - v (ix2 r c) := by
  rw [inner_apply]
  unfold k0_pay38
  revert hq
  generalize k0_pay37 (F := Ideal) (k0_pay5 i) v = q
  intro hq
  have hr := roll_8 (m := 385) (roll_4 (m := 393) (roll_2 (m := 397) (roll_1 (m := 399) (rows_concat q h b c Q hq hh) (by omega)) (by omega)) (by omega)) (by omega)
  have hv := hr r.val (by omega) (by omega)
  revert hv
  generalize addf (F := Ideal) (s := S400x512) (φ := .f32) _ _ = s
  intro hv
  pointwise
  rw [hv]
  show _ - _ = (∑ j ∈ Finset.range 16, Q (b + r.val + j)) - _
  simp only [Finset.sum_range_succ, Finset.sum_range_zero, zero_add, add_zero, Nat.add_assoc, add_assoc, Nat.reduceAdd]
end Step

section Global
variable {i : grid0.Coords} {dm gp : FVec Ideal S384x2048 .f32} {sc : FVec Ideal S1x2048 .f32} {w : FVec Ideal S4x512x512 .bf16}
  {DM GP : (⟨2, ![4224, 2048]⟩ : Shape).Idx → EReal} {b : Fin 11}

/-- Row `r` of tile `b`. -/
def trow (b : Fin 11) (r : Fin 384) : Fin 4224 := ⟨b.val * 384 + r.val, by omega⟩

theorem gatedS_tile (hdm : ∀ r j, dm (ix2 r j) = DM (ix2 (trow b r) j)) (hgp : ∀ r j, gp (ix2 r j) = GP (ix2 (trow b r) j)) (r : Fin 384) (j : Fin 2048) :
    gatedS dm gp r j = gatedS DM GP (trow b r) j := by
  unfold gatedS; rw [hdm, hgp]
theorem dyS_tile (hdm : ∀ r j, dm (ix2 r j) = DM (ix2 (trow b r) j)) (hgp : ∀ r j, gp (ix2 r j) = GP (ix2 (trow b r) j)) (r : Fin 384) (j : Fin 2048) :
    dyS dm gp sc r j = dyS DM GP sc (trow b r) j := by
  unfold dyS; rw [gatedS_tile hdm hgp]
theorem ddS_tile (hdm : ∀ r j, dm (ix2 r j) = DM (ix2 (trow b r) j)) (hgp : ∀ r j, gp (ix2 r j) = GP (ix2 (trow b r) j)) (g : Fin 4) (r : Fin 384) (c : Fin 512) :
    ddS dm gp sc w g r c = ddS DM GP sc w g (trow b r) c := by
  unfold ddS
  exact Finset.sum_congr rfl fun k _ => by rw [dyS_tile hdm hgp]

theorem qS_tile (hdm : ∀ r j, dm (ix2 r j) = DM (ix2 (trow b r) j)) (hgp : ∀ r j, gp (ix2 r j) = GP (ix2 (trow b r) j)) (g : Fin 4) (r : Fin 384) (c : Fin 512) :
    Ideal.div (ddS dm gp sc w g r c) (count g (b.val * 384 + r.val)) = qS DM GP sc w g c (b.val * 384 + r.val) := by
  unfold qS
  rw [dif_pos (show b.val * 384 + r.val < 4224 by omega), ddS_tile hdm hgp]; rfl

/-- What a step keeps for the next: the shares of its first rows. -/
theorem kept_apply (hb : (i 0).val + b.val = 10) (hdm : ∀ r j, dm (ix2 r j) = DM (ix2 (trow b r) j)) (hgp : ∀ r j, gp (ix2 r j) = GP (ix2 (trow b r) j))
    (g : Fin 4) (r : Fin 16) (c : Fin 512) :
    kept (F := Ideal) i dm gp sc w (ix2 r (gcol g c)) = qS DM GP sc w g c (b.val * 384 + r.val) := by
  match g with
  | 0 =>
    rw [kept, beside_0]
    pointwise [k0_pay20]
    exact (quot0_apply i _ b.val hb _ c).trans ((congrArg (fun x => Ideal.div x _) (dd0_apply dm gp sc w _ c)).trans (qS_tile hdm hgp 0 _ c))
  | 1 =>
    rw [kept, beside_1]
    pointwise [k0_pay26]
    exact (quot1_apply i _ b.val hb _ c).trans ((congrArg (fun x => Ideal.div x _) (dd1_apply dm gp sc w _ c)).trans (qS_tile hdm hgp 1 _ c))
  | 2 =>
    rw [kept, beside_2]
    pointwise [k0_pay33]
    exact (quot2_apply i _ b.val hb _ c).trans ((congrArg (fun x => Ideal.div x _) (dd2_apply dm gp sc w _ c)).trans (qS_tile hdm hgp 2 _ c))
  | 3 =>
    rw [kept, beside_3]
    pointwise [k0_pay1, k0_pay39]
    exact (quot3_apply i _ b.val hb _ c).trans ((congrArg (fun x => Ideal.div x _) (dd3_apply dm gp sc w _ c)).trans (qS_tile hdm hgp 3 _ c))

/-- A step's tile for the values' columns. -/
theorem valueTile_apply (hb : (i 0).val + b.val = 10) (hdm : ∀ r j, dm (ix2 r j) = DM (ix2 (trow b r) j)) (hgp : ∀ r j, gp (ix2 r j) = GP (ix2 (trow b r) j))
    (h : FVec Ideal S16x2048 .f32) (hh : ∀ g (r : Fin 16) c, h (ix2 r (gcol g c)) = qS DM GP sc w g c (b.val * 384 + 384 + r.val))
    (g : Fin 4) (r : Fin 384) (c : Fin 512) :
    valueTile (F := Ideal) i dm gp sc w h (ix2 r (gcol g c)) = dvS DM GP sc w g c (trow b r) := by
  match g with
  | 0 =>
    rw [valueTile, beside_0, win0_apply i _ _ (b.val * 384) r c (qS DM GP sc w 0 c)
      (fun r' => (quot0_apply i _ b.val hb r' c).trans ((congrArg (fun x => Ideal.div x _) (dd0_apply dm gp sc w r' c)).trans (qS_tile hdm hgp 0 r' c)))
      (fun r' => by
        refine Eq.trans ?_ (hh 0 r' c)
        rw [gcol_0]
        pointwise), dd0_apply, ddS_tile hdm hgp]
    rfl
  | 1 =>
    rw [valueTile, beside_1, win1_apply i _ _ (b.val * 384) r c (qS DM GP sc w 1 c)
      (fun r' => (quot1_apply i _ b.val hb r' c).trans ((congrArg (fun x => Ideal.div x _) (dd1_apply dm gp sc w r' c)).trans (qS_tile hdm hgp 1 r' c)))
      (fun r' => by
        refine Eq.trans ?_ (hh 1 r' c)
        rw [gcol_1]
        pointwise), dd1_apply, ddS_tile hdm hgp]
    rfl
  | 2 =>
    rw [valueTile, beside_2, win2_apply i _ _ (b.val * 384) r c (qS DM GP sc w 2 c)
      (fun r' => (quot2_apply i _ b.val hb r' c).trans ((congrArg (fun x => Ideal.div x _) (dd2_apply dm gp sc w r' c)).trans (qS_tile hdm hgp 2 r' c)))
      (fun r' => by
        refine Eq.trans ?_ (hh 2 r' c)
        rw [gcol_2]
        pointwise), dd2_apply, ddS_tile hdm hgp]
    rfl
  | 3 =>
    rw [valueTile, beside_3, win3_apply i _ _ (b.val * 384) r c (qS DM GP sc w 3 c)
      (fun r' => (quot3_apply i _ b.val hb r' c).trans ((congrArg (fun x => Ideal.div x _) (dd3_apply dm gp sc w r' c)).trans (qS_tile hdm hgp 3 r' c)))
      (fun r' => by
        refine Eq.trans ?_ (hh 3 r' c)
        rw [gcol_3]
        pointwise), dd3_apply, ddS_tile hdm hgp]
    rfl
end Global
end Cert.KernelIdeal.PoolBwd
-- ==== Proof.Windows.lean ====
/-
  The host's sum over a window of rows, as a sum over the rows it holds.
-/

module

public import Idealize.ShloMosaic.Lib.Pointwise
public import Idealize.ShloMosaic.Lib.Routing.OpsOne
public import Idealize.ShloMosaic.PureOps.Ideal

@[expose] public section

set_option maxRecDepth 16384

noncomputable section

namespace Cert.PoolSpec

open Idealize.ShloMosaic

theorem foldl_sum {ι : Type} (l : List ι) (g : ι → EReal) (v : EReal) : l.foldl (fun a k => a + g k) v = v + (l.map g).sum := by
  induction l generalizing v with
  | nil => simp
  | cons k l ih => rw [List.foldl_cons, ih, List.map_cons, List.sum_cons, add_assoc]

/-- A window of `W` rows and one column, on an operand long enough that it never runs past the end. -/
theorem window_rows {W M N C : ℕ} (x : FVec Ideal (⟨2, ![M, C]⟩ : Shape) .f32) (init : FVec Ideal (⟨0, ![]⟩ : Shape) .f32)
    (h : (⟨2, ![M, C]⟩ : Shape).ReduceWindows (![W, 1] : Fin 2 → ℕ) ![1, 1] ![0, 0] ![0, 0] (⟨2, ![N, C]⟩ : Shape)) (hu : 0 < (⟨0, ![]⟩ : Shape).numel)
    (h0 : init ix0 = 0) (hWM : N + W ≤ M + 1) (r : Fin N) (c : Fin C) (Q : ℕ → EReal) (hx : ∀ n (hn : n < M), x (ix2 ⟨n, hn⟩ c) = Q n) :
    Host.reduceWindowAdd ![W, 1] ![1, 1] ![0, 0] ![0, 0] x init h hu (ix2 r c) = ∑ j ∈ Finset.range W, Q (r.val + j) := by
  show Host.reduceWindow (fun a b : EReal => a + b) ![W, 1] ![1, 1] ![0, 0] ![0, 0] x (fun _ : (⟨0, ![]⟩ : Shape).Idx => init (Shape.Idx.first hu)) h hu (ix2 r c) = _
  unfold Host.reduceWindow
  have hi : init (Shape.Idx.first hu) = 0 := (congrArg init (funext fun a => a.elim0)).trans h0
  have hr := r.isLt
  have hc := c.isLt
  dsimp only
  refine (foldl_sum _ _ _).trans ?_
  rw [hi, zero_add, ← Fin.sum_univ_def]
  refine (Finset.sum_congr rfl fun n _ => ?_ : _ = ∑ n : Fin (Routing.shape2 W 1).numel, Q (r.val + n.val)).trans
    ((Finset.sum_range fun j => Q (r.val + j)).symm.trans (by rw [Routing.numel_col]))
  have hn : n.val < W := (n.cast (Routing.numel_col W)).isLt
  have hw0 : ((Routing.shape2 W 1).rowMajor.symm n 0).val = n.val := by rw [Routing.symm_col]; rfl
  have hw1 : ((Routing.shape2 W 1).rowMajor.symm n 1).val = 0 := by rw [Routing.symm_col]; rfl
  refine (dif_pos fun a => ?_).trans ((congrArg x (funext fun a => Fin.ext ?_)).trans (hx (r.val + n.val) (by omega)))
  · match a with
    | ⟨0, _⟩ =>
      show 0 ≤ r.val * 1 + ((Routing.shape2 W 1).rowMajor.symm n 0).val ∧ r.val * 1 + ((Routing.shape2 W 1).rowMajor.symm n 0).val - 0 < M
      rw [hw0]; omega
    | ⟨1, _⟩ =>
      show 0 ≤ c.val * 1 + ((Routing.shape2 W 1).rowMajor.symm n 1).val ∧ c.val * 1 + ((Routing.shape2 W 1).rowMajor.symm n 1).val - 0 < C
      rw [hw1]; omega
  · match a with
    | ⟨0, _⟩ =>
      show r.val * 1 + ((Routing.shape2 W 1).rowMajor.symm n 0).val - 0 = r.val + n.val
      rw [hw0]; omega
    | ⟨1, _⟩ =>
      show c.val * 1 + ((Routing.shape2 W 1).rowMajor.symm n 1).val - 0 = c.val
      rw [hw1]; omega

end Cert.PoolSpec
-- ==== Proof.Ref.lean ====
/-
  The reference's three results, read entry by entry.
-/

module

public import proofs.«01_k».proof.Proof.Gen.ReferenceIdeal
public import proofs.«01_k».proof.Proof.Gen.ReferenceIdeal.Run
public import proofs.«01_k».proof.Proof.Gen.ReferenceIdeal.Read
public import proofs.«01_k».proof.Proof.Spec
public import proofs.«01_k».proof.Proof.Windows

@[expose] public section

set_option maxRecDepth 16384

noncomputable section

namespace Cert.ReferenceIdeal.Read

open Idealize.ShloMosaic Cert.PoolSpec Cert.ReferenceIdeal.Gen

variable (x0 : FVec Ideal S4224x10240 .f32) (x1 : FVec Ideal S4x512x512 .f32) (x2 : FVec Ideal S1x2048 .f32) (x3 : FVec Ideal S4224x2048 .f32)

/-- The pooled rows, the four groups side by side. -/
def flat58 : (⟨2, ![4224, 2048]⟩ : Shape).Idx → EReal := shapeCast S4224x2048 (val_main_v58 (F := Ideal) x0) (by decide)

theorem flat58_apply (t : Fin 4224) (g : Fin 4) (c : Fin 512) : flat58 x0 (ix2 t (gcol g c)) = val_main_v58 (F := Ideal) x0 (ix3 t g c) := by
  unfold gcol
  pointwise [flat58]

theorem sg_apply (i : S4224x2048.Idx) : val_main_v69 (F := Ideal) x0 i = Ideal.logistic (val_main_v1 (F := Ideal) x0 i) := by
  pointwise [val_main_v69, val_main_v68, val_main_v67, val_main_v66, val_main_v65, val_main_v64, val_main_cst_10, val_main_cst_11, Ideal.logistic]

/-- The cotangent through the gate, -/
theorem v74_apply (t : Fin 4224) (j : Fin 2048) : val_main_v74 (F := Ideal) x0 x3 (ix2 t j) = gatedS x3 (val_main_v1 (F := Ideal) x0) t j := by
  pointwise [val_main_v74, sg_apply, gatedS]
  all_goals (first | rfl | exact mul_comm _ _)

/-- and scaled. -/
theorem v81_apply (t : Fin 4224) (j : Fin 2048) : val_main_v81 (F := Ideal) x0 x2 x3 (ix2 t j) = dyS x3 (val_main_v1 (F := Ideal) x0) x2 t j := by
  pointwise [val_main_v81, val_main_v80, v74_apply, dyS]

theorem v83_apply (g : Fin 4) (k : Fin 512) (t : Fin 4224) : val_main_v83 (F := Ideal) x0 x2 x3 (ix3 g k t) = dyS x3 (val_main_v1 (F := Ideal) x0) x2 t (gcol g k) := by
  pointwise [val_main_v83, val_main_v82, v81_apply]
  rfl

/-- The gradient of the gate before its logistic. -/
theorem v76_apply (t : Fin 4224) (j : Fin 2048) :
    val_main_v76 (F := Ideal) x0 x1 x2 x3 (ix2 t j) = dgS x3 (val_main_v1 (F := Ideal) x0) x2 (val_main_v61 (F := Ideal) x0 x1) t j := by
  pointwise [val_main_v76, val_main_v75, val_main_v72, val_main_v71, val_main_v70, val_main_v63, val_main_v62, val_main_cst_12, sg_apply, dgS]
  all_goals (first | rfl | exact (mul_assoc _ _ _).symm)

/-- The gradient of the scale. -/
theorem v79_apply (j : Fin 2048) :
    val_main_v79 (F := Ideal) x0 x1 x3 (ix2 0 j) = dsS x3 (val_main_v1 (F := Ideal) x0) (val_main_v61 (F := Ideal) x0 x1) j := by
  pointwise [val_main_v79, val_main_v78, val_main_v77, val_main_cst_13, v74_apply, dsS]
  all_goals exact Finset.sum_congr rfl fun t _ => mul_comm _ _

/-- The gradient of the weights. -/
theorem v87_apply (g : Fin 4) (c k : Fin 512) :
    val_main_v87 (F := Ideal) x0 x2 x3 (ix3 g c k) = dwS x3 (val_main_v1 (F := Ideal) x0) x2 (flat58 x0) g c k := by
  pointwise [val_main_v87, val_main_v86, v83_apply, dwS, flat58_apply]
  all_goals exact Finset.sum_congr rfl fun t _ => mul_comm _ _

/-- The gradient of the pooled rows. -/
theorem v85_apply (t : Fin 4224) (g : Fin 4) (c : Fin 512) :
    val_main_v85 (F := Ideal) x0 x1 x2 x3 (ix3 t g c) = ddS x3 (val_main_v1 (F := Ideal) x0) x2 x1 g t c := by
  pointwise [val_main_v85, val_main_v84, v83_apply, ddS]

/-! Group 0: the shares, and the gradient of its values. -/

theorem v89_apply (t : Fin 4224) (c : Fin 512) : val_main_v89 (F := Ideal) x0 x1 x2 x3 (ix2 t c) = ddS x3 (val_main_v1 (F := Ideal) x0) x2 x1 0 t c := by
  pointwise [val_main_v89, val_main_v88]
  exact v85_apply x0 x1 x2 x3 t 0 c

theorem v124_apply (t : Fin 4224) (c : Fin 512) : val_main_v124 (F := Ideal) x0 x1 x2 x3 (ix2 t c) = qS x3 (val_main_v1 (F := Ideal) x0) x2 x1 0 c t.val := by
  unfold qS
  rw [dif_pos t.isLt]
  pointwise [val_main_v124, v89_apply, val_main_v123, val_main_v11, val_main_v10, val_main_v9, val_main_v8, val_main_v7, val_main_v6, val_main_v5, val_main_c, val_main_c_0]
  rw [show IntOp.addi (1#32) (BitVec.ofNat 32 t.val) = BitVec.ofNat 32 (t.val + 1) from (BitVec.add_comm _ _).trans (BitVec.ofNat_add _ _).symm]
  rfl

theorem v128_apply (t : Fin 4224) (c : Fin 512) : val_main_v128 (F := Ideal) x0 x1 x2 x3 (ix2 t c) = dvS x3 (val_main_v1 (F := Ideal) x0) x2 x1 0 c t := by
  pointwise [val_main_v128, val_main_v122, v89_apply, val_main_v127]
  rw [window_rows (val_main_v125 (F := Ideal) x0 x1 x2 x3) _ _ _ (by pointwise [val_main_v126, val_main_cst_24]) (by omega) t c
    (qS x3 (val_main_v1 (F := Ideal) x0) x2 x1 0 c) fun n hn => by
      pointwise [val_main_v125, val_main_cst_23, v124_apply]
      split
      · rfl
      · next hk => unfold qS; rw [dif_neg hk]]
  unfold dvS
  exact (add_comm _ _).trans (sub_eq_add_neg _ _).symm

/-! Group 1: the shares, and the gradient of its values. -/

theorem v91_apply (t : Fin 4224) (c : Fin 512) : val_main_v91 (F := Ideal) x0 x1 x2 x3 (ix2 t c) = ddS x3 (val_main_v1 (F := Ideal) x0) x2 x1 1 t c := by
  pointwise [val_main_v91, val_main_v90]
  exact v85_apply x0 x1 x2 x3 t 1 c

theorem v115_apply (t : Fin 4224) (c : Fin 512) : val_main_v115 (F := Ideal) x0 x1 x2 x3 (ix2 t c) = qS x3 (val_main_v1 (F := Ideal) x0) x2 x1 1 c t.val := by
  unfold qS
  rw [dif_pos t.isLt]
  pointwise [val_main_v115, v91_apply, val_main_v114, val_main_v24, val_main_v23, val_main_v22, val_main_v21, val_main_v20, val_main_v19, val_main_v18, val_main_c_2, val_main_c_3]
  rw [show IntOp.addi (1#32) (BitVec.ofNat 32 t.val) = BitVec.ofNat 32 (t.val + 1) from (BitVec.add_comm _ _).trans (BitVec.ofNat_add _ _).symm]
  rfl

theorem v119_apply (t : Fin 4224) (c : Fin 512) : val_main_v119 (F := Ideal) x0 x1 x2 x3 (ix2 t c) = dvS x3 (val_main_v1 (F := Ideal) x0) x2 x1 1 c t := by
  pointwise [val_main_v119, val_main_v113, v91_apply, val_main_v118]
  rw [window_rows (val_main_v116 (F := Ideal) x0 x1 x2 x3) _ _ _ (by pointwise [val_main_v117, val_main_cst_21]) (by omega) t c
    (qS x3 (val_main_v1 (F := Ideal) x0) x2 x1 1 c) fun n hn => by
      pointwise [val_main_v116, val_main_cst_20, v115_apply]
      split
      · rfl
      · next hk => unfold qS; rw [dif_neg hk]]
  unfold dvS
  exact (add_comm _ _).trans (sub_eq_add_neg _ _).symm

/-! Group 2: the shares, and the gradient of its values. -/

theorem v93_apply (t : Fin 4224) (c : Fin 512) : val_main_v93 (F := Ideal) x0 x1 x2 x3 (ix2 t c) = ddS x3 (val_main_v1 (F := Ideal) x0) x2 x1 2 t c := by
  pointwise [val_main_v93, val_main_v92]
  exact v85_apply x0 x1 x2 x3 t 2 c

theorem v106_apply (t : Fin 4224) (c : Fin 512) : val_main_v106 (F := Ideal) x0 x1 x2 x3 (ix2 t c) = qS x3 (val_main_v1 (F := Ideal) x0) x2 x1 2 c t.val := by
  unfold qS
  rw [dif_pos t.isLt]
  pointwise [val_main_v106, v93_apply, val_main_v105, val_main_v37, val_main_v36, val_main_v35, val_main_v34, val_main_v33, val_main_v32, val_main_v31, val_main_c_5, val_main_c_6]
  rw [show IntOp.addi (1#32) (BitVec.ofNat 32 t.val) = BitVec.ofNat 32 (t.val + 1) from (BitVec.add_comm _ _).trans (BitVec.ofNat_add _ _).symm]
  rfl

theorem v110_apply (t : Fin 4224) (c : Fin 512) : val_main_v110 (F := Ideal) x0 x1 x2 x3 (ix2 t c) = dvS x3 (val_main_v1 (F := Ideal) x0) x2 x1 2 c t := by
  pointwise [val_main_v110, val_main_v104, v93_apply, val_main_v109]
  rw [window_rows (val_main_v107 (F := Ideal) x0 x1 x2 x3) _ _ _ (by pointwise [val_main_v108, val_main_cst_18]) (by omega) t c
    (qS x3 (val_main_v1 (F := Ideal) x0) x2 x1 2 c) fun n hn => by
      pointwise [val_main_v107, val_main_cst_17, v106_apply]
      split
      · rfl
      · next hk => unfold qS; rw [dif_neg hk]]
  unfold dvS
  exact (add_comm _ _).trans (sub_eq_add_neg _ _).symm

/-! Group 3: the shares, and the gradient of its values. -/

theorem v95_apply (t : Fin 4224) (c : Fin 512) : val_main_v95 (F := Ideal) x0 x1 x2 x3 (ix2 t c) = ddS x3 (val_main_v1 (F := Ideal) x0) x2 x1 3 t c := by
  pointwise [val_main_v95, val_main_v94]
  exact v85_apply x0 x1 x2 x3 t 3 c

theorem v98_apply (t : Fin 4224) (c : Fin 512) : val_main_v98 (F := Ideal) x0 x1 x2 x3 (ix2 t c) = qS x3 (val_main_v1 (F := Ideal) x0) x2 x1 3 c t.val := by
  unfold qS
  rw [dif_pos t.isLt]
  pointwise [val_main_v98, v95_apply, val_main_v97, val_main_v50, val_main_v49, val_main_v48, val_main_v47, val_main_v46, val_main_v45, val_main_v44, val_main_c_8, val_main_c_9]
  rw [show IntOp.addi (1#32) (BitVec.ofNat 32 t.val) = BitVec.ofNat 32 (t.val + 1) from (BitVec.add_comm _ _).trans (BitVec.ofNat_add _ _).symm]
  rfl

theorem v102_apply (t : Fin 4224) (c : Fin 512) : val_main_v102 (F := Ideal) x0 x1 x2 x3 (ix2 t c) = dvS x3 (val_main_v1 (F := Ideal) x0) x2 x1 3 c t := by
  pointwise [val_main_v102, val_main_v96, v95_apply, val_main_v101]
  rw [window_rows (val_main_v99 (F := Ideal) x0 x1 x2 x3) _ _ _ (by pointwise [val_main_v100, val_main_cst_15]) (by omega) t c
    (qS x3 (val_main_v1 (F := Ideal) x0) x2 x1 3 c) fun n hn => by
      pointwise [val_main_v99, val_main_cst_14, v98_apply]
      split
      · rfl
      · next hk => unfold qS; rw [dif_neg hk]]
  unfold dvS
  exact (add_comm _ _).trans (sub_eq_add_neg _ _).symm

theorem v130_apply (t : Fin 4224) (g : Fin 4) (c : Fin 512) :
    val_main_v130 (F := Ideal) x0 x1 x2 x3 (ix2 t (gcol g c)) = dvS x3 (val_main_v1 (F := Ideal) x0) x2 x1 g c t := by
  match g with
  | 0 =>
    rw [gcol_0]
    pointwise [val_main_v130, val_main_v129, val_main_v121, val_main_v120, val_main_v112, val_main_v111, val_main_v103, val_main_cst_16, val_main_cst_19, val_main_cst_22, val_main_cst_25,
      v102_apply, v110_apply, v119_apply, v128_apply]
    repeat' (split; · rename_i hk; exfalso; first | omega | exact hk.1)
    simp only [zero_add, add_zero]
  | 1 =>
    rw [gcol_1]
    pointwise [val_main_v130, val_main_v129, val_main_v121, val_main_v120, val_main_v112, val_main_v111, val_main_v103, val_main_cst_16, val_main_cst_19, val_main_cst_22, val_main_cst_25,
      v102_apply, v110_apply, v119_apply, v128_apply]
    repeat' (split; · rename_i hk; exfalso; first | omega | exact hk.1)
    simp only [zero_add, add_zero]
  | 2 =>
    rw [gcol_2]
    pointwise [val_main_v130, val_main_v129, val_main_v121, val_main_v120, val_main_v112, val_main_v111, val_main_v103, val_main_cst_16, val_main_cst_19, val_main_cst_22, val_main_cst_25,
      v102_apply, v110_apply, v119_apply, v128_apply]
    repeat' (split; · rename_i hk; exfalso; first | omega | exact hk.1)
    simp only [zero_add, add_zero]
  | 3 =>
    rw [gcol_3]
    pointwise [val_main_v130, val_main_v129, val_main_v121, val_main_v120, val_main_v112, val_main_v111, val_main_v103, val_main_cst_16, val_main_cst_19, val_main_cst_22, val_main_cst_25,
      v102_apply, v110_apply, v119_apply, v128_apply]
    repeat' (split; · rename_i hk; exfalso; first | omega | exact hk.1)
    simp only [zero_add, add_zero]

/-- The first 2048 columns of the projection's gradient, -/
theorem v134_values (t : Fin 4224) (g : Fin 4) (c : Fin 512) :
    val_main_v134 (F := Ideal) x0 x1 x2 x3 (ix2 t ⟨(gcol g c).val, by omega⟩) = dvS x3 (val_main_v1 (F := Ideal) x0) x2 x1 g c t := by
  pointwise [val_main_v134, val_main_v133, val_main_v132, val_main_v131, val_main_cst_26, val_main_cst_27, v76_apply]
  have hg : (gcol g c).val < 2048 := (gcol g c).isLt
  split
  · exfalso; omega
  rw [zero_add]
  exact v130_apply x0 x1 x2 x3 t g c

/-- and the gate's. -/
theorem v134_gate (t : Fin 4224) (j : Fin 2048) :
    val_main_v134 (F := Ideal) x0 x1 x2 x3 (ix2 t ⟨6144 + j.val, by omega⟩) = dgS x3 (val_main_v1 (F := Ideal) x0) x2 (val_main_v61 (F := Ideal) x0 x1) t j := by
  pointwise [val_main_v134, val_main_v133, val_main_v132, val_main_v131, val_main_cst_26, val_main_cst_27, v76_apply]
  split
  · exfalso; omega
  exact add_zero _

end Cert.ReferenceIdeal.Read
-- ==== Proof.HostOps.lean ====
/-
  What the host computes before the call, as the reference's own terms: the operations of each pool group in turn, then the
  projection of the four pooled groups.
-/

module

public import proofs.«01_k».proof.Proof.Gen.KernelIdeal.Frame
public import proofs.«01_k».proof.Proof.Ref
public import Idealize.ShloMosaic.Lib.Pipeline.ValueKit
public import Idealize.ShloMosaic.Lib.Claim

@[expose] public section

set_option maxRecDepth 16384

noncomputable section

namespace Cert.KernelIdeal.PoolBwd

open Idealize.ShloMosaic Idealize.ShloMosaic.TcCoe Cert.PoolSpec Cert.KernelIdeal.Gen

/-- The operations of pool group `n`, sixteen of them; then the four broadcasts; then the rest. -/
abbrev hostGroup (n : ℕ) : List (HloOp τ sig (Elt Ideal)) := (hostOps0.drop (16 * n)).take 16
abbrev hostBeside : List (HloOp τ sig (Elt Ideal)) := (hostOps0.drop 64).take 4
abbrev hostRest : List (HloOp τ sig (Elt Ideal)) := hostOps0.drop 68

theorem hostOps0_cut : (hostOps0 : List (HloOp τ sig (Elt Ideal))) = hostGroup 0 ++ (hostGroup 1 ++ (hostGroup 2 ++ (hostGroup 3 ++ (hostBeside ++ hostRest)))) := rfl

/-! Each group's slice of the sequence is the reference's slice of its slice. -/

theorem slice0 (x : FVec Ideal S4224x10240 .f32) :
    extractStridedSlice S4224x512 ![0, 0] x slices_S4224x10240_S4224x512_0_0 = Cert.ReferenceIdeal.Read.val_main_v2 (F := Ideal) x := by
  funext i
  pointwise [Cert.ReferenceIdeal.Read.val_main_v2, Cert.ReferenceIdeal.Read.val_main_v0]

theorem slice1 (x : FVec Ideal S4224x10240 .f32) :
    extractStridedSlice S4224x512 ![0, 512] x slices_S4224x10240_S4224x512_0_512 = Cert.ReferenceIdeal.Read.val_main_v15 (F := Ideal) x := by
  funext i
  pointwise [Cert.ReferenceIdeal.Read.val_main_v15, Cert.ReferenceIdeal.Read.val_main_v0]

theorem slice2 (x : FVec Ideal S4224x10240 .f32) :
    extractStridedSlice S4224x512 ![0, 1024] x slices_S4224x10240_S4224x512_0_1024 = Cert.ReferenceIdeal.Read.val_main_v28 (F := Ideal) x := by
  funext i
  pointwise [Cert.ReferenceIdeal.Read.val_main_v28, Cert.ReferenceIdeal.Read.val_main_v0]

theorem slice3 (x : FVec Ideal S4224x10240 .f32) :
    extractStridedSlice S4224x512 ![0, 1536] x slices_S4224x10240_S4224x512_0_1536 = Cert.ReferenceIdeal.Read.val_main_v41 (F := Ideal) x := by
  funext i
  pointwise [Cert.ReferenceIdeal.Read.val_main_v41, Cert.ReferenceIdeal.Read.val_main_v0]

variable (σ : Valuation τ sig (Elt Ideal))

theorem group0 : (StableHlo.after (hostGroup 0) σ main_v12 : S4224x512.Idx → EReal)
    = Cert.ReferenceIdeal.Read.val_main_v14 (F := Ideal) (σ main_arg0) := by
  simp only [hostGroup, hostOps0, List.take_succ_cons, List.take_zero, List.drop_succ_cons, List.drop_zero, Nat.reduceMul]
  after_results_simp
  rw [slice0]
  rfl

theorem group1 : (StableHlo.after (hostGroup 1) σ main_v25 : S4224x512.Idx → EReal)
    = Cert.ReferenceIdeal.Read.val_main_v27 (F := Ideal) (σ main_arg0) := by
  simp only [hostGroup, hostOps0, List.take_succ_cons, List.take_zero, List.drop_succ_cons, List.drop_zero, Nat.reduceMul]
  after_results_simp
  rw [slice1]
  rfl

theorem group2 : (StableHlo.after (hostGroup 2) σ main_v38 : S4224x512.Idx → EReal)
    = Cert.ReferenceIdeal.Read.val_main_v40 (F := Ideal) (σ main_arg0) := by
  simp only [hostGroup, hostOps0, List.take_succ_cons, List.take_zero, List.drop_succ_cons, List.drop_zero, Nat.reduceMul]
  after_results_simp
  rw [slice2]
  rfl

theorem group3 : (StableHlo.after (hostGroup 3) σ main_v51 : S4224x512.Idx → EReal)
    = Cert.ReferenceIdeal.Read.val_main_v53 (F := Ideal) (σ main_arg0) := by
  simp only [hostGroup, hostOps0, List.take_succ_cons, List.take_zero, List.drop_succ_cons, List.drop_zero, Nat.reduceMul]
  after_results_simp
  rw [slice3]
  rfl

theorem group0_keeps : StableHlo.after (hostGroup 0) σ main_arg0 = σ main_arg0 ∧ StableHlo.after (hostGroup 0) σ main_arg1 = σ main_arg1 := by
  simp only [hostGroup, hostOps0, List.take_succ_cons, List.take_zero, List.drop_succ_cons, List.drop_zero, Nat.reduceMul]
  refine ⟨?_, ?_⟩ <;> after_results_simp

theorem group1_keeps : StableHlo.after (hostGroup 1) σ main_arg0 = σ main_arg0 ∧ StableHlo.after (hostGroup 1) σ main_arg1 = σ main_arg1 ∧ StableHlo.after (hostGroup 1) σ main_v12 = σ main_v12 := by
  simp only [hostGroup, hostOps0, List.take_succ_cons, List.take_zero, List.drop_succ_cons, List.drop_zero, Nat.reduceMul]
  refine ⟨?_, ?_, ?_⟩ <;> after_results_simp

theorem group2_keeps : StableHlo.after (hostGroup 2) σ main_arg0 = σ main_arg0 ∧ StableHlo.after (hostGroup 2) σ main_arg1 = σ main_arg1 ∧ StableHlo.after (hostGroup 2) σ main_v12 = σ main_v12 ∧ StableHlo.after (hostGroup 2) σ main_v25 = σ main_v25 := by
  simp only [hostGroup, hostOps0, List.take_succ_cons, List.take_zero, List.drop_succ_cons, List.drop_zero, Nat.reduceMul]
  refine ⟨?_, ?_, ?_, ?_⟩ <;> after_results_simp

theorem group3_keeps : StableHlo.after (hostGroup 3) σ main_arg0 = σ main_arg0 ∧ StableHlo.after (hostGroup 3) σ main_arg1 = σ main_arg1 ∧ StableHlo.after (hostGroup 3) σ main_v12 = σ main_v12 ∧ StableHlo.after (hostGroup 3) σ main_v25 = σ main_v25 ∧ StableHlo.after (hostGroup 3) σ main_v38 = σ main_v38 := by
  simp only [hostGroup, hostOps0, List.take_succ_cons, List.take_zero, List.drop_succ_cons, List.drop_zero, Nat.reduceMul]
  refine ⟨?_, ?_, ?_, ?_, ?_⟩ <;> after_results_simp

theorem beside_v52 (x0 : FVec Ideal S4224x10240 .f32) (h : (σ main_v12 : S4224x512.Idx → EReal) = Cert.ReferenceIdeal.Read.val_main_v14 (F := Ideal) x0) :
    StableHlo.after hostBeside σ main_v52 = Cert.ReferenceIdeal.Read.val_main_v54 (F := Ideal) x0 := by
  simp only [hostBeside, hostRest, hostOps0, List.take_succ_cons, List.take_zero, List.drop_succ_cons, List.drop_zero, Nat.reduceMul]
  after_results_simp
  rw [h]
  rfl

theorem beside_v53 (x0 : FVec Ideal S4224x10240 .f32) (h : (σ main_v25 : S4224x512.Idx → EReal) = Cert.ReferenceIdeal.Read.val_main_v27 (F := Ideal) x0) :
    StableHlo.after hostBeside σ main_v53 = Cert.ReferenceIdeal.Read.val_main_v55 (F := Ideal) x0 := by
  simp only [hostBeside, hostRest, hostOps0, List.take_succ_cons, List.take_zero, List.drop_succ_cons, List.drop_zero, Nat.reduceMul]
  after_results_simp
  rw [h]
  rfl

theorem beside_v54 (x0 : FVec Ideal S4224x10240 .f32) (h : (σ main_v38 : S4224x512.Idx → EReal) = Cert.ReferenceIdeal.Read.val_main_v40 (F := Ideal) x0) :
    StableHlo.after hostBeside σ main_v54 = Cert.ReferenceIdeal.Read.val_main_v56 (F := Ideal) x0 := by
  simp only [hostBeside, hostRest, hostOps0, List.take_succ_cons, List.take_zero, List.drop_succ_cons, List.drop_zero, Nat.reduceMul]
  after_results_simp
  rw [h]
  rfl

theorem beside_v55 (x0 : FVec Ideal S4224x10240 .f32) (h : (σ main_v51 : S4224x512.Idx → EReal) = Cert.ReferenceIdeal.Read.val_main_v53 (F := Ideal) x0) :
    StableHlo.after hostBeside σ main_v55 = Cert.ReferenceIdeal.Read.val_main_v57 (F := Ideal) x0 := by
  simp only [hostBeside, hostRest, hostOps0, List.take_succ_cons, List.take_zero, List.drop_succ_cons, List.drop_zero, Nat.reduceMul]
  after_results_simp
  rw [h]
  rfl

theorem beside_arg1 : StableHlo.after hostBeside σ main_arg1 = σ main_arg1 := by
  simp only [hostBeside, hostRest, hostOps0, List.take_succ_cons, List.take_zero, List.drop_succ_cons, List.drop_zero, Nat.reduceMul]
  after_results_simp

theorem rest_y (x0 : FVec Ideal S4224x10240 .f32)
    (h52 : σ main_v52 = Cert.ReferenceIdeal.Read.val_main_v54 (F := Ideal) x0)
    (h53 : σ main_v53 = Cert.ReferenceIdeal.Read.val_main_v55 (F := Ideal) x0)
    (h54 : σ main_v54 = Cert.ReferenceIdeal.Read.val_main_v56 (F := Ideal) x0)
    (h55 : σ main_v55 = Cert.ReferenceIdeal.Read.val_main_v57 (F := Ideal) x0) :
    (StableHlo.after hostRest σ main_v61 : S4224x2048.Idx → EReal) = Cert.ReferenceIdeal.Read.val_main_v61 (F := Ideal) x0 (σ main_arg1) := by
  simp only [hostBeside, hostRest, hostOps0, List.take_succ_cons, List.take_zero, List.drop_succ_cons, List.drop_zero, Nat.reduceMul]
  after_results_simp
  dsimp only [Matrix.cons_val]
  rw [h52, h53, h54, h55]
  rfl

theorem rest_d (x0 : FVec Ideal S4224x10240 .f32)
    (h52 : σ main_v52 = Cert.ReferenceIdeal.Read.val_main_v54 (F := Ideal) x0)
    (h53 : σ main_v53 = Cert.ReferenceIdeal.Read.val_main_v55 (F := Ideal) x0)
    (h54 : σ main_v54 = Cert.ReferenceIdeal.Read.val_main_v56 (F := Ideal) x0)
    (h55 : σ main_v55 = Cert.ReferenceIdeal.Read.val_main_v57 (F := Ideal) x0) :
    (StableHlo.after hostRest σ main_v60 : S4224x2048.Idx → EReal) = Cert.ReferenceIdeal.Read.flat58 x0 := by
  simp only [hostBeside, hostRest, hostOps0, List.take_succ_cons, List.take_zero, List.drop_succ_cons, List.drop_zero, Nat.reduceMul]
  after_results_simp
  dsimp only [Matrix.cons_val]
  rw [h52, h53, h54, h55]
  rfl

theorem rest_w : (StableHlo.after hostRest σ main_v62 : S4x512x512.Idx → EReal) = σ main_arg1 := by
  simp only [hostRest, hostOps0, List.take_succ_cons, List.take_zero, List.drop_succ_cons, List.drop_zero, Nat.reduceMul]
  after_results_simp
  rfl

variable (m : (ℓ : Loc nD τ sig) → Buf (Elt Ideal) ℓ) (c : Dev nD)

/-- The buffers when the rest of the operations begins. -/
abbrev pooled : Valuation τ sig (Elt Ideal) :=
  StableHlo.after (hostGroup 3) (StableHlo.after (hostGroup 2) (StableHlo.after (hostGroup 1) (StableHlo.after (hostGroup 0) fun b => m (c, b))))

theorem V_rest (b : Ref sig .tc) : V m c b = StableHlo.after hostRest (StableHlo.after hostBeside (pooled m c)) b := by
  unfold V
  rw [hostOps0_cut, StableHlo.after_append, StableHlo.after_append, StableHlo.after_append, StableHlo.after_append, StableHlo.after_append]

theorem pooled_arg1 : pooled m c main_arg1 = m ((c : Thread nD τ).loc main_arg1) := by
  rw [pooled, (group3_keeps _).2.1, (group2_keeps _).2.1, (group1_keeps _).2.1, (group0_keeps _).2]

theorem pooled_v12 : (pooled m c main_v12 : S4224x512.Idx → EReal) = Cert.ReferenceIdeal.Read.val_main_v14 (F := Ideal) (m ((c : Thread nD τ).loc main_arg0)) := by
  rw [pooled, (group3_keeps _).2.2.1, (group2_keeps _).2.2.1, (group1_keeps _).2.2, group0]

theorem pooled_v25 : (pooled m c main_v25 : S4224x512.Idx → EReal) = Cert.ReferenceIdeal.Read.val_main_v27 (F := Ideal) (m ((c : Thread nD τ).loc main_arg0)) := by
  rw [pooled, (group3_keeps _).2.2.2.1, (group2_keeps _).2.2.2, group1, (group0_keeps _).1]

theorem pooled_v38 : (pooled m c main_v38 : S4224x512.Idx → EReal) = Cert.ReferenceIdeal.Read.val_main_v40 (F := Ideal) (m ((c : Thread nD τ).loc main_arg0)) := by
  rw [pooled, (group3_keeps _).2.2.2.2, group2, (group1_keeps _).1, (group0_keeps _).1]

theorem pooled_v51 : (pooled m c main_v51 : S4224x512.Idx → EReal) = Cert.ReferenceIdeal.Read.val_main_v53 (F := Ideal) (m ((c : Thread nD τ).loc main_arg0)) := by
  rw [pooled, group3, (group2_keeps _).1, (group1_keeps _).1, (group0_keeps _).1]

/-- The pooled groups' projections, rounded pooled rows, and rounded weights the call is given. -/
theorem host_y : (V m c main_v61 : S4224x2048.Idx → EReal)
    = Cert.ReferenceIdeal.Read.val_main_v61 (F := Ideal) (m ((c : Thread nD τ).loc main_arg0)) (m ((c : Thread nD τ).loc main_arg1)) := by
  rw [V_rest, rest_y _ _ (beside_v52 _ _ (pooled_v12 m c)) (beside_v53 _ _ (pooled_v25 m c)) (beside_v54 _ _ (pooled_v38 m c)) (beside_v55 _ _ (pooled_v51 m c)), beside_arg1, pooled_arg1]

theorem host_d : (V m c main_v60 : S4224x2048.Idx → EReal) = Cert.ReferenceIdeal.Read.flat58 (m ((c : Thread nD τ).loc main_arg0)) := by
  rw [V_rest, rest_d _ _ (beside_v52 _ _ (pooled_v12 m c)) (beside_v53 _ _ (pooled_v25 m c)) (beside_v54 _ _ (pooled_v38 m c)) (beside_v55 _ _ (pooled_v51 m c))]

theorem host_w : (V m c main_v62 : S4x512x512.Idx → EReal) = m ((c : Thread nD τ).loc main_arg1) := by
  rw [V_rest, rest_w, beside_arg1, pooled_arg1]

end Cert.KernelIdeal.PoolBwd
-- ==== Proof.Operands.lean ====
/-
  The blocks of each step, entry by entry, as entries of the arrays.
-/

module

public import proofs.«01_k».proof.Proof.Call
public import proofs.«01_k».proof.Proof.Pure
public import proofs.«01_k».proof.Proof.HostOps
public import Idealize.ShloMosaic.Lib.Pipeline.ValueKit

@[expose] public section

set_option maxRecDepth 16384

noncomputable section

namespace Cert.KernelIdeal.PoolBwd

open Idealize.ShloMosaic Idealize.ShloMosaic.TcCoe Cert.PoolSpec Cert.KernelIdeal.Gen

variable (m : (ℓ : Loc nD τ sig) → Buf (Elt Ideal) ℓ) (c : Dev nD)

theorem idx : ∀ t : Fin cfg0.N, win0_0.index t = ![10 - t.val, 0] ∧ win0_1.index t = ![10 - t.val, 3] ∧ win0_2.index t = ![10 - t.val, 0]
    ∧ win0_3.index t = ![10 - t.val, 0] ∧ win0_4.index t = ![0, 0] ∧ win0_5.index t = ![0, 0, 0] ∧ win0_6.index t = ![0, 0, 0] ∧ win0_7.index t = ![0, 0]
    ∧ (grid0.coords t 0).val = t.val := (by decide +kernel : ∀ t : Fin grid0.N, _)

/-- The tile of step `t`: the steps run from the last tile to the first. -/
def posAt (t : Fin cfg0.N) : Fin 11 := ⟨10 - t.val, by omega⟩

theorem dmAt_apply (t : Fin cfg0.N) (r : Fin 384) (j : Fin 2048) :
    dmAt m c t (ix2 r j) = (m ((c : Thread nD τ).loc main_arg3) : S4224x2048.Idx → EReal) (ix2 (trow (posAt t) r) j) := by
  unfold dmAt trow posAt
  blk_ext [iblk, V, idx t]

theorem gpAt_apply (t : Fin cfg0.N) (r : Fin 384) (j : Fin 2048) :
    gpAt m c t (ix2 r j) = Cert.ReferenceIdeal.Read.val_main_v1 (F := Ideal) (m ((c : Thread nD τ).loc main_arg0)) (ix2 (trow (posAt t) r) j) := by
  unfold gpAt trow posAt
  pointwise [Cert.ReferenceIdeal.Read.val_main_v1]
  blk_ext [iblk, V, idx t]

theorem yAt_apply (t : Fin cfg0.N) (r : Fin 384) (j : Fin 2048) :
    yAt m c t (ix2 r j) = Cert.ReferenceIdeal.Read.val_main_v61 (F := Ideal) (m ((c : Thread nD τ).loc main_arg0)) (m ((c : Thread nD τ).loc main_arg1)) (ix2 (trow (posAt t) r) j) := by
  rw [← host_y m c]
  unfold yAt trow posAt
  blk_ext [iblk, idx t]

theorem dAt_apply (t : Fin cfg0.N) (r : Fin 384) (j : Fin 2048) :
    dAt m c t (ix2 r j) = Cert.ReferenceIdeal.Read.flat58 (m ((c : Thread nD τ).loc main_arg0)) (ix2 (trow (posAt t) r) j) := by
  rw [← host_d m c]
  unfold dAt trow posAt
  blk_ext [iblk, idx t]

theorem scAt_eq (t : Fin cfg0.N) : scAt m c t = (m ((c : Thread nD τ).loc main_arg2) : S1x2048.Idx → EReal) := by
  unfold scAt
  blk_ext! [iblk, V, idx t]

theorem wAt_eq (t : Fin cfg0.N) : wAt m c t = (m ((c : Thread nD τ).loc main_arg1) : S4x512x512.Idx → EReal) := by
  rw [← host_w m c]
  unfold wAt
  blk_ext! [iblk, idx t]

end Cert.KernelIdeal.PoolBwd
-- ==== Proof.Value.lean ====
/-
  What the call leaves: the kept rows and the sums step by step, the result's columns, and the two gradients.
-/

module

public import proofs.«01_k».proof.Proof.Operands

@[expose] public section

set_option maxRecDepth 16384

noncomputable section

namespace Cert.KernelIdeal.PoolBwd

open Idealize.ShloMosaic Idealize.ShloMosaic.TcCoe Cert.PoolSpec Cert.KernelIdeal.Gen

variable (m : (ℓ : Loc nD τ sig) → Buf (Elt Ideal) ℓ) (c : Dev nD)

/-! The arrays both programs are functions of. -/
abbrev DM : S4224x2048.Idx → EReal := m ((c : Thread nD τ).loc main_arg3)
abbrev GP : S4224x2048.Idx → EReal := Cert.ReferenceIdeal.Read.val_main_v1 (F := Ideal) (m ((c : Thread nD τ).loc main_arg0))
abbrev SC : S1x2048.Idx → EReal := m ((c : Thread nD τ).loc main_arg2)
abbrev WT : S4x512x512.Idx → EReal := m ((c : Thread nD τ).loc main_arg1)
abbrev YY : S4224x2048.Idx → EReal := Cert.ReferenceIdeal.Read.val_main_v61 (F := Ideal) (m ((c : Thread nD τ).loc main_arg0)) (m ((c : Thread nD τ).loc main_arg1))
abbrev DD : S4224x2048.Idx → EReal := Cert.ReferenceIdeal.Read.flat58 (m ((c : Thread nD τ).loc main_arg0))

theorem lt_N (t : Fin cfg0.N) : t.val < 11 := lt_of_lt_of_eq t.isLt (show cfg0.N = 11 from N_0)
theorem stp_of_lt {k : ℕ} (h : k < 11) : (stp k).val = k := Nat.mod_eq_of_lt h
theorem coords_posAt (t : Fin cfg0.N) : (grid0.coords t 0).val + (posAt t).val = 10 := by
  have h := (idx t).2.2.2.2.2.2.2.2
  have := lt_N t
  show _ + (10 - t.val) = 10
  omega

/-- The kept rows when step `k` begins are the shares of the first rows of the tile after its own. -/
theorem rowsAt_apply (k : ℕ) (hk : k < 11) (g : Fin 4) (r : Fin 16) (e : Fin 512) :
    rowsAt m c k (ix2 r (gcol g e)) = qS (DM m c) (GP m c) (SC m c) (WT m c) g e ((posAt (stp k)).val * 384 + 384 + r.val) := by
  match k with
  | 0 =>
    have hz : (posAt (stp 0)).val = 10 := rfl
    unfold qS
    rw [dif_neg (by rw [hz]; omega)]
    unfold rowsAt
    pointwise [k0_pay2]
  | k + 1 =>
    have h := kept_apply (coords_posAt (stp k)) (dmAt_apply m c (stp k)) (gpAt_apply m c (stp k)) (sc := scAt m c (stp k)) (w := wAt m c (stp k)) g r e
    rw [scAt_eq, wAt_eq] at h
    have e0 : (posAt (stp k)).val * 384 = (posAt (stp (k + 1))).val * 384 + 384 := by
      show (10 - (stp k).val) * 384 = (10 - (stp (k + 1)).val) * 384 + 384
      rw [stp_of_lt (by omega), stp_of_lt hk]; omega
    rw [e0] at h
    refine Eq.trans ?_ h
    show kept (grid0.coords (stp k)) (dmAt m c (stp k)) (gpAt m c (stp k)) (scAt m c (stp k)) (wAt m c (stp k)) _ = _
    rw [scAt_eq, wAt_eq]

/-- The tiles a step copies out. -/
theorem tileOf_values (u : Fin 11) (g : Fin 4) (r : Fin 384) (e : Fin 512) :
    tileOf m c u 0 (ix2 r (gcol g e)) = dvS (DM m c) (GP m c) (SC m c) (WT m c) g e (trow (posAt (stp u.val)) r) := by
  have h := valueTile_apply (coords_posAt (stp u.val)) (dmAt_apply m c (stp u.val)) (gpAt_apply m c (stp u.val)) (sc := SC m c) (w := WT m c)
    (rowsAt m c u.val) (rowsAt_apply m c u.val u.isLt) g r e
  refine Eq.trans ?_ h
  unfold tileOf
  rw [if_pos rfl, scAt_eq, wAt_eq]

theorem tileOf_gate (u : Fin 11) (r : Fin 384) (j : Fin 2048) :
    tileOf m c u 1 (ix2 r j) = dgS (DM m c) (GP m c) (SC m c) (YY m c) (trow (posAt (stp u.val)) r) j := by
  unfold tileOf
  rw [if_neg (by decide), gateTile_apply, dmAt_apply, gpAt_apply, yAt_apply, scAt_eq]
  rfl

/-- The sum of a function of the rows over the tiles of the first `k` steps. -/
def sumTo (f : Fin 4224 → EReal) (k : ℕ) : EReal := ∑ u ∈ Finset.range k, ∑ r : Fin 384, f (trow (posAt (stp u)) r)

/-- Over the eleven steps it is the sum over every row: the steps take the tiles from the last to the first. -/
theorem sumTo_all (f : Fin 4224 → EReal) : sumTo f 11 = ∑ t : Fin 4224, f t := by
  unfold sumTo
  rw [Finset.sum_range, Fin.sum_univ_tiles 11 384 rfl f]
  refine Eq.trans ?_ (Equiv.sum_comp Fin.revPerm fun b : Fin 11 => ∑ r : Fin 384, f ⟨b.val * 384 + r.val, by omega⟩)
  refine Finset.sum_congr rfl fun u _ => Finset.sum_congr rfl fun r _ => congrArg f (Fin.ext ?_)
  show (10 - (stp u.val).val) * 384 + r.val = (Fin.rev u).val * 384 + r.val
  rw [stp_of_lt u.isLt, Fin.val_rev]
  omega

theorem sumTo_succ (f : Fin 4224 → EReal) (k : ℕ) : sumTo f (k + 1) = sumTo f k + ∑ r : Fin 384, f (trow (posAt (stp k)) r) :=
  Finset.sum_range_succ _ _

theorem wSum_apply (k : ℕ) (g : Fin 4) (e l : Fin 512) :
    wSum m c k (ix3 g e l) = sumTo (fun t => DD m c (ix2 t (gcol g e)) * dyS (DM m c) (GP m c) (SC m c) t (gcol g l)) k := by
  induction k with
  | zero =>
    unfold wSum sumTo
    pointwise [k0_pay3]
    rw [Finset.sum_range_zero]
  | succ k ih =>
    unfold wSum
    rw [wAcc_apply, ih, sumTo_succ]
    refine congrArg₂ (· + ·) rfl (Finset.sum_congr rfl fun r _ => ?_)
    rw [dAt_apply, dyS_tile (dmAt_apply m c (stp k)) (gpAt_apply m c (stp k)), scAt_eq]

theorem scSum_apply (k : ℕ) (j : Fin 2048) :
    scSum m c k (ix2 0 j) = sumTo (fun t => gatedS (DM m c) (GP m c) t j * YY m c (ix2 t j)) k := by
  induction k with
  | zero =>
    unfold scSum sumTo
    pointwise [k0_pay4]
    rw [Finset.sum_range_zero]
  | succ k ih =>
    unfold scSum
    rw [scAcc_apply, ih, sumTo_succ]
    refine congrArg₂ (· + ·) rfl (Finset.sum_congr rfl fun r _ => ?_)
    rw [yAt_apply, gatedS_tile (dmAt_apply m c (stp k)) (gpAt_apply m c (stp k))]

/-- The result at a value column and at a gate column. -/
theorem destEnd_values (t : Fin 4224) (g : Fin 4) (e : Fin 512) :
    destEnd m c (ix2 t ⟨(gcol g e).val, by omega⟩) = dvS (DM m c) (GP m c) (SC m c) (WT m c) g e t := by
  have ht := t.isLt
  have hu : 10 - t.val / 384 < 11 := by omega
  have hx : (ValueIdx.ix2 (Fin.ofNat 384 t.val) (Fin.ofNat 2048 (gcol g e).val) : S384x2048.Idx) = ix2 (⟨t.val % 384, by omega⟩ : Fin 384) (gcol g e) := by
    funext a
    match a with
    | ⟨0, _⟩ => rfl
    | ⟨1, _⟩ => exact Fin.ext (Nat.mod_eq_of_lt (gcol g e).isLt)
  have hb : Ring.bk 11 (10 - t.val / 384) = ⟨10 - t.val / 384, hu⟩ := Fin.ext (Ring.bk_val hu)
  have ho : trow (posAt (stp (10 - t.val / 384))) ⟨t.val % 384, by omega⟩ = t := Fin.ext (by
    show (10 - (stp (10 - t.val / 384)).val) * 384 + t.val % 384 = t.val
    rw [stp_of_lt hu]; omega)
  have h := tileOf_values m c ⟨10 - t.val / 384, hu⟩ g ⟨t.val % 384, by omega⟩ e
  rw [ho] at h
  refine Eq.trans ?_ h
  unfold destEnd
  refine (if_pos (gcol g e).isLt).trans ?_
  exact (congrArg (fun u => tileOf m c u 0 _) hb).trans (congrArg (tileOf m c _ 0) hx)

theorem destEnd_gate (t : Fin 4224) (j : Fin 2048) :
    destEnd m c (ix2 t ⟨6144 + j.val, by omega⟩) = dgS (DM m c) (GP m c) (SC m c) (YY m c) t j := by
  have ht := t.isLt
  have hu : 10 - t.val / 384 < 11 := by omega
  have hx : (ValueIdx.ix2 (Fin.ofNat 384 t.val) (Fin.ofNat 2048 (6144 + j.val)) : S384x2048.Idx) = ix2 (⟨t.val % 384, by omega⟩ : Fin 384) j := by
    funext a
    match a with
    | ⟨0, _⟩ => rfl
    | ⟨1, _⟩ => exact Fin.ext (show (6144 + j.val) % 2048 = j.val by omega)
  have hb : Ring.bk 11 (10 - t.val / 384) = ⟨10 - t.val / 384, hu⟩ := Fin.ext (Ring.bk_val hu)
  have ho : trow (posAt (stp (10 - t.val / 384))) ⟨t.val % 384, by omega⟩ = t := Fin.ext (by
    show (10 - (stp (10 - t.val / 384)).val) * 384 + t.val % 384 = t.val
    rw [stp_of_lt hu]; omega)
  have h := tileOf_gate m c ⟨10 - t.val / 384, hu⟩ ⟨t.val % 384, by omega⟩ j
  rw [ho] at h
  refine Eq.trans ?_ h
  unfold destEnd
  refine (if_neg (show ¬ 6144 + j.val < 2048 by omega)).trans ?_
  refine (if_pos (show 6144 ≤ 6144 + j.val ∧ 6144 + j.val < 8192 by omega)).trans ?_
  exact (congrArg (fun u => tileOf m c u 1 _) hb).trans (congrArg (tileOf m c _ 1) hx)

/-- The two gradients are written out once, after the last step. -/
theorem dw_end : (dats m 0 c).arrAt 6 cfg0.N = wSum m c 11 := by
  refine (dats m 0 c).arrAt_eq_of_after_last 6 (stp 10) (by decide +kernel) _ fun j => ?_
  blk_simp [idx (stp 10)]
  rw [after_6]
  rfl

theorem ds_end : (dats m 0 c).arrAt 7 cfg0.N = scSum m c 11 := by
  refine (dats m 0 c).arrAt_eq_of_after_last 7 (stp 10) (by decide +kernel) _ fun j => ?_
  blk_simp [idx (stp 10)]
  rw [after_7]
  rfl

theorem dw_apply (g : Fin 4) (e l : Fin 512) : wSum m c 11 (ix3 g e l) = dwS (DM m c) (GP m c) (SC m c) (DD m c) g e l := by
  rw [wSum_apply, sumTo_all]; rfl

theorem ds_apply (j : Fin 2048) : scSum m c 11 (ix2 0 j) = dsS (DM m c) (GP m c) (YY m c) j := by
  rw [scSum_apply, sumTo_all]; rfl

end Cert.KernelIdeal.PoolBwd
-- ==== Proof.Ends.lean ====
/-
  The call's results and the reference's, where the call writes.
-/

module

public import proofs.«01_k».proof.Proof.Value
public import proofs.«01_k».proof.Proof.Gen.On_written

@[expose] public section

set_option maxRecDepth 16384

noncomputable section

namespace Cert.KernelIdeal.PoolBwd

open Idealize.ShloMosaic Idealize.ShloMosaic.TcCoe Idealize.SL.Sem Cert.PoolSpec Cert.KernelIdeal.Gen

/-- The selected columns: the pooling values' and the pooling gate's. -/
theorem written_col (x0 : FVec Ideal S4224x10240 .f32) (x1 : FVec Ideal S4x512x512 .f32) (x2 : FVec Ideal S1x2048 .f32) (x3 : FVec Ideal S4224x2048 .f32)
    (t : Fin 4224) (j : Fin 10240) (h : (Cert.On_written.fn (F := Ideal) x0 x1 x2 x3).1 (ix2 t j) = 1#1) :
    j.val < 2048 ∨ 6144 ≤ j.val ∧ j.val < 8192 := by
  have hj := j.isLt
  by_contra hn
  have e : (Cert.On_written.fn (F := Ideal) x0 x1 x2 x3).1 (ix2 t j)
      = IntOp.ori (IntOp.cmpi .slt (BitVec.ofNat 32 j.val) 2048#32)
          (IntOp.andi (IntOp.cmpi .sge (BitVec.ofNat 32 j.val) 6144#32) (IntOp.cmpi .slt (BitVec.ofNat 32 j.val) 8192#32)) := rfl
  rw [e] at h
  have hi : (BitVec.ofNat 32 j.val).toInt = (j.val : Int) := by
    rw [BitVec.toInt_eq_toNat_of_lt] <;> rw [BitVec.toNat_ofNat] <;> omega
  have c0 : IntOp.cmpi .slt (BitVec.ofNat 32 j.val) 2048#32 = 0#1 := by
    simp only [IntOp.cmpi, BitVec.slt, hi, show (2048#32 : BitVec 32).toInt = 2048 from rfl]
    rw [decide_eq_false (by omega)]; rfl
  have c1 : IntOp.andi (IntOp.cmpi .sge (BitVec.ofNat 32 j.val) 6144#32) (IntOp.cmpi .slt (BitVec.ofNat 32 j.val) 8192#32) = 0#1 := by
    simp only [IntOp.cmpi, BitVec.slt, BitVec.sle, hi, show (6144#32 : BitVec 32).toInt = 6144 from rfl, show (8192#32 : BitVec 32).toInt = 8192 from rfl]
    by_cases h6 : 6144 ≤ j.val
    · rw [decide_eq_true (show (6144 : Int) ≤ j.val by omega), decide_eq_false (show ¬ (j.val : Int) < 8192 by omega)]; rfl
    · rw [decide_eq_false (show ¬ (6144 : Int) ≤ j.val by omega)]
      rcases Bool.eq_false_or_eq_true (decide ((j.val : Int) < 8192)) with e | e <;> rw [e] <;> rfl
  rw [c0, c1] at h
  exact absurd h (by decide)

variable (m : (ℓ : Loc nD τ sig) → Buf (Elt Ideal) ℓ) (c : Dev nD)

/-- The reference's three results, of the call's arguments. -/
abbrev refProj : S4224x10240.Idx → EReal := Cert.ReferenceIdeal.Read.val_main_v134 (F := Ideal) (m ((c : Thread nD τ).loc main_arg0)) (m ((c : Thread nD τ).loc main_arg1)) (m ((c : Thread nD τ).loc main_arg2)) (m ((c : Thread nD τ).loc main_arg3))
abbrev refWeight : S4x512x512.Idx → EReal := Cert.ReferenceIdeal.Read.val_main_v87 (F := Ideal) (m ((c : Thread nD τ).loc main_arg0)) (m ((c : Thread nD τ).loc main_arg2)) (m ((c : Thread nD τ).loc main_arg3))
abbrev refScale : S1x2048.Idx → EReal := Cert.ReferenceIdeal.Read.val_main_v79 (F := Ideal) (m ((c : Thread nD τ).loc main_arg0)) (m ((c : Thread nD τ).loc main_arg1)) (m ((c : Thread nD τ).loc main_arg3))

theorem proj_eq (t : Fin 4224) (j : Fin 10240) (h : j.val < 2048 ∨ 6144 ≤ j.val ∧ j.val < 8192) : destEnd m c (ix2 t j) = refProj m c (ix2 t j) := by
  have hj := j.isLt
  rcases h with h | h
  · have e : j = ⟨(gcol ⟨j.val / 512, by omega⟩ ⟨j.val % 512, by omega⟩).val, by show j.val / 512 * 512 + j.val % 512 < 10240; omega⟩ :=
      Fin.ext (by show j.val = j.val / 512 * 512 + j.val % 512; omega)
    rw [e]
    exact (destEnd_values m c t _ _).trans (Cert.ReferenceIdeal.Read.v134_values _ _ _ _ t _ _).symm
  · have e : j = ⟨6144 + (⟨j.val - 6144, by omega⟩ : Fin 2048).val, by show 6144 + (j.val - 6144) < 10240; omega⟩ :=
      Fin.ext (by show j.val = 6144 + (j.val - 6144); omega)
    rw [e]
    exact (destEnd_gate m c t _).trans (Cert.ReferenceIdeal.Read.v134_gate _ _ _ _ t _).symm

theorem weight_eq : (wSum m c 11 : S4x512x512.Idx → EReal) = refWeight m c := by
  funext i
  rw [eq_ix3 i]
  exact (dw_apply m c _ _ _).trans (Cert.ReferenceIdeal.Read.v87_apply _ _ _ _ _ _).symm

theorem scale_eq : (scSum m c 11 : S1x2048.Idx → EReal) = refScale m c := by
  funext i
  rw [eq_ix2 i]
  have h0 : i 0 = (0 : Fin 1) := Subsingleton.elim (α := Fin 1) _ _
  rw [h0]
  exact (ds_apply m c _).trans (Cert.ReferenceIdeal.Read.v79_apply _ _ _ _).symm

/-- The whole program's results. -/
theorem call_values (ρ : Dev nD → PrngReg) : θ_run defs (onTc (τ := τ) (main (F := Ideal))) ⟨m, fun _ => 0, ρ⟩ (fun r => ∀ c : Dev nD,
      r.2.mem ((c.tc : Thread nD τ).loc main_v63_0) = destEnd m c
      ∧ r.2.mem ((c.tc : Thread nD τ).loc main_v63_1) = refWeight m c
      ∧ r.2.mem ((c.tc : Thread nD τ).loc main_v63_2) = refScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (h.1.2 c main_v63_0 (by decide)).trans (arraysEnd_dest m c),
      ((h.1.1 c).1 6).trans ((dw_end m c).trans (weight_eq m c)),
      ((h.1.1 c).1 7).trans ((ds_end m c).trans (scale_eq m c)),
      ((h.1.1 c).1 1).trans (((dats m 0 c).arrAt_in 1 rfl _).trans ((A_eq m c 1).trans (V_main_arg0 m c))),
      ((h.1.1 c).2 main_arg1 (Finset.mem_sdiff.mpr ⟨Pipeline.mem_restRefs_of main_arg1 (by decide) (by decide), by decide⟩)).trans (V_main_arg1 m c),
      ((h.1.1 c).1 4).trans (((dats m 0 c).arrAt_in 4 rfl _).trans ((A_eq m c 4).trans (V_main_arg2 m c))),
      ((h.1.1 c).1 0).trans (((dats m 0 c).arrAt_in 0 rfl _).trans ((A_eq m c 0).trans (V_main_arg3 m c)))⟩) (call_run m ρ)

end Cert.KernelIdeal.PoolBwd

end
-- ==== Proof.Hidden.lean ====
/-
  The gradient of the hidden layer: the product with the second weight, through the squared rectifier.
-/

module

public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Hidden

open Idealize.ShloMosaic Idealize.ShloMosaic.TcCoe Idealize.SL.Sem Cert.Kernel2Ideal Cert.Kernel2Ideal.Gen

open Cert.Reference2Ideal.Read in
/-- Where the hidden value is not positive the rectifier is zero, and so is the product: the selection changes nothing. -/
theorem unselected (x0 : FVec Ideal S4224x8192 .f32) (x1 : FVec Ideal S8192x2048 .f32) (x2 : FVec Ideal S4224x2048 .f32) (i : S4224x8192.Idx) :
    val_main_v11 (F := Ideal) x0 x1 x2 i = val_main_v9 (F := Ideal) x0 x1 x2 i := by
  pointwise [val_main_v11, val_main_v10, val_main_cst_2, val_main_v2, val_main_v1, val_main_cst, val_main_v9, val_main_v6, val_main_v5, val_main_cst_1, val_main_v0, val_main_call0_v0, val_main_call0_cst]
  split
  · rfl
  · next h => rw [max_eq_right (not_lt.mp h), mul_zero, mul_zero]

variable (m : (ℓ : Loc nD τ sig) → Buf (Elt Ideal) ℓ) (c : Dev nD)

/-- Where every block of a grid point lies. -/
theorem idx : ∀ t : Fin cfg0.N, win0_0.index t = ![(grid0.coords t 1).val, 0] ∧ win0_1.index t = ![(grid0.coords t 0).val, 0, 0] ∧ win0_2.index t = ![(grid0.coords t 1).val, (grid0.coords t 0).val] ∧ win0_3.index t = ![(grid0.coords t 1).val, (grid0.coords t 0).val] :=
  (by decide +kernel : ∀ t : Fin grid0.N, _)

/-- The result as the reference's function of the arguments. -/
abbrev ref3 : Buf (Elt Ideal) ((c : Thread nD τ).loc (Pipeline.arrRef spec0 3)) :=
  Cert.Reference2Ideal.Read.val_main_v12 (F := Ideal) (m ((c : Thread nD τ).loc main_arg0)) (m ((c : Thread nD τ).loc main_arg1)) (m ((c : Thread nD τ).loc main_arg2))

/-- What a grid point writes is its block of the reference's result. -/
theorem point3 (t : Fin cfg0.N) (y) : k0_pay1 (F := Ideal) (iblk m c 0 t) (iblk m c 1 t) (iblk m c 2 t) y = ref3 m c (((cfg0.win 3).blk t).view.emb y) := by
  pointwise [k0_pay1, ref3, Cert.Reference2Ideal.Read.val_main_v12, unselected, Cert.Reference2Ideal.Read.val_main_v9, Cert.Reference2Ideal.Read.val_main_v8, Cert.Reference2Ideal.Read.val_main_v6, Cert.Reference2Ideal.Read.val_main_v5, Cert.Reference2Ideal.Read.val_main_cst_1, Cert.Reference2Ideal.Read.val_main_v0, Cert.Reference2Ideal.Read.val_main_call0_v0, Cert.Reference2Ideal.Read.val_main_call0_cst]

  blk_point [iblk, V, idx t]

/-- The blocks tile the result, so the result is the reference's. -/
theorem final3 : (dats m 0 c).arrAt 3 cfg0.N = ref3 m c := by
  refine (dats m 0 c).arrAt_eq_of_covers 3 _ (by decide +kernel) fun t _ y => ?_
  blk_simp
  rw [after0_3]; frame_out
  exact point3 m c t y

end Cert.Kernel2Ideal.Hidden
-- ==== Proof.GradW2.lean ====
/-
  The gradient of the second weight of the MLP: the product of the hidden layer and the gradient after it.
-/

module

public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.GradW2

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The point before: the first half of the rows. -/
abbrev prev (t : Fin cfg0.N) : Fin cfg0.N := ⟨t.val - 1, Nat.lt_of_le_of_lt (Nat.sub_le _ _) t.isLt⟩

/-- Where every block of a point of the second half lies. -/
theorem idx : ∀ t : Fin cfg0.N, t.val % 2 = 1 → win0_0.index t = ![1, t.val / 2] ∧ win0_1.index t = ![1, 0] ∧ win0_2.index t = ![t.val / 2, 0, 0] :=
  (by decide +kernel : ∀ t : Fin grid0.N, _)

/-- Where every block of the point before lies. -/
theorem idx_prev : ∀ t : Fin cfg0.N, t.val % 2 = 1 → win0_0.index (prev t) = ![0, t.val / 2] ∧ win0_1.index (prev t) = ![0, 0] :=
  (by decide +kernel : ∀ t : Fin grid0.N, _)

/-- The result as the reference's function of the arguments. -/
abbrev ref2 : Buf (Elt Ideal) ((c : Thread nD τ).loc (Pipeline.arrRef spec0 2)) :=
  Cert.Reference3Ideal.Read.val_main_v7 (F := Ideal) (m ((c : Thread nD τ).loc main_arg0)) (m ((c : Thread nD τ).loc main_arg1))

/-- At the second half of the rows the block written is the sum of the two halves' products. -/
theorem written (t : Fin cfg0.N) (ht : t.val % 2 = 1) :
    (outsAt0 m c t.val t.isLt).1 = k0_pay3 (F := Ideal) (k0_pay2 (F := Ideal) (k0_pay2 (F := Ideal) (k0_pay1 (F := Ideal))
      (iblk m c 0 (prev t)) (iblk m c 1 (prev t))) (iblk m c 0 t) (iblk m c 1 t)) := by
  rw [outsAt0_B m c t (by omega) ht, outsAt0_A m c (prev t) (by show (t.val - 1) % 2 = 0; omega) (by show ¬ (t.val - 1) % 2 = 1; omega)]
  frame_out
  exact congrArg (fun s => k0_pay3 (F := Ideal) (k0_pay2 (F := Ideal) s (iblk m c 0 t) (iblk m c 1 t))) (Memref.IsWhole.read_unread (m := scM0_0) (Memref.isWhole_whole _) _)

/-- The operands as the host prepares them. -/
theorem host0 : V m c main_v2 = (truncf (F := Ideal) .bf16 (Cert.Reference3Ideal.Read.val_main_v2 (F := Ideal) (m ((c : Thread nD τ).loc main_arg0))) bitsLt_bf16_f32 : FVec Ideal S4224x8192 .bf16) := by
  unfold V; simp only [hostOps0, hostOps0_1, List.flatten_cons, List.flatten_nil, List.append_nil, List.cons_append, List.nil_append]; after_results; try rfl
theorem host1 : V m c main_v3 = (truncf (F := Ideal) .bf16 (m ((c : Thread nD τ).loc main_arg1)) bitsLt_bf16_f32 : FVec Ideal S4224x2048 .bf16) := by
  unfold V; simp only [hostOps0, hostOps0_1, List.flatten_cons, List.flatten_nil, List.append_nil, List.cons_append, List.nil_append]; after_results; try rfl

/-- The two halves of the rows make up the reference's one sum over all of them. -/
theorem point2 (t : Fin cfg0.N) (ht : t.val % 2 = 1) (y) :
    k0_pay3 (F := Ideal) (k0_pay2 (F := Ideal) (k0_pay2 (F := Ideal) (k0_pay1 (F := Ideal))
      (iblk m c 0 (prev t)) (iblk m c 1 (prev t))) (iblk m c 0 t) (iblk m c 1 t)) y
      = ref2 m c (((cfg0.win 2).blk t).view.emb y) := by
  pointwise [k0_pay1, k0_pay2, k0_pay3, ref2, Cert.Reference3Ideal.Read.val_main_v7, Cert.Reference3Ideal.Read.val_main_v6, Cert.Reference3Ideal.Read.val_main_v5, Cert.Reference3Ideal.Read.val_main_v4]
  rw [Fin.sum_univ_tiles 2 2112 rfl, Fin.sum_univ_two]
  refine congrArg₂ (· + ·) (Fin.sum_fin_congr fun k => ?_) (Fin.sum_fin_congr fun k => ?_)
  · refine (mul_comm _ _).trans (congrArg₂ (· * ·) ?_ ?_)
    · blk_simp [iblk, idx_prev t ht, idx t ht]
      rw [host1]
      pointwise
      blk_ext [idx_prev t ht, idx t ht]
    · blk_simp [iblk, idx_prev t ht, idx t ht]
      rw [host0]
      pointwise
      blk_ext [idx_prev t ht, idx t ht]
  · refine (mul_comm _ _).trans (congrArg₂ (· * ·) ?_ ?_)
    · blk_simp [iblk, idx t ht]
      rw [host1]
      pointwise
      blk_ext [idx t ht]
    · blk_simp [iblk, idx t ht]
      rw [host0]
      pointwise
      blk_ext [idx t ht]

/-- The blocks tile the result, so the result is the reference's. -/
theorem final2 : (dats m 0 c).arrAt 2 cfg0.N = ref2 m c := by
  refine (dats m 0 c).arrAt_eq_of_covers 2 _ (by decide +kernel) fun t hf y => ?_
  blk_simp
  rw [after0_2, written m c t ((flush0_2 t).mp hf)]
  exact point2 m c t ((flush0_2 t).mp hf) y

end Cert.Kernel3Ideal.GradW2
-- ==== Proof.GradW1.lean ====
/-
  The gradient of the first weight of the MLP.
-/

module

public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel4Ideal.GradW1

open Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The point before: the first half of the rows. -/
abbrev prev (t : Fin cfg0.N) : Fin cfg0.N := ⟨t.val - 1, Nat.lt_of_le_of_lt (Nat.sub_le _ _) t.isLt⟩

/-- Where every block of a point of the second half lies. -/
theorem idx : ∀ t : Fin cfg0.N, t.val % 2 = 1 → win0_0.index t = ![1, 0] ∧ win0_1.index t = ![1, t.val / 2] ∧ win0_2.index t = ![t.val / 2, 0, 0] :=
  (by decide +kernel : ∀ t : Fin grid0.N, _)

/-- Where every block of the point before lies. -/
theorem idx_prev : ∀ t : Fin cfg0.N, t.val % 2 = 1 → win0_0.index (prev t) = ![0, 0] ∧ win0_1.index (prev t) = ![0, t.val / 2] :=
  (by decide +kernel : ∀ t : Fin grid0.N, _)

/-- The result as the reference's function of the arguments. -/
abbrev ref2 : Buf (Elt Ideal) ((c : Thread nD τ).loc (Pipeline.arrRef spec0 2)) :=
  Cert.Reference4Ideal.Read.val_main_v6 (F := Ideal) (m ((c : Thread nD τ).loc main_arg0)) (m ((c : Thread nD τ).loc main_arg1))

/-- At the second half of the rows the block written is the sum of the two halves' products. -/
theorem written (t : Fin cfg0.N) (ht : t.val % 2 = 1) :
    (outsAt0 m c t.val t.isLt).1 = k0_pay3 (F := Ideal) (k0_pay2 (F := Ideal) (k0_pay2 (F := Ideal) (k0_pay1 (F := Ideal))
      (iblk m c 0 (prev t)) (iblk m c 1 (prev t))) (iblk m c 0 t) (iblk m c 1 t)) := by
  rw [outsAt0_B m c t (by omega) ht, outsAt0_A m c (prev t) (by show (t.val - 1) % 2 = 0; omega) (by show ¬ (t.val - 1) % 2 = 1; omega)]
  frame_out
  exact congrArg (fun s => k0_pay3 (F := Ideal) (k0_pay2 (F := Ideal) s (iblk m c 0 t) (iblk m c 1 t))) (Memref.IsWhole.read_unread (m := scM0_0) (Memref.isWhole_whole _) _)

/-- The operands as the host prepares them. -/
theorem host0 : V m c main_v0 = (truncf (F := Ideal) .bf16 (m ((c : Thread nD τ).loc main_arg0)) bitsLt_bf16_f32 : FVec Ideal S4224x2048 .bf16) := by
  unfold V; after_results; try rfl
theorem host1 : V m c main_v1 = (truncf (F := Ideal) .bf16 (m ((c : Thread nD τ).loc main_arg1)) bitsLt_bf16_f32 : FVec Ideal S4224x8192 .bf16) := by
  unfold V; after_results; try rfl

/-- The two halves of the rows make up the reference's one sum over all of them. -/
theorem point2 (t : Fin cfg0.N) (ht : t.val % 2 = 1) (y) :
    k0_pay3 (F := Ideal) (k0_pay2 (F := Ideal) (k0_pay2 (F := Ideal) (k0_pay1 (F := Ideal))
      (iblk m c 0 (prev t)) (iblk m c 1 (prev t))) (iblk m c 0 t) (iblk m c 1 t)) y
      = ref2 m c (((cfg0.win 2).blk t).view.emb y) := by
  pointwise [k0_pay1, k0_pay2, k0_pay3, ref2, Cert.Reference4Ideal.Read.val_main_v6, Cert.Reference4Ideal.Read.val_main_v5, Cert.Reference4Ideal.Read.val_main_v4, Cert.Reference4Ideal.Read.val_main_v3, Cert.Reference4Ideal.Read.val_main_v2]
  rw [Fin.sum_univ_tiles 2 2112 rfl, Fin.sum_univ_two]
  refine congrArg₂ (· + ·) (Fin.sum_fin_congr fun k => ?_) (Fin.sum_fin_congr fun k => ?_)
  · refine (mul_comm _ _).trans (congrArg₂ (· * ·) ?_ ?_)
    · blk_simp [iblk, idx_prev t ht, idx t ht]
      rw [host1]
      pointwise
      blk_ext [idx_prev t ht, idx t ht]
    · blk_simp [iblk, idx_prev t ht, idx t ht]
      rw [host0]
      pointwise
      blk_ext [idx_prev t ht, idx t ht]
  · refine (mul_comm _ _).trans (congrArg₂ (· * ·) ?_ ?_)
    · blk_simp [iblk, idx t ht]
      rw [host1]
      pointwise
      blk_ext [idx t ht]
    · blk_simp [iblk, idx t ht]
      rw [host0]
      pointwise
      blk_ext [idx t ht]

/-- The blocks tile the result, so the result is the reference's. -/
theorem final2 : (dats m 0 c).arrAt 2 cfg0.N = ref2 m c := by
  refine (dats m 0 c).arrAt_eq_of_covers 2 _ (by decide +kernel) fun t hf y => ?_
  blk_simp
  rw [after0_2, written m c t ((flush0_2 t).mp hf)]
  exact point2 m c t ((flush0_2 t).mp hf) y

end Cert.Kernel4Ideal.GradW1
-- ==== Proof.Merged.lean ====
/-
  The gradient of the merged mixers is the product with the output projection.
-/

module

public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel5Ideal.Merged

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- Where every block of a grid point lies. -/
theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

/-- The result as the reference's function of the arguments. -/
abbrev ref2 : Buf (Elt Ideal) ((c : Thread nD τ).loc (Pipeline.arrRef spec0 2)) :=
  Cert.Reference5Ideal.Read.val_main_v2 (F := Ideal) (m ((c : Thread nD τ).loc main_arg0)) (m ((c : Thread nD τ).loc main_arg1))

/-- What a grid point writes is its block of the reference's result. -/
theorem point2 (t : Fin cfg0.N) (y) : k0_pay1 (F := Ideal) (iblk m c 0 t) (iblk m c 1 t) y = ref2 m c (((cfg0.win 2).blk t).view.emb y) := by
  pointwise [k0_pay1, ref2, Cert.Reference5Ideal.Read.val_main_v2]

  blk_point [iblk, V, idx t]

/-- The blocks tile the result, so the result is the reference's. -/
theorem final2 : (dats m 0 c).arrAt 2 cfg0.N = ref2 m c := by
  refine (dats m 0 c).arrAt_eq_of_covers 2 _ (by decide +kernel) fun t _ y => ?_
  blk_simp
  rw [after0_2]; frame_out
  exact point2 m c t y

end Cert.Kernel5Ideal.Merged
-- ==== Proof.GradWout.lean ====
/-
  The gradient of the output projection.
-/

module

public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel6Ideal.GradWout

open Idealize.ShloMosaic Idealize.ShloMosaic.TcCoe Idealize.SL.Sem Cert.Kernel6Ideal Cert.Kernel6Ideal.Gen

variable (m : (ℓ : Loc nD τ sig) → Buf (Elt Ideal) ℓ) (c : Dev nD)

/-- The point before: the first half of the rows. -/
abbrev prev (t : Fin cfg0.N) : Fin cfg0.N := ⟨t.val - 1, Nat.lt_of_le_of_lt (Nat.sub_le _ _) t.isLt⟩

/-- Where every block of a point of the second half lies. -/
theorem idx : ∀ t : Fin cfg0.N, t.val % 2 = 1 → win0_0.index t = ![1, t.val / 2] ∧ win0_1.index t = ![1, 0] ∧ win0_2.index t = ![t.val / 2, 0, 0] :=
  (by decide +kernel : ∀ t : Fin grid0.N, _)

/-- Where every block of the point before lies. -/
theorem idx_prev : ∀ t : Fin cfg0.N, t.val % 2 = 1 → win0_0.index (prev t) = ![0, t.val / 2] ∧ win0_1.index (prev t) = ![0, 0] :=
  (by decide +kernel : ∀ t : Fin grid0.N, _)

/-- The result as the reference's function of the arguments. -/
abbrev ref2 : Buf (Elt Ideal) ((c : Thread nD τ).loc (Pipeline.arrRef spec0 2)) :=
  Cert.Reference6Ideal.Read.val_main_v5 (F := Ideal) (m ((c : Thread nD τ).loc main_arg0)) (m ((c : Thread nD τ).loc main_arg1))

/-- At the second half of the rows the block written is the sum of the two halves' products. -/
theorem written (t : Fin cfg0.N) (ht : t.val % 2 = 1) :
    (outsAt0 m c t.val t.isLt).1 = k0_pay3 (F := Ideal) (k0_pay2 (F := Ideal) (k0_pay2 (F := Ideal) (k0_pay1 (F := Ideal))
      (iblk m c 0 (prev t)) (iblk m c 1 (prev t))) (iblk m c 0 t) (iblk m c 1 t)) := by
  rw [outsAt0_B m c t (by omega) ht, outsAt0_A m c (prev t) (by show (t.val - 1) % 2 = 0; omega) (by show ¬ (t.val - 1) % 2 = 1; omega)]
  frame_out
  exact congrArg (fun s => k0_pay3 (F := Ideal) (k0_pay2 (F := Ideal) s (iblk m c 0 t) (iblk m c 1 t))) (Memref.IsWhole.read_unread (m := scM0_0) (Memref.isWhole_whole _) _)

/-- The operands as the host prepares them. -/
theorem host0 : V m c main_v0 = (truncf (F := Ideal) .bf16 (m ((c : Thread nD τ).loc main_arg0)) bitsLt_bf16_f32 : FVec Ideal S4224x2048 .bf16) := by
  unfold V; after_results; try rfl
theorem host1 : V m c main_v1 = (truncf (F := Ideal) .bf16 (m ((c : Thread nD τ).loc main_arg1)) bitsLt_bf16_f32 : FVec Ideal S4224x2048 .bf16) := by
  unfold V; after_results; try rfl

/-- The two halves of the rows make up the reference's one sum over all of them. -/
theorem point2 (t : Fin cfg0.N) (ht : t.val % 2 = 1) (y) :
    k0_pay3 (F := Ideal) (k0_pay2 (F := Ideal) (k0_pay2 (F := Ideal) (k0_pay1 (F := Ideal))
      (iblk m c 0 (prev t)) (iblk m c 1 (prev t))) (iblk m c 0 t) (iblk m c 1 t)) y
      = ref2 m c (((cfg0.win 2).blk t).view.emb y) := by
  pointwise [k0_pay1, k0_pay2, k0_pay3, ref2, Cert.Reference6Ideal.Read.val_main_v5, Cert.Reference6Ideal.Read.val_main_v4, Cert.Reference6Ideal.Read.val_main_v3, Cert.Reference6Ideal.Read.val_main_v2]
  rw [Fin.sum_univ_tiles 2 2112 rfl, Fin.sum_univ_two]
  refine congrArg₂ (· + ·) (Fin.sum_fin_congr fun k => ?_) (Fin.sum_fin_congr fun k => ?_)
  · refine (mul_comm _ _).trans (congrArg₂ (· * ·) ?_ ?_)
    · blk_simp [iblk, idx_prev t ht, idx t ht]
      rw [host1]
      pointwise
      blk_ext [idx_prev t ht, idx t ht]
    · blk_simp [iblk, idx_prev t ht, idx t ht]
      rw [host0]
      pointwise
      blk_ext [idx_prev t ht, idx t ht]
  · refine (mul_comm _ _).trans (congrArg₂ (· * ·) ?_ ?_)
    · blk_simp [iblk, idx t ht]
      rw [host1]
      pointwise
      blk_ext [idx t ht]
    · blk_simp [iblk, idx t ht]
      rw [host0]
      pointwise
      blk_ext [idx t ht]

/-- The blocks tile the result, so the result is the reference's. -/
theorem final2 : (dats m 0 c).arrAt 2 cfg0.N = ref2 m c := by
  refine (dats m 0 c).arrAt_eq_of_covers 2 _ (by decide +kernel) fun t hf y => ?_
  blk_simp
  rw [after0_2, written m c t ((flush0_2 t).mp hf)]
  exact point2 m c t ((flush0_2 t).mp hf) y

end Cert.Kernel6Ideal.GradWout
-- ==== Proof.GradWinA.lean ====
/-
  The gradient of the first half of the rows of the input projection.
-/

module

public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel7Ideal.GradWinA

open Idealize.ShloMosaic Idealize.ShloMosaic.TcCoe Idealize.SL.Sem Cert.Kernel7Ideal Cert.Kernel7Ideal.Gen

variable (m : (ℓ : Loc nD τ sig) → Buf (Elt Ideal) ℓ) (c : Dev nD)

/-- The point before: the first half of the rows. -/
abbrev prev (t : Fin cfg0.N) : Fin cfg0.N := ⟨t.val - 1, Nat.lt_of_le_of_lt (Nat.sub_le _ _) t.isLt⟩

/-- Where every block of a point of the second half lies. -/
theorem idx : ∀ t : Fin cfg0.N, t.val % 2 = 1 → win0_0.index t = ![1, 0] ∧ win0_1.index t = ![1, t.val / 2] ∧ win0_2.index t = ![t.val / 2, 0, 0] :=
  (by decide +kernel : ∀ t : Fin grid0.N, _)

/-- Where every block of the point before lies. -/
theorem idx_prev : ∀ t : Fin cfg0.N, t.val % 2 = 1 → win0_0.index (prev t) = ![0, 0] ∧ win0_1.index (prev t) = ![0, t.val / 2] :=
  (by decide +kernel : ∀ t : Fin grid0.N, _)

/-- The result as the reference's function of the arguments. -/
abbrev ref2 : Buf (Elt Ideal) ((c : Thread nD τ).loc (Pipeline.arrRef spec0 2)) :=
  Cert.Reference7Ideal.Read.val_main_v7 (F := Ideal) (m ((c : Thread nD τ).loc main_arg0)) (m ((c : Thread nD τ).loc main_arg1))

/-- At the second half of the rows the block written is the sum of the two halves' products. -/
theorem written (t : Fin cfg0.N) (ht : t.val % 2 = 1) :
    (outsAt0 m c t.val t.isLt).1 = k0_pay3 (F := Ideal) (k0_pay2 (F := Ideal) (k0_pay2 (F := Ideal) (k0_pay1 (F := Ideal))
      (iblk m c 0 (prev t)) (iblk m c 1 (prev t))) (iblk m c 0 t) (iblk m c 1 t)) := by
  rw [outsAt0_B m c t (by omega) ht, outsAt0_A m c (prev t) (by show (t.val - 1) % 2 = 0; omega) (by show ¬ (t.val - 1) % 2 = 1; omega)]
  frame_out
  exact congrArg (fun s => k0_pay3 (F := Ideal) (k0_pay2 (F := Ideal) s (iblk m c 0 t) (iblk m c 1 t))) (Memref.IsWhole.read_unread (m := scM0_0) (Memref.isWhole_whole _) _)

/-- The operands as the host prepares them. -/
theorem host0 : V m c main_v0 = (truncf (F := Ideal) .bf16 (m ((c : Thread nD τ).loc main_arg0)) bitsLt_bf16_f32 : FVec Ideal S4224x2048 .bf16) := by
  unfold V; after_results; try rfl
theorem host1 : V m c main_v1 = (truncf (F := Ideal) .bf16 (m ((c : Thread nD τ).loc main_arg1)) bitsLt_bf16_f32 : FVec Ideal S4224x10240 .bf16) := by
  unfold V; after_results; try rfl

set_option maxHeartbeats 1600000 in
/-- The two halves of the rows make up the reference's one sum over all of them. -/
theorem point2 (t : Fin cfg0.N) (ht : t.val % 2 = 1) (y) :
    k0_pay3 (F := Ideal) (k0_pay2 (F := Ideal) (k0_pay2 (F := Ideal) (k0_pay1 (F := Ideal))
      (iblk m c 0 (prev t)) (iblk m c 1 (prev t))) (iblk m c 0 t) (iblk m c 1 t)) y
      = ref2 m c (((cfg0.win 2).blk t).view.emb y) := by
  pointwise [k0_pay1, k0_pay2, k0_pay3, ref2, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2]
  rw [Fin.sum_univ_tiles 2 2112 rfl, Fin.sum_univ_two]
  refine congrArg₂ (· + ·) (Fin.sum_fin_congr fun k => ?_) (Fin.sum_fin_congr fun k => ?_)
  · refine (mul_comm _ _).trans (congrArg₂ (· * ·) ?_ ?_)
    · blk_simp [iblk, idx_prev t ht, idx t ht]
      rw [host1]
      pointwise
      blk_ext [idx_prev t ht, idx t ht]
    · blk_simp [iblk, idx_prev t ht, idx t ht]
      rw [host0]
      pointwise
      blk_ext [idx_prev t ht, idx t ht]
  · refine (mul_comm _ _).trans (congrArg₂ (· * ·) ?_ ?_)
    · blk_simp [iblk, idx t ht]
      rw [host1]
      pointwise
      blk_ext [idx t ht]
    · blk_simp [iblk, idx t ht]
      rw [host0]
      pointwise
      blk_ext [idx t ht]

/-- The blocks tile the result, so the result is the reference's. -/
theorem final2 : (dats m 0 c).arrAt 2 cfg0.N = ref2 m c := by
  refine (dats m 0 c).arrAt_eq_of_covers 2 _ (by decide +kernel) fun t hf y => ?_
  blk_simp
  rw [after0_2, written m c t ((flush0_2 t).mp hf)]
  exact point2 m c t ((flush0_2 t).mp hf) y

end Cert.Kernel7Ideal.GradWinA
-- ==== Proof.GradWinB.lean ====
/-
  The gradient of the second half of the rows of the input projection.
-/

module

public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel8Ideal.GradWinB

open Idealize.ShloMosaic Idealize.ShloMosaic.TcCoe Idealize.SL.Sem Cert.Kernel8Ideal Cert.Kernel8Ideal.Gen

variable (m : (ℓ : Loc nD τ sig) → Buf (Elt Ideal) ℓ) (c : Dev nD)

/-- The point before: the first half of the rows. -/
abbrev prev (t : Fin cfg0.N) : Fin cfg0.N := ⟨t.val - 1, Nat.lt_of_le_of_lt (Nat.sub_le _ _) t.isLt⟩

/-- Where every block of a point of the second half lies. -/
theorem idx : ∀ t : Fin cfg0.N, t.val % 2 = 1 → win0_0.index t = ![1, 1] ∧ win0_1.index t = ![1, t.val / 2] ∧ win0_2.index t = ![t.val / 2, 0, 0] :=
  (by decide +kernel : ∀ t : Fin grid0.N, _)

/-- Where every block of the point before lies. -/
theorem idx_prev : ∀ t : Fin cfg0.N, t.val % 2 = 1 → win0_0.index (prev t) = ![0, 1] ∧ win0_1.index (prev t) = ![0, t.val / 2] :=
  (by decide +kernel : ∀ t : Fin grid0.N, _)

/-- The result as the reference's function of the arguments. -/
abbrev ref2 : Buf (Elt Ideal) ((c : Thread nD τ).loc (Pipeline.arrRef spec0 2)) :=
  Cert.Reference8Ideal.Read.val_main_v7 (F := Ideal) (m ((c : Thread nD τ).loc main_arg0)) (m ((c : Thread nD τ).loc main_arg1))

/-- At the second half of the rows the block written is the sum of the two halves' products. -/
theorem written (t : Fin cfg0.N) (ht : t.val % 2 = 1) :
    (outsAt0 m c t.val t.isLt).1 = k0_pay3 (F := Ideal) (k0_pay2 (F := Ideal) (k0_pay2 (F := Ideal) (k0_pay1 (F := Ideal))
      (iblk m c 0 (prev t)) (iblk m c 1 (prev t))) (iblk m c 0 t) (iblk m c 1 t)) := by
  rw [outsAt0_B m c t (by omega) ht, outsAt0_A m c (prev t) (by show (t.val - 1) % 2 = 0; omega) (by show ¬ (t.val - 1) % 2 = 1; omega)]
  frame_out
  exact congrArg (fun s => k0_pay3 (F := Ideal) (k0_pay2 (F := Ideal) s (iblk m c 0 t) (iblk m c 1 t))) (Memref.IsWhole.read_unread (m := scM0_0) (Memref.isWhole_whole _) _)

/-- The operands as the host prepares them. -/
theorem host0 : V m c main_v0 = (truncf (F := Ideal) .bf16 (m ((c : Thread nD τ).loc main_arg0)) bitsLt_bf16_f32 : FVec Ideal S4224x2048 .bf16) := by
  unfold V; after_results; try rfl
theorem host1 : V m c main_v1 = (truncf (F := Ideal) .bf16 (m ((c : Thread nD τ).loc main_arg1)) bitsLt_bf16_f32 : FVec Ideal S4224x10240 .bf16) := by
  unfold V; after_results; try rfl

set_option maxHeartbeats 1600000 in
/-- The two halves of the rows make up the reference's one sum over all of them. -/
theorem point2 (t : Fin cfg0.N) (ht : t.val % 2 = 1) (y) :
    k0_pay3 (F := Ideal) (k0_pay2 (F := Ideal) (k0_pay2 (F := Ideal) (k0_pay1 (F := Ideal))
      (iblk m c 0 (prev t)) (iblk m c 1 (prev t))) (iblk m c 0 t) (iblk m c 1 t)) y
      = ref2 m c (((cfg0.win 2).blk t).view.emb y) := by
  pointwise [k0_pay1, k0_pay2, k0_pay3, ref2, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v2]
  rw [Fin.sum_univ_tiles 2 2112 rfl, Fin.sum_univ_two]
  refine congrArg₂ (· + ·) (Fin.sum_fin_congr fun k => ?_) (Fin.sum_fin_congr fun k => ?_)
  · refine (mul_comm _ _).trans (congrArg₂ (· * ·) ?_ ?_)
    · blk_simp [iblk, idx_prev t ht, idx t ht]
      rw [host1]
      pointwise
      blk_ext [idx_prev t ht, idx t ht]
    · blk_simp [iblk, idx_prev t ht, idx t ht]
      rw [host0]
      pointwise
      blk_ext [idx_prev t ht, idx t ht]
  · refine (mul_comm _ _).trans (congrArg₂ (· * ·) ?_ ?_)
    · blk_simp [iblk, idx t ht]
      rw [host1]
      pointwise
      blk_ext [idx t ht]
    · blk_simp [iblk, idx t ht]
      rw [host0]
      pointwise
      blk_ext [idx t ht]

/-- The blocks tile the result, so the result is the reference's. -/
theorem final2 : (dats m 0 c).arrAt 2 cfg0.N = ref2 m c := by
  refine (dats m 0 c).arrAt_eq_of_covers 2 _ (by decide +kernel) fun t hf y => ?_
  blk_simp
  rw [after0_2, written m c t ((flush0_2 t).mp hf)]
  exact point2 m c t ((flush0_2 t).mp hf) y

end Cert.Kernel8Ideal.GradWinB
-- ==== Proof.Projection.lean ====
/-
  The input projection.
-/

module

public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel9Ideal.Projection

open Idealize.ShloMosaic Idealize.ShloMosaic.TcCoe Idealize.SL.Sem Cert.Kernel9Ideal Cert.Kernel9Ideal.Gen

variable (m : (ℓ : Loc nD τ sig) → Buf (Elt Ideal) ℓ) (c : Dev nD)

/-- Where every block of a grid point lies. -/
theorem idx : ∀ t : Fin cfg0.N, win0_0.index t = ![(grid0.coords t 1).val, 0] ∧ win0_1.index t = ![(grid0.coords t 0).val, 0, 0] ∧ win0_2.index t = ![(grid0.coords t 1).val, (grid0.coords t 0).val] :=
  (by decide +kernel : ∀ t : Fin grid0.N, _)

/-- The result as the reference's function of the arguments. -/
abbrev ref2 : Buf (Elt Ideal) ((c : Thread nD τ).loc (Pipeline.arrRef spec0 2)) :=
  Cert.Reference9Ideal.Read.val_main_v0 (F := Ideal) (m ((c : Thread nD τ).loc main_arg0)) (m ((c : Thread nD τ).loc main_arg1))

/-- What a grid point writes is its block of the reference's result. -/
theorem point2 (t : Fin cfg0.N) (y) : k0_pay1 (F := Ideal) (iblk m c 0 t) (iblk m c 1 t) y = ref2 m c (((cfg0.win 2).blk t).view.emb y) := by
  pointwise [k0_pay1, ref2, Cert.Reference9Ideal.Read.val_main_v0]

  blk_point [iblk, V, idx t]

/-- The blocks tile the result, so the result is the reference's. -/
theorem final2 : (dats m 0 c).arrAt 2 cfg0.N = ref2 m c := by
  refine (dats m 0 c).arrAt_eq_of_covers 2 _ (by decide +kernel) fun t _ y => ?_
  blk_simp
  rw [after0_2]; frame_out
  exact point2 m c t y

end Cert.Kernel9Ideal.Projection
-- ==== Proof.Mlp.lean ====
/-
  The first product of the MLP and its squared rectifier.
-/

module

public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel10Ideal.Mlp

open Idealize.ShloMosaic Idealize.ShloMosaic.TcCoe Idealize.SL.Sem Cert.Kernel10Ideal Cert.Kernel10Ideal.Gen

variable (m : (ℓ : Loc nD τ sig) → Buf (Elt Ideal) ℓ) (c : Dev nD)

/-- Where every block of a grid point lies. -/
theorem idx : ∀ t : Fin cfg0.N, win0_0.index t = ![(grid0.coords t 1).val, 0] ∧ win0_1.index t = ![(grid0.coords t 0).val, 0, 0] ∧ win0_2.index t = ![(grid0.coords t 1).val, (grid0.coords t 0).val] ∧ win0_3.index t = ![(grid0.coords t 1).val, (grid0.coords t 0).val] :=
  (by decide +kernel : ∀ t : Fin grid0.N, _)

/-- The result as the reference's function of the arguments. -/
abbrev ref2 : Buf (Elt Ideal) ((c : Thread nD τ).loc (Pipeline.arrRef spec0 2)) :=
  Cert.Reference10Ideal.Read.val_main_v3 (F := Ideal) (m ((c : Thread nD τ).loc main_arg0)) (m ((c : Thread nD τ).loc main_arg1))

/-- What a grid point writes is its block of the reference's result. -/
theorem point2 (t : Fin cfg0.N) (y) : k0_pay2 (F := Ideal) (iblk m c 0 t) (iblk m c 1 t) y = ref2 m c (((cfg0.win 2).blk t).view.emb y) := by
  pointwise [k0_pay1, k0_pay2, k0_pay3, ref2, Cert.Reference10Ideal.Read.val_main_v3, Cert.Reference10Ideal.Read.val_main_v2, Cert.Reference10Ideal.Read.val_main_v1, Cert.Reference10Ideal.Read.val_main_v0, Cert.Reference10Ideal.Read.val_main_call0_v0, Cert.Reference10Ideal.Read.val_main_call0_cst]

  blk_point [iblk, V, idx t]

/-- The blocks tile the result, so the result is the reference's. -/
theorem final2 : (dats m 0 c).arrAt 2 cfg0.N = ref2 m c := by
  refine (dats m 0 c).arrAt_eq_of_covers 2 _ (by decide +kernel) fun t _ y => ?_
  blk_simp
  rw [after0_2]; frame_out
  exact point2 m c t y

/-- The result as the reference's function of the arguments. -/
abbrev ref3 : Buf (Elt Ideal) ((c : Thread nD τ).loc (Pipeline.arrRef spec0 3)) :=
  Cert.Reference10Ideal.Read.val_main_v4 (F := Ideal) (m ((c : Thread nD τ).loc main_arg0)) (m ((c : Thread nD τ).loc main_arg1))

/-- What a grid point writes is its block of the reference's result. -/
theorem point3 (t : Fin cfg0.N) (y) : k0_pay3 (F := Ideal) (iblk m c 0 t) (iblk m c 1 t) y = ref3 m c (((cfg0.win 3).blk t).view.emb y) := by
  pointwise [k0_pay1, k0_pay2, k0_pay3, ref3, Cert.Reference10Ideal.Read.val_main_v4, Cert.Reference10Ideal.Read.val_main_v0]

  blk_point [iblk, V, idx t]

/-- The blocks tile the result, so the result is the reference's. -/
theorem final3 : (dats m 0 c).arrAt 3 cfg0.N = ref3 m c := by
  refine (dats m 0 c).arrAt_eq_of_covers 3 _ (by decide +kernel) fun t _ y => ?_
  blk_simp
  rw [after0_3]; frame_out
  exact point3 m c t y

end Cert.Kernel10Ideal.Mlp
-- ==== Proof.WoutNorm.lean ====
/-
  The output projection with its residual, and the norm after it.
-/

module

public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel11Ideal.WoutNorm

open Idealize.ShloMosaic Idealize.ShloMosaic.TcCoe Idealize.SL.Sem Cert.Kernel11Ideal Cert.Kernel11Ideal.Gen

variable (m : (ℓ : Loc nD τ sig) → Buf (Elt Ideal) ℓ) (c : Dev nD)

/-- Where every block of a grid point lies. -/
theorem idx : ∀ t : Fin cfg0.N, win0_0.index t = ![(grid0.coords t 0).val, 0] ∧ win0_1.index t = ![0, 0] ∧ win0_2.index t = ![(grid0.coords t 0).val, 0] ∧ win0_3.index t = ![0, 0] ∧ win0_4.index t = ![(grid0.coords t 0).val, 0] ∧ win0_5.index t = ![(grid0.coords t 0).val, 0] ∧ win0_6.index t = ![(grid0.coords t 0).val, 0] :=
  (by decide +kernel : ∀ t : Fin grid0.N, _)

/-- The result as the reference's function of the arguments. -/
abbrev ref4 : Buf (Elt Ideal) ((c : Thread nD τ).loc (Pipeline.arrRef spec0 4)) :=
  Cert.Reference11Ideal.Read.val_main_v1 (F := Ideal) (m ((c : Thread nD τ).loc main_arg0)) (m ((c : Thread nD τ).loc main_arg1)) (m ((c : Thread nD τ).loc main_arg2))

/-- What a grid point writes is its block of the reference's result. -/
theorem point4 (t : Fin cfg0.N) (y) : k0_pay1 (F := Ideal) (iblk m c 2 t) (iblk m c 0 t) (iblk m c 1 t) y = ref4 m c (((cfg0.win 4).blk t).view.emb y) := by
  pointwise [k0_pay1, k0_pay2, k0_pay3, ref4, Cert.Reference11Ideal.Read.val_main_v0, Cert.Reference11Ideal.Read.val_main_v1]

  blk_point [iblk, V, idx t]

/-- The blocks tile the result, so the result is the reference's. -/
theorem final4 : (dats m 0 c).arrAt 4 cfg0.N = ref4 m c := by
  refine (dats m 0 c).arrAt_eq_of_covers 4 _ (by decide +kernel) fun t _ y => ?_
  blk_simp
  rw [after0_4]; frame_out
  exact point4 m c t y

/-- The result as the reference's function of the arguments. -/
abbrev ref5 : Buf (Elt Ideal) ((c : Thread nD τ).loc (Pipeline.arrRef spec0 5)) :=
  Cert.Reference11Ideal.Read.val_main_v14 (F := Ideal) (m ((c : Thread nD τ).loc main_arg0)) (m ((c : Thread nD τ).loc main_arg1)) (m ((c : Thread nD τ).loc main_arg2)) (m ((c : Thread nD τ).loc main_arg3))

/-- What a grid point writes is its block of the reference's result. -/
theorem point5 (t : Fin cfg0.N) (y) : k0_pay3 (F := Ideal) (iblk m c 2 t) (iblk m c 0 t) (iblk m c 1 t) (iblk m c 3 t) y = ref5 m c (((cfg0.win 5).blk t).view.emb y) := by
  pointwise [k0_pay1, k0_pay2, k0_pay3, ref5, Cert.Reference11Ideal.Read.val_main_v0, Cert.Reference11Ideal.Read.val_main_v1, Cert.Reference11Ideal.Read.val_main_v2, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_cst, Cert.Reference11Ideal.Read.val_main_cst_0, Cert.Reference11Ideal.Read.val_main_cst_1]

  blk_point [iblk, V, idx t]

/-- The blocks tile the result, so the result is the reference's. -/
theorem final5 : (dats m 0 c).arrAt 5 cfg0.N = ref5 m c := by
  refine (dats m 0 c).arrAt_eq_of_covers 5 _ (by decide +kernel) fun t _ y => ?_
  blk_simp
  rw [after0_5]; frame_out
  exact point5 m c t y

/-- The result as the reference's function of the arguments. -/
abbrev ref6 : Buf (Elt Ideal) ((c : Thread nD τ).loc (Pipeline.arrRef spec0 6)) :=
  Cert.Reference11Ideal.Read.val_main_v9 (F := Ideal) (m ((c : Thread nD τ).loc main_arg0)) (m ((c : Thread nD τ).loc main_arg1)) (m ((c : Thread nD τ).loc main_arg2))

/-- What a grid point writes is its block of the reference's result. -/
theorem point6 (t : Fin cfg0.N) (y) : k0_pay2 (F := Ideal) (iblk m c 2 t) (iblk m c 0 t) (iblk m c 1 t) y = ref6 m c (((cfg0.win 6).blk t).view.emb y) := by
  pointwise [k0_pay1, k0_pay2, k0_pay3, ref6, Cert.Reference11Ideal.Read.val_main_v0, Cert.Reference11Ideal.Read.val_main_v1, Cert.Reference11Ideal.Read.val_main_v2, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_cst, Cert.Reference11Ideal.Read.val_main_cst_0, Cert.Reference11Ideal.Read.val_main_cst_1]

  blk_point [iblk, V, idx t]

/-- The blocks tile the result, so the result is the reference's. -/
theorem final6 : (dats m 0 c).arrAt 6 cfg0.N = ref6 m c := by
  refine (dats m 0 c).arrAt_eq_of_covers 6 _ (by decide +kernel) fun t _ y => ?_
  blk_simp
  rw [after0_6]; frame_out
  exact point6 m c t y

end Cert.Kernel11Ideal.WoutNorm
-- ==== Proof.Norm.lean ====
/-
  The norm of the residual stream.
-/

module

public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel12Ideal.Norm

open Idealize.ShloMosaic Idealize.ShloMosaic.TcCoe Idealize.SL.Sem Cert.Kernel12Ideal Cert.Kernel12Ideal.Gen

variable (m : (ℓ : Loc nD τ sig) → Buf (Elt Ideal) ℓ) (c : Dev nD)

/-- Where every block of a grid point lies. -/
theorem idx : ∀ t : Fin cfg0.N, win0_0.index t = ![(grid0.coords t 0).val, 0] ∧ win0_1.index t = ![0, 0] ∧ win0_2.index t = ![(grid0.coords t 0).val, 0] ∧ win0_3.index t = ![(grid0.coords t 0).val, 0] :=
  (by decide +kernel : ∀ t : Fin grid0.N, _)

/-- The result as the reference's function of the arguments. -/
abbrev ref2 : Buf (Elt Ideal) ((c : Thread nD τ).loc (Pipeline.arrRef spec0 2)) :=
  Cert.Reference12Ideal.Read.val_main_v12 (F := Ideal) (m ((c : Thread nD τ).loc main_arg0)) (m ((c : Thread nD τ).loc main_arg1))

/-- What a grid point writes is its block of the reference's result. -/
theorem point2 (t : Fin cfg0.N) (y) : k0_pay2 (F := Ideal) (iblk m c 0 t) (iblk m c 1 t) y = ref2 m c (((cfg0.win 2).blk t).view.emb y) := by
  pointwise [k0_pay1, k0_pay2, ref2, Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_cst, Cert.Reference12Ideal.Read.val_main_cst_0, Cert.Reference12Ideal.Read.val_main_cst_1]

  blk_point [iblk, V, idx t]

/-- The blocks tile the result, so the result is the reference's. -/
theorem final2 : (dats m 0 c).arrAt 2 cfg0.N = ref2 m c := by
  refine (dats m 0 c).arrAt_eq_of_covers 2 _ (by decide +kernel) fun t _ y => ?_
  blk_simp
  rw [after0_2]; frame_out
  exact point2 m c t y

/-- The result as the reference's function of the arguments. -/
abbrev ref3 : Buf (Elt Ideal) ((c : Thread nD τ).loc (Pipeline.arrRef spec0 3)) :=
  Cert.Reference12Ideal.Read.val_main_v7 (F := Ideal) (m ((c : Thread nD τ).loc main_arg0))

/-- What a grid point writes is its block of the reference's result. -/
theorem point3 (t : Fin cfg0.N) (y) : k0_pay1 (F := Ideal) (iblk m c 0 t) y = ref3 m c (((cfg0.win 3).blk t).view.emb y) := by
  pointwise [k0_pay1, k0_pay2, ref3, Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_cst, Cert.Reference12Ideal.Read.val_main_cst_0, Cert.Reference12Ideal.Read.val_main_cst_1]

  blk_point [iblk, V, idx t]

/-- The blocks tile the result, so the result is the reference's. -/
theorem final3 : (dats m 0 c).arrAt 3 cfg0.N = ref3 m c := by
  refine (dats m 0 c).arrAt_eq_of_covers 3 _ (by decide +kernel) fun t _ y => ?_
  blk_simp
  rw [after0_3]; frame_out
  exact point3 m c t y

end Cert.Kernel12Ideal.Norm
-- ==== Proof.NormLoop.lean ====
/-
  The row-wise part of a step of the normalisation-gradient kernel: four trips, each over 176 of a tile's 704 rows.
-/

module

public import proofs.«01_k».proof.Proof.Gen.Kernel13Ideal.Launch
public import proofs.«01_k».proof.Proof.Gen.Kernel13Ideal.Skeleton
public import proofs.«01_k».proof.Proof.Gen.Kernel13Ideal.Loops
public import proofs.«01_k».proof.Proof.Gen.Kernel13Ideal.Points
public import proofs.«01_k».proof.Proof.Gen.Kernel13Ideal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.Kernel13Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

local notation "𝕄" => MT nD τ sig Unit (Elt F) ℕ (Pipeline.UD sig nD τ) ℕ

/-- Trip `q`'s rows of a tile, and of a column. -/
abbrev rowBox (q : Fin 4) : Rect S704x2048 := Rect.unit (s := S704x2048) ![176 * q.val, 0] S176x2048.size
  ((by decide +kernel : ∀ q : Fin 4, ∀ a, (![176 * q.val, 0] : Fin 2 → ℕ) a + S176x2048.size a ≤ S704x2048.size a) q)
abbrev colBox (q : Fin 4) : Rect S704x1 := Rect.unit (s := S704x1) ![176 * q.val, 0] S176x1.size
  ((by decide +kernel : ∀ q : Fin 4, ∀ a, (![176 * q.val, 0] : Fin 2 → ℕ) a + S176x1.size a ≤ S704x1.size a) q)

/-- The trip a row belongs to, and the row within it. -/
abbrev tripOf (j : S704x2048.Idx) : Fin 4 := ⟨(j 0).val / 176, by have h : (j 0).val < 704 := (j 0).isLt; omega⟩
abbrev rowIn (j : S704x2048.Idx) : S176x2048.Idx := fun a => match a with
  | 0 => ⟨(j 0).val % 176, Nat.mod_lt _ (by decide)⟩
  | 1 => j 1

section Tile
variable (g : Vec F S1x2048 .f32) (du h : Vec F S704x2048 .f32) (r : Vec F S704x1 .f32) (dr : Vec F S704x2048 .f32)

/-- The finished tile, its bf16 copy, and the scale's gradient after `k` trips from `a`. -/
def outTile : Vec F S704x2048 .f32 := fun j =>
  k0_pay7 g (View.ld du (rowBox (tripOf j))) (View.ld h (rowBox (tripOf j))) (View.ld r (colBox (tripOf j))) (View.ld dr (rowBox (tripOf j))) (rowIn j)
def outTileB : Vec F S704x2048 .bf16 := fun j =>
  k0_pay8 g (View.ld du (rowBox (tripOf j))) (View.ld h (rowBox (tripOf j))) (View.ld r (colBox (tripOf j))) (View.ld dr (rowBox (tripOf j))) (rowIn j)
def gSum (a : FVec F S1x2048 .f32) : ℕ → FVec F S1x2048 .f32
  | 0 => a
  | k + 1 => if hk : k < 4 then k0_pay9 (gSum a k) (View.ld du (rowBox ⟨k, hk⟩)) (View.ld h (rowBox ⟨k, hk⟩)) (View.ld r (colBox ⟨k, hk⟩)) else gSum a k
end Tile

/-- A tile whose first `k` trips are done. -/
def mixed {e : EltTy} (base fin : Vec F S704x2048 e) : ℕ → Vec F S704x2048 e
  | 0 => base
  | k + 1 => fun j => if (j 0).val < 176 * (k + 1) then fin j else base j

theorem mixed_apply {e : EltTy} (base fin : Vec F S704x2048 e) (k : ℕ) (j : S704x2048.Idx) :
    mixed base fin k j = if (j 0).val < 176 * k then fin j else base j := by
  cases k with
  | zero => rw [if_neg (by omega)]; rfl
  | succ k => rfl
theorem mixed_four {e : EltTy} (base fin : Vec F S704x2048 e) : mixed base fin 4 = fin := by
  funext j
  rw [mixed_apply, if_pos (by have h : (j 0).val < 704 := (j 0).isLt; omega)]
/-- A trip finds its rows unchanged. -/
theorem mixed_ld {e : EltTy} (base fin : Vec F S704x2048 e) (q : Fin 4) : View.ld (mixed base fin q.val) (rowBox q) = View.ld base (rowBox q) := by
  funext x
  show mixed base fin q.val ((rowBox q).idx x) = base ((rowBox q).idx x)
  rw [mixed_apply, if_neg]
  have e0 : (((rowBox q).idx x) 0).val = 176 * q.val + (x 0).val := Rect.idx_unit_val _ _ _ x 0
  omega
/-- A trip adds its rows. -/
theorem mixed_write {e : EltTy} (v : View sig .tc .vmem S704x2048 e) (f : v.ty.Contents (Elt F)) (base fin : Vec F S704x2048 e) (q : Fin 4)
    (hf : v.read (Elt F) f = mixed base fin q.val) (w : S176x2048.Idx → Elt F e) {o : Fin 2 → ℕ} (ho : o = ![176 * q.val, 0])
    (inb : ∀ a, o a + S176x2048.size a ≤ S704x2048.size a) (hw : ∀ j, tripOf j = q → fin j = w (rowIn j)) :
    v.read (Elt F) (v.writes (Elt F) f [⟨Rect.unit (s := S704x2048) o S176x2048.size inb, w⟩]) = mixed base fin (q.val + 1) := by
  funext j
  have hj : (j 0).val < 704 := (j 0).isLt
  rw [mixed_apply]
  by_cases hq : (j 0).val / 176 = q.val
  · rw [if_pos (by omega), hw j (Fin.ext hq)]
    exact View.read_writes_cons_unit_of_mem v f inb w [] j (rowIn j) ho fun a => by
      fin_cases a
      · show (j 0).val = 176 * q.val + (j 0).val % 176; omega
      · show (j 1).val = 0 + (j 1).val; omega
  · have hn : (j 0).val < 176 * q.val ∨ 176 * q.val + 176 ≤ (j 0).val := by omega
    refine (View.read_writes_cons_unit_of_not_mem v f inb w [] j ho 0 hn).trans ?_
    show v.read (Elt F) f j = _
    rw [hf, mixed_apply]
    rcases hn with hn | hn
    · rw [if_pos hn, if_pos (by omega)]
    · rw [if_neg (by omega), if_neg (by omega)]

theorem ld_at {s : Shape} {e : EltTy} (x : Vec F s e) {o o' z : Fin s.rank → ℕ} (ho : o = o') (h : ∀ a, o a + z a ≤ s.size a) (h' : ∀ a, o' a + z a ≤ s.size a) :
    View.ld x (Rect.unit o z h) = View.ld x (Rect.unit o' z h') := by subst ho; rfl

section Loop
variable (c : Dev nD) (i : grid0.Coords) (arg2 : Memref sig .tc .vmem S704x1024 .bf16) (harg2 : arg2.IsWhole) (arg3 : Memref sig .tc .vmem S1x2048x1024 .bf16) (harg3 : arg3.IsWhole) (arg4 : Memref sig .tc .hbm S4224x2048 .f32) (harg4 : arg4.IsWhole) (arg5 : Memref sig .tc .hbm S4224x2048 .f32) (harg5 : arg5.IsWhole) (arg6 : Memref sig .tc .vmem S704x1 .f32) (harg6 : arg6.IsWhole) (arg7 : Memref sig .tc .vmem S1x2048 .f32) (harg7 : arg7.IsWhole) (arg8 : Memref sig .tc .vmem S704x2048 .f32) (harg8 : arg8.IsWhole) (arg9 : Memref sig .tc .vmem S704x2048 .bf16) (harg9 : arg9.IsWhole) (arg10 : Memref sig .tc .vmem S1x2048 .f32) (harg10 : arg10.IsWhole) (arg11 : Memref sig .tc .vmem S704x2048 .f32) (harg11 : arg11.IsWhole) (arg12 : Memref sig .tc .vmem S704x2048 .f32) (harg12 : arg12.IsWhole) (arg13 : DmaSems sig S2) (k0_h4 : k0_cond4 i = 1#1) (v33 : Vec F S1x2048 .f32) (init : FVec F S1x2048 .f32)
  (X6 : BufTy.Contents (Elt F) arg6.view.ty) (X11 : BufTy.Contents (Elt F) arg11.view.ty) (X12 : BufTy.Contents (Elt F) arg12.view.ty)
  (du : Vec F S704x2048 .f32) (b9 : Vec F S704x2048 .bf16)

/-- What the trips find and leave: the rows of the trips done are the finished ones. -/
def tripState (k : ℕ) (acc : FVec F S1x2048 .f32) : sProp 𝕄 :=
  iprop((arg6.view.loc (c : Thread nD τ) ↦[arg6.view.set]{fullShare} X6) ∗ (arg11.view.loc (c : Thread nD τ) ↦[arg11.view.set]{fullShare} X11) ∗ (arg12.view.loc (c : Thread nD τ) ↦[arg12.view.set]{fullShare} X12)
    ∗ (∃ f, (arg8.view.loc (c : Thread nD τ) ↦[arg8.view.set]{fullShare} f) ∗ ⌜arg8.view.read (Elt F) f = mixed du (outTile v33 du (arg12.view.read (Elt F) X12) (arg6.view.read (Elt F) X6) (arg11.view.read (Elt F) X11)) k⌝)
    ∗ (∃ f, (arg9.view.loc (c : Thread nD τ) ↦[arg9.view.set]{fullShare} f) ∗ ⌜arg9.view.read (Elt F) f = mixed b9 (outTileB v33 du (arg12.view.read (Elt F) X12) (arg6.view.read (Elt F) X6) (arg11.view.read (Elt F) X11)) k⌝)
    ∗ ⌜acc = gSum du (arg12.view.read (Elt F) X12) (arg6.view.read (Elt F) X6) init k⌝)

theorem trip_run (k : Fin k0_t1_loop.trips) (acc : FVec F S1x2048 .f32) :
    tripState c arg6 arg8 arg9 arg11 arg12 v33 init X6 X11 X12 du b9 k.val acc
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 k0_h4 v33 k acc)
          (fun a => tripState c arg6 arg8 arg9 arg11 arg12 v33 init X6 X11 X12 du b9 (k.val + 1) a) := by
  have hk : k.val < 4 := Nat.lt_of_lt_of_le k.isLt k0_t1_abs.2.1
  unfold tripState k0_t1_body
  iintro ⟨H6, H11, H12, ⟨%f8, H8, %h8⟩, ⟨%f9, H9, %h9⟩, %ha⟩
  sl_exec
  sl_step
  have e8' : View.ld (arg8.view.read (Elt F) f8) (Rect.unit (s := S704x2048) (k0_off3 k) S176x2048.size (k0_off3_inb i k k0_h4)) = View.ld (arg8.view.read (Elt F) f8) (rowBox ⟨k.val, hk⟩) := ld_at _ (k0_off3_eq k) _ _
  have e8 := e8'.trans (show _ = View.ld du (rowBox ⟨k.val, hk⟩) by rw [h8]; exact mixed_ld _ _ ⟨k.val, hk⟩)
  have e12 : View.ld (arg12.view.read (Elt F) X12) (Rect.unit (s := S704x2048) (k0_off3 k) S176x2048.size (k0_off3_inb i k k0_h4)) = View.ld (arg12.view.read (Elt F) X12) (rowBox ⟨k.val, hk⟩) := ld_at _ (k0_off3_eq k) _ _
  have e11 : View.ld (arg11.view.read (Elt F) X11) (Rect.unit (s := S704x2048) (k0_off3 k) S176x2048.size (k0_off3_inb i k k0_h4)) = View.ld (arg11.view.read (Elt F) X11) (rowBox ⟨k.val, hk⟩) := ld_at _ (k0_off3_eq k) _ _
  have e6 : View.ld (arg6.view.read (Elt F) X6) (Rect.unit (s := S704x1) (k0_off4 k) S176x1.size (k0_off4_inb i k k0_h4)) = View.ld (arg6.view.read (Elt F) X6) (colBox ⟨k.val, hk⟩) := ld_at _ (k0_off4_eq k) _ _
  isplitl [H6]; · iexact H6
  isplitl [H11]; · iexact H11
  isplitl [H12]; · iexact H12
  isplitl [H8]
  · iexists _; isplitl [H8]; · iexact H8
    ipureintro
    refine mixed_write _ _ _ _ ⟨k.val, hk⟩ h8 _ (k0_off3_eq k) _ fun j hj => ?_
    show outTile _ _ _ _ _ j = k0_pay7 v33 (View.ld (arg8.view.read (Elt F) f8) (Rect.unit (s := S704x2048) (k0_off3 k) S176x2048.size (k0_off3_inb i k k0_h4))) (View.ld (arg12.view.read (Elt F) X12) (Rect.unit (s := S704x2048) (k0_off3 k) S176x2048.size (k0_off3_inb i k k0_h4))) (View.ld (arg6.view.read (Elt F) X6) (Rect.unit (s := S704x1) (k0_off4 k) S176x1.size (k0_off4_inb i k k0_h4))) (View.ld (arg11.view.read (Elt F) X11) (Rect.unit (s := S704x2048) (k0_off3 k) S176x2048.size (k0_off3_inb i k k0_h4))) (rowIn j)
    rw [e8, e12, e6, e11, ← hj]; rfl
  isplitl [H9]
  · iexists _; isplitl [H9]; · iexact H9
    ipureintro
    refine mixed_write _ _ _ _ ⟨k.val, hk⟩ h9 _ (k0_off3_eq k) _ fun j hj => ?_
    show outTileB _ _ _ _ _ j = k0_pay8 v33 (View.ld (arg8.view.read (Elt F) f8) (Rect.unit (s := S704x2048) (k0_off3 k) S176x2048.size (k0_off3_inb i k k0_h4))) (View.ld (arg12.view.read (Elt F) X12) (Rect.unit (s := S704x2048) (k0_off3 k) S176x2048.size (k0_off3_inb i k k0_h4))) (View.ld (arg6.view.read (Elt F) X6) (Rect.unit (s := S704x1) (k0_off4 k) S176x1.size (k0_off4_inb i k k0_h4))) (View.ld (arg11.view.read (Elt F) X11) (Rect.unit (s := S704x2048) (k0_off3 k) S176x2048.size (k0_off3_inb i k k0_h4))) (rowIn j)
    rw [e8, e12, e6, e11, ← hj]; rfl
  ipureintro
  show k0_pay9 acc (View.ld (arg8.view.read (Elt F) f8) (Rect.unit (s := S704x2048) (k0_off3 k) S176x2048.size (k0_off3_inb i k k0_h4))) (View.ld (arg12.view.read (Elt F) X12) (Rect.unit (s := S704x2048) (k0_off3 k) S176x2048.size (k0_off3_inb i k k0_h4))) (View.ld (arg6.view.read (Elt F) X6) (Rect.unit (s := S704x1) (k0_off4 k) S176x1.size (k0_off4_inb i k k0_h4))) = _
  rw [gSum, dif_pos hk, ← ha, e8, e12, e6]

set_option warn.classDefReducibility false in
/-- The trips' invariant. -/
@[sl_loop] def loopInv : LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 k0_h4 v33 init where
  inv k acc := tripState c arg6 arg8 arg9 arg11 arg12 v33 init X6 X11 X12 du b9 k acc
  step k acc := trip_run c i arg2 harg2 arg3 harg3 arg4 harg4 arg5 harg5 arg6 harg6 arg7 harg7 arg8 harg8 arg9 harg9 arg10 harg10 arg11 harg11 arg12 harg12 arg13 k0_h4 v33 init X6 X11 X12 du b9 k acc
end Loop

end Cert.Kernel13Ideal.NormBwd

end
-- ==== Proof.NormNames.lean ====
/-
  The copies and the operands of the normalisation-gradient kernel, by name. The kernel goes through six tiles of 704
  rows, eight steps to a tile. A tile's first step begins two copies of the tile's rows from the argument arrays into
  vector memory; its last step waits for them.
-/

module

public import proofs.«01_k».proof.Proof.NormLoop

@[expose] public section

set_option maxRecDepth 16384

noncomputable section

namespace Cert.Kernel13Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

local notation "𝕄" => MT nD τ sig Unit (Elt F) ℕ (Pipeline.UD sig nD τ) ℕ

/-! ## When the body's branches are taken -/

/-- A tile's first step begins the two copies and clears the tile. -/
abbrev Starts (t : Fin cfg0.N) : Prop := k0_cond1 (grid0.coords t) = 1#1
/-- The first step of all clears the scale's gradient. -/
abbrev Clears (t : Fin cfg0.N) : Prop := k0_cond2 (grid0.coords t) = 1#1
/-- Every step adds its product to the tile. -/
abbrev Adds (t : Fin cfg0.N) : Prop := k0_cond3 (grid0.coords t) = 1#1
/-- A tile's last step waits for the copies and finishes the tile. -/
abbrev Finishes (t : Fin cfg0.N) : Prop := k0_cond4 (grid0.coords t) = 1#1

theorem starts_iff : ∀ t : Fin cfg0.N, Starts t ↔ t.val % 8 = 0 :=
  (by decide +kernel : ∀ t : Fin grid0.N, Starts t ↔ t.val % 8 = 0)
theorem clears_iff : ∀ t : Fin cfg0.N, Clears t ↔ t.val = 0 :=
  (by decide +kernel : ∀ t : Fin grid0.N, Clears t ↔ t.val = 0)
theorem adds_all : ∀ t : Fin cfg0.N, Adds t :=
  (by decide +kernel : ∀ t : Fin grid0.N, Adds t)
theorem finishes_iff : ∀ t : Fin cfg0.N, Finishes t ↔ t.val % 8 = 7 :=
  (by decide +kernel : ∀ t : Fin grid0.N, Finishes t ↔ t.val % 8 = 7)

/-! ## The operands of a step -/

abbrev stg0 (t : Fin cfg0.N) : Memref sig .tc .vmem S704x1024 .bf16 := win0_0.stage (cfg0.slots t 0)
abbrev stg1 (t : Fin cfg0.N) : Memref sig .tc .vmem S1x2048x1024 .bf16 := win0_1.stage (cfg0.slots t 1)
abbrev stg2 (t : Fin cfg0.N) : Memref sig .tc .vmem S704x1 .f32 := win0_2.stage (cfg0.slots t 2)
abbrev stg3 (t : Fin cfg0.N) : Memref sig .tc .vmem S1x2048 .f32 := win0_3.stage (cfg0.slots t 3)
abbrev stg4 (t : Fin cfg0.N) : Memref sig .tc .vmem S704x2048 .f32 := win0_4.stage (cfg0.slots t 4)
abbrev stg5 (t : Fin cfg0.N) : Memref sig .tc .vmem S704x2048 .bf16 := win0_5.stage (cfg0.slots t 5)
abbrev stg6 (t : Fin cfg0.N) : Memref sig .tc .vmem S1x2048 .f32 := win0_6.stage (cfg0.slots t 6)
/-- Where the two copies land: a tile's rows of the incoming gradient, and of the normalised array. -/
abbrev landR : Memref sig .tc .vmem S704x2048 .f32 := Memref.whole cc0_scratch0
abbrev landH : Memref sig .tc .vmem S704x2048 .f32 := Memref.whole cc0_scratch1
/-- The two arrays copied from. -/
abbrev fromR : Memref sig .tc .hbm S4224x2048 .f32 := Memref.whole main_arg2
abbrev fromH : Memref sig .tc .hbm S4224x2048 .f32 := Memref.whole main_arg3

/-- What a memref of core `c` holds. -/
abbrev BufOf (c : Dev nD) {sp : Space} {S : Shape} {e : EltTy} (M : Memref sig .tc sp S e) : Type :=
  Buf (Elt F) (M.view.loc (c : Thread nD τ))
/-- Holding the part of a buffer a memref names. -/
abbrev holds (c : Dev nD) {sp : Space} {S : Shape} {e : EltTy} (M : Memref sig .tc sp S e) (f : BufOf (F := F) c M) : sProp 𝕄 :=
  M.view.loc (c : Thread nD τ) ↦[M.view.set]{fullShare} f

/-- The tile a step belongs to. -/
def tileAt (t : Fin cfg0.N) : Fin 6 := ⟨t.val / 8, by have h := lt_of_lt_of_eq t.isLt (show cfg0.N = 48 from N_0); omega⟩

theorem box_inb : ∀ u : Fin 6, ∀ a, (![704 * u.val, 0] : Fin 2 → Nat) a + S704x2048.size a ≤ S4224x2048.size a := by decide +kernel
/-- Tile `u`'s rows of the two arrays. -/
def boxR (u : Fin 6) : Memref sig .tc .hbm S704x2048 .f32 := fromR.slice (Rect.unit (s := S4224x2048) ![704 * u.val, 0] S704x2048.size (box_inb u)) (fun _ => rfl)
def boxH (u : Fin 6) : Memref sig .tc .hbm S704x2048 .f32 := fromH.slice (Rect.unit (s := S4224x2048) ![704 * u.val, 0] S704x2048.size (box_inb u)) (fun _ => rfl)
/-- The cells the two copies are counted on. -/
def cellR : DmaSems sig S_ := (cc0_scratch2.slice (Rect.unit (s := S2) ![0] S1.size inb_S2_S1_0)).squeeze S_ squeezes_S1_S_
def cellH : DmaSems sig S_ := (cc0_scratch2.slice (Rect.unit (s := S2) ![1] S1.size inb_S2_S1_1)).squeeze S_ squeezes_S1_S_
abbrev cellRLoc : SemLoc sig := SemLoc.dma cellR.sem
abbrev cellHLoc : SemLoc sig := SemLoc.dma cellH.sem

/-- A cell at rest. -/
abbrev atRest (c : Dev nD) (l : SemLoc sig) : sProp 𝕄 := semVal ((c : Thread nD τ), l) 0
/-- A copy of tile `u`'s rows under way: when it lands it gives back the rows of the array, and the rows landed. -/
def flyR (c : Dev nD) (u : Fin 6) (f : BufOf (F := F) c (boxR u)) : sProp 𝕄 :=
  iprop(∃ e, ⌜landR.view.read (Elt F) e = (boxR u).view.read (Elt F) f⌝ ∗ Transfers.Flight countersEmb (c : Thread nD τ) cellRLoc default
    (landR.view.amount cellRLoc) iprop(holds c landR e ∗ holds c (boxR u) f))
def flyH (c : Dev nD) (u : Fin 6) (f : BufOf (F := F) c (boxH u)) : sProp 𝕄 :=
  iprop(∃ e, ⌜landH.view.read (Elt F) e = (boxH u).view.read (Elt F) f⌝ ∗ Transfers.Flight countersEmb (c : Thread nD τ) cellHLoc default
    (landH.view.amount cellHLoc) iprop(holds c landH e ∗ holds c (boxH u) f))

/-! ## The slices the body takes, by name -/

section Names
omit [FloatOps F]
theorem boxR_named {u : Fin 6} {o : Fin 2 → Nat} (e : o = ![704 * u.val, 0]) (h) :
    fromR.slice (Rect.unit (s := S4224x2048) o S704x2048.size h) (fun _ => rfl) = boxR u := by subst e; rfl
theorem boxH_named {u : Fin 6} {o : Fin 2 → Nat} (e : o = ![704 * u.val, 0]) (h) :
    fromH.slice (Rect.unit (s := S4224x2048) o S704x2048.size h) (fun _ => rfl) = boxH u := by subst e; rfl
theorem off1_at : ∀ t : Fin grid0.N, k0_off1 (grid0.coords t) = ![704 * (t.val / 8), 0] := by decide +kernel
theorem off2_at : ∀ t : Fin grid0.N, k0_off2 (grid0.coords t) = ![704 * (t.val / 8), 0] := by decide +kernel
@[sl_canon] theorem off1_isR (t : Fin grid0.N) (h : Starts t) :
    fromR.slice (Rect.unit (s := S4224x2048) (k0_off1 (grid0.coords t)) S704x2048.size (k0_off1_inb (grid0.coords t) h)) (fun _ => rfl) = boxR (tileAt t) := boxR_named (off1_at t) _
@[sl_canon] theorem off1_isR' (t : Fin grid0.N) (h : Starts t) :
    fromR.slice (Rect.unit (s := S4224x2048) (k0_off1 (grid0.coords t)) ![704, 2048] (k0_off1_inb (grid0.coords t) h)) (fun _ => rfl) = boxR (tileAt t) := boxR_named (off1_at t) _
@[sl_canon] theorem off2_isR (t : Fin grid0.N) (h : Finishes t) :
    fromR.slice (Rect.unit (s := S4224x2048) (k0_off2 (grid0.coords t)) S704x2048.size (k0_off2_inb (grid0.coords t) h)) (fun _ => rfl) = boxR (tileAt t) := boxR_named (off2_at t) _
@[sl_canon] theorem off2_isR' (t : Fin grid0.N) (h : Finishes t) :
    fromR.slice (Rect.unit (s := S4224x2048) (k0_off2 (grid0.coords t)) ![704, 2048] (k0_off2_inb (grid0.coords t) h)) (fun _ => rfl) = boxR (tileAt t) := boxR_named (off2_at t) _
@[sl_canon] theorem cellR_is : (cc0_scratch2.slice (Rect.unit (s := S2) ![0] S1.size inb_S2_S1_0)).squeeze S_ squeezes_S1_S_ = cellR := rfl
@[sl_canon] theorem cellR_is' : (cc0_scratch2.slice (Rect.unit (s := S2) ![0] ![1] inb_S2_S1_0)).squeeze S_ squeezes_S1_S_ = cellR := rfl
@[sl_canon] theorem off1_isH (t : Fin grid0.N) (h : Starts t) :
    fromH.slice (Rect.unit (s := S4224x2048) (k0_off1 (grid0.coords t)) S704x2048.size (k0_off1_inb (grid0.coords t) h)) (fun _ => rfl) = boxH (tileAt t) := boxH_named (off1_at t) _
@[sl_canon] theorem off1_isH' (t : Fin grid0.N) (h : Starts t) :
    fromH.slice (Rect.unit (s := S4224x2048) (k0_off1 (grid0.coords t)) ![704, 2048] (k0_off1_inb (grid0.coords t) h)) (fun _ => rfl) = boxH (tileAt t) := boxH_named (off1_at t) _
@[sl_canon] theorem off2_isH (t : Fin grid0.N) (h : Finishes t) :
    fromH.slice (Rect.unit (s := S4224x2048) (k0_off2 (grid0.coords t)) S704x2048.size (k0_off2_inb (grid0.coords t) h)) (fun _ => rfl) = boxH (tileAt t) := boxH_named (off2_at t) _
@[sl_canon] theorem off2_isH' (t : Fin grid0.N) (h : Finishes t) :
    fromH.slice (Rect.unit (s := S4224x2048) (k0_off2 (grid0.coords t)) ![704, 2048] (k0_off2_inb (grid0.coords t) h)) (fun _ => rfl) = boxH (tileAt t) := boxH_named (off2_at t) _
@[sl_canon] theorem cellH_is : (cc0_scratch2.slice (Rect.unit (s := S2) ![1] S1.size inb_S2_S1_1)).squeeze S_ squeezes_S1_S_ = cellH := rfl
@[sl_canon] theorem cellH_is' : (cc0_scratch2.slice (Rect.unit (s := S2) ![1] ![1] inb_S2_S1_1)).squeeze S_ squeezes_S1_S_ = cellH := rfl
end Names

/-! ## Whole loads and stores -/

theorem read_all {s : Shape} {e : EltTy} (v : View sig .tc .vmem s e) (f : v.ty.Contents (Elt F)) {o : Fin s.rank → ℕ} (inb : ∀ a, o a + s.size a ≤ s.size a)
    (z : Vec F s e) (L : List (View.Piece (Elt F) s e)) : v.read (Elt F) (v.writes (Elt F) f (⟨Rect.unit o s.size inb, z⟩ :: L)) = z := by
  funext q
  exact View.read_writes_cons_unit_of_mem v f inb z L q q rfl fun a => by have := inb a; omega

/-- A tile after a step's product is added to it. -/
def added (du : Vec F S704x2048 .f32) (dz : Vec F S704x1024 .bf16) (w : Vec F S1x2048x1024 .bf16) : Vec F S704x2048 .f32 := k0_pay3 du dz w
abbrev allT {e : EltTy} (x : Vec F S704x2048 e) : Vec F S704x2048 e := View.ld x (Rect.unit (s := S704x2048) ![0, 0] S704x2048.size inb_S704x2048_S704x2048_0_0)
abbrev allZ {e : EltTy} (x : Vec F S704x1024 e) : Vec F S704x1024 e := View.ld x (Rect.unit (s := S704x1024) ![0, 0] S704x1024.size inb_S704x1024_S704x1024_0_0)
abbrev allW {e : EltTy} (x : Vec F S1x2048x1024 e) : Vec F S1x2048x1024 e := View.ld x (Rect.unit (s := S1x2048x1024) ![0, 0, 0] S1x2048x1024.size inb_S1x2048x1024_S1x2048x1024_0_0_0)
abbrev allG {e : EltTy} (x : Vec F S1x2048 e) : Vec F S1x2048 e := View.ld x (Rect.unit (s := S1x2048) ![0, 0] S1x2048.size inb_S1x2048_S1x2048_0_0)
theorem allT_eq {e : EltTy} (x : Vec F S704x2048 e) : allT x = x := View.ld_unit_zero (S := S704x2048) (by decide) _ x
theorem allZ_eq {e : EltTy} (x : Vec F S704x1024 e) : allZ x = x := View.ld_unit_zero (S := S704x1024) (by decide) _ x
theorem allW_eq {e : EltTy} (x : Vec F S1x2048x1024 e) : allW x = x := View.ld_unit_zero (S := S1x2048x1024) (by decide) _ x
theorem allG_eq {e : EltTy} (x : Vec F S1x2048 e) : allG x = x := View.ld_unit_zero (S := S1x2048) (by decide) _ x
theorem added_at (du : Vec F S704x2048 .f32) (dz : Vec F S704x1024 .bf16) (w : Vec F S1x2048x1024 .bf16) :
    k0_pay3 (allT du) (allZ dz) (allW w) = added du dz w := by rw [allT_eq, allZ_eq, allW_eq]; rfl
theorem added_after {x du : Vec F S704x2048 .f32} (h : x = du) (dz : Vec F S704x1024 .bf16) (w : Vec F S1x2048x1024 .bf16) :
    k0_pay3 x (allZ dz) (allW w) = added du dz w := by rw [h, allZ_eq, allW_eq]; rfl

/-! ## What the loop over a tile's rows leaves -/

theorem tile_done {b du du' h h' dr dr' : Vec F S704x2048 .f32} {g g' : Vec F S1x2048 .f32} (r : Vec F S704x1 .f32) {n : ℕ} (hn : n = 4)
    (eg : g = g') (ed : du = du') (eh : h = h') (er : dr = dr') : mixed b (outTile g du h r dr) n = outTile g' du' h' r dr' := by
  subst hn eg ed eh er; exact mixed_four _ _
theorem tileB_done {b : Vec F S704x2048 .bf16} {du du' h h' dr dr' : Vec F S704x2048 .f32} {g g' : Vec F S1x2048 .f32} (r : Vec F S704x1 .f32) {n : ℕ} (hn : n = 4)
    (eg : g = g') (ed : du = du') (eh : h = h') (er : dr = dr') : mixed b (outTileB g du h r dr) n = outTileB g' du' h' r dr' := by
  subst hn eg ed eh er; exact mixed_four _ _
theorem sum_done {a a' z : Vec F S1x2048 .f32} {du du' h h' : Vec F S704x2048 .f32} (r : Vec F S704x1 .f32) {n : ℕ} (hn : n = 4)
    (ea : a = a') (ed : du = du') (eh : h = h') : k0_pay10 a (gSum du h r z n) = k0_pay10 a' (gSum du' h' r z 4) := by
  subst hn ea ed eh; rfl

end Cert.Kernel13Ideal.NormBwd

end
-- ==== Proof.NormStepA.lean ====
/-
  One run of the body of the normalisation-gradient kernel: the steps that do not finish a tile.
-/

module

public import proofs.«01_k».proof.Proof.NormNames

@[expose] public section

set_option maxRecDepth 16384

noncomputable section

namespace Cert.Kernel13Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

local notation "𝕄" => MT nD τ sig Unit (Elt F) ℕ (Pipeline.UD sig nD τ) ℕ

set_option maxHeartbeats 2000000 in
/-- The first step of all. -/
theorem stepA0 (c : Dev nD) (t : Fin cfg0.N) (a2 : Memref sig .tc .vmem S704x1024 .bf16) (w2 : a2.IsWhole) (a3 : Memref sig .tc .vmem S1x2048x1024 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S704x2048 .bf16) (w9 : a9.IsWhole) (a10 : Memref sig .tc .vmem S1x2048 .f32) (w10 : a10.IsWhole) (hc0 : Starts t) (hc1 : Clears t) (hc2 : Adds t) (hc3 : ¬Finishes t)
    (dz : Vec F S704x1024 .bf16) (w : Vec F S1x2048x1024 .bf16) (r : Vec F S704x1 .f32) (g : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ (∃ d, owns (c : Thread nD τ) a8 fullShare d) ∗ (∃ d, owns (c : Thread nD τ) a10 fullShare d) ∗ (holds c (boxR (tileAt t)) fR) ∗ (holds c (boxH (tileAt t)) fH) ∗ atRest c cellRLoc ∗ (∃ e, holds c landR e) ∗ atRest c cellHLoc ∗ (∃ e, holds c landH e) ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (added k0_pay1 dz w) ∗ owns (c : Thread nD τ) a10 fullShare k0_pay2 ∗ flyR c (tileAt t) fR ∗ flyH c (tileAt t) fH ∗ (∃ W', owes (c : Thread nD τ) 0 W')) -∗ K ⟨⟩))
      ⊢ wp frame (wpE (defs₀ (F := F)) Variants.none c none) Set.univ (cc0_du2_norm2 (grid0.coords t) a2 w2 a3 w3 fromR (Memref.isWhole_whole _) fromH (Memref.isWhole_whole _) a6 w6 a7 w7 a8 w8 a9 w9 a10 w10 landR (Memref.isWhole_whole _) landH (Memref.isWhole_whole _) cc0_scratch2) K := by
  haveI : Fact (Starts t) := ⟨hc0⟩; haveI : Fact (Clears t) := ⟨hc1⟩; haveI : Fact (Adds t) := ⟨hc2⟩; haveI : Fact (¬Finishes t) := ⟨hc3⟩
  simp only [cc0_du2_norm2_eq_skeleton]; unfold cc0_du2_norm2_skel
  unfold owns flyR flyH
  iintro ⟨⟨%f0, %hf0, H0⟩, ⟨%f1, %hf1, H1⟩, ⟨%f2, %hf2, H2⟩, ⟨%f3, %hf3, H3⟩, ⟨%d4, %f4, -, H4⟩, ⟨%d6, %f6, -, H6⟩, HsR, HsH, HR, ⟨%eR, HlR⟩, HH, ⟨%eH, HlH⟩, HW, Hk⟩
  subst hf0 hf1 hf2 hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans ((added_after ((congrArg allT (read_all a8.view _ _ _ _)).trans (allT_eq _)) _ _))
  isplitl [H6]
  · iexists _; isplitr; swap; · iexact H6
    ipureintro; exact read_all _ _ _ _ _
  isplitl [HR]
  · iexists _; isplitr; swap; · iexact HR
    ipureintro; exact View.read_writes_whole _ _ _
  isplitl [HH]
  · iexists _; isplitr; swap; · iexact HH
    ipureintro; exact View.read_writes_whole _ _ _
  iexists _; iexact HW

set_option maxHeartbeats 2000000 in
/-- The first step of a later tile. -/
theorem stepA (c : Dev nD) (t : Fin cfg0.N) (a2 : Memref sig .tc .vmem S704x1024 .bf16) (w2 : a2.IsWhole) (a3 : Memref sig .tc .vmem S1x2048x1024 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S704x2048 .bf16) (w9 : a9.IsWhole) (a10 : Memref sig .tc .vmem S1x2048 .f32) (w10 : a10.IsWhole) (hc0 : Starts t) (hc1 : ¬Clears t) (hc2 : Adds t) (hc3 : ¬Finishes t)
    (dz : Vec F S704x1024 .bf16) (w : Vec F S1x2048x1024 .bf16) (r : Vec F S704x1 .f32) (g : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ (∃ d, owns (c : Thread nD τ) a8 fullShare d) ∗ (holds c (boxR (tileAt t)) fR) ∗ (holds c (boxH (tileAt t)) fH) ∗ atRest c cellRLoc ∗ (∃ e, holds c landR e) ∗ atRest c cellHLoc ∗ (∃ e, holds c landH e) ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (added k0_pay1 dz w) ∗ flyR c (tileAt t) fR ∗ flyH c (tileAt t) fH ∗ (∃ W', owes (c : Thread nD τ) 0 W')) -∗ K ⟨⟩))
      ⊢ wp frame (wpE (defs₀ (F := F)) Variants.none c none) Set.univ (cc0_du2_norm2 (grid0.coords t) a2 w2 a3 w3 fromR (Memref.isWhole_whole _) fromH (Memref.isWhole_whole _) a6 w6 a7 w7 a8 w8 a9 w9 a10 w10 landR (Memref.isWhole_whole _) landH (Memref.isWhole_whole _) cc0_scratch2) K := by
  haveI : Fact (Starts t) := ⟨hc0⟩; haveI : Fact (¬Clears t) := ⟨hc1⟩; haveI : Fact (Adds t) := ⟨hc2⟩; haveI : Fact (¬Finishes t) := ⟨hc3⟩
  simp only [cc0_du2_norm2_eq_skeleton]; unfold cc0_du2_norm2_skel
  unfold owns flyR flyH
  iintro ⟨⟨%f0, %hf0, H0⟩, ⟨%f1, %hf1, H1⟩, ⟨%f2, %hf2, H2⟩, ⟨%f3, %hf3, H3⟩, ⟨%d4, %f4, -, H4⟩, HsR, HsH, HR, ⟨%eR, HlR⟩, HH, ⟨%eH, HlH⟩, HW, Hk⟩
  subst hf0 hf1 hf2 hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans ((added_after ((congrArg allT (read_all a8.view _ _ _ _)).trans (allT_eq _)) _ _))
  isplitl [HR]
  · iexists _; isplitr; swap; · iexact HR
    ipureintro; exact View.read_writes_whole _ _ _
  isplitl [HH]
  · iexists _; isplitr; swap; · iexact HH
    ipureintro; exact View.read_writes_whole _ _ _
  iexists _; iexact HW

set_option maxHeartbeats 2000000 in
/-- A step that is neither the first nor the last of its tile. -/
theorem stepB (c : Dev nD) (t : Fin cfg0.N) (a2 : Memref sig .tc .vmem S704x1024 .bf16) (w2 : a2.IsWhole) (a3 : Memref sig .tc .vmem S1x2048x1024 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S704x2048 .bf16) (w9 : a9.IsWhole) (a10 : Memref sig .tc .vmem S1x2048 .f32) (w10 : a10.IsWhole) (hc0 : ¬Starts t) (hc1 : ¬Clears t) (hc2 : Adds t) (hc3 : ¬Finishes t)
    (dz : Vec F S704x1024 .bf16) (w : Vec F S1x2048x1024 .bf16) (r : Vec F S704x1 .f32) (g : Vec F S1x2048 .f32) (du : Vec F S704x2048 .f32)
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare du ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (added du dz w) ∗ (∃ W', owes (c : Thread nD τ) 0 W')) -∗ K ⟨⟩))
      ⊢ wp frame (wpE (defs₀ (F := F)) Variants.none c none) Set.univ (cc0_du2_norm2 (grid0.coords t) a2 w2 a3 w3 fromR (Memref.isWhole_whole _) fromH (Memref.isWhole_whole _) a6 w6 a7 w7 a8 w8 a9 w9 a10 w10 landR (Memref.isWhole_whole _) landH (Memref.isWhole_whole _) cc0_scratch2) K := by
  haveI : Fact (¬Starts t) := ⟨hc0⟩; haveI : Fact (¬Clears t) := ⟨hc1⟩; haveI : Fact (Adds t) := ⟨hc2⟩; haveI : Fact (¬Finishes t) := ⟨hc3⟩
  simp only [cc0_du2_norm2_eq_skeleton]; unfold cc0_du2_norm2_skel
  unfold owns
  iintro ⟨⟨%f0, %hf0, H0⟩, ⟨%f1, %hf1, H1⟩, ⟨%f2, %hf2, H2⟩, ⟨%f3, %hf3, H3⟩, ⟨%f4, %hf4, H4⟩, HW, Hk⟩
  subst hf0 hf1 hf2 hf3 hf4
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans (added_at _ _ _)
  iexists _; iexact HW

end Cert.Kernel13Ideal.NormBwd

end
-- ==== Proof.NormStepD.lean ====
/-
  One run of the body of the normalisation-gradient kernel: the last step of a tile.
-/

module

public import proofs.«01_k».proof.Proof.NormNames

@[expose] public section

set_option maxRecDepth 16384

noncomputable section

namespace Cert.Kernel13Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

local notation "𝕄" => MT nD τ sig Unit (Elt F) ℕ (Pipeline.UD sig nD τ) ℕ

set_option maxHeartbeats 2000000 in
/-- The last step of a tile. -/
theorem stepD (c : Dev nD) (t : Fin cfg0.N) (a2 : Memref sig .tc .vmem S704x1024 .bf16) (w2 : a2.IsWhole) (a3 : Memref sig .tc .vmem S1x2048x1024 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S704x2048 .bf16) (w9 : a9.IsWhole) (a10 : Memref sig .tc .vmem S1x2048 .f32) (w10 : a10.IsWhole) (hc0 : ¬Starts t) (hc1 : ¬Clears t) (hc2 : Adds t) (hc3 : Finishes t)
    (dz : Vec F S704x1024 .bf16) (w : Vec F S1x2048x1024 .bf16) (r : Vec F S704x1 .f32) (g : Vec F S1x2048 .f32) (du : Vec F S704x2048 .f32) (dg : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare du ∗ (∃ d, owns (c : Thread nD τ) a9 fullShare d) ∗ owns (c : Thread nD τ) a10 fullShare dg ∗ flyR c (tileAt t) fR ∗ flyH c (tileAt t) fH ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (outTile g (added du dz w) ((boxH (tileAt t)).view.read (Elt F) fH) r ((boxR (tileAt t)).view.read (Elt F) fR)) ∗ owns (c : Thread nD τ) a9 fullShare (outTileB g (added du dz w) ((boxH (tileAt t)).view.read (Elt F) fH) r ((boxR (tileAt t)).view.read (Elt F) fR)) ∗ owns (c : Thread nD τ) a10 fullShare (k0_pay10 dg (gSum (added du dz w) ((boxH (tileAt t)).view.read (Elt F) fH) r k0_pay4 4)) ∗ (holds c (boxR (tileAt t)) fR) ∗ (holds c (boxH (tileAt t)) fH) ∗ atRest c cellRLoc ∗ (∃ e, holds c landR e) ∗ atRest c cellHLoc ∗ (∃ e, holds c landH e) ∗ (∃ W', owes (c : Thread nD τ) 0 W')) -∗ K ⟨⟩))
      ⊢ wp frame (wpE (defs₀ (F := F)) Variants.none c none) Set.univ (cc0_du2_norm2 (grid0.coords t) a2 w2 a3 w3 fromR (Memref.isWhole_whole _) fromH (Memref.isWhole_whole _) a6 w6 a7 w7 a8 w8 a9 w9 a10 w10 landR (Memref.isWhole_whole _) landH (Memref.isWhole_whole _) cc0_scratch2) K := by
  haveI : Fact (¬Starts t) := ⟨hc0⟩; haveI : Fact (¬Clears t) := ⟨hc1⟩; haveI : Fact (Adds t) := ⟨hc2⟩; haveI : Fact (Finishes t) := ⟨hc3⟩
  simp only [cc0_du2_norm2_eq_skeleton]; unfold cc0_du2_norm2_skel
  unfold owns flyR flyH
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%eR, %hR, HR⟩, ⟨%eH, %hH, HH⟩, HW, Hk⟩
  subst hf0 hf1 hf2 hf3 hf4 hf6
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact hL4.trans (tile_done _ rfl (allG_eq _) ((read_all a8.view _ _ _ _).trans (added_at _ _ _)) hH hR)
  isplitl [H5]
  · iexists _; isplitr; swap; · iexact H5
    ipureintro; exact hL6.trans (tileB_done _ rfl (allG_eq _) ((read_all a8.view _ _ _ _).trans (added_at _ _ _)) hH hR)
  isplitl [H6]
  · iexists _; isplitr; swap; · iexact H6
    ipureintro; exact (read_all _ _ _ _ _).trans (sum_done _ rfl (allG_eq _) ((read_all a8.view _ _ _ _).trans (added_at _ _ _)) hH)
  isplitl [HR_src]
  · iexact HR_src
  isplitl [HH_src]
  · iexact HH_src
  isplitl [HR]
  · iexact HR
  isplitl [HR_dst]
  · iexists _; iexact HR_dst
  isplitl [HH]
  · iexact HH
  isplitl [HH_dst]
  · iexists _; iexact HH_dst
  iexists _; iexact HW

end Cert.Kernel13Ideal.NormBwd

end
-- ==== Proof.NormCall.lean ====
/-
  The whole call of the normalisation-gradient kernel. What every step leaves is named: a tile's sum of products, the
  finished tile, and the sum for the scale. Every step carries on what holds between two steps, and the call ends with
  the three results holding what the steps wrote.
-/

module

public import proofs.«01_k».proof.Proof.NormStepA
public import proofs.«01_k».proof.Proof.NormStepD

public import Idealize.ShloMosaic.Lib.Pipeline.TableIdle

@[expose] public section

set_option maxRecDepth 16384

noncomputable section

namespace Cert.Kernel13Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the steps leave -/

/-- Step `k` of the 48, and a tile's last step. -/
def stp (k : ℕ) : Fin cfg0.N := ⟨k % 48, by rw [show cfg0.N = 48 from N_0]; omega⟩
def lastOf (u : Fin 6) : Fin cfg0.N := stp (8 * u.val + 7)
theorem lt48 (t : Fin cfg0.N) : t.val < 48 := lt_of_lt_of_eq t.isLt (show cfg0.N = 48 from N_0)
theorem stp_val (t : Fin cfg0.N) : stp t.val = t := Fin.ext (Nat.mod_eq_of_lt (lt48 t))
theorem lastOf_at (t : Fin cfg0.N) (h : t.val % 8 = 7) : lastOf (tileAt t) = t :=
  (congrArg stp (by show 8 * (t.val / 8) + 7 = t.val; omega)).trans (stp_val t)

/-- The blocks of the four staged arrays at a step. -/
def dzAt (c : Dev nD) (t : Fin cfg0.N) : Vec F S704x1024 .bf16 := iblk m c 0 t
def wAt (c : Dev nD) (t : Fin cfg0.N) : Vec F S1x2048x1024 .bf16 := iblk m c 1 t
def rAt (c : Dev nD) (t : Fin cfg0.N) : Vec F S704x1 .f32 := iblk m c 2 t
def gAt (c : Dev nD) (t : Fin cfg0.N) : Vec F S1x2048 .f32 := iblk m c 3 t
/-- A tile's rows of the two arrays copied from. -/
def srcR (c : Dev nD) (u : Fin 6) : BufOf (F := F) c (boxR u) := V m c main_arg2
def srcH (c : Dev nD) (u : Fin 6) : BufOf (F := F) c (boxH u) := V m c main_arg3
def rowsR (c : Dev nD) (u : Fin 6) : Vec F S704x2048 .f32 := (boxR u).view.read (Elt F) (srcR m c u)
def rowsH (c : Dev nD) (u : Fin 6) : Vec F S704x2048 .f32 := (boxH u).view.read (Elt F) (srcH m c u)

/-- The sum of a tile's products before step `k`: cleared at each tile's first step. -/
def duSum (c : Dev nD) : ℕ → Vec F S704x2048 .f32
  | 0 => k0_pay1
  | k + 1 => added (if k % 8 = 0 then k0_pay1 else duSum c k) (dzAt m c (stp k)) (wAt m c (stp k))
/-- A finished tile, and the same rounded to bf16. -/
def tileEnd (c : Dev nD) (u : Fin 6) : Vec F S704x2048 .f32 :=
  outTile (gAt m c (lastOf u)) (duSum m c (8 * u.val + 8)) (rowsH m c u) (rAt m c (lastOf u)) (rowsR m c u)
def tileEndB (c : Dev nD) (u : Fin 6) : Vec F S704x2048 .bf16 :=
  outTileB (gAt m c (lastOf u)) (duSum m c (8 * u.val + 8)) (rowsH m c u) (rAt m c (lastOf u)) (rowsR m c u)
/-- A tile's part of the scale's gradient, and the sum of the first `k` tiles' parts. -/
def scalePart (c : Dev nD) (u : Fin 6) : FVec F S1x2048 .f32 :=
  gSum (duSum m c (8 * u.val + 8)) (rowsH m c u) (rAt m c (lastOf u)) k0_pay4 4
def dgSum (c : Dev nD) : ℕ → Vec F S1x2048 .f32
  | 0 => k0_pay2
  | k + 1 => k0_pay10 (dgSum c k) (scalePart m c (Fin.ofNat 6 k))

theorem duSum_first (c : Dev nD) (t : Fin cfg0.N) (h : t.val % 8 = 0) :
    duSum m c (t.val + 1) = added k0_pay1 (iblk m c 0 t) (iblk m c 1 t) := by
  show added _ (dzAt m c (stp t.val)) (wAt m c (stp t.val)) = _; rw [if_pos h, stp_val]; rfl
theorem duSum_next (c : Dev nD) (t : Fin cfg0.N) (h : t.val % 8 ≠ 0) :
    duSum m c (t.val + 1) = added (duSum m c t.val) (iblk m c 0 t) (iblk m c 1 t) := by
  show added _ (dzAt m c (stp t.val)) (wAt m c (stp t.val)) = _; rw [if_neg h, stp_val]; rfl
theorem duSum_last (c : Dev nD) (t : Fin cfg0.N) (h : t.val % 8 = 7) :
    duSum m c (8 * (tileAt t).val + 8) = added (duSum m c t.val) (iblk m c 0 t) (iblk m c 1 t) :=
  (congrArg (duSum m c) (by show 8 * (t.val / 8) + 8 = t.val + 1; omega)).trans (duSum_next m c t (by omega))
theorem tileEnd_at (c : Dev nD) (t : Fin cfg0.N) (h : t.val % 8 = 7) : tileEnd m c (tileAt t)
    = outTile (iblk m c 3 t) (added (duSum m c t.val) (iblk m c 0 t) (iblk m c 1 t)) ((boxH (tileAt t)).view.read (Elt F) (srcH m c (tileAt t)))
        (iblk m c 2 t) ((boxR (tileAt t)).view.read (Elt F) (srcR m c (tileAt t))) := by
  unfold tileEnd; rw [lastOf_at t h, duSum_last m c t h]; rfl
theorem tileEndB_at (c : Dev nD) (t : Fin cfg0.N) (h : t.val % 8 = 7) : tileEndB m c (tileAt t)
    = outTileB (iblk m c 3 t) (added (duSum m c t.val) (iblk m c 0 t) (iblk m c 1 t)) ((boxH (tileAt t)).view.read (Elt F) (srcH m c (tileAt t)))
        (iblk m c 2 t) ((boxR (tileAt t)).view.read (Elt F) (srcR m c (tileAt t))) := by
  unfold tileEndB; rw [lastOf_at t h, duSum_last m c t h]; rfl
theorem dgSum_at (c : Dev nD) (t : Fin cfg0.N) (h : t.val % 8 = 7) : dgSum m c ((t.val + 1) / 8)
    = k0_pay10 (dgSum m c (t.val / 8)) (gSum (added (duSum m c t.val) (iblk m c 0 t) (iblk m c 1 t))
        ((boxH (tileAt t)).view.read (Elt F) (srcH m c (tileAt t))) (iblk m c 2 t) k0_pay4 4) := by
  have ht := lt48 t
  rw [show (t.val + 1) / 8 = t.val / 8 + 1 by omega]
  show k0_pay10 _ (scalePart m c (Fin.ofNat 6 (t.val / 8))) = _
  rw [show Fin.ofNat 6 (t.val / 8) = tileAt t from Fin.ext (Nat.mod_eq_of_lt (show t.val / 8 < 6 by omega))]
  unfold scalePart; rw [lastOf_at t h, duSum_last m c t h]; rfl
theorem dgSum_kept (c : Dev nD) (t : Fin cfg0.N) (h : t.val % 8 ≠ 7) : dgSum m c ((t.val + 1) / 8) = dgSum m c (t.val / 8) :=
  congrArg (dgSum m c) (by omega)

/-! ## What holds between two steps -/

/-- What is left of the two arrays while tile `u`'s rows are being copied. -/
def restR (c : Dev nD) (u : Fin 6) : sProp 𝕄 := fromR.view.loc (c : Thread nD τ) ↦[fromR.view.set \ (boxR u).view.set]{fullShare} (V m c main_arg2)
def restH (c : Dev nD) (u : Fin 6) : sProp 𝕄 := fromH.view.loc (c : Thread nD τ) ↦[fromH.view.set \ (boxH u).view.set]{fullShare} (V m c main_arg3)
theorem takeR (c : Dev nD) (u : Fin 6) : (holds c fromR (V m c main_arg2) : sProp 𝕄) ⊢ iprop(holds c (boxR u) (srcR m c u) ∗ restR m c u) :=
  (pointsTo_split_subset (View.set_slice_subset _ _)).1
theorem giveR (c : Dev nD) (u : Fin 6) : iprop(holds c (boxR u) (srcR m c u) ∗ restR m c u) ⊢ (holds c fromR (V m c main_arg2) : sProp 𝕄) :=
  (pointsTo_split_subset (View.set_slice_subset _ _)).2
theorem takeH (c : Dev nD) (u : Fin 6) : (holds c fromH (V m c main_arg3) : sProp 𝕄) ⊢ iprop(holds c (boxH u) (srcH m c u) ∗ restH m c u) :=
  (pointsTo_split_subset (View.set_slice_subset _ _)).1
theorem giveH (c : Dev nD) (u : Fin 6) : iprop(holds c (boxH u) (srcH m c u) ∗ restH m c u) ⊢ (holds c fromH (V m c main_arg3) : sProp 𝕄) :=
  (pointsTo_split_subset (View.set_slice_subset _ _)).2

/-- Between two tiles: nothing under way. -/
def atEase (c : Dev nD) : sProp 𝕄 :=
  iprop((∃ e, holds c landR e) ∗ (∃ e, holds c landH e) ∗ atRest c cellRLoc ∗ atRest c cellHLoc
    ∗ holds c fromR (V m c main_arg2) ∗ holds c fromH (V m c main_arg3))
/-- Within tile `u`: both copies under way. -/
def copying (c : Dev nD) (u : Fin 6) : sProp 𝕄 :=
  iprop(flyR c u (srcR m c u) ∗ flyH c u (srcH m c u) ∗ restR m c u ∗ restH m c u)
/-- Before step `k`: the copies and the generator register. -/
def heldAt (c : Dev nD) (k : ℕ) : sProp 𝕄 :=
  iprop((∃ r, prngReg c r) ∗ (if k % 8 = 0 then atEase m c else copying m c (Fin.ofNat 6 (k / 8))))
theorem held_ease (c : Dev nD) (k : ℕ) (h : k % 8 = 0) : heldAt m c k = iprop((∃ r, prngReg c r) ∗ atEase m c) := by
  unfold heldAt; rw [if_pos h]
theorem held_fly (c : Dev nD) (t : Fin cfg0.N) (k : ℕ) (h : k % 8 ≠ 0) (hk : k / 8 = t.val / 8) :
    heldAt m c k = iprop((∃ r, prngReg c r) ∗ copying m c (tileAt t)) := by
  have ht := lt48 t
  unfold heldAt; rw [if_neg h, hk, show Fin.ofNat 6 (t.val / 8) = tileAt t from Fin.ext (Nat.mod_eq_of_lt (show t.val / 8 < 6 by omega))]

/-- The windows, step by step. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => if t.val % 8 = 7 then tileEnd m c (tileAt t) else duSum m c (t.val + 1)
    | ⟨5, _⟩ => tileEndB m c (tileAt t)
    | ⟨6, _⟩ => dgSum m c ((t.val + 1) / 8)
  Φ t := heldAt m c t.val
  q _ := fullShare
  owed _ := 0

theorem A_eq (c : Dev nD) (w : Fin cfg0.W) : (dats m 0 c).A w = V m c (Pipeline.arrRef spec0 w) := by
  dsimp only [dats]
theorem held_before (c : Dev nD) (t : Fin cfg0.N) : (dats m 0 c).Φ t.castSucc = heldAt m c t.val := by
  dsimp only [dats]; simp only [Fin.coe_castSucc]
theorem held_after (c : Dev nD) (t : Fin cfg0.N) : (dats m 0 c).Φ t.succ = heldAt m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = if t.val % 8 = 7 then tileEnd m c (tileAt t) else duSum m c (t.val + 1) := by dsimp only [dats]
theorem after_4_end (c : Dev nD) (t : Fin cfg0.N) (h : t.val % 8 = 7) : (dats m 0 c).after 4 t = tileEnd m c (tileAt t) := by rw [after_4, if_pos h]
theorem after_4_mid (c : Dev nD) (t : Fin cfg0.N) (h : t.val % 8 ≠ 7) : (dats m 0 c).after 4 t = duSum m c (t.val + 1) := by rw [after_4, if_neg h]
theorem after_5 (c : Dev nD) (t : Fin cfg0.N) : (dats m 0 c).after 5 t = tileEndB m c (tileAt t) := by dsimp only [dats]
theorem after_6 (c : Dev nD) (t : Fin cfg0.N) : (dats m 0 c).after 6 t = dgSum m c ((t.val + 1) / 8) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ### When the three outputs are written -/

theorem idle_4 : ∀ t : Fin cfg0.N, cfg0.idle 4 (cfg0.grid.coords t) = false :=
  (by decide +kernel : ∀ t : Fin grid0.N, idle0 4 (grid0.coords t) = false)
theorem idle_5 : ∀ t : Fin cfg0.N, cfg0.idle 5 (cfg0.grid.coords t) = decide (t.val % 8 ≠ 7) :=
  (by decide +kernel : ∀ t : Fin grid0.N, idle0 5 (grid0.coords t) = decide (t.val % 8 ≠ 7))
theorem idle_6 : ∀ t : Fin cfg0.N, cfg0.idle 6 (cfg0.grid.coords t) = decide (t.val ≠ 0 ∧ t.val % 8 ≠ 7) :=
  (by decide +kernel : ∀ t : Fin grid0.N, idle0 6 (grid0.coords t) = decide (t.val ≠ 0 ∧ t.val % 8 ≠ 7))
theorem flush_4 (t : Fin cfg0.N) : (cfg0.win 4).flush t = decide (t.val % 8 = 7) := by
  rw [Bool.eq_iff_iff, flush0_4, decide_eq_true_iff]
theorem flush_5 (t : Fin cfg0.N) : (cfg0.win 5).flush t = decide (t.val % 8 = 7) := by
  rw [Bool.eq_iff_iff, flush0_5, decide_eq_true_iff]
theorem flush_6 (t : Fin cfg0.N) : (cfg0.win 6).flush t = decide (t.val % 48 = 47) := by
  rw [Bool.eq_iff_iff, flush0_6, decide_eq_true_iff]
theorem fresh_4 (n : ℕ) (h : n ≤ cfg0.N) : cfg0.fresh 4 n = decide (n % 8 = 0) :=
  Cfg.fresh_tab cfg0 4 (fun n => decide (n % 8 = 0)) rfl (fun t => by
    rw [idle_4, flush_4, Bool.false_and, Bool.or_false, decide_eq_decide]; omega) n h
theorem fresh_6 (n : ℕ) (h : n ≤ cfg0.N) : cfg0.fresh 6 n = decide (n % 48 = 0) :=
  Cfg.fresh_tab cfg0 6 (fun n => decide (n % 48 = 0)) rfl (fun t => by
    have ht := lt48 t
    rw [idle_6, flush_6, Bool.eq_iff_iff]; simp only [Bool.or_eq_true, Bool.and_eq_true, decide_eq_true_iff]; omega) n h

theorem before_4 (c : Dev nD) (t : Fin cfg0.N) (h : t.val % 8 ≠ 0) (d) : (dats m 0 c).before 4 t d = duSum m c t.val := by
  rw [Dat.before_out_traj _ 4 rfl (fun _ _ => rfl) (fun t _ hi _ => absurd hi (by rw [idle_4]; exact Bool.false_ne_true)) t.val t rfl d,
    fresh_4 _ (le_of_lt t.isLt), if_neg (by rw [decide_eq_true_iff]; exact h), after_4_mid _ _ _ (by dsimp only; omega)]
  exact congrArg (duSum m c) (by dsimp only; omega)
theorem before_6 (c : Dev nD) (t : Fin cfg0.N) (h : t.val ≠ 0) (d) : (dats m 0 c).before 6 t d = dgSum m c (t.val / 8) := by
  have ht := lt48 t
  rw [Dat.before_out_traj _ 6 rfl (fun _ _ => rfl) (fun t h0 hi _ => by
      rw [idle_6, decide_eq_true_iff] at hi
      rw [after_6, after_6]; exact congrArg (dgSum m c) (by dsimp only; omega)) t.val t rfl d,
    fresh_6 _ (le_of_lt t.isLt), if_neg (by rw [decide_eq_true_iff]; omega), after_6]
  exact congrArg (dgSum m c) (by dsimp only; omega)

/-- What a step gives back of an output's window: what it wrote, or, where it writes nothing, what it found. -/
def back (c : Dev nD) (w : Fin cfg0.W) (t : Fin cfg0.N) : sProp 𝕄 := (dats m 0 c).leavesExact w t
theorem back_4 (c : Dev nD) (t : Fin cfg0.N) : back m c 4 t = (owns (c : Thread nD τ) (stg4 t) fullShare ((dats m 0 c).after 4 t)) := by
  unfold back Dat.leavesExact; rw [idle_4]
theorem back_5_end (c : Dev nD) (t : Fin cfg0.N) (h : t.val % 8 = 7) : back m c 5 t = (owns (c : Thread nD τ) (stg5 t) fullShare ((dats m 0 c).after 5 t)) := by
  unfold back Dat.leavesExact; rw [idle_5, decide_eq_false (by omega)]
theorem back_5_mid (c : Dev nD) (t : Fin cfg0.N) (h : t.val % 8 ≠ 7) :
    back m c 5 t = iprop(∃ d, owns (c : Thread nD τ) (stg5 t) fullShare ((dats m 0 c).before 5 t d)) :=
  Dat.leavesExact_idle _ 5 t (by rw [idle_5]; exact decide_eq_true h) (by rw [flush_5]; exact decide_eq_false h)
theorem back_6_at (c : Dev nD) (t : Fin cfg0.N) (h : t.val = 0 ∨ t.val % 8 = 7) : back m c 6 t = (owns (c : Thread nD τ) (stg6 t) fullShare ((dats m 0 c).after 6 t)) := by
  unfold back Dat.leavesExact; rw [idle_6, decide_eq_false (by omega)]
theorem back_6_mid (c : Dev nD) (t : Fin cfg0.N) (h0 : t.val ≠ 0) (h : t.val % 8 ≠ 7) :
    back m c 6 t = iprop(∃ d, owns (c : Thread nD τ) (stg6 t) fullShare ((dats m 0 c).before 6 t d)) :=
  Dat.leavesExact_idle _ 6 t (by rw [idle_6]; exact decide_eq_true ⟨h0, h⟩) (by rw [flush_6]; exact decide_eq_false (by omega))

/-! ## Every step carries it on -/

/-- What the body is given at step `t`, window by window, -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))
/-- and what it gives back. -/
def givenBack (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ back m c 4 t ∗ back m c 5 t ∗ back m c 6 t)

set_option maxHeartbeats 3200000 in
theorem step_sound (c : Dev nD) (t : Fin cfg0.N) :
    given m c t ⊢ wp frame (wpE (defs₀ (F := F)) Variants.none c none) Set.univ (bodyAt0 t) (fun _ => givenBack m c t) := by
  unfold given givenBack bodyAt0
  simp only [before_0, before_1, before_2, before_3]
  rw [after_0, after_1, after_2, after_3, back_4]
  rw [held_before m c t, held_after m c t]
  unfold Dat.owesAt Pipeline.owesWithin
  rw [show (dats m 0 c).owed t.castSucc = 0 from rfl, show (dats m 0 c).owed t.succ = 0 from rfl]
  have hN : t.val < 48 := lt48 t
  by_cases h0 : t.val % 8 = 0
  · by_cases hz : t.val = 0
    · rw [back_6_at m c t (Or.inl hz), after_6]
      rw [held_ease m c t.val h0, held_fly m c t (t.val + 1) (by omega) (by omega), after_4_mid m c t (by omega), duSum_first m c t h0, back_5_mid m c t (by omega)]
      unfold atEase copying
      iintro ⟨⟨Hg, HlR, HlH, HR, HH, HsR, HsH⟩, ⟨%W, -, HW⟩, ⟨%d0, H0⟩, ⟨%d1, H1⟩, ⟨%d2, H2⟩, ⟨%d3, H3⟩, ⟨%d4, H4⟩, ⟨%d5, H5⟩, ⟨%d6, H6⟩⟩
      ihave HtR := (takeR m c (tileAt t)) $$ HsR
      icases HtR with ⟨HsR, HrR⟩
      ihave HtH := (takeH m c (tileAt t)) $$ HsH
      icases HtH with ⟨HsH, HrH⟩
      iapply (stepA0 c t _ _ _ _ _ _ _ _ _ _ _ _ _ _ ((starts_iff t).mpr h0) ((clears_iff t).mpr hz) (adds_all t) (fun h => absurd ((finishes_iff t).mp h) (by omega)) (iblk m c 0 t) (iblk m c 1 t) (iblk m c 2 t) (iblk m c 3 t) (srcR m c (tileAt t)) (srcH m c (tileAt t)) W _)
      isplitl [H0]; · iexact H0
      isplitl [H1]; · iexact H1
      isplitl [H2]; · iexact H2
      isplitl [H3]; · iexact H3
      isplitl [H4]; · iexists _; iexact H4
      isplitl [H6]; · iexists _; iexact H6
      isplitl [HsR]; · iexact HsR
      isplitl [HsH]; · iexact HsH
      isplitl [HR]; · iexact HR
      isplitl [HlR]; · iexact HlR
      isplitl [HH]; · iexact HH
      isplitl [HlH]; · iexact HlH
      isplitl [HW]; · iexact HW
      iintro ⟨H0, H1, H2, H3, H4, H6, HR, HH, ⟨%W', HW'⟩⟩
      isplitl [Hg HR HH HrR HrH]
      · isplitl [Hg]; · iexact Hg
        isplitl [HR]; · iexact HR
        isplitl [HH]; · iexact HH
        isplitl [HrR]; · iexact HrR
        iexact HrH
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexists _; iexact H5
      iapply (Entails.of_eq (congrArg (fun x => (owns (c : Thread nD τ) (stg6 t) fullShare x : sProp 𝕄)) ((by rw [hz])))); iexact H6
    · rw [back_6_mid m c t hz (by omega)]
      rw [held_ease m c t.val h0, held_fly m c t (t.val + 1) (by omega) (by omega), after_4_mid m c t (by omega), duSum_first m c t h0, back_5_mid m c t (by omega)]
      unfold atEase copying
      iintro ⟨⟨Hg, HlR, HlH, HR, HH, HsR, HsH⟩, ⟨%W, -, HW⟩, ⟨%d0, H0⟩, ⟨%d1, H1⟩, ⟨%d2, H2⟩, ⟨%d3, H3⟩, ⟨%d4, H4⟩, ⟨%d5, H5⟩, ⟨%d6, H6⟩⟩
      ihave HtR := (takeR m c (tileAt t)) $$ HsR
      icases HtR with ⟨HsR, HrR⟩
      ihave HtH := (takeH m c (tileAt t)) $$ HsH
      icases HtH with ⟨HsH, HrH⟩
      iapply (stepA c t _ _ _ _ _ _ _ _ _ _ _ _ _ _ ((starts_iff t).mpr h0) (fun h => absurd ((clears_iff t).mp h) (by omega)) (adds_all t) (fun h => absurd ((finishes_iff t).mp h) (by omega)) (iblk m c 0 t) (iblk m c 1 t) (iblk m c 2 t) (iblk m c 3 t) (srcR m c (tileAt t)) (srcH m c (tileAt t)) W _)
      isplitl [H0]; · iexact H0
      isplitl [H1]; · iexact H1
      isplitl [H2]; · iexact H2
      isplitl [H3]; · iexact H3
      isplitl [H4]; · iexists _; iexact H4
      isplitl [HsR]; · iexact HsR
      isplitl [HsH]; · iexact HsH
      isplitl [HR]; · iexact HR
      isplitl [HlR]; · iexact HlR
      isplitl [HH]; · iexact HH
      isplitl [HlH]; · iexact HlH
      isplitl [HW]; · iexact HW
      iintro ⟨H0, H1, H2, H3, H4, HR, HH, ⟨%W', HW'⟩⟩
      isplitl [Hg HR HH HrR HrH]
      · isplitl [Hg]; · iexact Hg
        isplitl [HR]; · iexact HR
        isplitl [HH]; · iexact HH
        isplitl [HrR]; · iexact HrR
        iexact HrH
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexists _; iexact H5
      iexists _; iexact H6
  by_cases h7 : t.val % 8 = 7
  · simp only [before_4 m c t h0, before_6 m c t (by omega)]
    rw [held_fly m c t t.val h0 rfl, held_ease m c (t.val + 1) (by omega), after_4_end m c t h7, back_5_end m c t h7, back_6_at m c t (Or.inr h7), after_5, after_6, tileEnd_at m c t h7, tileEndB_at m c t h7, dgSum_at m c t h7]
    unfold atEase copying
    iintro ⟨⟨Hg, HR, HH, HrR, HrH⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (stepD c t _ _ _ _ _ _ _ _ _ _ _ _ _ _ (fun h => absurd ((starts_iff t).mp h) (by omega)) (fun h => absurd ((clears_iff t).mp h) (by omega)) (adds_all t) ((finishes_iff t).mpr h7) (iblk m c 0 t) (iblk m c 1 t) (iblk m c 2 t) (iblk m c 3 t) (duSum m c t.val) (dgSum m c (t.val / 8)) (srcR m c (tileAt t)) (srcH m c (tileAt t)) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HR]; · iexact HR
    isplitl [HH]; · iexact HH
    isplitl [HW]; · iexact HW
    iintro ⟨H0, H1, H2, H3, H4, H5, H6, HsR, HsH, HR, HlR, HH, HlH, ⟨%W', HW'⟩⟩
    isplitl [Hg HsR HsH HR HlR HH HlH HrR HrH]
    · isplitl [Hg]; · iexact Hg
      isplitl [HlR]; · iexact HlR
      isplitl [HlH]; · iexact HlH
      isplitl [HR]; · iexact HR
      isplitl [HH]; · iexact HH
      isplitl [HsR HrR]
      · iapply (giveR m c (tileAt t))
        isplitl [HsR]; · iexact HsR
        iexact HrR
      iapply (giveH m c (tileAt t))
      isplitl [HsH]; · iexact HsH
      iexact HrH
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  simp only [before_4 m c t h0]
  rw [held_fly m c t t.val h0 rfl, held_fly m c t (t.val + 1) (by omega) (by omega), after_4_mid m c t h7, duSum_next m c t h0, back_5_mid m c t h7, back_6_mid m c t (by omega) h7]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩⟩
  iapply (stepB c t _ _ _ _ _ _ _ _ _ _ _ _ _ _ (fun h => absurd ((starts_iff t).mp h) (by omega)) (fun h => absurd ((clears_iff t).mp h) (by omega)) (adds_all t) (fun h => absurd ((finishes_iff t).mp h) (by omega)) (iblk m c 0 t) (iblk m c 1 t) (iblk m c 2 t) (iblk m c 3 t) (duSum m c t.val) W _)
  isplitl [H0]; · iexact H0
  isplitl [H1]; · iexact H1
  isplitl [H2]; · iexact H2
  isplitl [H3]; · iexact H3
  isplitl [H4]; · iexact H4
  isplitl [HW]; · iexact HW
  iintro ⟨H0, H1, H2, H3, H4, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexists _; iexact H5
  iexists _; iexact H6

theorem defs₀_row (t : Fin cfg0.N) : defs₀ (F := F) .tc cfg0.body (cfg0.bodyArgs t (cfg0.slots t)) = bodyAt0 t := by
  unfold defs₀; rw [Defs.onTc_tc]

theorem steps_sound (c : Dev nD) : BodyObligation (dats (F := F) m 0 c) (defs₀ (F := F)) Variants.none () Set.univ := fun t => by
  rw [bigSep_W0, bigSep_W0, defs₀_row]
  exact triple_restated (step_sound m c t) rfl .rfl fun _ => .rfl

/-! ## The call -/

/-- The cells the copies are counted on. -/
def copyCells : Fin 2 → SemLoc sig := fun j => (![SemLoc.dma 12, SemLoc.dma 13] : Fin 2 → SemLoc sig) j
theorem copyCells_own : Pipeline.OwnSemFacts spec0 copyCells := by decide
theorem copyCells_eq (c : Dev nD) :
    (Pipeline.ownSems0 (Ix := Unit) (Name := ℕ) (U := Pipeline.UD sig nD τ) (Lvl := ℕ) (Val := Elt F) (τ := τ) copyCells c : sProp 𝕄)
      = iprop(atRest c cellRLoc ∗ atRest c cellHLoc) := by
  rw [Pipeline.ownSems0_eq_of_list c copyCells [0, 1] (by decide) (by decide)]; rfl
abbrev readRefs : Finset (Ref sig .tc) := {main_arg2, main_arg3}
theorem readRefs_sub : readRefs ⊆ Pipeline.restRefs sig spec0 := by decide

theorem ends_eq (c : Dev nD) :
    (Pipeline.ΦD copyCells spec0 readRefs (V m) c : sProp 𝕄)
      = iprop(((∃ e, holds c landR e) ∗ (∃ e, holds c landH e)) ∗ (∃ r, prngReg c r) ∗ (atRest c cellRLoc ∗ atRest c cellHLoc)
          ∗ holds c fromR (V m c main_arg2) ∗ holds c fromH (V m c main_arg3)) := by
  rw [Pipeline.ΦD_eq, scopedRest0_eq, copyCells_eq, BI.bigSep_insert (by decide), BI.bigSep_singleton]
  simp only [holds, landR, landH, fromR, fromH, Memref.view_whole, View.set_whole]
  rfl

theorem call_begins (c : Dev nD) : Pipeline.ΦD copyCells spec0 readRefs (V m) c ⊢ (dats m 0 c).Φ 0 := by
  rw [ends_eq, show (dats m 0 c).Φ 0 = heldAt m c 0 from rfl, held_ease m c 0 rfl]
  unfold atEase
  iintro ⟨⟨HlR, HlH⟩, Hg, ⟨HR, HH⟩, HsR, HsH⟩
  isplitl [Hg]; · iexact Hg
  isplitl [HlR]; · iexact HlR
  isplitl [HlH]; · iexact HlH
  isplitl [HR]; · iexact HR
  isplitl [HH]; · iexact HH
  isplitl [HsR]; · iexact HsR
  iexact HsH

theorem call_ends (c : Dev nD) : (dats m 0 c).Φ (Fin.last cfg0.N) ⊢ Pipeline.ΦD copyCells spec0 readRefs (V m) c := by
  rw [ends_eq, show (dats m 0 c).Φ (Fin.last cfg0.N) = heldAt m c grid0.N from rfl, held_ease m c _ (by rw [N_0])]
  unfold atEase
  iintro ⟨Hg, HlR, HlH, HR, HH, HsR, HsH⟩
  isplitl [HlR HlH]
  · isplitl [HlR]; · iexact HlR
    iexact HlH
  isplitl [Hg]; · iexact Hg
  isplitl [HR HH]
  · isplitl [HR]; · iexact HR
    iexact HH
  isplitl [HsR]; · iexact HsR
  iexact HsH

set_option maxHeartbeats 800000 in
theorem main_reaches : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program: it ends, the windows' arrays hold what the steps wrote, every other array is as the call found it,
    and every semaphore is at zero. -/
theorem call_run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 copyCells defs₀ Variants.none copyCells_own readRefs readRefs_sub m ρ main
    (hbody := fun c => (steps_sound m c).loose) (hshare := fun c => (dats m 0 c).share_full fun _ => rfl)
    (howed := fun _ _ => rfl) (V := V m) (hmain := main_reaches m) (hA := A_eq m) (hin := call_begins m) (hout := call_ends m)

/-- The arguments are unchanged and every semaphore is at zero. -/
theorem call_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩, h.2⟩) (call_run m ρ)

end Cert.Kernel13Ideal.NormBwd

end
-- ==== Proof.NormForms.lean ====
/-
  Why the kernel's form of a row's gradient through the normalisation is the reference's.
-/

module

public import Idealize.ShloMosaic.Lib.Pointwise
public import Idealize.ShloMosaic.Lib.Claim
public import Idealize.ShloMosaic.Lib.Pipeline.ValueKit

@[expose] public section

set_option maxRecDepth 16384

noncomputable section

namespace Cert.NormForms

open Idealize.ShloMosaic

/-! ## The two forms of a row's gradient -/

theorem const_2048 : Ideal.ofBits .f32 0x45000000#32 = ((2048 : ℝ) : EReal) := by simp [Ideal.ofBits, Ideal.ieee, -EReal.coe_mul]; norm_num
theorem const_half : Ideal.ofBits .f32 0xBF000000#32 = ((-(1 / 2) : ℝ) : EReal) := by simp [Ideal.ofBits, Ideal.ieee, -EReal.coe_mul]; norm_num
theorem const_eps : 0 < Ideal.ofBits .f32 0x358637BD#32 := by simp [Ideal.ofBits, Ideal.ieee, -EReal.coe_mul]

theorem square_nonneg (x : EReal) : 0 ≤ x * x := by
  rcases le_total 0 x with h | h
  · exact mul_nonneg h h
  · rw [← neg_mul_neg]; exact mul_nonneg (EReal.neg_nonneg.mpr h) (EReal.neg_nonneg.mpr h)

theorem twice (q : EReal) : -(q + q) = -q + -q := by
  induction q with
  | bot => rfl
  | top => rfl
  | coe a => rw [← EReal.coe_add, ← EReal.coe_neg, ← EReal.coe_neg, ← EReal.coe_add, neg_add]

/-- With `y` positive and `r` the reciprocal of its root: `r / y` is the cube of `r`, zero where `y` is infinite; and half of
    a number taken twice is that number. -/
theorem two_forms (y S h X : EReal) (hy : 0 < y) :
    X - h * (Ideal.rsqrt y * Ideal.rsqrt y * Ideal.rsqrt y * Ideal.div S ((2048 : ℝ) : EReal))
      = X + h * Ideal.div (S * (((-(1 / 2) : ℝ) : EReal) * Ideal.div (Ideal.rsqrt y) y)) ((2048 : ℝ) : EReal)
        + Ideal.div (S * (((-(1 / 2) : ℝ) : EReal) * Ideal.div (Ideal.rsqrt y) y)) ((2048 : ℝ) : EReal) * h := by
  rw [Ideal.div_coe (by norm_num), Ideal.div_coe (by norm_num)]
  induction y with
  | bot => exact absurd hy (by decide)
  | top =>
    have h0 : Ideal.div (Ideal.rsqrt ⊤) ⊤ = 0 := by rw [Ideal.rsqrt_top]; unfold Ideal.div; rw [if_neg (by decide), zero_mul]
    rw [h0, Ideal.rsqrt_top]
    simp only [mul_zero, zero_mul, sub_zero, add_zero]
  | coe a =>
    have ha : 0 < a := EReal.coe_pos.mp hy
    have hs : 0 < Real.sqrt a := Real.sqrt_pos.mpr ha
    have hr : Ideal.rsqrt (a : EReal) = (((Real.sqrt a)⁻¹ : ℝ) : EReal) := by
      rw [Ideal.rsqrt_coe, if_neg (not_lt.mpr ha.le), if_neg ha.ne']
    rw [Ideal.div_coe ha.ne', hr]
    generalize hq : h * S * (((Real.sqrt a)⁻¹ * (Real.sqrt a)⁻¹ * (Real.sqrt a)⁻¹ / 4096 : ℝ) : EReal) = q
    have e1 : h * (((Real.sqrt a)⁻¹ : ℝ) * ((Real.sqrt a)⁻¹ : ℝ) * ((Real.sqrt a)⁻¹ : ℝ) * (S * ((1 / 2048 : ℝ) : EReal))) = q + q := by
      have hc : (0 : ℝ) ≤ (Real.sqrt a)⁻¹ * (Real.sqrt a)⁻¹ * (Real.sqrt a)⁻¹ / 4096 := by positivity
      rw [← hq, ← EReal.left_distrib_of_nonneg (EReal.coe_nonneg.mpr hc) (EReal.coe_nonneg.mpr hc), ← EReal.coe_add, mul_left_comm _ S, ← EReal.coe_mul,
        ← EReal.coe_mul, ← EReal.coe_mul, mul_assoc h S]
      refine congrArg (fun z : ℝ => h * (S * (z : EReal))) ?_
      ring
    have e2 : S * (((-(1 / 2) : ℝ) : EReal) * ((((Real.sqrt a)⁻¹ : ℝ) : EReal) * ((1 / a : ℝ) : EReal))) * ((1 / 2048 : ℝ) : EReal) * h = -q := by
      rw [← hq, ← mul_neg, ← EReal.coe_neg, mul_assoc S, ← EReal.coe_mul, ← EReal.coe_mul, ← EReal.coe_mul, mul_right_comm, mul_comm S h]
      congr 2
      have h2 : a = Real.sqrt a * Real.sqrt a := (Real.mul_self_sqrt ha.le).symm
      have h3 : 1 / a = (Real.sqrt a)⁻¹ * (Real.sqrt a)⁻¹ := by
        rw [← mul_inv, Real.mul_self_sqrt ha.le, one_div]
      rw [h3]
      ring
    rw [e1, mul_comm h, e2, sub_eq_add_neg, twice, add_assoc]

end Cert.NormForms
-- ==== Proof.NormRef.lean ====
/-
  The gradient through the normalisation, as the reference computes it, read entry by entry.
-/

module

public import proofs.«01_k».proof.Proof.Gen.Reference13Ideal
public import proofs.«01_k».proof.Proof.Gen.Reference13Ideal.Run
public import proofs.«01_k».proof.Proof.Gen.Reference13Ideal.Read
public import proofs.«01_k».proof.Proof.NormForms
public import Idealize.ShloMosaic.Lib.Pointwise
public import Idealize.ShloMosaic.Lib.Claim
public import Idealize.ShloMosaic.Lib.Pipeline.ValueKit

@[expose] public section

set_option maxRecDepth 16384

noncomputable section

namespace Cert.Reference13Ideal.Read

open Idealize.ShloMosaic Cert.Reference13Ideal.Gen Cert.NormForms

variable (x0 : FVec Ideal S4224x8192 .f32) (x1 : FVec Ideal S2048x8192 .f32) (x2 x3 : FVec Ideal S4224x2048 .f32) (x4 : FVec Ideal S1x2048 .f32)

/-- The gradient of the normalised rows: the product with the weight. -/
theorem v16_apply (t : Fin 4224) (j : Fin 2048) : val_main_v16 (F := Ideal) x0 x1 (ix2 t j) = ∑ k : Fin 8192, x0 (ix2 t k) * x1 (ix2 j k) := by
  pointwise [val_main_v16]

/-- The gradient of the scale. -/
theorem v19_apply (j : Fin 2048) : val_main_v19 (F := Ideal) x0 x1 x3 (ix2 0 j)
    = ∑ t : Fin 4224, x3 (ix2 t j) * val_main_v7 (F := Ideal) x3 (ix2 t 0) * val_main_v16 (F := Ideal) x0 x1 (ix2 t j) := by
  pointwise [val_main_v19, val_main_v18, val_main_cst_3, val_main_v17, val_main_v12, val_main_v11]

/-- A row's mean square, and a bit more, is positive. -/
theorem v6_pos (t : Fin 4224) : 0 < val_main_v6 (F := Ideal) x3 (ix2 t 0) := by
  have e : val_main_v6 (F := Ideal) x3 (ix2 t 0) = Ideal.div (∑ k : Fin 2048, x3 (ix2 t k) * x3 (ix2 t k)) (Ideal.ofBits .f32 0x45000000#32) + Ideal.ofBits .f32 0x358637BD#32 := by
    pointwise [val_main_v6, val_main_v4, val_main_v5, val_main_v3, val_main_v2, val_main_v1, val_main_v0, val_main_cst, val_main_cst_0, val_main_cst_1]
  rw [e, const_2048, Ideal.div_coe (by norm_num)]
  exact lt_of_lt_of_le const_eps (le_add_of_nonneg_left (α := EReal) (mul_nonneg (Finset.sum_nonneg fun k _ => square_nonneg _) (EReal.coe_nonneg.mpr (by norm_num))))

theorem v7_apply (t : Fin 4224) : val_main_v7 (F := Ideal) x3 (ix2 t 0) = Ideal.rsqrt (val_main_v6 (F := Ideal) x3 (ix2 t 0)) := by
  pointwise [val_main_v7]

/-- The gradient of the rows, in the kernel's form. -/
theorem v36_apply (t : Fin 4224) (j : Fin 2048) : val_main_v36 (F := Ideal) x0 x1 x2 x3 x4 (ix2 t j)
    = x2 (ix2 t j) + val_main_v7 (F := Ideal) x3 (ix2 t 0) * (val_main_v16 (F := Ideal) x0 x1 (ix2 t j) * x4 (ix2 0 j))
      - x3 (ix2 t j) * (val_main_v7 (F := Ideal) x3 (ix2 t 0) * val_main_v7 (F := Ideal) x3 (ix2 t 0) * val_main_v7 (F := Ideal) x3 (ix2 t 0)
        * Ideal.div (∑ k : Fin 2048, val_main_v16 (F := Ideal) x0 x1 (ix2 t k) * x4 (ix2 0 k) * x3 (ix2 t k)) (Ideal.ofBits .f32 0x45000000#32)) := by
  rw [const_2048, v7_apply, two_forms _ _ _ _ (v6_pos x3 t)]
  pointwise [val_main_v36, val_main_v35, val_main_v34, val_main_v33, val_main_v32, val_main_v31, val_main_cst_6, val_main_v30, val_main_v29, val_main_cst_5, val_main_v28,
    val_main_v27, val_main_v26, val_main_v25, val_main_v24, val_main_v23, val_main_cst_4, val_main_v22, val_main_v21, val_main_v20, val_main_v10, val_main_v9, val_main_cst_2, val_main_v8]
  have hS : ∑ k : Fin 2048, x3 (ix2 t k) * (val_main_v16 (F := Ideal) x0 x1 (ix2 t k) * x4 (ix2 0 k))
      = ∑ k : Fin 2048, val_main_v16 (F := Ideal) x0 x1 (ix2 t k) * x4 (ix2 0 k) * x3 (ix2 t k) := Fin.sum_fin_congr fun k => mul_comm _ _
  rw [Fin.sum_univ_one, const_2048, const_half, v7_apply, hS, mul_comm (Ideal.rsqrt _) (val_main_v16 (F := Ideal) x0 x1 (ix2 t j) * _)]

/-- Rounded, it is itself. -/
theorem v37_eq : (val_main_v37 (F := Ideal) x0 x1 x2 x3 x4 : S4224x2048.Idx → EReal) = val_main_v36 (F := Ideal) x0 x1 x2 x3 x4 := by
  funext i
  pointwise [val_main_v37]

end Cert.Reference13Ideal.Read
-- ==== Proof.NormValue.lean ====
/-
  What the call leaves, entry by entry: the sum of products, the finished rows, and the sum for the scale, each as the
  reference computes it.
-/

module

public import proofs.«01_k».proof.Proof.NormCall
public import proofs.«01_k».proof.Proof.NormRef

@[expose] public section

set_option maxRecDepth 16384

noncomputable section

namespace Cert.Kernel13Ideal.NormBwd

open Idealize.ShloMosaic Idealize.ShloMosaic.TcCoe Idealize.SL.Sem Cert.Kernel13Ideal.Gen
open Cert.Reference13Ideal.Read

/-! ## One step, and one tile -/

theorem added_apply (du : FVec Ideal S704x2048 .f32) (dz : FVec Ideal S704x1024 .bf16) (w : FVec Ideal S1x2048x1024 .bf16) (p : Fin 704) (j : Fin 2048) :
    added (F := Ideal) du dz w (ix2 p j) = du (ix2 p j) + ∑ l : Fin 1024, dz (ix2 p l) * w (ix3 0 j l) := by
  unfold added
  pointwise [k0_pay3]

/-- Row `p` of a tile is row `p % 176` of trip `p / 176`. -/
theorem row_ld {e : EltTy} (x : Vec Ideal S704x2048 e) (p : Fin 704) (j : Fin 2048) (q : Fin 4) (p' : Fin 176) (h : 176 * q.val + p'.val = p.val) :
    View.ld x (rowBox q) (ix2 p' j) = x (ix2 p j) := by
  rw [View.ld_apply]
  refine congrArg x (funext fun a => Fin.ext ?_)
  rw [Rect.idx_unit_val]
  match a with
  | 0 => exact h
  | 1 => exact Nat.zero_add _
theorem col_ld {e : EltTy} (x : Vec Ideal S704x1 e) (p : Fin 704) (q : Fin 4) (p' : Fin 176) (h : 176 * q.val + p'.val = p.val) :
    View.ld x (colBox q) (ix2 p' 0) = x (ix2 p 0) := by
  rw [View.ld_apply]
  refine congrArg x (funext fun a => Fin.ext ?_)
  rw [Rect.idx_unit_val]
  match a with
  | 0 => exact h
  | 1 => exact Nat.zero_add _

theorem rows_apply (g : FVec Ideal S1x2048 .f32) (du h : FVec Ideal S176x2048 .f32) (r : FVec Ideal S176x1 .f32) (dr : FVec Ideal S176x2048 .f32) (p : Fin 176) (j : Fin 2048) :
    k0_pay7 (F := Ideal) g du h r dr (ix2 p j)
      = dr (ix2 p j) + r (ix2 p 0) * (du (ix2 p j) * g (ix2 0 j))
        - h (ix2 p j) * (r (ix2 p 0) * r (ix2 p 0) * r (ix2 p 0) * Ideal.div (∑ k : Fin 2048, du (ix2 p k) * g (ix2 0 k) * h (ix2 p k)) (Ideal.ofBits .f32 0x45000000#32)) := by
  pointwise [k0_pay7, k0_pay5, k0_pay6]

theorem part_apply (a : FVec Ideal S1x2048 .f32) (du h : FVec Ideal S176x2048 .f32) (r : FVec Ideal S176x1 .f32) (j : Fin 2048) :
    k0_pay9 (F := Ideal) a du h r (ix2 0 j) = a (ix2 0 j) + ∑ p : Fin 176, du (ix2 p j) * (h (ix2 p j) * r (ix2 p 0)) := by
  pointwise [k0_pay9, k0_pay5, k0_pay6]

/-- Trip `q`'s rows of a tile, and of a column. -/
abbrev ldT (x : FVec Ideal S704x2048 .f32) (q : Fin 4) : FVec Ideal S176x2048 .f32 := View.ld (Val := Elt Ideal) (e' := .f32) (x : Vec Ideal _ .f32) (rowBox q)
abbrev ldC (x : FVec Ideal S704x1 .f32) (q : Fin 4) : FVec Ideal S176x1 .f32 := View.ld (Val := Elt Ideal) (e' := .f32) (x : Vec Ideal _ .f32) (colBox q)

section Tile
variable (g : FVec Ideal S1x2048 .f32) (du h : FVec Ideal S704x2048 .f32) (r : FVec Ideal S704x1 .f32) (dr : FVec Ideal S704x2048 .f32)

theorem outTile_apply (p : Fin 704) (j : Fin 2048) : outTile (F := Ideal) g du h r dr (ix2 p j)
    = dr (ix2 p j) + r (ix2 p 0) * (du (ix2 p j) * g (ix2 0 j))
      - h (ix2 p j) * (r (ix2 p 0) * r (ix2 p 0) * r (ix2 p 0) * Ideal.div (∑ k : Fin 2048, du (ix2 p k) * g (ix2 0 k) * h (ix2 p k)) (Ideal.ofBits .f32 0x45000000#32)) := by
  have hp := p.isLt
  have hq : p.val / 176 < 4 := by omega
  have hr : p.val % 176 < 176 := Nat.mod_lt _ (by decide)
  have hs : 176 * (⟨p.val / 176, hq⟩ : Fin 4).val + (⟨p.val % 176, hr⟩ : Fin 176).val = p.val := Nat.div_add_mod _ _
  have hx : rowIn (ix2 p j) = ix2 (⟨p.val % 176, hr⟩ : Fin 176) j := by
    funext a
    match a with
    | 0 => rfl
    | 1 => rfl
  have key := rows_apply g (ldT du ⟨p.val / 176, hq⟩) (ldT h ⟨p.val / 176, hq⟩) (ldC r ⟨p.val / 176, hq⟩) (ldT dr ⟨p.val / 176, hq⟩) ⟨p.val % 176, hr⟩ j
  have hd : ∀ k, ldT du ⟨p.val / 176, hq⟩ (ix2 (⟨p.val % 176, hr⟩ : Fin 176) k) = du (ix2 p k) := fun k => row_ld (e := .f32) du p k _ _ hs
  have hh : ∀ k, ldT h ⟨p.val / 176, hq⟩ (ix2 (⟨p.val % 176, hr⟩ : Fin 176) k) = h (ix2 p k) := fun k => row_ld (e := .f32) h p k _ _ hs
  have hc : ldC r ⟨p.val / 176, hq⟩ (ix2 (⟨p.val % 176, hr⟩ : Fin 176) 0) = r (ix2 p 0) := col_ld (e := .f32) r p _ _ hs
  have ho : ldT dr ⟨p.val / 176, hq⟩ (ix2 (⟨p.val % 176, hr⟩ : Fin 176) j) = dr (ix2 p j) := row_ld (e := .f32) dr p j _ _ hs
  simp only [hd, hh, hc, ho] at key
  unfold outTile
  rw [hx]
  exact key

theorem outTileB_eq : (outTileB (F := Ideal) g du h r dr : S704x2048.Idx → EReal) = outTile (F := Ideal) g du h r dr := by
  funext i
  unfold outTileB outTile
  pointwise [k0_pay8]

theorem gSum_apply (a : FVec Ideal S1x2048 .f32) (j : Fin 2048) : gSum (F := Ideal) du h r a 4 (ix2 0 j)
    = a (ix2 0 j) + ∑ p : Fin 704, du (ix2 p j) * (h (ix2 p j) * r (ix2 p 0)) := by
  rw [Fin.sum_univ_tiles 4 176 rfl, Fin.sum_univ_four, ← add_assoc, ← add_assoc, ← add_assoc]
  have step : ∀ (b : FVec Ideal S1x2048 .f32) (q : Fin 4), k0_pay9 (F := Ideal) b (View.ld du (rowBox q)) (View.ld h (rowBox q)) (View.ld r (colBox q)) (ix2 0 j)
      = b (ix2 0 j) + ∑ p : Fin 176, du (ix2 (⟨q.val * 176 + p.val, by omega⟩ : Fin 704) j) * (h (ix2 (⟨q.val * 176 + p.val, by omega⟩ : Fin 704) j) * r (ix2 (⟨q.val * 176 + p.val, by omega⟩ : Fin 704) 0)) := by
    intro b q
    rw [part_apply]
    refine congrArg₂ (· + ·) rfl (Fin.sum_fin_congr fun p => ?_)
    have hs : 176 * q.val + p.val = (⟨q.val * 176 + p.val, by omega⟩ : Fin 704).val := by show _ = q.val * 176 + p.val; omega
    exact congrArg₂ (· * ·) (row_ld (e := .f32) du _ j q p hs) (congrArg₂ (· * ·) (row_ld (e := .f32) h _ j q p hs) (col_ld (e := .f32) r _ q p hs))
  have e3 := step (gSum (F := Ideal) du h r a 3) 3
  have e2 := step (gSum (F := Ideal) du h r a 2) 2
  have e1 := step (gSum (F := Ideal) du h r a 1) 1
  have e0 := step a 0
  refine e3.trans (congrArg₂ (· + ·) (e2.trans (congrArg₂ (· + ·) (e1.trans (congrArg₂ (· + ·) e0 rfl)) rfl)) rfl)
end Tile

/-! ## The arrays -/

variable (m : (ℓ : Loc nD τ sig) → Buf (Elt Ideal) ℓ) (c : Dev nD)

/-- The five arguments. -/
abbrev DZ : FVec Ideal S4224x8192 .f32 := m ((c : Thread nD τ).loc main_arg0)
abbrev W1 : FVec Ideal S2048x8192 .f32 := m ((c : Thread nD τ).loc main_arg1)
abbrev DR : FVec Ideal S4224x2048 .f32 := m ((c : Thread nD τ).loc main_arg2)
abbrev HH : FVec Ideal S4224x2048 .f32 := m ((c : Thread nD τ).loc main_arg3)
abbrev GG : FVec Ideal S1x2048 .f32 := m ((c : Thread nD τ).loc main_arg4)

/-- Where every block of a step lies. -/
theorem idx : ∀ t : Fin cfg0.N, win0_0.index t = ![t.val / 8, t.val % 8] ∧ win0_1.index t = ![t.val % 8, 0, 0] ∧ win0_2.index t = ![t.val / 8, 0]
    ∧ win0_3.index t = ![0, 0] ∧ win0_4.index t = ![t.val / 8, 0] ∧ win0_5.index t = ![t.val / 8, 0] ∧ win0_6.index t = ![0, 0] :=
  (by decide +kernel : ∀ t : Fin grid0.N, _)

/-- Row `p` of tile `u`; column `l` of slot `s`. -/
def trow (u : Fin 6) (p : Fin 704) : Fin 4224 := ⟨704 * u.val + p.val, by omega⟩
def tcol (s : Fin 8) (l : Fin 1024) : Fin 8192 := ⟨s.val * 1024 + l.val, by omega⟩
def slotAt (t : Fin cfg0.N) : Fin 8 := ⟨t.val % 8, Nat.mod_lt _ (by decide)⟩

theorem dzAt_apply (t : Fin cfg0.N) (p : Fin 704) (l : Fin 1024) : dzAt m c t (ix2 p l) = DZ m c (ix2 (trow (tileAt t) p) (tcol (slotAt t) l)) := by
  unfold dzAt trow tcol tileAt slotAt
  blk_simp [iblk]
  entry_read
  pointwise
  blk_ext [iblk, V, idx t]

theorem wAt_apply (t : Fin cfg0.N) (j : Fin 2048) (l : Fin 1024) : wAt m c t (ix3 0 j l) = W1 m c (ix2 j (tcol (slotAt t) l)) := by
  unfold wAt tcol slotAt
  blk_simp [iblk]
  entry_read
  pointwise
  blk_ext [iblk, V, idx t]

/-- What the call is given for a row's scale is the reference's. -/
theorem host_r : (V m c main_v11 : S4224x1.Idx → EReal) = val_main_v7 (F := Ideal) (HH m c) := by
  unfold V
  after_results_simp
  rfl

theorem rAt_apply (t : Fin cfg0.N) (p : Fin 704) : rAt m c t (ix2 p 0) = val_main_v7 (F := Ideal) (HH m c) (ix2 (trow (tileAt t) p) 0) := by
  rw [← host_r m c]
  unfold rAt trow tileAt
  blk_ext [iblk, idx t]

theorem gAt_eq (t : Fin cfg0.N) : gAt m c t = GG m c := by
  unfold gAt
  blk_ext! [iblk, V, idx t]

theorem rowsR_apply (u : Fin 6) (p : Fin 704) (j : Fin 2048) : rowsR m c u (ix2 p j) = DR m c (ix2 (trow u p) j) := by
  refine Eq.trans (b := DR m c ((Rect.unit (s := S4224x2048) ![704 * u.val, 0] S704x2048.size (box_inb u)).idx (ix2 p j))) ?_ (congrArg (DR m c) (funext fun a => Fin.ext ?_))
  · unfold rowsR srcR
    rw [V_main_arg2]
    rfl
  · rw [Rect.idx_unit_val]
    match a with
    | 0 => rfl
    | 1 => exact Nat.zero_add _

theorem rowsH_apply (u : Fin 6) (p : Fin 704) (j : Fin 2048) : rowsH m c u (ix2 p j) = HH m c (ix2 (trow u p) j) := by
  refine Eq.trans (b := HH m c ((Rect.unit (s := S4224x2048) ![704 * u.val, 0] S704x2048.size (box_inb u)).idx (ix2 p j))) ?_ (congrArg (HH m c) (funext fun a => Fin.ext ?_))
  · unfold rowsH srcH
    rw [V_main_arg3]
    rfl
  · rw [Rect.idx_unit_val]
    match a with
    | 0 => rfl
    | 1 => exact Nat.zero_add _

/-! ## What the steps leave -/

/-- A tile's sum after `s` of its eight slots. -/
theorem duSum_part (u : Fin 6) (p : Fin 704) (j : Fin 2048) (s : ℕ) (hs : s < 8) :
    duSum m c (8 * u.val + (s + 1)) (ix2 p j)
      = ∑ b ∈ Finset.range (s + 1), ∑ l : Fin 1024, DZ m c (ix2 (trow u p) (tcol (Fin.ofNat 8 b) l)) * W1 m c (ix2 j (tcol (Fin.ofNat 8 b) l)) := by
  have step : ∀ (a : FVec Ideal S704x2048 .f32) (k : ℕ) (hk : k < 8), added (F := Ideal) a (dzAt m c (stp (8 * u.val + k))) (wAt m c (stp (8 * u.val + k))) (ix2 p j)
      = a (ix2 p j) + ∑ l : Fin 1024, DZ m c (ix2 (trow u p) (tcol (Fin.ofNat 8 k) l)) * W1 m c (ix2 j (tcol (Fin.ofNat 8 k) l)) := by
    intro a k hk
    have hu := u.isLt
    have hv : (stp (8 * u.val + k)).val = 8 * u.val + k := Nat.mod_eq_of_lt (by omega)
    have ht : tileAt (stp (8 * u.val + k)) = u := Fin.ext (by show (stp (8 * u.val + k)).val / 8 = u.val; omega)
    have hl : slotAt (stp (8 * u.val + k)) = Fin.ofNat 8 k := Fin.ext (by show (stp (8 * u.val + k)).val % 8 = k % 8; omega)
    rw [added_apply]
    refine congrArg₂ (· + ·) rfl (Fin.sum_fin_congr fun l => ?_)
    rw [dzAt_apply, wAt_apply, ht, hl]
  induction s with
  | zero =>
    rw [Finset.sum_range_one]
    show added (F := Ideal) (if (8 * u.val + 0) % 8 = 0 then k0_pay1 (F := Ideal) else duSum m c (8 * u.val + 0)) (dzAt m c (stp (8 * u.val + 0))) (wAt m c (stp (8 * u.val + 0))) (ix2 p j) = _
    rw [step _ 0 hs, if_pos (by omega)]
    refine (congrArg₂ (· + ·) (x' := (0 : EReal)) ?_ rfl).trans (zero_add _)
    pointwise [k0_pay1]
  | succ s ih =>
    rw [Finset.sum_range_succ, ← ih (by omega)]
    show added (F := Ideal) (if (8 * u.val + (s + 1)) % 8 = 0 then k0_pay1 (F := Ideal) else duSum m c (8 * u.val + (s + 1))) (dzAt m c (stp (8 * u.val + (s + 1)))) (wAt m c (stp (8 * u.val + (s + 1)))) (ix2 p j) = _
    rw [step _ (s + 1) hs, if_neg (by omega)]

/-- A tile's whole sum: the reference's product. -/
theorem duSum_apply (u : Fin 6) (p : Fin 704) (j : Fin 2048) :
    duSum m c (8 * u.val + 8) (ix2 p j) = val_main_v16 (F := Ideal) (DZ m c) (W1 m c) (ix2 (trow u p) j) := by
  rw [duSum_part m c u p j 7 (by decide), v16_apply, Fin.sum_univ_tiles 8 1024 rfl, Finset.sum_range]
  refine Fin.sum_fin_congr fun b => Fin.sum_fin_congr fun l => ?_
  rw [show Fin.ofNat 8 b.val = b from Fin.ext (Nat.mod_eq_of_lt b.isLt)]
  rfl

theorem tile_lastOf (u : Fin 6) : tileAt (lastOf u) = u := Fin.ext (by
  have hu := u.isLt
  show (8 * u.val + 7) % 48 / 8 = u.val
  omega)

/-- The finished rows. -/
theorem tileEnd_apply (u : Fin 6) (p : Fin 704) (j : Fin 2048) :
    tileEnd m c u (ix2 p j) = val_main_v36 (F := Ideal) (DZ m c) (W1 m c) (DR m c) (HH m c) (GG m c) (ix2 (trow u p) j) := by
  unfold tileEnd
  rw [outTile_apply, v36_apply, rAt_apply, tile_lastOf, gAt_eq, rowsR_apply, rowsH_apply, duSum_apply]
  refine congrArg₂ (· - ·) rfl (congrArg₂ (· * ·) rfl (congrArg₂ (· * ·) rfl (congrArg₂ Ideal.div (Fin.sum_fin_congr fun k => ?_) rfl)))
  rw [rowsH_apply, duSum_apply]

theorem tileEndB_eq (u : Fin 6) : (tileEndB m c u : S704x2048.Idx → EReal) = tileEnd m c u := by
  unfold tileEndB tileEnd
  exact outTileB_eq _ _ _ _ _

/-- A tile's part of the scale's gradient. -/
theorem scalePart_apply (u : Fin 6) (j : Fin 2048) : scalePart m c u (ix2 0 j)
    = ∑ p : Fin 704, HH m c (ix2 (trow u p) j) * val_main_v7 (F := Ideal) (HH m c) (ix2 (trow u p) 0) * val_main_v16 (F := Ideal) (DZ m c) (W1 m c) (ix2 (trow u p) j) := by
  unfold scalePart
  rw [gSum_apply]
  refine (congrArg₂ (· + ·) (x' := (0 : EReal)) ?_ (Fin.sum_fin_congr fun p => ?_)).trans (zero_add _)
  · pointwise [k0_pay4]
  · rw [duSum_apply, rowsH_apply, rAt_apply, tile_lastOf, mul_comm]

theorem dgSum_apply (k : ℕ) (j : Fin 2048) : dgSum m c k (ix2 0 j) = ∑ u ∈ Finset.range k, scalePart m c (Fin.ofNat 6 u) (ix2 0 j) := by
  induction k with
  | zero =>
    rw [Finset.sum_range_zero]
    unfold dgSum
    pointwise [k0_pay2]
  | succ k ih =>
    rw [Finset.sum_range_succ, ← ih]
    conv_lhs => unfold dgSum
    pointwise [k0_pay10]

/-- The whole sum: the reference's gradient of the scale. -/
theorem dg_apply (j : Fin 2048) : dgSum m c 6 (ix2 0 j) = val_main_v19 (F := Ideal) (DZ m c) (W1 m c) (HH m c) (ix2 0 j) := by
  rw [dgSum_apply, v19_apply, Fin.sum_univ_tiles 6 704 rfl, Finset.sum_range]
  refine Fin.sum_fin_congr fun u => ?_
  rw [show Fin.ofNat 6 u.val = u from Fin.ext (Nat.mod_eq_of_lt u.isLt), scalePart_apply]
  refine Fin.sum_fin_congr fun p => ?_
  rw [show trow u p = (⟨u.val * 704 + p.val, by omega⟩ : Fin 4224) from Fin.ext (by show 704 * u.val + p.val = u.val * 704 + p.val; omega)]

/-! ## The three results -/

/-- The reference's three results, of the call's arguments. -/
abbrev refRows : S4224x2048.Idx → EReal := val_main_v36 (F := Ideal) (DZ m c) (W1 m c) (DR m c) (HH m c) (GG m c)
abbrev refRowsB : S4224x2048.Idx → EReal := val_main_v37 (F := Ideal) (DZ m c) (W1 m c) (DR m c) (HH m c) (GG m c)
abbrev refScale : S1x2048.Idx → EReal := val_main_v19 (F := Ideal) (DZ m c) (W1 m c) (HH m c)

theorem final4 : (dats m 0 c).arrAt 4 cfg0.N = refRows m c := by
  refine (dats m 0 c).arrAt_eq_of_covers 4 _ (by decide +kernel) fun t hf y => ?_
  have ht : t.val % 8 = 7 := by rw [flush_4, decide_eq_true_iff] at hf; exact hf
  blk_simp [idx t]
  rw [after_4_end m c t ht, eq_ix2 y]
  refine (tileEnd_apply m c (tileAt t) _ _).trans ?_
  unfold trow tileAt
  blk_ext [idx t]

theorem final5 : (dats m 0 c).arrAt 5 cfg0.N = refRowsB m c := by
  refine (dats m 0 c).arrAt_eq_of_covers 5 _ (by decide +kernel) fun t hf y => ?_
  have ht : t.val % 8 = 7 := by rw [flush_5, decide_eq_true_iff] at hf; exact hf
  blk_simp [idx t]
  rw [after_5 m c t, refRowsB, v37_eq, tileEndB_eq, eq_ix2 y]
  refine (tileEnd_apply m c (tileAt t) _ _).trans ?_
  unfold trow tileAt
  blk_ext [idx t]

theorem final6 : (dats m 0 c).arrAt 6 cfg0.N = refScale m c := by
  refine (dats m 0 c).arrAt_eq_of_after_last 6 (stp 47) (by decide +kernel) _ fun j => ?_
  blk_simp [idx (stp 47)]
  rw [after_6, eq_ix2 j]
  have h0 : j 0 = (0 : Fin 1) := Subsingleton.elim (α := Fin 1) _ _
  rw [h0]
  exact dg_apply m c _

/-- The whole program's results: the reference's. -/
theorem call_values (ρ : Dev nD → PrngReg) : θ_run defs (onTc (τ := τ) (main (F := Ideal))) ⟨m, fun _ => 0, ρ⟩ (fun r => ∀ c : Dev nD,
      r.2.mem ((c.tc : Thread nD τ).loc main_v12_0) = refRows m c
      ∧ r.2.mem ((c.tc : Thread nD τ).loc main_v12_1) = refRowsB m c
      ∧ r.2.mem ((c.tc : Thread nD τ).loc main_v12_2) = refScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1 c).1 4).trans (final4 m c),
      ((h.1 c).1 5).trans (final5 m c),
      ((h.1 c).1 6).trans (final6 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩) (call_run m ρ)

end Cert.Kernel13Ideal.NormBwd
-- ==== Proof.NormALoop.lean ====
/-
  The row-wise part of a step of the first norm's gradient kernel, upper half of the rows: four trips, each over 176 of a tile's 704 rows.
-/

module

public import proofs.«01_k».proof.Proof.Gen.Kernel14Ideal.Launch
public import proofs.«01_k».proof.Proof.Gen.Kernel14Ideal.Skeleton
public import proofs.«01_k».proof.Proof.Gen.Kernel14Ideal.Loops
public import proofs.«01_k».proof.Proof.Gen.Kernel14Ideal.Points
public import proofs.«01_k».proof.Proof.Gen.Kernel14Ideal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.Kernel14Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal.Gen

variable {F : FTy → Type} [FloatOps F]

local notation "𝕄" => MT nD τ sig Unit (Elt F) ℕ (Pipeline.UD sig nD τ) ℕ

/-- Trip `q`'s rows of a tile, and of a column. -/
abbrev rowBox (q : Fin 4) : Rect S704x2048 := Rect.unit (s := S704x2048) ![176 * q.val, 0] S176x2048.size
  ((by decide +kernel : ∀ q : Fin 4, ∀ a, (![176 * q.val, 0] : Fin 2 → ℕ) a + S176x2048.size a ≤ S704x2048.size a) q)
abbrev colBox (q : Fin 4) : Rect S704x1 := Rect.unit (s := S704x1) ![176 * q.val, 0] S176x1.size
  ((by decide +kernel : ∀ q : Fin 4, ∀ a, (![176 * q.val, 0] : Fin 2 → ℕ) a + S176x1.size a ≤ S704x1.size a) q)

/-- The trip a row belongs to, and the row within it. -/
abbrev tripOf (j : S704x2048.Idx) : Fin 4 := ⟨(j 0).val / 176, by have h : (j 0).val < 704 := (j 0).isLt; omega⟩
abbrev rowIn (j : S704x2048.Idx) : S176x2048.Idx := fun a => match a with
  | 0 => ⟨(j 0).val % 176, Nat.mod_lt _ (by decide)⟩
  | 1 => j 1

section Tile
variable (g : Vec F S1x2048 .f32) (du h : Vec F S704x2048 .f32) (r : Vec F S704x1 .f32) (dr : Vec F S704x2048 .f32)

/-- The finished tile, and the scale's gradient after `k` trips from `a`. -/
def outTile : Vec F S704x2048 .f32 := fun j =>
  k0_pay7 g (View.ld du (rowBox (tripOf j))) (View.ld h (rowBox (tripOf j))) (View.ld r (colBox (tripOf j))) (View.ld dr (rowBox (tripOf j))) (rowIn j)
def gSum (a : FVec F S1x2048 .f32) : ℕ → FVec F S1x2048 .f32
  | 0 => a
  | k + 1 => if hk : k < 4 then k0_pay8 (gSum a k) (View.ld du (rowBox ⟨k, hk⟩)) (View.ld h (rowBox ⟨k, hk⟩)) (View.ld r (colBox ⟨k, hk⟩)) else gSum a k
end Tile

/-- A tile whose first `k` trips are done. -/
def mixed {e : EltTy} (base fin : Vec F S704x2048 e) : ℕ → Vec F S704x2048 e
  | 0 => base
  | k + 1 => fun j => if (j 0).val < 176 * (k + 1) then fin j else base j

theorem mixed_apply {e : EltTy} (base fin : Vec F S704x2048 e) (k : ℕ) (j : S704x2048.Idx) :
    mixed base fin k j = if (j 0).val < 176 * k then fin j else base j := by
  cases k with
  | zero => rw [if_neg (by omega)]; rfl
  | succ k => rfl
theorem mixed_four {e : EltTy} (base fin : Vec F S704x2048 e) : mixed base fin 4 = fin := by
  funext j
  rw [mixed_apply, if_pos (by have h : (j 0).val < 704 := (j 0).isLt; omega)]
/-- A trip finds its rows unchanged. -/
theorem mixed_ld {e : EltTy} (base fin : Vec F S704x2048 e) (q : Fin 4) : View.ld (mixed base fin q.val) (rowBox q) = View.ld base (rowBox q) := by
  funext x
  show mixed base fin q.val ((rowBox q).idx x) = base ((rowBox q).idx x)
  rw [mixed_apply, if_neg]
  have e0 : (((rowBox q).idx x) 0).val = 176 * q.val + (x 0).val := Rect.idx_unit_val _ _ _ x 0
  omega
/-- A trip adds its rows. -/
theorem mixed_write {e : EltTy} (v : View sig .tc .vmem S704x2048 e) (f : v.ty.Contents (Elt F)) (base fin : Vec F S704x2048 e) (q : Fin 4)
    (hf : v.read (Elt F) f = mixed base fin q.val) (w : S176x2048.Idx → Elt F e) {o : Fin 2 → ℕ} (ho : o = ![176 * q.val, 0])
    (inb : ∀ a, o a + S176x2048.size a ≤ S704x2048.size a) (hw : ∀ j, tripOf j = q → fin j = w (rowIn j)) :
    v.read (Elt F) (v.writes (Elt F) f [⟨Rect.unit (s := S704x2048) o S176x2048.size inb, w⟩]) = mixed base fin (q.val + 1) := by
  funext j
  have hj : (j 0).val < 704 := (j 0).isLt
  rw [mixed_apply]
  by_cases hq : (j 0).val / 176 = q.val
  · rw [if_pos (by omega), hw j (Fin.ext hq)]
    exact View.read_writes_cons_unit_of_mem v f inb w [] j (rowIn j) ho fun a => by
      fin_cases a
      · show (j 0).val = 176 * q.val + (j 0).val % 176; omega
      · show (j 1).val = 0 + (j 1).val; omega
  · have hn : (j 0).val < 176 * q.val ∨ 176 * q.val + 176 ≤ (j 0).val := by omega
    refine (View.read_writes_cons_unit_of_not_mem v f inb w [] j ho 0 hn).trans ?_
    show v.read (Elt F) f j = _
    rw [hf, mixed_apply]
    rcases hn with hn | hn
    · rw [if_pos hn, if_pos (by omega)]
    · rw [if_neg (by omega), if_neg (by omega)]

theorem ld_at {s : Shape} {e : EltTy} (x : Vec F s e) {o o' z : Fin s.rank → ℕ} (ho : o = o') (h : ∀ a, o a + z a ≤ s.size a) (h' : ∀ a, o' a + z a ≤ s.size a) :
    View.ld x (Rect.unit o z h) = View.ld x (Rect.unit o' z h') := by subst ho; rfl

section Loop
variable (c : Dev nD) (i : grid0.Coords) (arg2 : Memref sig .tc .vmem S704x1280 .bf16) (harg2 : arg2.IsWhole) (arg3 : Memref sig .tc .vmem S1x2048x1280 .bf16) (harg3 : arg3.IsWhole) (arg4 : Memref sig .tc .hbm S4224x2048 .f32) (harg4 : arg4.IsWhole) (arg5 : Memref sig .tc .hbm S4224x2048 .f32) (harg5 : arg5.IsWhole) (arg6 : Memref sig .tc .vmem S704x1 .f32) (harg6 : arg6.IsWhole) (arg7 : Memref sig .tc .vmem S1x2048 .f32) (harg7 : arg7.IsWhole) (arg8 : Memref sig .tc .vmem S704x2048 .f32) (harg8 : arg8.IsWhole) (arg9 : Memref sig .tc .vmem S1x2048 .f32) (harg9 : arg9.IsWhole) (arg10 : Memref sig .tc .vmem S704x2048 .f32) (harg10 : arg10.IsWhole) (arg11 : Memref sig .tc .vmem S704x2048 .f32) (harg11 : arg11.IsWhole) (arg12 : DmaSems sig S2) (k0_h4 : k0_cond4 i = 1#1) (v33 : Vec F S1x2048 .f32) (init : FVec F S1x2048 .f32)
  (X6 : BufTy.Contents (Elt F) arg6.view.ty) (X10 : BufTy.Contents (Elt F) arg10.view.ty) (X11 : BufTy.Contents (Elt F) arg11.view.ty)
  (du : Vec F S704x2048 .f32)

/-- What the trips find and leave: the rows of the trips done are the finished ones. -/
def tripState (k : ℕ) (acc : FVec F S1x2048 .f32) : sProp 𝕄 :=
  iprop((arg6.view.loc (c : Thread nD τ) ↦[arg6.view.set]{fullShare} X6) ∗ (arg10.view.loc (c : Thread nD τ) ↦[arg10.view.set]{fullShare} X10) ∗ (arg11.view.loc (c : Thread nD τ) ↦[arg11.view.set]{fullShare} X11)
    ∗ (∃ f, (arg8.view.loc (c : Thread nD τ) ↦[arg8.view.set]{fullShare} f) ∗ ⌜arg8.view.read (Elt F) f = mixed du (outTile v33 du (arg11.view.read (Elt F) X11) (arg6.view.read (Elt F) X6) (arg10.view.read (Elt F) X10)) k⌝)
    ∗ ⌜acc = gSum du (arg11.view.read (Elt F) X11) (arg6.view.read (Elt F) X6) init k⌝)

theorem trip_run (k : Fin k0_t1_loop.trips) (acc : FVec F S1x2048 .f32) :
    tripState c arg6 arg8 arg10 arg11 v33 init X6 X10 X11 du k.val acc
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 k0_h4 v33 k acc)
          (fun a => tripState c arg6 arg8 arg10 arg11 v33 init X6 X10 X11 du (k.val + 1) a) := by
  have hk : k.val < 4 := Nat.lt_of_lt_of_le k.isLt k0_t1_abs.2.1
  unfold tripState k0_t1_body
  iintro ⟨H6, H10, H11, ⟨%f8, H8, %h8⟩, %ha⟩
  sl_exec
  sl_step
  have e8' : View.ld (arg8.view.read (Elt F) f8) (Rect.unit (s := S704x2048) (k0_off3 k) S176x2048.size (k0_off3_inb i k k0_h4)) = View.ld (arg8.view.read (Elt F) f8) (rowBox ⟨k.val, hk⟩) := ld_at _ (k0_off3_eq k) _ _
  have e8 := e8'.trans (show _ = View.ld du (rowBox ⟨k.val, hk⟩) by rw [h8]; exact mixed_ld _ _ ⟨k.val, hk⟩)
  have e11 : View.ld (arg11.view.read (Elt F) X11) (Rect.unit (s := S704x2048) (k0_off3 k) S176x2048.size (k0_off3_inb i k k0_h4)) = View.ld (arg11.view.read (Elt F) X11) (rowBox ⟨k.val, hk⟩) := ld_at _ (k0_off3_eq k) _ _
  have e10 : View.ld (arg10.view.read (Elt F) X10) (Rect.unit (s := S704x2048) (k0_off3 k) S176x2048.size (k0_off3_inb i k k0_h4)) = View.ld (arg10.view.read (Elt F) X10) (rowBox ⟨k.val, hk⟩) := ld_at _ (k0_off3_eq k) _ _
  have e6 : View.ld (arg6.view.read (Elt F) X6) (Rect.unit (s := S704x1) (k0_off4 k) S176x1.size (k0_off4_inb i k k0_h4)) = View.ld (arg6.view.read (Elt F) X6) (colBox ⟨k.val, hk⟩) := ld_at _ (k0_off4_eq k) _ _
  isplitl [H6]; · iexact H6
  isplitl [H10]; · iexact H10
  isplitl [H11]; · iexact H11
  isplitl [H8]
  · iexists _; isplitl [H8]; · iexact H8
    ipureintro
    refine mixed_write _ _ _ _ ⟨k.val, hk⟩ h8 _ (k0_off3_eq k) _ fun j hj => ?_
    show outTile _ _ _ _ _ j = k0_pay7 v33 (View.ld (arg8.view.read (Elt F) f8) (Rect.unit (s := S704x2048) (k0_off3 k) S176x2048.size (k0_off3_inb i k k0_h4))) (View.ld (arg11.view.read (Elt F) X11) (Rect.unit (s := S704x2048) (k0_off3 k) S176x2048.size (k0_off3_inb i k k0_h4))) (View.ld (arg6.view.read (Elt F) X6) (Rect.unit (s := S704x1) (k0_off4 k) S176x1.size (k0_off4_inb i k k0_h4))) (View.ld (arg10.view.read (Elt F) X10) (Rect.unit (s := S704x2048) (k0_off3 k) S176x2048.size (k0_off3_inb i k k0_h4))) (rowIn j)
    rw [e8, e11, e6, e10, ← hj]; rfl
  ipureintro
  show k0_pay8 acc (View.ld (arg8.view.read (Elt F) f8) (Rect.unit (s := S704x2048) (k0_off3 k) S176x2048.size (k0_off3_inb i k k0_h4))) (View.ld (arg11.view.read (Elt F) X11) (Rect.unit (s := S704x2048) (k0_off3 k) S176x2048.size (k0_off3_inb i k k0_h4))) (View.ld (arg6.view.read (Elt F) X6) (Rect.unit (s := S704x1) (k0_off4 k) S176x1.size (k0_off4_inb i k k0_h4))) = _
  rw [gSum, dif_pos hk, ← ha, e8, e11, e6]

set_option warn.classDefReducibility false in
/-- The trips' invariant. -/
@[sl_loop] def loopInv : LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 k0_h4 v33 init where
  inv k acc := tripState c arg6 arg8 arg10 arg11 v33 init X6 X10 X11 du k acc
  step k acc := trip_run c i arg2 harg2 arg3 harg3 arg4 harg4 arg5 harg5 arg6 harg6 arg7 harg7 arg8 harg8 arg9 harg9 arg10 harg10 arg11 harg11 arg12 k0_h4 v33 init X6 X10 X11 du k acc
end Loop

end Cert.Kernel14Ideal.NormBwd

end
-- ==== Proof.NormANames.lean ====
/-
  The copies and the operands of the first norm's gradient kernel, upper half of the rows, by name. The kernel goes through three tiles of 704
  rows, eight steps to a tile. A tile's first step begins two copies of the tile's rows from the argument arrays into
  vector memory; its last step waits for them.
-/

module

public import proofs.«01_k».proof.Proof.NormALoop

@[expose] public section

set_option maxRecDepth 16384

noncomputable section

namespace Cert.Kernel14Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal.Gen

variable {F : FTy → Type} [FloatOps F]

local notation "𝕄" => MT nD τ sig Unit (Elt F) ℕ (Pipeline.UD sig nD τ) ℕ

/-! ## When the body's branches are taken -/

/-- A tile's first step begins the two copies and clears the tile. -/
abbrev Starts (t : Fin cfg0.N) : Prop := k0_cond1 (grid0.coords t) = 1#1
/-- The first step of all clears the scale's gradient. -/
abbrev Clears (t : Fin cfg0.N) : Prop := k0_cond2 (grid0.coords t) = 1#1
/-- Every step adds its product to the tile. -/
abbrev Adds (t : Fin cfg0.N) : Prop := k0_cond3 (grid0.coords t) = 1#1
/-- A tile's last step waits for the copies and finishes the tile. -/
abbrev Finishes (t : Fin cfg0.N) : Prop := k0_cond4 (grid0.coords t) = 1#1

theorem starts_iff : ∀ t : Fin cfg0.N, Starts t ↔ t.val % 8 = 0 :=
  (by decide +kernel : ∀ t : Fin grid0.N, Starts t ↔ t.val % 8 = 0)
theorem clears_iff : ∀ t : Fin cfg0.N, Clears t ↔ t.val = 0 :=
  (by decide +kernel : ∀ t : Fin grid0.N, Clears t ↔ t.val = 0)
theorem adds_all : ∀ t : Fin cfg0.N, Adds t :=
  (by decide +kernel : ∀ t : Fin grid0.N, Adds t)
theorem finishes_iff : ∀ t : Fin cfg0.N, Finishes t ↔ t.val % 8 = 7 :=
  (by decide +kernel : ∀ t : Fin grid0.N, Finishes t ↔ t.val % 8 = 7)

/-! ## The operands of a step -/

abbrev stg0 (t : Fin cfg0.N) : Memref sig .tc .vmem S704x1280 .bf16 := win0_0.stage (cfg0.slots t 0)
abbrev stg1 (t : Fin cfg0.N) : Memref sig .tc .vmem S1x2048x1280 .bf16 := win0_1.stage (cfg0.slots t 1)
abbrev stg2 (t : Fin cfg0.N) : Memref sig .tc .vmem S704x1 .f32 := win0_2.stage (cfg0.slots t 2)
abbrev stg3 (t : Fin cfg0.N) : Memref sig .tc .vmem S1x2048 .f32 := win0_3.stage (cfg0.slots t 3)
abbrev stg4 (t : Fin cfg0.N) : Memref sig .tc .vmem S704x2048 .f32 := win0_4.stage (cfg0.slots t 4)
abbrev stg5 (t : Fin cfg0.N) : Memref sig .tc .vmem S1x2048 .f32 := win0_5.stage (cfg0.slots t 5)
/-- Where the two copies land: a tile's rows of the incoming gradient, and of the normalised array. -/
abbrev landR : Memref sig .tc .vmem S704x2048 .f32 := Memref.whole cc0_scratch0
abbrev landH : Memref sig .tc .vmem S704x2048 .f32 := Memref.whole cc0_scratch1
/-- The two arrays copied from. -/
abbrev fromR : Memref sig .tc .hbm S4224x2048 .f32 := Memref.whole main_arg2
abbrev fromH : Memref sig .tc .hbm S4224x2048 .f32 := Memref.whole main_arg3

/-- What a memref of core `c` holds. -/
abbrev BufOf (c : Dev nD) {sp : Space} {S : Shape} {e : EltTy} (M : Memref sig .tc sp S e) : Type :=
  Buf (Elt F) (M.view.loc (c : Thread nD τ))
/-- Holding the part of a buffer a memref names. -/
abbrev holds (c : Dev nD) {sp : Space} {S : Shape} {e : EltTy} (M : Memref sig .tc sp S e) (f : BufOf (F := F) c M) : sProp 𝕄 :=
  M.view.loc (c : Thread nD τ) ↦[M.view.set]{fullShare} f

/-- The tile a step belongs to. -/
def tileAt (t : Fin cfg0.N) : Fin 3 := ⟨t.val / 8, by have h := lt_of_lt_of_eq t.isLt (show cfg0.N = 24 from N_0); omega⟩

theorem box_inb : ∀ u : Fin 3, ∀ a, (![704 * u.val, 0] : Fin 2 → Nat) a + S704x2048.size a ≤ S4224x2048.size a := by decide +kernel
/-- Tile `u`'s rows of the two arrays. -/
def boxR (u : Fin 3) : Memref sig .tc .hbm S704x2048 .f32 := fromR.slice (Rect.unit (s := S4224x2048) ![704 * u.val, 0] S704x2048.size (box_inb u)) (fun _ => rfl)
def boxH (u : Fin 3) : Memref sig .tc .hbm S704x2048 .f32 := fromH.slice (Rect.unit (s := S4224x2048) ![704 * u.val, 0] S704x2048.size (box_inb u)) (fun _ => rfl)
/-- The cells the two copies are counted on. -/
def cellR : DmaSems sig S_ := (cc0_scratch2.slice (Rect.unit (s := S2) ![0] S1.size inb_S2_S1_0)).squeeze S_ squeezes_S1_S_
def cellH : DmaSems sig S_ := (cc0_scratch2.slice (Rect.unit (s := S2) ![1] S1.size inb_S2_S1_1)).squeeze S_ squeezes_S1_S_
abbrev cellRLoc : SemLoc sig := SemLoc.dma cellR.sem
abbrev cellHLoc : SemLoc sig := SemLoc.dma cellH.sem

/-- A cell at rest. -/
abbrev atRest (c : Dev nD) (l : SemLoc sig) : sProp 𝕄 := semVal ((c : Thread nD τ), l) 0
/-- A copy of tile `u`'s rows under way: when it lands it gives back the rows of the array, and the rows landed. -/
def flyR (c : Dev nD) (u : Fin 3) (f : BufOf (F := F) c (boxR u)) : sProp 𝕄 :=
  iprop(∃ e, ⌜landR.view.read (Elt F) e = (boxR u).view.read (Elt F) f⌝ ∗ Transfers.Flight countersEmb (c : Thread nD τ) cellRLoc default
    (landR.view.amount cellRLoc) iprop(holds c landR e ∗ holds c (boxR u) f))
def flyH (c : Dev nD) (u : Fin 3) (f : BufOf (F := F) c (boxH u)) : sProp 𝕄 :=
  iprop(∃ e, ⌜landH.view.read (Elt F) e = (boxH u).view.read (Elt F) f⌝ ∗ Transfers.Flight countersEmb (c : Thread nD τ) cellHLoc default
    (landH.view.amount cellHLoc) iprop(holds c landH e ∗ holds c (boxH u) f))

/-! ## The slices the body takes, by name -/

section Names
omit [FloatOps F]
theorem boxR_named {u : Fin 3} {o : Fin 2 → Nat} (e : o = ![704 * u.val, 0]) (h) :
    fromR.slice (Rect.unit (s := S4224x2048) o S704x2048.size h) (fun _ => rfl) = boxR u := by subst e; rfl
theorem boxH_named {u : Fin 3} {o : Fin 2 → Nat} (e : o = ![704 * u.val, 0]) (h) :
    fromH.slice (Rect.unit (s := S4224x2048) o S704x2048.size h) (fun _ => rfl) = boxH u := by subst e; rfl
theorem off1_at : ∀ t : Fin grid0.N, k0_off1 (grid0.coords t) = ![704 * (t.val / 8), 0] := by decide +kernel
theorem off2_at : ∀ t : Fin grid0.N, k0_off2 (grid0.coords t) = ![704 * (t.val / 8), 0] := by decide +kernel
@[sl_canon] theorem off1_isR (t : Fin grid0.N) (h : Starts t) :
    fromR.slice (Rect.unit (s := S4224x2048) (k0_off1 (grid0.coords t)) S704x2048.size (k0_off1_inb (grid0.coords t) h)) (fun _ => rfl) = boxR (tileAt t) := boxR_named (off1_at t) _
@[sl_canon] theorem off1_isR' (t : Fin grid0.N) (h : Starts t) :
    fromR.slice (Rect.unit (s := S4224x2048) (k0_off1 (grid0.coords t)) ![704, 2048] (k0_off1_inb (grid0.coords t) h)) (fun _ => rfl) = boxR (tileAt t) := boxR_named (off1_at t) _
@[sl_canon] theorem off2_isR (t : Fin grid0.N) (h : Finishes t) :
    fromR.slice (Rect.unit (s := S4224x2048) (k0_off2 (grid0.coords t)) S704x2048.size (k0_off2_inb (grid0.coords t) h)) (fun _ => rfl) = boxR (tileAt t) := boxR_named (off2_at t) _
@[sl_canon] theorem off2_isR' (t : Fin grid0.N) (h : Finishes t) :
    fromR.slice (Rect.unit (s := S4224x2048) (k0_off2 (grid0.coords t)) ![704, 2048] (k0_off2_inb (grid0.coords t) h)) (fun _ => rfl) = boxR (tileAt t) := boxR_named (off2_at t) _
@[sl_canon] theorem cellR_is : (cc0_scratch2.slice (Rect.unit (s := S2) ![0] S1.size inb_S2_S1_0)).squeeze S_ squeezes_S1_S_ = cellR := rfl
@[sl_canon] theorem cellR_is' : (cc0_scratch2.slice (Rect.unit (s := S2) ![0] ![1] inb_S2_S1_0)).squeeze S_ squeezes_S1_S_ = cellR := rfl
@[sl_canon] theorem off1_isH (t : Fin grid0.N) (h : Starts t) :
    fromH.slice (Rect.unit (s := S4224x2048) (k0_off1 (grid0.coords t)) S704x2048.size (k0_off1_inb (grid0.coords t) h)) (fun _ => rfl) = boxH (tileAt t) := boxH_named (off1_at t) _
@[sl_canon] theorem off1_isH' (t : Fin grid0.N) (h : Starts t) :
    fromH.slice (Rect.unit (s := S4224x2048) (k0_off1 (grid0.coords t)) ![704, 2048] (k0_off1_inb (grid0.coords t) h)) (fun _ => rfl) = boxH (tileAt t) := boxH_named (off1_at t) _
@[sl_canon] theorem off2_isH (t : Fin grid0.N) (h : Finishes t) :
    fromH.slice (Rect.unit (s := S4224x2048) (k0_off2 (grid0.coords t)) S704x2048.size (k0_off2_inb (grid0.coords t) h)) (fun _ => rfl) = boxH (tileAt t) := boxH_named (off2_at t) _
@[sl_canon] theorem off2_isH' (t : Fin grid0.N) (h : Finishes t) :
    fromH.slice (Rect.unit (s := S4224x2048) (k0_off2 (grid0.coords t)) ![704, 2048] (k0_off2_inb (grid0.coords t) h)) (fun _ => rfl) = boxH (tileAt t) := boxH_named (off2_at t) _
@[sl_canon] theorem cellH_is : (cc0_scratch2.slice (Rect.unit (s := S2) ![1] S1.size inb_S2_S1_1)).squeeze S_ squeezes_S1_S_ = cellH := rfl
@[sl_canon] theorem cellH_is' : (cc0_scratch2.slice (Rect.unit (s := S2) ![1] ![1] inb_S2_S1_1)).squeeze S_ squeezes_S1_S_ = cellH := rfl
end Names

/-! ## Whole loads and stores -/

theorem read_all {s : Shape} {e : EltTy} (v : View sig .tc .vmem s e) (f : v.ty.Contents (Elt F)) {o : Fin s.rank → ℕ} (inb : ∀ a, o a + s.size a ≤ s.size a)
    (z : Vec F s e) (L : List (View.Piece (Elt F) s e)) : v.read (Elt F) (v.writes (Elt F) f (⟨Rect.unit o s.size inb, z⟩ :: L)) = z := by
  funext q
  exact View.read_writes_cons_unit_of_mem v f inb z L q q rfl fun a => by have := inb a; omega

/-- A tile after a step's product is added to it. -/
def added (du : Vec F S704x2048 .f32) (dz : Vec F S704x1280 .bf16) (w : Vec F S1x2048x1280 .bf16) : Vec F S704x2048 .f32 := k0_pay3 du dz w
abbrev allT {e : EltTy} (x : Vec F S704x2048 e) : Vec F S704x2048 e := View.ld x (Rect.unit (s := S704x2048) ![0, 0] S704x2048.size inb_S704x2048_S704x2048_0_0)
abbrev allZ {e : EltTy} (x : Vec F S704x1280 e) : Vec F S704x1280 e := View.ld x (Rect.unit (s := S704x1280) ![0, 0] S704x1280.size inb_S704x1280_S704x1280_0_0)
abbrev allW {e : EltTy} (x : Vec F S1x2048x1280 e) : Vec F S1x2048x1280 e := View.ld x (Rect.unit (s := S1x2048x1280) ![0, 0, 0] S1x2048x1280.size inb_S1x2048x1280_S1x2048x1280_0_0_0)
abbrev allG {e : EltTy} (x : Vec F S1x2048 e) : Vec F S1x2048 e := View.ld x (Rect.unit (s := S1x2048) ![0, 0] S1x2048.size inb_S1x2048_S1x2048_0_0)
theorem allT_eq {e : EltTy} (x : Vec F S704x2048 e) : allT x = x := View.ld_unit_zero (S := S704x2048) (by decide) _ x
theorem allZ_eq {e : EltTy} (x : Vec F S704x1280 e) : allZ x = x := View.ld_unit_zero (S := S704x1280) (by decide) _ x
theorem allW_eq {e : EltTy} (x : Vec F S1x2048x1280 e) : allW x = x := View.ld_unit_zero (S := S1x2048x1280) (by decide) _ x
theorem allG_eq {e : EltTy} (x : Vec F S1x2048 e) : allG x = x := View.ld_unit_zero (S := S1x2048) (by decide) _ x
theorem added_at (du : Vec F S704x2048 .f32) (dz : Vec F S704x1280 .bf16) (w : Vec F S1x2048x1280 .bf16) :
    k0_pay3 (allT du) (allZ dz) (allW w) = added du dz w := by rw [allT_eq, allZ_eq, allW_eq]; rfl
theorem added_after {x du : Vec F S704x2048 .f32} (h : x = du) (dz : Vec F S704x1280 .bf16) (w : Vec F S1x2048x1280 .bf16) :
    k0_pay3 x (allZ dz) (allW w) = added du dz w := by rw [h, allZ_eq, allW_eq]; rfl

/-! ## What the loop over a tile's rows leaves -/

theorem tile_done {b du du' h h' dr dr' : Vec F S704x2048 .f32} {g g' : Vec F S1x2048 .f32} (r : Vec F S704x1 .f32) {n : ℕ} (hn : n = 4)
    (eg : g = g') (ed : du = du') (eh : h = h') (er : dr = dr') : mixed b (outTile g du h r dr) n = outTile g' du' h' r dr' := by
  subst hn eg ed eh er; exact mixed_four _ _
theorem sum_done {a a' z : Vec F S1x2048 .f32} {du du' h h' : Vec F S704x2048 .f32} (r : Vec F S704x1 .f32) {n : ℕ} (hn : n = 4)
    (ea : a = a') (ed : du = du') (eh : h = h') : k0_pay9 a (gSum du h r z n) = k0_pay9 a' (gSum du' h' r z 4) := by
  subst hn ea ed eh; rfl

end Cert.Kernel14Ideal.NormBwd

end
-- ==== Proof.NormAStepA.lean ====
/-
  One run of the body of the first norm's gradient kernel, upper half of the rows: the steps that do not finish a tile.
-/

module

public import proofs.«01_k».proof.Proof.NormANames

@[expose] public section

set_option maxRecDepth 16384

noncomputable section

namespace Cert.Kernel14Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal.Gen

variable {F : FTy → Type} [FloatOps F]

local notation "𝕄" => MT nD τ sig Unit (Elt F) ℕ (Pipeline.UD sig nD τ) ℕ

set_option maxHeartbeats 2000000 in
/-- The first step of all. -/
theorem stepA0 (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S1x2048 .f32) (w9 : a9.IsWhole) (hc0 : Starts t) (hc1 : Clears t) (hc2 : Adds t) (hc3 : ¬Finishes t)
    (dz : Vec F S704x1280 .bf16) (w : Vec F S1x2048x1280 .bf16) (r : Vec F S704x1 .f32) (g : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ (∃ d, owns (c : Thread nD τ) a8 fullShare d) ∗ (∃ d, owns (c : Thread nD τ) a9 fullShare d) ∗ (holds c (boxR (tileAt t)) fR) ∗ (holds c (boxH (tileAt t)) fH) ∗ atRest c cellRLoc ∗ (∃ e, holds c landR e) ∗ atRest c cellHLoc ∗ (∃ e, holds c landH e) ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (added k0_pay1 dz w) ∗ owns (c : Thread nD τ) a9 fullShare k0_pay2 ∗ flyR c (tileAt t) fR ∗ flyH c (tileAt t) fH ∗ (∃ W', owes (c : Thread nD τ) 0 W')) -∗ K ⟨⟩))
      ⊢ wp frame (wpE (defs₀ (F := F)) Variants.none c none) Set.univ (cc0_du_norm1_a (grid0.coords t) a2 w2 a3 w3 fromR (Memref.isWhole_whole _) fromH (Memref.isWhole_whole _) a6 w6 a7 w7 a8 w8 a9 w9 landR (Memref.isWhole_whole _) landH (Memref.isWhole_whole _) cc0_scratch2) K := by
  haveI : Fact (Starts t) := ⟨hc0⟩; haveI : Fact (Clears t) := ⟨hc1⟩; haveI : Fact (Adds t) := ⟨hc2⟩; haveI : Fact (¬Finishes t) := ⟨hc3⟩
  simp only [cc0_du_norm1_a_eq_skeleton]; unfold cc0_du_norm1_a_skel
  unfold owns flyR flyH
  iintro ⟨⟨%f0, %hf0, H0⟩, ⟨%f1, %hf1, H1⟩, ⟨%f2, %hf2, H2⟩, ⟨%f3, %hf3, H3⟩, ⟨%d4, %f4, -, H4⟩, ⟨%d6, %f6, -, H6⟩, HsR, HsH, HR, ⟨%eR, HlR⟩, HH, ⟨%eH, HlH⟩, HW, Hk⟩
  subst hf0 hf1 hf2 hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans ((added_after ((congrArg allT (read_all a8.view _ _ _ _)).trans (allT_eq _)) _ _))
  isplitl [H6]
  · iexists _; isplitr; swap; · iexact H6
    ipureintro; exact read_all _ _ _ _ _
  isplitl [HR]
  · iexists _; isplitr; swap; · iexact HR
    ipureintro; exact View.read_writes_whole _ _ _
  isplitl [HH]
  · iexists _; isplitr; swap; · iexact HH
    ipureintro; exact View.read_writes_whole _ _ _
  iexists _; iexact HW

set_option maxHeartbeats 2000000 in
/-- The first step of a later tile. -/
theorem stepA (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S1x2048 .f32) (w9 : a9.IsWhole) (hc0 : Starts t) (hc1 : ¬Clears t) (hc2 : Adds t) (hc3 : ¬Finishes t)
    (dz : Vec F S704x1280 .bf16) (w : Vec F S1x2048x1280 .bf16) (r : Vec F S704x1 .f32) (g : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ (∃ d, owns (c : Thread nD τ) a8 fullShare d) ∗ (holds c (boxR (tileAt t)) fR) ∗ (holds c (boxH (tileAt t)) fH) ∗ atRest c cellRLoc ∗ (∃ e, holds c landR e) ∗ atRest c cellHLoc ∗ (∃ e, holds c landH e) ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (added k0_pay1 dz w) ∗ flyR c (tileAt t) fR ∗ flyH c (tileAt t) fH ∗ (∃ W', owes (c : Thread nD τ) 0 W')) -∗ K ⟨⟩))
      ⊢ wp frame (wpE (defs₀ (F := F)) Variants.none c none) Set.univ (cc0_du_norm1_a (grid0.coords t) a2 w2 a3 w3 fromR (Memref.isWhole_whole _) fromH (Memref.isWhole_whole _) a6 w6 a7 w7 a8 w8 a9 w9 landR (Memref.isWhole_whole _) landH (Memref.isWhole_whole _) cc0_scratch2) K := by
  haveI : Fact (Starts t) := ⟨hc0⟩; haveI : Fact (¬Clears t) := ⟨hc1⟩; haveI : Fact (Adds t) := ⟨hc2⟩; haveI : Fact (¬Finishes t) := ⟨hc3⟩
  simp only [cc0_du_norm1_a_eq_skeleton]; unfold cc0_du_norm1_a_skel
  unfold owns flyR flyH
  iintro ⟨⟨%f0, %hf0, H0⟩, ⟨%f1, %hf1, H1⟩, ⟨%f2, %hf2, H2⟩, ⟨%f3, %hf3, H3⟩, ⟨%d4, %f4, -, H4⟩, HsR, HsH, HR, ⟨%eR, HlR⟩, HH, ⟨%eH, HlH⟩, HW, Hk⟩
  subst hf0 hf1 hf2 hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans ((added_after ((congrArg allT (read_all a8.view _ _ _ _)).trans (allT_eq _)) _ _))
  isplitl [HR]
  · iexists _; isplitr; swap; · iexact HR
    ipureintro; exact View.read_writes_whole _ _ _
  isplitl [HH]
  · iexists _; isplitr; swap; · iexact HH
    ipureintro; exact View.read_writes_whole _ _ _
  iexists _; iexact HW

set_option maxHeartbeats 2000000 in
/-- A step that is neither the first nor the last of its tile. -/
theorem stepB (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S1x2048 .f32) (w9 : a9.IsWhole) (hc0 : ¬Starts t) (hc1 : ¬Clears t) (hc2 : Adds t) (hc3 : ¬Finishes t)
    (dz : Vec F S704x1280 .bf16) (w : Vec F S1x2048x1280 .bf16) (r : Vec F S704x1 .f32) (g : Vec F S1x2048 .f32) (du : Vec F S704x2048 .f32)
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare du ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (added du dz w) ∗ (∃ W', owes (c : Thread nD τ) 0 W')) -∗ K ⟨⟩))
      ⊢ wp frame (wpE (defs₀ (F := F)) Variants.none c none) Set.univ (cc0_du_norm1_a (grid0.coords t) a2 w2 a3 w3 fromR (Memref.isWhole_whole _) fromH (Memref.isWhole_whole _) a6 w6 a7 w7 a8 w8 a9 w9 landR (Memref.isWhole_whole _) landH (Memref.isWhole_whole _) cc0_scratch2) K := by
  haveI : Fact (¬Starts t) := ⟨hc0⟩; haveI : Fact (¬Clears t) := ⟨hc1⟩; haveI : Fact (Adds t) := ⟨hc2⟩; haveI : Fact (¬Finishes t) := ⟨hc3⟩
  simp only [cc0_du_norm1_a_eq_skeleton]; unfold cc0_du_norm1_a_skel
  unfold owns
  iintro ⟨⟨%f0, %hf0, H0⟩, ⟨%f1, %hf1, H1⟩, ⟨%f2, %hf2, H2⟩, ⟨%f3, %hf3, H3⟩, ⟨%f4, %hf4, H4⟩, HW, Hk⟩
  subst hf0 hf1 hf2 hf3 hf4
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans (added_at _ _ _)
  iexists _; iexact HW

end Cert.Kernel14Ideal.NormBwd

end
-- ==== Proof.NormAStepD.lean ====
/-
  One run of the body of the first norm's gradient kernel, upper half of the rows: the last step of a tile.
-/

module

public import proofs.«01_k».proof.Proof.NormANames

@[expose] public section

set_option maxRecDepth 16384

noncomputable section

namespace Cert.Kernel14Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal.Gen

variable {F : FTy → Type} [FloatOps F]

local notation "𝕄" => MT nD τ sig Unit (Elt F) ℕ (Pipeline.UD sig nD τ) ℕ

set_option maxHeartbeats 2000000 in
/-- The last step of a tile. -/
theorem stepD (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .vmem S704x2048 .f32) (w8 : a8.IsWhole) (a9 : Memref sig .tc .vmem S1x2048 .f32) (w9 : a9.IsWhole) (hc0 : ¬Starts t) (hc1 : ¬Clears t) (hc2 : Adds t) (hc3 : Finishes t)
    (dz : Vec F S704x1280 .bf16) (w : Vec F S1x2048x1280 .bf16) (r : Vec F S704x1 .f32) (g : Vec F S1x2048 .f32) (du : Vec F S704x2048 .f32) (dg : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare du ∗ owns (c : Thread nD τ) a9 fullShare dg ∗ flyR c (tileAt t) fR ∗ flyH c (tileAt t) fH ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a8 fullShare (outTile g (added du dz w) ((boxH (tileAt t)).view.read (Elt F) fH) r ((boxR (tileAt t)).view.read (Elt F) fR)) ∗ owns (c : Thread nD τ) a9 fullShare (k0_pay9 dg (gSum (added du dz w) ((boxH (tileAt t)).view.read (Elt F) fH) r k0_pay4 4)) ∗ (holds c (boxR (tileAt t)) fR) ∗ (holds c (boxH (tileAt t)) fH) ∗ atRest c cellRLoc ∗ (∃ e, holds c landR e) ∗ atRest c cellHLoc ∗ (∃ e, holds c landH e) ∗ (∃ W', owes (c : Thread nD τ) 0 W')) -∗ K ⟨⟩))
      ⊢ wp frame (wpE (defs₀ (F := F)) Variants.none c none) Set.univ (cc0_du_norm1_a (grid0.coords t) a2 w2 a3 w3 fromR (Memref.isWhole_whole _) fromH (Memref.isWhole_whole _) a6 w6 a7 w7 a8 w8 a9 w9 landR (Memref.isWhole_whole _) landH (Memref.isWhole_whole _) cc0_scratch2) K := by
  haveI : Fact (¬Starts t) := ⟨hc0⟩; haveI : Fact (¬Clears t) := ⟨hc1⟩; haveI : Fact (Adds t) := ⟨hc2⟩; haveI : Fact (Finishes t) := ⟨hc3⟩
  simp only [cc0_du_norm1_a_eq_skeleton]; unfold cc0_du_norm1_a_skel
  unfold owns flyR flyH
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%eR, %hR, HR⟩, ⟨%eH, %hH, HH⟩, HW, Hk⟩
  subst hf0 hf1 hf2 hf3 hf4 hf6
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact hL4.trans (tile_done _ rfl (allG_eq _) ((read_all a8.view _ _ _ _).trans (added_at _ _ _)) hH hR)
  isplitl [H6]
  · iexists _; isplitr; swap; · iexact H6
    ipureintro; exact (read_all _ _ _ _ _).trans (sum_done _ rfl (allG_eq _) ((read_all a8.view _ _ _ _).trans (added_at _ _ _)) hH)
  isplitl [HR_src]
  · iexact HR_src
  isplitl [HH_src]
  · iexact HH_src
  isplitl [HR]
  · iexact HR
  isplitl [HR_dst]
  · iexists _; iexact HR_dst
  isplitl [HH]
  · iexact HH
  isplitl [HH_dst]
  · iexists _; iexact HH_dst
  iexists _; iexact HW

end Cert.Kernel14Ideal.NormBwd

end
-- ==== Proof.NormACall.lean ====
/-
  The whole call of the first norm's gradient kernel, upper half of the rows. What every step leaves is named: a tile's sum of products, the
  finished tile, and the sum for the scale. Every step carries on what holds between two steps, and the call ends with
  the three results holding what the steps wrote.
-/

module

public import proofs.«01_k».proof.Proof.NormAStepA
public import proofs.«01_k».proof.Proof.NormAStepD

public import Idealize.ShloMosaic.Lib.Pipeline.TableIdle

@[expose] public section

set_option maxRecDepth 16384

noncomputable section

namespace Cert.Kernel14Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the steps leave -/

/-- Step `k` of the 24, and a tile's last step. -/
def stp (k : ℕ) : Fin cfg0.N := ⟨k % 24, by rw [show cfg0.N = 24 from N_0]; omega⟩
def lastOf (u : Fin 3) : Fin cfg0.N := stp (8 * u.val + 7)
theorem lt24 (t : Fin cfg0.N) : t.val < 24 := lt_of_lt_of_eq t.isLt (show cfg0.N = 24 from N_0)
theorem stp_val (t : Fin cfg0.N) : stp t.val = t := Fin.ext (Nat.mod_eq_of_lt (lt24 t))
theorem lastOf_at (t : Fin cfg0.N) (h : t.val % 8 = 7) : lastOf (tileAt t) = t :=
  (congrArg stp (by show 8 * (t.val / 8) + 7 = t.val; omega)).trans (stp_val t)

/-- The blocks of the four staged arrays at a step. -/
def dzAt (c : Dev nD) (t : Fin cfg0.N) : Vec F S704x1280 .bf16 := iblk m c 0 t
def wAt (c : Dev nD) (t : Fin cfg0.N) : Vec F S1x2048x1280 .bf16 := iblk m c 1 t
def rAt (c : Dev nD) (t : Fin cfg0.N) : Vec F S704x1 .f32 := iblk m c 2 t
def gAt (c : Dev nD) (t : Fin cfg0.N) : Vec F S1x2048 .f32 := iblk m c 3 t
/-- A tile's rows of the two arrays copied from. -/
def srcR (c : Dev nD) (u : Fin 3) : BufOf (F := F) c (boxR u) := V m c main_arg2
def srcH (c : Dev nD) (u : Fin 3) : BufOf (F := F) c (boxH u) := V m c main_arg3
def rowsR (c : Dev nD) (u : Fin 3) : Vec F S704x2048 .f32 := (boxR u).view.read (Elt F) (srcR m c u)
def rowsH (c : Dev nD) (u : Fin 3) : Vec F S704x2048 .f32 := (boxH u).view.read (Elt F) (srcH m c u)

/-- The sum of a tile's products before step `k`: cleared at each tile's first step. -/
def duSum (c : Dev nD) : ℕ → Vec F S704x2048 .f32
  | 0 => k0_pay1
  | k + 1 => added (if k % 8 = 0 then k0_pay1 else duSum c k) (dzAt m c (stp k)) (wAt m c (stp k))
/-- A finished tile. -/
def tileEnd (c : Dev nD) (u : Fin 3) : Vec F S704x2048 .f32 :=
  outTile (gAt m c (lastOf u)) (duSum m c (8 * u.val + 8)) (rowsH m c u) (rAt m c (lastOf u)) (rowsR m c u)
/-- A tile's part of the scale's gradient, and the sum of the first `k` tiles' parts. -/
def scalePart (c : Dev nD) (u : Fin 3) : FVec F S1x2048 .f32 :=
  gSum (duSum m c (8 * u.val + 8)) (rowsH m c u) (rAt m c (lastOf u)) k0_pay4 4
def dgSum (c : Dev nD) : ℕ → Vec F S1x2048 .f32
  | 0 => k0_pay2
  | k + 1 => k0_pay9 (dgSum c k) (scalePart m c (Fin.ofNat 3 k))

theorem duSum_first (c : Dev nD) (t : Fin cfg0.N) (h : t.val % 8 = 0) :
    duSum m c (t.val + 1) = added k0_pay1 (iblk m c 0 t) (iblk m c 1 t) := by
  show added _ (dzAt m c (stp t.val)) (wAt m c (stp t.val)) = _; rw [if_pos h, stp_val]; rfl
theorem duSum_next (c : Dev nD) (t : Fin cfg0.N) (h : t.val % 8 ≠ 0) :
    duSum m c (t.val + 1) = added (duSum m c t.val) (iblk m c 0 t) (iblk m c 1 t) := by
  show added _ (dzAt m c (stp t.val)) (wAt m c (stp t.val)) = _; rw [if_neg h, stp_val]; rfl
theorem duSum_last (c : Dev nD) (t : Fin cfg0.N) (h : t.val % 8 = 7) :
    duSum m c (8 * (tileAt t).val + 8) = added (duSum m c t.val) (iblk m c 0 t) (iblk m c 1 t) :=
  (congrArg (duSum m c) (by show 8 * (t.val / 8) + 8 = t.val + 1; omega)).trans (duSum_next m c t (by omega))
theorem tileEnd_at (c : Dev nD) (t : Fin cfg0.N) (h : t.val % 8 = 7) : tileEnd m c (tileAt t)
    = outTile (iblk m c 3 t) (added (duSum m c t.val) (iblk m c 0 t) (iblk m c 1 t)) ((boxH (tileAt t)).view.read (Elt F) (srcH m c (tileAt t)))
        (iblk m c 2 t) ((boxR (tileAt t)).view.read (Elt F) (srcR m c (tileAt t))) := by
  unfold tileEnd; rw [lastOf_at t h, duSum_last m c t h]; rfl
theorem dgSum_at (c : Dev nD) (t : Fin cfg0.N) (h : t.val % 8 = 7) : dgSum m c ((t.val + 1) / 8)
    = k0_pay9 (dgSum m c (t.val / 8)) (gSum (added (duSum m c t.val) (iblk m c 0 t) (iblk m c 1 t))
        ((boxH (tileAt t)).view.read (Elt F) (srcH m c (tileAt t))) (iblk m c 2 t) k0_pay4 4) := by
  have ht := lt24 t
  rw [show (t.val + 1) / 8 = t.val / 8 + 1 by omega]
  show k0_pay9 _ (scalePart m c (Fin.ofNat 3 (t.val / 8))) = _
  rw [show Fin.ofNat 3 (t.val / 8) = tileAt t from Fin.ext (Nat.mod_eq_of_lt (show t.val / 8 < 3 by omega))]
  unfold scalePart; rw [lastOf_at t h, duSum_last m c t h]; rfl
theorem dgSum_kept (c : Dev nD) (t : Fin cfg0.N) (h : t.val % 8 ≠ 7) : dgSum m c ((t.val + 1) / 8) = dgSum m c (t.val / 8) :=
  congrArg (dgSum m c) (by omega)

/-! ## What holds between two steps -/

/-- What is left of the two arrays while tile `u`'s rows are being copied. -/
def restR (c : Dev nD) (u : Fin 3) : sProp 𝕄 := fromR.view.loc (c : Thread nD τ) ↦[fromR.view.set \ (boxR u).view.set]{fullShare} (V m c main_arg2)
def restH (c : Dev nD) (u : Fin 3) : sProp 𝕄 := fromH.view.loc (c : Thread nD τ) ↦[fromH.view.set \ (boxH u).view.set]{fullShare} (V m c main_arg3)
theorem takeR (c : Dev nD) (u : Fin 3) : (holds c fromR (V m c main_arg2) : sProp 𝕄) ⊢ iprop(holds c (boxR u) (srcR m c u) ∗ restR m c u) :=
  (pointsTo_split_subset (View.set_slice_subset _ _)).1
theorem giveR (c : Dev nD) (u : Fin 3) : iprop(holds c (boxR u) (srcR m c u) ∗ restR m c u) ⊢ (holds c fromR (V m c main_arg2) : sProp 𝕄) :=
  (pointsTo_split_subset (View.set_slice_subset _ _)).2
theorem takeH (c : Dev nD) (u : Fin 3) : (holds c fromH (V m c main_arg3) : sProp 𝕄) ⊢ iprop(holds c (boxH u) (srcH m c u) ∗ restH m c u) :=
  (pointsTo_split_subset (View.set_slice_subset _ _)).1
theorem giveH (c : Dev nD) (u : Fin 3) : iprop(holds c (boxH u) (srcH m c u) ∗ restH m c u) ⊢ (holds c fromH (V m c main_arg3) : sProp 𝕄) :=
  (pointsTo_split_subset (View.set_slice_subset _ _)).2

/-- Between two tiles: nothing under way. -/
def atEase (c : Dev nD) : sProp 𝕄 :=
  iprop((∃ e, holds c landR e) ∗ (∃ e, holds c landH e) ∗ atRest c cellRLoc ∗ atRest c cellHLoc
    ∗ holds c fromR (V m c main_arg2) ∗ holds c fromH (V m c main_arg3))
/-- Within tile `u`: both copies under way. -/
def copying (c : Dev nD) (u : Fin 3) : sProp 𝕄 :=
  iprop(flyR c u (srcR m c u) ∗ flyH c u (srcH m c u) ∗ restR m c u ∗ restH m c u)
/-- Before step `k`: the copies and the generator register. -/
def heldAt (c : Dev nD) (k : ℕ) : sProp 𝕄 :=
  iprop((∃ r, prngReg c r) ∗ (if k % 8 = 0 then atEase m c else copying m c (Fin.ofNat 3 (k / 8))))
theorem held_ease (c : Dev nD) (k : ℕ) (h : k % 8 = 0) : heldAt m c k = iprop((∃ r, prngReg c r) ∗ atEase m c) := by
  unfold heldAt; rw [if_pos h]
theorem held_fly (c : Dev nD) (t : Fin cfg0.N) (k : ℕ) (h : k % 8 ≠ 0) (hk : k / 8 = t.val / 8) :
    heldAt m c k = iprop((∃ r, prngReg c r) ∗ copying m c (tileAt t)) := by
  have ht := lt24 t
  unfold heldAt; rw [if_neg h, hk, show Fin.ofNat 3 (t.val / 8) = tileAt t from Fin.ext (Nat.mod_eq_of_lt (show t.val / 8 < 3 by omega))]

/-- The windows, step by step. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => if t.val % 8 = 7 then tileEnd m c (tileAt t) else duSum m c (t.val + 1)
    | ⟨5, _⟩ => dgSum m c ((t.val + 1) / 8)
  Φ t := heldAt m c t.val
  q _ := fullShare
  owed _ := 0

theorem A_eq (c : Dev nD) (w : Fin cfg0.W) : (dats m 0 c).A w = V m c (Pipeline.arrRef spec0 w) := by
  dsimp only [dats]
theorem held_before (c : Dev nD) (t : Fin cfg0.N) : (dats m 0 c).Φ t.castSucc = heldAt m c t.val := by
  dsimp only [dats]; simp only [Fin.coe_castSucc]
theorem held_after (c : Dev nD) (t : Fin cfg0.N) : (dats m 0 c).Φ t.succ = heldAt m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = if t.val % 8 = 7 then tileEnd m c (tileAt t) else duSum m c (t.val + 1) := by dsimp only [dats]
theorem after_4_end (c : Dev nD) (t : Fin cfg0.N) (h : t.val % 8 = 7) : (dats m 0 c).after 4 t = tileEnd m c (tileAt t) := by rw [after_4, if_pos h]
theorem after_4_mid (c : Dev nD) (t : Fin cfg0.N) (h : t.val % 8 ≠ 7) : (dats m 0 c).after 4 t = duSum m c (t.val + 1) := by rw [after_4, if_neg h]
theorem after_5 (c : Dev nD) (t : Fin cfg0.N) : (dats m 0 c).after 5 t = dgSum m c ((t.val + 1) / 8) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ### When the two outputs are written -/

theorem idle_4 : ∀ t : Fin cfg0.N, cfg0.idle 4 (cfg0.grid.coords t) = false :=
  (by decide +kernel : ∀ t : Fin grid0.N, idle0 4 (grid0.coords t) = false)
theorem idle_5 : ∀ t : Fin cfg0.N, cfg0.idle 5 (cfg0.grid.coords t) = decide (t.val ≠ 0 ∧ t.val % 8 ≠ 7) :=
  (by decide +kernel : ∀ t : Fin grid0.N, idle0 5 (grid0.coords t) = decide (t.val ≠ 0 ∧ t.val % 8 ≠ 7))
theorem flush_4 (t : Fin cfg0.N) : (cfg0.win 4).flush t = decide (t.val % 8 = 7) := by
  rw [Bool.eq_iff_iff, flush0_4, decide_eq_true_iff]
theorem flush_5 (t : Fin cfg0.N) : (cfg0.win 5).flush t = decide (t.val % 24 = 23) := by
  rw [Bool.eq_iff_iff, flush0_5, decide_eq_true_iff]
theorem fresh_4 (n : ℕ) (h : n ≤ cfg0.N) : cfg0.fresh 4 n = decide (n % 8 = 0) :=
  Cfg.fresh_tab cfg0 4 (fun n => decide (n % 8 = 0)) rfl (fun t => by
    rw [idle_4, flush_4, Bool.false_and, Bool.or_false, decide_eq_decide]; omega) n h
theorem fresh_5 (n : ℕ) (h : n ≤ cfg0.N) : cfg0.fresh 5 n = decide (n % 24 = 0) :=
  Cfg.fresh_tab cfg0 5 (fun n => decide (n % 24 = 0)) rfl (fun t => by
    have ht := lt24 t
    rw [idle_5, flush_5, Bool.eq_iff_iff]; simp only [Bool.or_eq_true, Bool.and_eq_true, decide_eq_true_iff]; omega) n h

theorem before_4 (c : Dev nD) (t : Fin cfg0.N) (h : t.val % 8 ≠ 0) (d) : (dats m 0 c).before 4 t d = duSum m c t.val := by
  rw [Dat.before_out_traj _ 4 rfl (fun _ _ => rfl) (fun t _ hi _ => absurd hi (by rw [idle_4]; exact Bool.false_ne_true)) t.val t rfl d,
    fresh_4 _ (le_of_lt t.isLt), if_neg (by rw [decide_eq_true_iff]; exact h), after_4_mid _ _ _ (by dsimp only; omega)]
  exact congrArg (duSum m c) (by dsimp only; omega)
theorem before_5 (c : Dev nD) (t : Fin cfg0.N) (h : t.val ≠ 0) (d) : (dats m 0 c).before 5 t d = dgSum m c (t.val / 8) := by
  have ht := lt24 t
  rw [Dat.before_out_traj _ 5 rfl (fun _ _ => rfl) (fun t h0 hi _ => by
      rw [idle_5, decide_eq_true_iff] at hi
      rw [after_5, after_5]; exact congrArg (dgSum m c) (by dsimp only; omega)) t.val t rfl d,
    fresh_5 _ (le_of_lt t.isLt), if_neg (by rw [decide_eq_true_iff]; omega), after_5]
  exact congrArg (dgSum m c) (by dsimp only; omega)

/-- What a step gives back of an output's window: what it wrote, or, where it writes nothing, what it found. -/
def back (c : Dev nD) (w : Fin cfg0.W) (t : Fin cfg0.N) : sProp 𝕄 := (dats m 0 c).leavesExact w t
theorem back_4 (c : Dev nD) (t : Fin cfg0.N) : back m c 4 t = (owns (c : Thread nD τ) (stg4 t) fullShare ((dats m 0 c).after 4 t)) := by
  unfold back Dat.leavesExact; rw [idle_4]
theorem back_5_at (c : Dev nD) (t : Fin cfg0.N) (h : t.val = 0 ∨ t.val % 8 = 7) : back m c 5 t = (owns (c : Thread nD τ) (stg5 t) fullShare ((dats m 0 c).after 5 t)) := by
  unfold back Dat.leavesExact; rw [idle_5, decide_eq_false (by omega)]
theorem back_5_mid (c : Dev nD) (t : Fin cfg0.N) (h0 : t.val ≠ 0) (h : t.val % 8 ≠ 7) :
    back m c 5 t = iprop(∃ d, owns (c : Thread nD τ) (stg5 t) fullShare ((dats m 0 c).before 5 t d)) :=
  Dat.leavesExact_idle _ 5 t (by rw [idle_5]; exact decide_eq_true ⟨h0, h⟩) (by rw [flush_5]; exact decide_eq_false (by omega))

/-! ## Every step carries it on -/

/-- What the body is given at step `t`, window by window, -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))
/-- and what it gives back. -/
def givenBack (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ back m c 4 t ∗ back m c 5 t)

set_option maxHeartbeats 3200000 in
theorem step_sound (c : Dev nD) (t : Fin cfg0.N) :
    given m c t ⊢ wp frame (wpE (defs₀ (F := F)) Variants.none c none) Set.univ (bodyAt0 t) (fun _ => givenBack m c t) := by
  unfold given givenBack bodyAt0
  simp only [before_0, before_1, before_2, before_3]
  rw [after_0, after_1, after_2, after_3, back_4]
  rw [held_before m c t, held_after m c t]
  unfold Dat.owesAt Pipeline.owesWithin
  rw [show (dats m 0 c).owed t.castSucc = 0 from rfl, show (dats m 0 c).owed t.succ = 0 from rfl]
  have hN : t.val < 24 := lt24 t
  by_cases h0 : t.val % 8 = 0
  · by_cases hz : t.val = 0
    · rw [back_5_at m c t (Or.inl hz), after_5]
      rw [held_ease m c t.val h0, held_fly m c t (t.val + 1) (by omega) (by omega), after_4_mid m c t (by omega), duSum_first m c t h0]
      unfold atEase copying
      iintro ⟨⟨Hg, HlR, HlH, HR, HH, HsR, HsH⟩, ⟨%W, -, HW⟩, ⟨%d0, H0⟩, ⟨%d1, H1⟩, ⟨%d2, H2⟩, ⟨%d3, H3⟩, ⟨%d4, H4⟩, ⟨%d6, H6⟩⟩
      ihave HtR := (takeR m c (tileAt t)) $$ HsR
      icases HtR with ⟨HsR, HrR⟩
      ihave HtH := (takeH m c (tileAt t)) $$ HsH
      icases HtH with ⟨HsH, HrH⟩
      iapply (stepA0 c t _ _ _ _ _ _ _ _ _ _ _ _ ((starts_iff t).mpr h0) ((clears_iff t).mpr hz) (adds_all t) (fun h => absurd ((finishes_iff t).mp h) (by omega)) (iblk m c 0 t) (iblk m c 1 t) (iblk m c 2 t) (iblk m c 3 t) (srcR m c (tileAt t)) (srcH m c (tileAt t)) W _)
      isplitl [H0]; · iexact H0
      isplitl [H1]; · iexact H1
      isplitl [H2]; · iexact H2
      isplitl [H3]; · iexact H3
      isplitl [H4]; · iexists _; iexact H4
      isplitl [H6]; · iexists _; iexact H6
      isplitl [HsR]; · iexact HsR
      isplitl [HsH]; · iexact HsH
      isplitl [HR]; · iexact HR
      isplitl [HlR]; · iexact HlR
      isplitl [HH]; · iexact HH
      isplitl [HlH]; · iexact HlH
      isplitl [HW]; · iexact HW
      iintro ⟨H0, H1, H2, H3, H4, H6, HR, HH, ⟨%W', HW'⟩⟩
      isplitl [Hg HR HH HrR HrH]
      · isplitl [Hg]; · iexact Hg
        isplitl [HR]; · iexact HR
        isplitl [HH]; · iexact HH
        isplitl [HrR]; · iexact HrR
        iexact HrH
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iapply (Entails.of_eq (congrArg (fun x => (owns (c : Thread nD τ) (stg5 t) fullShare x : sProp 𝕄)) ((by rw [hz])))); iexact H6
    · rw [back_5_mid m c t hz (by omega)]
      rw [held_ease m c t.val h0, held_fly m c t (t.val + 1) (by omega) (by omega), after_4_mid m c t (by omega), duSum_first m c t h0]
      unfold atEase copying
      iintro ⟨⟨Hg, HlR, HlH, HR, HH, HsR, HsH⟩, ⟨%W, -, HW⟩, ⟨%d0, H0⟩, ⟨%d1, H1⟩, ⟨%d2, H2⟩, ⟨%d3, H3⟩, ⟨%d4, H4⟩, ⟨%d6, H6⟩⟩
      ihave HtR := (takeR m c (tileAt t)) $$ HsR
      icases HtR with ⟨HsR, HrR⟩
      ihave HtH := (takeH m c (tileAt t)) $$ HsH
      icases HtH with ⟨HsH, HrH⟩
      iapply (stepA c t _ _ _ _ _ _ _ _ _ _ _ _ ((starts_iff t).mpr h0) (fun h => absurd ((clears_iff t).mp h) (by omega)) (adds_all t) (fun h => absurd ((finishes_iff t).mp h) (by omega)) (iblk m c 0 t) (iblk m c 1 t) (iblk m c 2 t) (iblk m c 3 t) (srcR m c (tileAt t)) (srcH m c (tileAt t)) W _)
      isplitl [H0]; · iexact H0
      isplitl [H1]; · iexact H1
      isplitl [H2]; · iexact H2
      isplitl [H3]; · iexact H3
      isplitl [H4]; · iexists _; iexact H4
      isplitl [HsR]; · iexact HsR
      isplitl [HsH]; · iexact HsH
      isplitl [HR]; · iexact HR
      isplitl [HlR]; · iexact HlR
      isplitl [HH]; · iexact HH
      isplitl [HlH]; · iexact HlH
      isplitl [HW]; · iexact HW
      iintro ⟨H0, H1, H2, H3, H4, HR, HH, ⟨%W', HW'⟩⟩
      isplitl [Hg HR HH HrR HrH]
      · isplitl [Hg]; · iexact Hg
        isplitl [HR]; · iexact HR
        isplitl [HH]; · iexact HH
        isplitl [HrR]; · iexact HrR
        iexact HrH
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexists _; iexact H6
  by_cases h7 : t.val % 8 = 7
  · simp only [before_4 m c t h0, before_5 m c t (by omega)]
    rw [held_fly m c t t.val h0 rfl, held_ease m c (t.val + 1) (by omega), after_4_end m c t h7, back_5_at m c t (Or.inr h7), after_5, tileEnd_at m c t h7, dgSum_at m c t h7]
    unfold atEase copying
    iintro ⟨⟨Hg, HR, HH, HrR, HrH⟩, ⟨%W, -, HW⟩, ⟨%d0, H0⟩, ⟨%d1, H1⟩, ⟨%d2, H2⟩, ⟨%d3, H3⟩, ⟨%d4, H4⟩, ⟨%d6, H6⟩⟩
    iapply (stepD c t _ _ _ _ _ _ _ _ _ _ _ _ (fun h => absurd ((starts_iff t).mp h) (by omega)) (fun h => absurd ((clears_iff t).mp h) (by omega)) (adds_all t) ((finishes_iff t).mpr h7) (iblk m c 0 t) (iblk m c 1 t) (iblk m c 2 t) (iblk m c 3 t) (duSum m c t.val) (dgSum m c (t.val / 8)) (srcR m c (tileAt t)) (srcH m c (tileAt t)) W _)
    isplitl [H0]; · iexact H0
    isplitl [H1]; · iexact H1
    isplitl [H2]; · iexact H2
    isplitl [H3]; · iexact H3
    isplitl [H4]; · iexact H4
    isplitl [H6]; · iexact H6
    isplitl [HR]; · iexact HR
    isplitl [HH]; · iexact HH
    isplitl [HW]; · iexact HW
    iintro ⟨H0, H1, H2, H3, H4, H6, HsR, HsH, HR, HlR, HH, HlH, ⟨%W', HW'⟩⟩
    isplitl [Hg HsR HsH HR HlR HH HlH HrR HrH]
    · isplitl [Hg]; · iexact Hg
      isplitl [HlR]; · iexact HlR
      isplitl [HlH]; · iexact HlH
      isplitl [HR]; · iexact HR
      isplitl [HH]; · iexact HH
      isplitl [HsR HrR]
      · iapply (giveR m c (tileAt t))
        isplitl [HsR]; · iexact HsR
        iexact HrR
      iapply (giveH m c (tileAt t))
      isplitl [HsH]; · iexact HsH
      iexact HrH
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H6
  simp only [before_4 m c t h0]
  rw [held_fly m c t t.val h0 rfl, held_fly m c t (t.val + 1) (by omega) (by omega), after_4_mid m c t h7, duSum_next m c t h0, back_5_mid m c t (by omega) h7]
  iintro ⟨HΦ, ⟨%W, -, HW⟩, ⟨%d0, H0⟩, ⟨%d1, H1⟩, ⟨%d2, H2⟩, ⟨%d3, H3⟩, ⟨%d4, H4⟩, ⟨%d6, H6⟩⟩
  iapply (stepB c t _ _ _ _ _ _ _ _ _ _ _ _ (fun h => absurd ((starts_iff t).mp h) (by omega)) (fun h => absurd ((clears_iff t).mp h) (by omega)) (adds_all t) (fun h => absurd ((finishes_iff t).mp h) (by omega)) (iblk m c 0 t) (iblk m c 1 t) (iblk m c 2 t) (iblk m c 3 t) (duSum m c t.val) W _)
  isplitl [H0]; · iexact H0
  isplitl [H1]; · iexact H1
  isplitl [H2]; · iexact H2
  isplitl [H3]; · iexact H3
  isplitl [H4]; · iexact H4
  isplitl [HW]; · iexact HW
  iintro ⟨H0, H1, H2, H3, H4, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H6

theorem defs₀_row (t : Fin cfg0.N) : defs₀ (F := F) .tc cfg0.body (cfg0.bodyArgs t (cfg0.slots t)) = bodyAt0 t := by
  unfold defs₀; rw [Defs.onTc_tc]

theorem steps_sound (c : Dev nD) : BodyObligation (dats (F := F) m 0 c) (defs₀ (F := F)) Variants.none () Set.univ := fun t => by
  rw [bigSep_W0, bigSep_W0, defs₀_row]
  exact triple_restated (step_sound m c t) rfl .rfl fun _ => .rfl

/-! ## The call -/

/-- The cells the copies are counted on. -/
def copyCells : Fin 2 → SemLoc sig := fun j => (![SemLoc.dma 10, SemLoc.dma 11] : Fin 2 → SemLoc sig) j
theorem copyCells_own : Pipeline.OwnSemFacts spec0 copyCells := by decide
theorem copyCells_eq (c : Dev nD) :
    (Pipeline.ownSems0 (Ix := Unit) (Name := ℕ) (U := Pipeline.UD sig nD τ) (Lvl := ℕ) (Val := Elt F) (τ := τ) copyCells c : sProp 𝕄)
      = iprop(atRest c cellRLoc ∗ atRest c cellHLoc) := by
  rw [Pipeline.ownSems0_eq_of_list c copyCells [0, 1] (by decide) (by decide)]; rfl
abbrev readRefs : Finset (Ref sig .tc) := {main_arg2, main_arg3}
theorem readRefs_sub : readRefs ⊆ Pipeline.restRefs sig spec0 := by decide

theorem ends_eq (c : Dev nD) :
    (Pipeline.ΦD copyCells spec0 readRefs (V m) c : sProp 𝕄)
      = iprop(((∃ e, holds c landR e) ∗ (∃ e, holds c landH e)) ∗ (∃ r, prngReg c r) ∗ (atRest c cellRLoc ∗ atRest c cellHLoc)
          ∗ holds c fromR (V m c main_arg2) ∗ holds c fromH (V m c main_arg3)) := by
  rw [Pipeline.ΦD_eq, scopedRest0_eq, copyCells_eq, BI.bigSep_insert (by decide), BI.bigSep_singleton]
  simp only [holds, landR, landH, fromR, fromH, Memref.view_whole, View.set_whole]
  rfl

theorem call_begins (c : Dev nD) : Pipeline.ΦD copyCells spec0 readRefs (V m) c ⊢ (dats m 0 c).Φ 0 := by
  rw [ends_eq, show (dats m 0 c).Φ 0 = heldAt m c 0 from rfl, held_ease m c 0 rfl]
  unfold atEase
  iintro ⟨⟨HlR, HlH⟩, Hg, ⟨HR, HH⟩, HsR, HsH⟩
  isplitl [Hg]; · iexact Hg
  isplitl [HlR]; · iexact HlR
  isplitl [HlH]; · iexact HlH
  isplitl [HR]; · iexact HR
  isplitl [HH]; · iexact HH
  isplitl [HsR]; · iexact HsR
  iexact HsH

theorem call_ends (c : Dev nD) : (dats m 0 c).Φ (Fin.last cfg0.N) ⊢ Pipeline.ΦD copyCells spec0 readRefs (V m) c := by
  rw [ends_eq, show (dats m 0 c).Φ (Fin.last cfg0.N) = heldAt m c grid0.N from rfl, held_ease m c _ (by rw [N_0])]
  unfold atEase
  iintro ⟨Hg, HlR, HlH, HR, HH, HsR, HsH⟩
  isplitl [HlR HlH]
  · isplitl [HlR]; · iexact HlR
    iexact HlH
  isplitl [Hg]; · iexact Hg
  isplitl [HR HH]
  · isplitl [HR]; · iexact HR
    iexact HH
  isplitl [HsR]; · iexact HsR
  iexact HsH

set_option maxHeartbeats 800000 in
theorem main_reaches : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program: it ends, the windows' arrays hold what the steps wrote, every other array is as the call found it,
    and every semaphore is at zero. -/
theorem call_run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 copyCells defs₀ Variants.none copyCells_own readRefs readRefs_sub m ρ main
    (hbody := fun c => (steps_sound m c).loose) (hshare := fun c => (dats m 0 c).share_full fun _ => rfl)
    (howed := fun _ _ => rfl) (V := V m) (hmain := main_reaches m) (hA := A_eq m) (hin := call_begins m) (hout := call_ends m)

/-- The arguments are unchanged and every semaphore is at zero. -/
theorem call_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩, h.2⟩) (call_run m ρ)

end Cert.Kernel14Ideal.NormBwd

end
-- ==== Proof.NormARef.lean ====
/-
  The gradient through the first normalisation, upper half of the rows, as the reference computes it, read entry by entry.
-/

module

public import proofs.«01_k».proof.Proof.Gen.Reference14Ideal
public import proofs.«01_k».proof.Proof.Gen.Reference14Ideal.Run
public import proofs.«01_k».proof.Proof.Gen.Reference14Ideal.Read
public import proofs.«01_k».proof.Proof.NormForms
public import Idealize.ShloMosaic.Lib.Pointwise
public import Idealize.ShloMosaic.Lib.Claim
public import Idealize.ShloMosaic.Lib.Pipeline.ValueKit

@[expose] public section

set_option maxRecDepth 16384

noncomputable section

namespace Cert.Reference14Ideal.Read

open Idealize.ShloMosaic Cert.Reference14Ideal.Gen Cert.NormForms

variable (x0 : FVec Ideal S4224x10240 .f32) (x1 : FVec Ideal S2048x10240 .f32) (x2 x3 : FVec Ideal S4224x2048 .f32) (x4 : FVec Ideal S1x2048 .f32)

/-- The row of the whole arrays that is row `t` of this half. -/
def grow (t : Fin 2112) : Fin 4224 := ⟨t.val, by omega⟩

/-- This half's rows of the three arrays. -/
theorem v0_apply (t : Fin 2112) (j : Fin 2048) : val_main_v0 (F := Ideal) x3 (ix2 t j) = x3 (ix2 (grow t) j) := by
  unfold grow
  pointwise [val_main_v0]
theorem v17_apply (t : Fin 2112) (j : Fin 2048) : val_main_v17 (F := Ideal) x2 (ix2 t j) = x2 (ix2 (grow t) j) := by
  unfold grow
  pointwise [val_main_v17]
theorem v18_apply (t : Fin 2112) (j : Fin 10240) : val_main_v18 (F := Ideal) x0 (ix2 t j) = x0 (ix2 (grow t) j) := by
  unfold grow
  pointwise [val_main_v18]

/-- The gradient of the normalised rows: the product with the weight. -/
theorem v19_apply (t : Fin 2112) (j : Fin 2048) : val_main_v19 (F := Ideal) x0 x1 (ix2 t j) = ∑ k : Fin 10240, x0 (ix2 (grow t) k) * x1 (ix2 j k) := by
  pointwise [val_main_v19]
  exact Fin.sum_fin_congr fun k => congrArg₂ (· * ·) (v18_apply x0 t k) rfl

/-- The gradient of the scale. -/
theorem v22_apply (j : Fin 2048) : val_main_v22 (F := Ideal) x0 x1 x3 (ix2 0 j)
    = ∑ t : Fin 2112, x3 (ix2 (grow t) j) * val_main_v8 (F := Ideal) x3 (ix2 t 0) * val_main_v19 (F := Ideal) x0 x1 (ix2 t j) := by
  pointwise [val_main_v22, val_main_v21, val_main_cst_3, val_main_v20, val_main_v13, val_main_v12]
  exact Fin.sum_fin_congr fun t => congrArg₂ (· * ·) (congrArg₂ (· * ·) (v0_apply x3 t j) rfl) rfl

/-- A row's mean square, and a bit more. -/
theorem v7_apply (t : Fin 2112) : val_main_v7 (F := Ideal) x3 (ix2 t 0)
    = Ideal.div (∑ k : Fin 2048, x3 (ix2 (grow t) k) * x3 (ix2 (grow t) k)) (Ideal.ofBits .f32 0x45000000#32) + Ideal.ofBits .f32 0x358637BD#32 := by
  pointwise [val_main_v7, val_main_v5, val_main_v6, val_main_v4, val_main_v3, val_main_v2, val_main_v1, val_main_cst, val_main_cst_0, val_main_cst_1]
  refine congrArg₂ (· + ·) (congrArg₂ Ideal.div (Fin.sum_fin_congr fun k => congrArg₂ (· * ·) (v0_apply x3 t k) (v0_apply x3 t k)) rfl) rfl

/-- It is positive. -/
theorem v7_pos (t : Fin 2112) : 0 < val_main_v7 (F := Ideal) x3 (ix2 t 0) := by
  rw [v7_apply, const_2048, Ideal.div_coe (by norm_num)]
  exact lt_of_lt_of_le const_eps (le_add_of_nonneg_left (α := EReal) (mul_nonneg (Finset.sum_nonneg fun k _ => square_nonneg _) (EReal.coe_nonneg.mpr (by norm_num))))

theorem v8_apply (t : Fin 2112) : val_main_v8 (F := Ideal) x3 (ix2 t 0) = Ideal.rsqrt (val_main_v7 (F := Ideal) x3 (ix2 t 0)) := by
  pointwise [val_main_v8]

/-- The gradient of the rows, in the kernel's form. -/
theorem v39_apply (t : Fin 2112) (j : Fin 2048) : val_main_v39 (F := Ideal) x0 x1 x2 x3 x4 (ix2 t j)
    = x2 (ix2 (grow t) j) + val_main_v8 (F := Ideal) x3 (ix2 t 0) * (val_main_v19 (F := Ideal) x0 x1 (ix2 t j) * x4 (ix2 0 j))
      - x3 (ix2 (grow t) j) * (val_main_v8 (F := Ideal) x3 (ix2 t 0) * val_main_v8 (F := Ideal) x3 (ix2 t 0) * val_main_v8 (F := Ideal) x3 (ix2 t 0)
        * Ideal.div (∑ k : Fin 2048, val_main_v19 (F := Ideal) x0 x1 (ix2 t k) * x4 (ix2 0 k) * x3 (ix2 (grow t) k)) (Ideal.ofBits .f32 0x45000000#32)) := by
  rw [const_2048, v8_apply, two_forms _ _ _ _ (v7_pos x3 t), ← v17_apply x2, ← v0_apply x3]
  have hS : ∑ k : Fin 2048, val_main_v0 (F := Ideal) x3 (ix2 t k) * (val_main_v19 (F := Ideal) x0 x1 (ix2 t k) * x4 (ix2 0 k))
      = ∑ k : Fin 2048, val_main_v19 (F := Ideal) x0 x1 (ix2 t k) * x4 (ix2 0 k) * x3 (ix2 (grow t) k) := Fin.sum_fin_congr fun k => by rw [mul_comm, v0_apply]
  rw [← hS]
  pointwise [val_main_v39, val_main_v38, val_main_v37, val_main_v36, val_main_v35, val_main_v34, val_main_cst_6, val_main_v33, val_main_v32, val_main_cst_5, val_main_v31,
    val_main_v30, val_main_v29, val_main_v28, val_main_v27, val_main_v26, val_main_cst_4, val_main_v25, val_main_v24, val_main_v23, val_main_v11, val_main_v10, val_main_cst_2, val_main_v9]
  rw [Fin.sum_univ_one, const_2048, const_half, v8_apply, mul_comm (Ideal.rsqrt _) (val_main_v19 (F := Ideal) x0 x1 (ix2 t j) * _)]

/-- The whole array of rows, in this half. -/
theorem v41_apply (t : Fin 2112) (j : Fin 2048) : val_main_v41 (F := Ideal) x0 x1 x2 x3 x4 (ix2 (grow t) j) = val_main_v39 (F := Ideal) x0 x1 x2 x3 x4 (ix2 t j) := by
  have ht := t.isLt
  unfold grow
  pointwise [val_main_v41]

end Cert.Reference14Ideal.Read
-- ==== Proof.NormAValue.lean ====
/-
  What the call leaves, entry by entry: the sum of products, the finished rows, and the sum for the scale, each as the
  reference computes it.
-/

module

public import proofs.«01_k».proof.Proof.NormACall
public import proofs.«01_k».proof.Proof.NormARef
public import proofs.«01_k».proof.Proof.Gen.On_written14

@[expose] public section

set_option maxRecDepth 16384

noncomputable section

namespace Cert.Kernel14Ideal.NormBwd

open Idealize.ShloMosaic Idealize.ShloMosaic.TcCoe Idealize.SL.Sem Cert.Kernel14Ideal.Gen
open Cert.Reference14Ideal.Read

/-! ## One step, and one tile -/

theorem added_apply (du : FVec Ideal S704x2048 .f32) (dz : FVec Ideal S704x1280 .bf16) (w : FVec Ideal S1x2048x1280 .bf16) (p : Fin 704) (j : Fin 2048) :
    added (F := Ideal) du dz w (ix2 p j) = du (ix2 p j) + ∑ l : Fin 1280, dz (ix2 p l) * w (ix3 0 j l) := by
  unfold added
  pointwise [k0_pay3]

/-- Row `p` of a tile is row `p % 176` of trip `p / 176`. -/
theorem row_ld {e : EltTy} (x : Vec Ideal S704x2048 e) (p : Fin 704) (j : Fin 2048) (q : Fin 4) (p' : Fin 176) (h : 176 * q.val + p'.val = p.val) :
    View.ld x (rowBox q) (ix2 p' j) = x (ix2 p j) := by
  rw [View.ld_apply]
  refine congrArg x (funext fun a => Fin.ext ?_)
  rw [Rect.idx_unit_val]
  match a with
  | 0 => exact h
  | 1 => exact Nat.zero_add _
theorem col_ld {e : EltTy} (x : Vec Ideal S704x1 e) (p : Fin 704) (q : Fin 4) (p' : Fin 176) (h : 176 * q.val + p'.val = p.val) :
    View.ld x (colBox q) (ix2 p' 0) = x (ix2 p 0) := by
  rw [View.ld_apply]
  refine congrArg x (funext fun a => Fin.ext ?_)
  rw [Rect.idx_unit_val]
  match a with
  | 0 => exact h
  | 1 => exact Nat.zero_add _

theorem rows_apply (g : FVec Ideal S1x2048 .f32) (du h : FVec Ideal S176x2048 .f32) (r : FVec Ideal S176x1 .f32) (dr : FVec Ideal S176x2048 .f32) (p : Fin 176) (j : Fin 2048) :
    k0_pay7 (F := Ideal) g du h r dr (ix2 p j)
      = dr (ix2 p j) + r (ix2 p 0) * (du (ix2 p j) * g (ix2 0 j))
        - h (ix2 p j) * (r (ix2 p 0) * r (ix2 p 0) * r (ix2 p 0) * Ideal.div (∑ k : Fin 2048, du (ix2 p k) * g (ix2 0 k) * h (ix2 p k)) (Ideal.ofBits .f32 0x45000000#32)) := by
  pointwise [k0_pay7, k0_pay5, k0_pay6]

theorem part_apply (a : FVec Ideal S1x2048 .f32) (du h : FVec Ideal S176x2048 .f32) (r : FVec Ideal S176x1 .f32) (j : Fin 2048) :
    k0_pay8 (F := Ideal) a du h r (ix2 0 j) = a (ix2 0 j) + ∑ p : Fin 176, du (ix2 p j) * (h (ix2 p j) * r (ix2 p 0)) := by
  pointwise [k0_pay8, k0_pay5, k0_pay6]

/-- Trip `q`'s rows of a tile, and of a column. -/
abbrev ldT (x : FVec Ideal S704x2048 .f32) (q : Fin 4) : FVec Ideal S176x2048 .f32 := View.ld (Val := Elt Ideal) (e' := .f32) (x : Vec Ideal _ .f32) (rowBox q)
abbrev ldC (x : FVec Ideal S704x1 .f32) (q : Fin 4) : FVec Ideal S176x1 .f32 := View.ld (Val := Elt Ideal) (e' := .f32) (x : Vec Ideal _ .f32) (colBox q)

section Tile
variable (g : FVec Ideal S1x2048 .f32) (du h : FVec Ideal S704x2048 .f32) (r : FVec Ideal S704x1 .f32) (dr : FVec Ideal S704x2048 .f32)

theorem outTile_apply (p : Fin 704) (j : Fin 2048) : outTile (F := Ideal) g du h r dr (ix2 p j)
    = dr (ix2 p j) + r (ix2 p 0) * (du (ix2 p j) * g (ix2 0 j))
      - h (ix2 p j) * (r (ix2 p 0) * r (ix2 p 0) * r (ix2 p 0) * Ideal.div (∑ k : Fin 2048, du (ix2 p k) * g (ix2 0 k) * h (ix2 p k)) (Ideal.ofBits .f32 0x45000000#32)) := by
  have hp := p.isLt
  have hq : p.val / 176 < 4 := by omega
  have hr : p.val % 176 < 176 := Nat.mod_lt _ (by decide)
  have hs : 176 * (⟨p.val / 176, hq⟩ : Fin 4).val + (⟨p.val % 176, hr⟩ : Fin 176).val = p.val := Nat.div_add_mod _ _
  have hx : rowIn (ix2 p j) = ix2 (⟨p.val % 176, hr⟩ : Fin 176) j := by
    funext a
    match a with
    | 0 => rfl
    | 1 => rfl
  have key := rows_apply g (ldT du ⟨p.val / 176, hq⟩) (ldT h ⟨p.val / 176, hq⟩) (ldC r ⟨p.val / 176, hq⟩) (ldT dr ⟨p.val / 176, hq⟩) ⟨p.val % 176, hr⟩ j
  have hd : ∀ k, ldT du ⟨p.val / 176, hq⟩ (ix2 (⟨p.val % 176, hr⟩ : Fin 176) k) = du (ix2 p k) := fun k => row_ld (e := .f32) du p k _ _ hs
  have hh : ∀ k, ldT h ⟨p.val / 176, hq⟩ (ix2 (⟨p.val % 176, hr⟩ : Fin 176) k) = h (ix2 p k) := fun k => row_ld (e := .f32) h p k _ _ hs
  have hc : ldC r ⟨p.val / 176, hq⟩ (ix2 (⟨p.val % 176, hr⟩ : Fin 176) 0) = r (ix2 p 0) := col_ld (e := .f32) r p _ _ hs
  have ho : ldT dr ⟨p.val / 176, hq⟩ (ix2 (⟨p.val % 176, hr⟩ : Fin 176) j) = dr (ix2 p j) := row_ld (e := .f32) dr p j _ _ hs
  simp only [hd, hh, hc, ho] at key
  unfold outTile
  rw [hx]
  exact key

theorem gSum_apply (a : FVec Ideal S1x2048 .f32) (j : Fin 2048) : gSum (F := Ideal) du h r a 4 (ix2 0 j)
    = a (ix2 0 j) + ∑ p : Fin 704, du (ix2 p j) * (h (ix2 p j) * r (ix2 p 0)) := by
  rw [Fin.sum_univ_tiles 4 176 rfl, Fin.sum_univ_four, ← add_assoc, ← add_assoc, ← add_assoc]
  have step : ∀ (b : FVec Ideal S1x2048 .f32) (q : Fin 4), k0_pay8 (F := Ideal) b (View.ld du (rowBox q)) (View.ld h (rowBox q)) (View.ld r (colBox q)) (ix2 0 j)
      = b (ix2 0 j) + ∑ p : Fin 176, du (ix2 (⟨q.val * 176 + p.val, by omega⟩ : Fin 704) j) * (h (ix2 (⟨q.val * 176 + p.val, by omega⟩ : Fin 704) j) * r (ix2 (⟨q.val * 176 + p.val, by omega⟩ : Fin 704) 0)) := by
    intro b q
    rw [part_apply]
    refine congrArg₂ (· + ·) rfl (Fin.sum_fin_congr fun p => ?_)
    have hs : 176 * q.val + p.val = (⟨q.val * 176 + p.val, by omega⟩ : Fin 704).val := by show _ = q.val * 176 + p.val; omega
    exact congrArg₂ (· * ·) (row_ld (e := .f32) du _ j q p hs) (congrArg₂ (· * ·) (row_ld (e := .f32) h _ j q p hs) (col_ld (e := .f32) r _ q p hs))
  have e3 := step (gSum (F := Ideal) du h r a 3) 3
  have e2 := step (gSum (F := Ideal) du h r a 2) 2
  have e1 := step (gSum (F := Ideal) du h r a 1) 1
  have e0 := step a 0
  refine e3.trans (congrArg₂ (· + ·) (e2.trans (congrArg₂ (· + ·) (e1.trans (congrArg₂ (· + ·) e0 rfl)) rfl)) rfl)
end Tile

/-! ## The arrays -/

variable (m : (ℓ : Loc nD τ sig) → Buf (Elt Ideal) ℓ) (c : Dev nD)

/-- The five arguments. -/
abbrev DZ : FVec Ideal S4224x10240 .f32 := m ((c : Thread nD τ).loc main_arg0)
abbrev W1 : FVec Ideal S2048x10240 .f32 := m ((c : Thread nD τ).loc main_arg1)
abbrev DR : FVec Ideal S4224x2048 .f32 := m ((c : Thread nD τ).loc main_arg2)
abbrev HH : FVec Ideal S4224x2048 .f32 := m ((c : Thread nD τ).loc main_arg3)
abbrev GG : FVec Ideal S1x2048 .f32 := m ((c : Thread nD τ).loc main_arg4)

/-- Where every block of a step lies. -/
theorem idx : ∀ t : Fin cfg0.N, win0_0.index t = ![t.val / 8, t.val % 8] ∧ win0_1.index t = ![t.val % 8, 0, 0] ∧ win0_2.index t = ![t.val / 8, 0]
    ∧ win0_3.index t = ![0, 0] ∧ win0_4.index t = ![t.val / 8, 0] ∧ win0_5.index t = ![0, 0] :=
  (by decide +kernel : ∀ t : Fin grid0.N, _)

/-- Row `p` of tile `u`, counted in this half; column `l` of slot `s`. -/
def trow (u : Fin 3) (p : Fin 704) : Fin 2112 := ⟨704 * u.val + p.val, by omega⟩
def tcol (s : Fin 8) (l : Fin 1280) : Fin 10240 := ⟨s.val * 1280 + l.val, by omega⟩
def slotAt (t : Fin cfg0.N) : Fin 8 := ⟨t.val % 8, Nat.mod_lt _ (by decide)⟩

theorem dzAt_apply (t : Fin cfg0.N) (p : Fin 704) (l : Fin 1280) : dzAt m c t (ix2 p l) = DZ m c (ix2 (grow (trow (tileAt t) p)) (tcol (slotAt t) l)) := by
  unfold dzAt grow trow tcol tileAt slotAt
  blk_simp [iblk]
  entry_read
  pointwise
  blk_ext [iblk, V, idx t]

theorem wAt_apply (t : Fin cfg0.N) (j : Fin 2048) (l : Fin 1280) : wAt m c t (ix3 0 j l) = W1 m c (ix2 j (tcol (slotAt t) l)) := by
  unfold wAt tcol slotAt
  blk_simp [iblk]
  entry_read
  pointwise
  blk_ext [iblk, V, idx t]

/-- What the call is given for a row's scale is the reference's. -/
theorem host_r (t : Fin 2112) : V m c main_v11 (ix2 (grow t) 0) = val_main_v8 (F := Ideal) (HH m c) (ix2 t 0) := by
  rw [v8_apply, v7_apply]
  unfold V
  after_results_simp
  pointwise

theorem rAt_apply (t : Fin cfg0.N) (p : Fin 704) : rAt m c t (ix2 p 0) = val_main_v8 (F := Ideal) (HH m c) (ix2 (trow (tileAt t) p) 0) := by
  rw [← host_r m c]
  unfold rAt grow trow tileAt
  blk_ext [iblk, idx t]

theorem gAt_eq (t : Fin cfg0.N) : gAt m c t = GG m c := by
  unfold gAt
  blk_ext! [iblk, V, idx t]

theorem rowsR_apply (u : Fin 3) (p : Fin 704) (j : Fin 2048) : rowsR m c u (ix2 p j) = DR m c (ix2 (grow (trow u p)) j) := by
  refine Eq.trans (b := DR m c ((Rect.unit (s := S4224x2048) ![704 * u.val, 0] S704x2048.size (box_inb u)).idx (ix2 p j))) ?_ (congrArg (DR m c) (funext fun a => Fin.ext ?_))
  · unfold rowsR srcR
    rw [V_main_arg2]
    rfl
  · rw [Rect.idx_unit_val]
    match a with
    | 0 => exact rfl
    | 1 => exact Nat.zero_add _

theorem rowsH_apply (u : Fin 3) (p : Fin 704) (j : Fin 2048) : rowsH m c u (ix2 p j) = HH m c (ix2 (grow (trow u p)) j) := by
  refine Eq.trans (b := HH m c ((Rect.unit (s := S4224x2048) ![704 * u.val, 0] S704x2048.size (box_inb u)).idx (ix2 p j))) ?_ (congrArg (HH m c) (funext fun a => Fin.ext ?_))
  · unfold rowsH srcH
    rw [V_main_arg3]
    rfl
  · rw [Rect.idx_unit_val]
    match a with
    | 0 => exact rfl
    | 1 => exact Nat.zero_add _

/-! ## What the steps leave -/

/-- A tile's sum after `s` of its eight slots. -/
theorem duSum_part (u : Fin 3) (p : Fin 704) (j : Fin 2048) (s : ℕ) (hs : s < 8) :
    duSum m c (8 * u.val + (s + 1)) (ix2 p j)
      = ∑ b ∈ Finset.range (s + 1), ∑ l : Fin 1280, DZ m c (ix2 (grow (trow u p)) (tcol (Fin.ofNat 8 b) l)) * W1 m c (ix2 j (tcol (Fin.ofNat 8 b) l)) := by
  have step : ∀ (a : FVec Ideal S704x2048 .f32) (k : ℕ) (hk : k < 8), added (F := Ideal) a (dzAt m c (stp (8 * u.val + k))) (wAt m c (stp (8 * u.val + k))) (ix2 p j)
      = a (ix2 p j) + ∑ l : Fin 1280, DZ m c (ix2 (grow (trow u p)) (tcol (Fin.ofNat 8 k) l)) * W1 m c (ix2 j (tcol (Fin.ofNat 8 k) l)) := by
    intro a k hk
    have hu := u.isLt
    have hv : (stp (8 * u.val + k)).val = 8 * u.val + k := Nat.mod_eq_of_lt (by omega)
    have ht : tileAt (stp (8 * u.val + k)) = u := Fin.ext (by show (stp (8 * u.val + k)).val / 8 = u.val; omega)
    have hl : slotAt (stp (8 * u.val + k)) = Fin.ofNat 8 k := Fin.ext (by show (stp (8 * u.val + k)).val % 8 = k % 8; omega)
    rw [added_apply]
    refine congrArg₂ (· + ·) rfl (Fin.sum_fin_congr fun l => ?_)
    rw [dzAt_apply, wAt_apply, ht, hl]
  induction s with
  | zero =>
    rw [Finset.sum_range_one]
    show added (F := Ideal) (if (8 * u.val + 0) % 8 = 0 then k0_pay1 (F := Ideal) else duSum m c (8 * u.val + 0)) (dzAt m c (stp (8 * u.val + 0))) (wAt m c (stp (8 * u.val + 0))) (ix2 p j) = _
    rw [step _ 0 hs, if_pos (by omega)]
    refine (congrArg₂ (· + ·) (x' := (0 : EReal)) ?_ rfl).trans (zero_add _)
    pointwise [k0_pay1]
  | succ s ih =>
    rw [Finset.sum_range_succ, ← ih (by omega)]
    show added (F := Ideal) (if (8 * u.val + (s + 1)) % 8 = 0 then k0_pay1 (F := Ideal) else duSum m c (8 * u.val + (s + 1))) (dzAt m c (stp (8 * u.val + (s + 1)))) (wAt m c (stp (8 * u.val + (s + 1)))) (ix2 p j) = _
    rw [step _ (s + 1) hs, if_neg (by omega)]

/-- A tile's whole sum: the reference's product. -/
theorem duSum_apply (u : Fin 3) (p : Fin 704) (j : Fin 2048) :
    duSum m c (8 * u.val + 8) (ix2 p j) = val_main_v19 (F := Ideal) (DZ m c) (W1 m c) (ix2 (trow u p) j) := by
  rw [duSum_part m c u p j 7 (by decide), v19_apply, Fin.sum_univ_tiles 8 1280 rfl, Finset.sum_range]
  refine Fin.sum_fin_congr fun b => Fin.sum_fin_congr fun l => ?_
  rw [show Fin.ofNat 8 b.val = b from Fin.ext (Nat.mod_eq_of_lt b.isLt)]
  rfl

theorem tile_lastOf (u : Fin 3) : tileAt (lastOf u) = u := Fin.ext (by
  have hu := u.isLt
  show (8 * u.val + 7) % 24 / 8 = u.val
  omega)

/-- The finished rows. -/
theorem tileEnd_apply (u : Fin 3) (p : Fin 704) (j : Fin 2048) :
    tileEnd m c u (ix2 p j) = val_main_v39 (F := Ideal) (DZ m c) (W1 m c) (DR m c) (HH m c) (GG m c) (ix2 (trow u p) j) := by
  unfold tileEnd
  rw [outTile_apply, v39_apply, rAt_apply, tile_lastOf, gAt_eq, rowsR_apply, rowsH_apply, duSum_apply]
  refine congrArg₂ (· - ·) rfl (congrArg₂ (· * ·) rfl (congrArg₂ (· * ·) rfl (congrArg₂ Ideal.div (Fin.sum_fin_congr fun k => ?_) rfl)))
  rw [rowsH_apply, duSum_apply]

/-- A tile's part of the scale's gradient. -/
theorem scalePart_apply (u : Fin 3) (j : Fin 2048) : scalePart m c u (ix2 0 j)
    = ∑ p : Fin 704, HH m c (ix2 (grow (trow u p)) j) * val_main_v8 (F := Ideal) (HH m c) (ix2 (trow u p) 0) * val_main_v19 (F := Ideal) (DZ m c) (W1 m c) (ix2 (trow u p) j) := by
  unfold scalePart
  rw [gSum_apply]
  refine (congrArg₂ (· + ·) (x' := (0 : EReal)) ?_ (Fin.sum_fin_congr fun p => ?_)).trans (zero_add _)
  · pointwise [k0_pay4]
  · rw [duSum_apply, rowsH_apply, rAt_apply, tile_lastOf, mul_comm]

theorem dgSum_apply (k : ℕ) (j : Fin 2048) : dgSum m c k (ix2 0 j) = ∑ u ∈ Finset.range k, scalePart m c (Fin.ofNat 3 u) (ix2 0 j) := by
  induction k with
  | zero =>
    rw [Finset.sum_range_zero]
    unfold dgSum
    pointwise [k0_pay2]
  | succ k ih =>
    rw [Finset.sum_range_succ, ← ih]
    conv_lhs => unfold dgSum
    pointwise [k0_pay9]

/-- The whole sum: the reference's gradient of the scale. -/
theorem dg_apply (j : Fin 2048) : dgSum m c 3 (ix2 0 j) = val_main_v22 (F := Ideal) (DZ m c) (W1 m c) (HH m c) (ix2 0 j) := by
  rw [dgSum_apply, v22_apply, Fin.sum_univ_tiles 3 704 rfl, Finset.sum_range]
  refine Fin.sum_fin_congr fun u => ?_
  rw [show Fin.ofNat 3 u.val = u from Fin.ext (Nat.mod_eq_of_lt u.isLt), scalePart_apply]
  refine Fin.sum_fin_congr fun p => ?_
  rw [show trow u p = (⟨u.val * 704 + p.val, by omega⟩ : Fin 2112) from Fin.ext (by show 704 * u.val + p.val = u.val * 704 + p.val; omega)]

/-! ## The two results -/

/-- The reference's two results, of the call's arguments. -/
abbrev refRows : S4224x2048.Idx → EReal := val_main_v41 (F := Ideal) (DZ m c) (W1 m c) (DR m c) (HH m c) (GG m c)
abbrev refScale : S1x2048.Idx → EReal := val_main_v22 (F := Ideal) (DZ m c) (W1 m c) (HH m c)

/-- The first half of the rows is written, a tile at a time; the rest of the array is not. -/
theorem final4 : (dats m 0 c).arrAt 4 cfg0.N = fun i => if (i 0 : ℕ) / 704 < 3 then refRows m c i else (dats m 0 c).A 4 i := by
  refine (dats m 0 c).arrAt_eq_of_coversWhere 4 _ (fun β => β (0 : Fin _) < 3) (by decide +kernel) (fun t hf y => ?_) (fun j => Iff.rfl)
  have ht : t.val % 8 = 7 := by rw [flush_4, decide_eq_true_iff] at hf; exact hf
  blk_simp [idx t]
  rw [after_4_end m c t ht, eq_ix2 y]
  refine (tileEnd_apply m c (tileAt t) _ _).trans ((v41_apply _ _ _ _ _ _ _).symm.trans ?_)
  unfold grow trow tileAt
  blk_ext [idx t]

theorem rows_written (t : Fin 4224) (j : Fin 2048) (h : t.val < 2112) : (dats m 0 c).arrAt 4 cfg0.N (ix2 t j) = refRows m c (ix2 t j) := by
  rw [final4]
  exact if_pos (by show t.val / 704 < 3; omega)

/-- The selected rows. -/
theorem written_row (x0 : FVec Ideal S4224x10240 .f32) (x1 : FVec Ideal S2048x10240 .f32) (x2 x3 : FVec Ideal S4224x2048 .f32) (x4 : FVec Ideal S1x2048 .f32)
    (t : Fin 4224) (j : Fin 2048) (h : (Cert.On_written14.fn (F := Ideal) x0 x1 x2 x3 x4).1 (ix2 t j) = 1#1) : t.val < 2112 := by
  have ht := t.isLt
  by_contra hn
  have e : (Cert.On_written14.fn (F := Ideal) x0 x1 x2 x3 x4).1 (ix2 t j) = IntOp.cmpi .slt (BitVec.ofNat 32 t.val) 2112#32 := rfl
  rw [e] at h
  have hi : (BitVec.ofNat 32 t.val).toInt = (t.val : Int) := by
    rw [BitVec.toInt_eq_toNat_of_lt] <;> rw [BitVec.toNat_ofNat] <;> omega
  have c0 : IntOp.cmpi .slt (BitVec.ofNat 32 t.val) 2112#32 = 0#1 := by
    simp only [IntOp.cmpi, BitVec.slt, hi, show (2112#32 : BitVec 32).toInt = 2112 from rfl]
    rw [decide_eq_false (by omega)]; rfl
  rw [c0] at h
  exact absurd h (by decide)

theorem final5 : (dats m 0 c).arrAt 5 cfg0.N = refScale m c := by
  refine (dats m 0 c).arrAt_eq_of_after_last 5 (stp 23) (by decide +kernel) _ fun j => ?_
  blk_simp [idx (stp 23)]
  rw [after_5, eq_ix2 j]
  have h0 : j 0 = (0 : Fin 1) := Subsingleton.elim (α := Fin 1) _ _
  rw [h0]
  exact dg_apply m c _

/-- The whole program's results. -/
theorem call_values (ρ : Dev nD → PrngReg) : θ_run defs (onTc (τ := τ) (main (F := Ideal))) ⟨m, fun _ => 0, ρ⟩ (fun r => ∀ c : Dev nD,
      r.2.mem ((c.tc : Thread nD τ).loc main_v12_0) = (dats m 0 c).arrAt 4 cfg0.N
      ∧ r.2.mem ((c.tc : Thread nD τ).loc main_v12_1) = refScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h.1 c).1 4,
      ((h.1 c).1 5).trans (final5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c)))⟩) (call_run m ρ)

end Cert.Kernel14Ideal.NormBwd
-- ==== Proof.NormBLoop.lean ====
/-
  The row-wise part of a step of the first norm's gradient kernel, lower half of the rows: four trips, each over 176 of a tile's 704 rows.
-/

module

public import proofs.«01_k».proof.Proof.Gen.Kernel15Ideal.Launch
public import proofs.«01_k».proof.Proof.Gen.Kernel15Ideal.Skeleton
public import proofs.«01_k».proof.Proof.Gen.Kernel15Ideal.Loops
public import proofs.«01_k».proof.Proof.Gen.Kernel15Ideal.Points
public import proofs.«01_k».proof.Proof.Gen.Kernel15Ideal.Frame
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.Kernel15Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal.Gen

variable {F : FTy → Type} [FloatOps F]

local notation "𝕄" => MT nD τ sig Unit (Elt F) ℕ (Pipeline.UD sig nD τ) ℕ

/-- Trip `q`'s rows of a tile, and of a column. -/
abbrev rowBox (q : Fin 4) : Rect S704x2048 := Rect.unit (s := S704x2048) ![176 * q.val, 0] S176x2048.size
  ((by decide +kernel : ∀ q : Fin 4, ∀ a, (![176 * q.val, 0] : Fin 2 → ℕ) a + S176x2048.size a ≤ S704x2048.size a) q)
abbrev colBox (q : Fin 4) : Rect S704x1 := Rect.unit (s := S704x1) ![176 * q.val, 0] S176x1.size
  ((by decide +kernel : ∀ q : Fin 4, ∀ a, (![176 * q.val, 0] : Fin 2 → ℕ) a + S176x1.size a ≤ S704x1.size a) q)

/-- The trip a row belongs to, and the row within it. -/
abbrev tripOf (j : S704x2048.Idx) : Fin 4 := ⟨(j 0).val / 176, by have h : (j 0).val < 704 := (j 0).isLt; omega⟩
abbrev rowIn (j : S704x2048.Idx) : S176x2048.Idx := fun a => match a with
  | 0 => ⟨(j 0).val % 176, Nat.mod_lt _ (by decide)⟩
  | 1 => j 1

section Tile
variable (g : Vec F S1x2048 .f32) (du h : Vec F S704x2048 .f32) (r : Vec F S704x1 .f32) (dr : Vec F S704x2048 .f32)

/-- The finished tile, and the scale's gradient after `k` trips from `a`. -/
def outTile : Vec F S704x2048 .f32 := fun j =>
  k0_pay6 g (View.ld du (rowBox (tripOf j))) (View.ld h (rowBox (tripOf j))) (View.ld r (colBox (tripOf j))) (View.ld dr (rowBox (tripOf j))) (rowIn j)
def gSum (a : FVec F S1x2048 .f32) : ℕ → FVec F S1x2048 .f32
  | 0 => a
  | k + 1 => if hk : k < 4 then k0_pay7 (gSum a k) (View.ld du (rowBox ⟨k, hk⟩)) (View.ld h (rowBox ⟨k, hk⟩)) (View.ld r (colBox ⟨k, hk⟩)) else gSum a k
end Tile

/-- A tile whose first `k` trips are done. -/
def mixed {e : EltTy} (base fin : Vec F S704x2048 e) : ℕ → Vec F S704x2048 e
  | 0 => base
  | k + 1 => fun j => if (j 0).val < 176 * (k + 1) then fin j else base j

theorem mixed_apply {e : EltTy} (base fin : Vec F S704x2048 e) (k : ℕ) (j : S704x2048.Idx) :
    mixed base fin k j = if (j 0).val < 176 * k then fin j else base j := by
  cases k with
  | zero => rw [if_neg (by omega)]; rfl
  | succ k => rfl
theorem mixed_four {e : EltTy} (base fin : Vec F S704x2048 e) : mixed base fin 4 = fin := by
  funext j
  rw [mixed_apply, if_pos (by have h : (j 0).val < 704 := (j 0).isLt; omega)]
/-- A trip finds its rows unchanged. -/
theorem mixed_ld {e : EltTy} (base fin : Vec F S704x2048 e) (q : Fin 4) : View.ld (mixed base fin q.val) (rowBox q) = View.ld base (rowBox q) := by
  funext x
  show mixed base fin q.val ((rowBox q).idx x) = base ((rowBox q).idx x)
  rw [mixed_apply, if_neg]
  have e0 : (((rowBox q).idx x) 0).val = 176 * q.val + (x 0).val := Rect.idx_unit_val _ _ _ x 0
  omega
/-- A trip adds its rows. -/
theorem mixed_write {e : EltTy} (v : View sig .tc .vmem S704x2048 e) (f : v.ty.Contents (Elt F)) (base fin : Vec F S704x2048 e) (q : Fin 4)
    (hf : v.read (Elt F) f = mixed base fin q.val) (w : S176x2048.Idx → Elt F e) {o : Fin 2 → ℕ} (ho : o = ![176 * q.val, 0])
    (inb : ∀ a, o a + S176x2048.size a ≤ S704x2048.size a) (hw : ∀ j, tripOf j = q → fin j = w (rowIn j)) :
    v.read (Elt F) (v.writes (Elt F) f [⟨Rect.unit (s := S704x2048) o S176x2048.size inb, w⟩]) = mixed base fin (q.val + 1) := by
  funext j
  have hj : (j 0).val < 704 := (j 0).isLt
  rw [mixed_apply]
  by_cases hq : (j 0).val / 176 = q.val
  · rw [if_pos (by omega), hw j (Fin.ext hq)]
    exact View.read_writes_cons_unit_of_mem v f inb w [] j (rowIn j) ho fun a => by
      fin_cases a
      · show (j 0).val = 176 * q.val + (j 0).val % 176; omega
      · show (j 1).val = 0 + (j 1).val; omega
  · have hn : (j 0).val < 176 * q.val ∨ 176 * q.val + 176 ≤ (j 0).val := by omega
    refine (View.read_writes_cons_unit_of_not_mem v f inb w [] j ho 0 hn).trans ?_
    show v.read (Elt F) f j = _
    rw [hf, mixed_apply]
    rcases hn with hn | hn
    · rw [if_pos hn, if_pos (by omega)]
    · rw [if_neg (by omega), if_neg (by omega)]

theorem ld_at {s : Shape} {e : EltTy} (x : Vec F s e) {o o' z : Fin s.rank → ℕ} (ho : o = o') (h : ∀ a, o a + z a ≤ s.size a) (h' : ∀ a, o' a + z a ≤ s.size a) :
    View.ld x (Rect.unit o z h) = View.ld x (Rect.unit o' z h') := by subst ho; rfl

section Loop
variable (c : Dev nD) (i : grid0.Coords) (arg2 : Memref sig .tc .vmem S704x1280 .bf16) (harg2 : arg2.IsWhole) (arg3 : Memref sig .tc .vmem S1x2048x1280 .bf16) (harg3 : arg3.IsWhole) (arg4 : Memref sig .tc .hbm S4224x2048 .f32) (harg4 : arg4.IsWhole) (arg5 : Memref sig .tc .hbm S4224x2048 .f32) (harg5 : arg5.IsWhole) (arg6 : Memref sig .tc .vmem S704x1 .f32) (harg6 : arg6.IsWhole) (arg7 : Memref sig .tc .vmem S1x2048 .f32) (harg7 : arg7.IsWhole) (arg8 : Memref sig .tc .hbm S4224x2048 .f32) (harg8 : arg8.IsWhole) (arg9 : Memref sig .tc .vmem S1x2048 .f32) (harg9 : arg9.IsWhole) (arg10 : Memref sig .tc .vmem S704x2048 .f32) (harg10 : arg10.IsWhole) (arg11 : Memref sig .tc .vmem S1x2048 .f32) (harg11 : arg11.IsWhole) (arg12 : Memref sig .tc .vmem S704x2048 .f32) (harg12 : arg12.IsWhole) (arg13 : Memref sig .tc .vmem S704x2048 .f32) (harg13 : arg13.IsWhole) (arg14 : DmaSems sig S2) (k0_h4 : k0_cond4 i = 1#1) (v33 : Vec F S1x2048 .f32) (init : FVec F S1x2048 .f32)
  (X6 : BufTy.Contents (Elt F) arg6.view.ty) (X12 : BufTy.Contents (Elt F) arg12.view.ty) (X13 : BufTy.Contents (Elt F) arg13.view.ty)
  (du : Vec F S704x2048 .f32)

/-- What the trips find and leave: the rows of the trips done are the finished ones. -/
def tripState (k : ℕ) (acc : FVec F S1x2048 .f32) : sProp 𝕄 :=
  iprop((arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13)
    ∗ (∃ f, (arg10.view.loc (c : Thread nD τ) ↦[arg10.view.set]{fullShare} f) ∗ ⌜arg10.view.read (Elt F) f = mixed du (outTile v33 du (arg13.view.read (Elt F) X13) (arg6.view.read (Elt F) X6) (arg12.view.read (Elt F) X12)) k⌝)
    ∗ ⌜acc = gSum du (arg13.view.read (Elt F) X13) (arg6.view.read (Elt F) X6) init k⌝)

theorem trip_run (k : Fin k0_t1_loop.trips) (acc : FVec F S1x2048 .f32) :
    tripState c arg6 arg10 arg12 arg13 v33 init X6 X12 X13 du k.val acc
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 k0_h4 v33 k acc)
          (fun a => tripState c arg6 arg10 arg12 arg13 v33 init X6 X12 X13 du (k.val + 1) a) := by
  have hk : k.val < 4 := Nat.lt_of_lt_of_le k.isLt k0_t1_abs.2.1
  unfold tripState k0_t1_body
  iintro ⟨H6, H12, H13, ⟨%f10, H10, %h10⟩, %ha⟩
  sl_exec
  sl_step
  have e10' : View.ld (arg10.view.read (Elt F) f10) (Rect.unit (s := S704x2048) (k0_off3 k) S176x2048.size (k0_off3_inb i k k0_h4)) = View.ld (arg10.view.read (Elt F) f10) (rowBox ⟨k.val, hk⟩) := ld_at _ (k0_off3_eq k) _ _
  have e10 := e10'.trans (show _ = View.ld du (rowBox ⟨k.val, hk⟩) by rw [h10]; exact mixed_ld _ _ ⟨k.val, hk⟩)
  have e13 : View.ld (arg13.view.read (Elt F) X13) (Rect.unit (s := S704x2048) (k0_off3 k) S176x2048.size (k0_off3_inb i k k0_h4)) = View.ld (arg13.view.read (Elt F) X13) (rowBox ⟨k.val, hk⟩) := ld_at _ (k0_off3_eq k) _ _
  have e12 : View.ld (arg12.view.read (Elt F) X12) (Rect.unit (s := S704x2048) (k0_off3 k) S176x2048.size (k0_off3_inb i k k0_h4)) = View.ld (arg12.view.read (Elt F) X12) (rowBox ⟨k.val, hk⟩) := ld_at _ (k0_off3_eq k) _ _
  have e6 : View.ld (arg6.view.read (Elt F) X6) (Rect.unit (s := S704x1) (k0_off4 k) S176x1.size (k0_off4_inb i k k0_h4)) = View.ld (arg6.view.read (Elt F) X6) (colBox ⟨k.val, hk⟩) := ld_at _ (k0_off4_eq k) _ _
  isplitl [H6]; · iexact H6
  isplitl [H12]; · iexact H12
  isplitl [H13]; · iexact H13
  isplitl [H10]
  · iexists _; isplitl [H10]; · iexact H10
    ipureintro
    refine mixed_write _ _ _ _ ⟨k.val, hk⟩ h10 _ (k0_off3_eq k) _ fun j hj => ?_
    show outTile _ _ _ _ _ j = k0_pay6 v33 (View.ld (arg10.view.read (Elt F) f10) (Rect.unit (s := S704x2048) (k0_off3 k) S176x2048.size (k0_off3_inb i k k0_h4))) (View.ld (arg13.view.read (Elt F) X13) (Rect.unit (s := S704x2048) (k0_off3 k) S176x2048.size (k0_off3_inb i k k0_h4))) (View.ld (arg6.view.read (Elt F) X6) (Rect.unit (s := S704x1) (k0_off4 k) S176x1.size (k0_off4_inb i k k0_h4))) (View.ld (arg12.view.read (Elt F) X12) (Rect.unit (s := S704x2048) (k0_off3 k) S176x2048.size (k0_off3_inb i k k0_h4))) (rowIn j)
    rw [e10, e13, e6, e12, ← hj]; rfl
  ipureintro
  show k0_pay7 acc (View.ld (arg10.view.read (Elt F) f10) (Rect.unit (s := S704x2048) (k0_off3 k) S176x2048.size (k0_off3_inb i k k0_h4))) (View.ld (arg13.view.read (Elt F) X13) (Rect.unit (s := S704x2048) (k0_off3 k) S176x2048.size (k0_off3_inb i k k0_h4))) (View.ld (arg6.view.read (Elt F) X6) (Rect.unit (s := S704x1) (k0_off4 k) S176x1.size (k0_off4_inb i k k0_h4))) = _
  rw [gSum, dif_pos hk, ← ha, e10, e13, e6]

set_option warn.classDefReducibility false in
/-- The trips' invariant. -/
@[sl_loop] def loopInv : LoopInvTy_k0_t1 (F := F) Unit ℕ (Pipeline.UD sig nD τ) ℕ Variants.none c none Set.univ i arg2 harg2 arg3 harg3 arg4 harg4 arg5 harg5 arg6 harg6 arg7 harg7 arg8 harg8 arg9 harg9 arg10 harg10 arg11 harg11 arg12 harg12 arg13 harg13 arg14 k0_h4 v33 init where
  inv k acc := tripState c arg6 arg10 arg12 arg13 v33 init X6 X12 X13 du k acc
  step k acc := trip_run c i arg2 harg2 arg3 harg3 arg4 harg4 arg5 harg5 arg6 harg6 arg7 harg7 arg8 harg8 arg9 harg9 arg10 harg10 arg11 harg11 arg12 harg12 arg13 harg13 arg14 k0_h4 v33 init X6 X12 X13 du k acc
end Loop

end Cert.Kernel15Ideal.NormBwd

end
-- ==== Proof.NormBNames.lean ====
/-
  The copies and the operands of the first norm's gradient kernel, lower half of the rows, by name. The kernel goes through three tiles of 704
  rows, eight steps to a tile. A tile's first step begins two copies of the tile's rows from the argument arrays into
  vector memory; its last step waits for them.
-/

module

public import proofs.«01_k».proof.Proof.NormBLoop

@[expose] public section

set_option maxRecDepth 16384

noncomputable section

namespace Cert.Kernel15Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal.Gen

variable {F : FTy → Type} [FloatOps F]

local notation "𝕄" => MT nD τ sig Unit (Elt F) ℕ (Pipeline.UD sig nD τ) ℕ

/-! ## When the body's branches are taken -/

/-- A tile's first step begins the two copies and clears the tile. -/
abbrev Starts (t : Fin cfg0.N) : Prop := k0_cond1 (grid0.coords t) = 1#1
/-- The first step of all copies the earlier sum of the scale's gradient. -/
abbrev Clears (t : Fin cfg0.N) : Prop := k0_cond2 (grid0.coords t) = 1#1
/-- Every step adds its product to the tile. -/
abbrev Adds (t : Fin cfg0.N) : Prop := k0_cond3 (grid0.coords t) = 1#1
/-- A tile's last step waits for the copies and finishes the tile. -/
abbrev Finishes (t : Fin cfg0.N) : Prop := k0_cond4 (grid0.coords t) = 1#1

theorem starts_iff : ∀ t : Fin cfg0.N, Starts t ↔ t.val % 8 = 0 :=
  (by decide +kernel : ∀ t : Fin grid0.N, Starts t ↔ t.val % 8 = 0)
theorem clears_iff : ∀ t : Fin cfg0.N, Clears t ↔ t.val = 0 :=
  (by decide +kernel : ∀ t : Fin grid0.N, Clears t ↔ t.val = 0)
theorem adds_all : ∀ t : Fin cfg0.N, Adds t :=
  (by decide +kernel : ∀ t : Fin grid0.N, Adds t)
theorem finishes_iff : ∀ t : Fin cfg0.N, Finishes t ↔ t.val % 8 = 7 :=
  (by decide +kernel : ∀ t : Fin grid0.N, Finishes t ↔ t.val % 8 = 7)

/-! ## The operands of a step -/

abbrev stg0 (t : Fin cfg0.N) : Memref sig .tc .vmem S704x1280 .bf16 := win0_0.stage (cfg0.slots t 0)
abbrev stg1 (t : Fin cfg0.N) : Memref sig .tc .vmem S1x2048x1280 .bf16 := win0_1.stage (cfg0.slots t 1)
abbrev stg2 (t : Fin cfg0.N) : Memref sig .tc .vmem S704x1 .f32 := win0_2.stage (cfg0.slots t 2)
abbrev stg3 (t : Fin cfg0.N) : Memref sig .tc .vmem S1x2048 .f32 := win0_3.stage (cfg0.slots t 3)
abbrev stg4 (t : Fin cfg0.N) : Memref sig .tc .vmem S1x2048 .f32 := win0_4.stage (cfg0.slots t 4)
abbrev stg5 (t : Fin cfg0.N) : Memref sig .tc .vmem S704x2048 .f32 := win0_5.stage (cfg0.slots t 5)
abbrev stg6 (t : Fin cfg0.N) : Memref sig .tc .vmem S1x2048 .f32 := win0_6.stage (cfg0.slots t 6)
/-- Where the two copies land: a tile's rows of the incoming gradient, and of the normalised array. -/
abbrev landR : Memref sig .tc .vmem S704x2048 .f32 := Memref.whole cc0_scratch0
abbrev landH : Memref sig .tc .vmem S704x2048 .f32 := Memref.whole cc0_scratch1
/-- The two arrays copied from. -/
abbrev fromR : Memref sig .tc .hbm S4224x2048 .f32 := Memref.whole main_arg2
abbrev fromH : Memref sig .tc .hbm S4224x2048 .f32 := Memref.whole main_arg3

/-- What a memref of core `c` holds. -/
abbrev BufOf (c : Dev nD) {sp : Space} {S : Shape} {e : EltTy} (M : Memref sig .tc sp S e) : Type :=
  Buf (Elt F) (M.view.loc (c : Thread nD τ))
/-- Holding the part of a buffer a memref names. -/
abbrev holds (c : Dev nD) {sp : Space} {S : Shape} {e : EltTy} (M : Memref sig .tc sp S e) (f : BufOf (F := F) c M) : sProp 𝕄 :=
  M.view.loc (c : Thread nD τ) ↦[M.view.set]{fullShare} f

/-- The tile a step belongs to. -/
def tileAt (t : Fin cfg0.N) : Fin 3 := ⟨t.val / 8, by have h := lt_of_lt_of_eq t.isLt (show cfg0.N = 24 from N_0); omega⟩

theorem box_inb : ∀ u : Fin 3, ∀ a, (![704 * (u.val + 3), 0] : Fin 2 → Nat) a + S704x2048.size a ≤ S4224x2048.size a := by decide +kernel
/-- Tile `u`'s rows of the two arrays. -/
def boxR (u : Fin 3) : Memref sig .tc .hbm S704x2048 .f32 := fromR.slice (Rect.unit (s := S4224x2048) ![704 * (u.val + 3), 0] S704x2048.size (box_inb u)) (fun _ => rfl)
def boxH (u : Fin 3) : Memref sig .tc .hbm S704x2048 .f32 := fromH.slice (Rect.unit (s := S4224x2048) ![704 * (u.val + 3), 0] S704x2048.size (box_inb u)) (fun _ => rfl)
/-- The cells the two copies are counted on. -/
def cellR : DmaSems sig S_ := (cc0_scratch2.slice (Rect.unit (s := S2) ![0] S1.size inb_S2_S1_0)).squeeze S_ squeezes_S1_S_
def cellH : DmaSems sig S_ := (cc0_scratch2.slice (Rect.unit (s := S2) ![1] S1.size inb_S2_S1_1)).squeeze S_ squeezes_S1_S_
abbrev cellRLoc : SemLoc sig := SemLoc.dma cellR.sem
abbrev cellHLoc : SemLoc sig := SemLoc.dma cellH.sem

/-- A cell at rest. -/
abbrev atRest (c : Dev nD) (l : SemLoc sig) : sProp 𝕄 := semVal ((c : Thread nD τ), l) 0
/-- A copy of tile `u`'s rows under way: when it lands it gives back the rows of the array, and the rows landed. -/
def flyR (c : Dev nD) (u : Fin 3) (f : BufOf (F := F) c (boxR u)) : sProp 𝕄 :=
  iprop(∃ e, ⌜landR.view.read (Elt F) e = (boxR u).view.read (Elt F) f⌝ ∗ Transfers.Flight countersEmb (c : Thread nD τ) cellRLoc default
    (landR.view.amount cellRLoc) iprop(holds c landR e ∗ holds c (boxR u) f))
def flyH (c : Dev nD) (u : Fin 3) (f : BufOf (F := F) c (boxH u)) : sProp 𝕄 :=
  iprop(∃ e, ⌜landH.view.read (Elt F) e = (boxH u).view.read (Elt F) f⌝ ∗ Transfers.Flight countersEmb (c : Thread nD τ) cellHLoc default
    (landH.view.amount cellHLoc) iprop(holds c landH e ∗ holds c (boxH u) f))

/-! ## The slices the body takes, by name -/

section Names
omit [FloatOps F]
theorem boxR_named {u : Fin 3} {o : Fin 2 → Nat} (e : o = ![704 * (u.val + 3), 0]) (h) :
    fromR.slice (Rect.unit (s := S4224x2048) o S704x2048.size h) (fun _ => rfl) = boxR u := by subst e; rfl
theorem boxH_named {u : Fin 3} {o : Fin 2 → Nat} (e : o = ![704 * (u.val + 3), 0]) (h) :
    fromH.slice (Rect.unit (s := S4224x2048) o S704x2048.size h) (fun _ => rfl) = boxH u := by subst e; rfl
theorem off1_at : ∀ t : Fin grid0.N, k0_off1 (grid0.coords t) = ![704 * (t.val / 8 + 3), 0] := by decide +kernel
theorem off2_at : ∀ t : Fin grid0.N, k0_off2 (grid0.coords t) = ![704 * (t.val / 8 + 3), 0] := by decide +kernel
@[sl_canon] theorem off1_isR (t : Fin grid0.N) (h : Starts t) :
    fromR.slice (Rect.unit (s := S4224x2048) (k0_off1 (grid0.coords t)) S704x2048.size (k0_off1_inb (grid0.coords t) h)) (fun _ => rfl) = boxR (tileAt t) := boxR_named (off1_at t) _
@[sl_canon] theorem off1_isR' (t : Fin grid0.N) (h : Starts t) :
    fromR.slice (Rect.unit (s := S4224x2048) (k0_off1 (grid0.coords t)) ![704, 2048] (k0_off1_inb (grid0.coords t) h)) (fun _ => rfl) = boxR (tileAt t) := boxR_named (off1_at t) _
@[sl_canon] theorem off2_isR (t : Fin grid0.N) (h : Finishes t) :
    fromR.slice (Rect.unit (s := S4224x2048) (k0_off2 (grid0.coords t)) S704x2048.size (k0_off2_inb (grid0.coords t) h)) (fun _ => rfl) = boxR (tileAt t) := boxR_named (off2_at t) _
@[sl_canon] theorem off2_isR' (t : Fin grid0.N) (h : Finishes t) :
    fromR.slice (Rect.unit (s := S4224x2048) (k0_off2 (grid0.coords t)) ![704, 2048] (k0_off2_inb (grid0.coords t) h)) (fun _ => rfl) = boxR (tileAt t) := boxR_named (off2_at t) _
@[sl_canon] theorem cellR_is : (cc0_scratch2.slice (Rect.unit (s := S2) ![0] S1.size inb_S2_S1_0)).squeeze S_ squeezes_S1_S_ = cellR := rfl
@[sl_canon] theorem cellR_is' : (cc0_scratch2.slice (Rect.unit (s := S2) ![0] ![1] inb_S2_S1_0)).squeeze S_ squeezes_S1_S_ = cellR := rfl
@[sl_canon] theorem off1_isH (t : Fin grid0.N) (h : Starts t) :
    fromH.slice (Rect.unit (s := S4224x2048) (k0_off1 (grid0.coords t)) S704x2048.size (k0_off1_inb (grid0.coords t) h)) (fun _ => rfl) = boxH (tileAt t) := boxH_named (off1_at t) _
@[sl_canon] theorem off1_isH' (t : Fin grid0.N) (h : Starts t) :
    fromH.slice (Rect.unit (s := S4224x2048) (k0_off1 (grid0.coords t)) ![704, 2048] (k0_off1_inb (grid0.coords t) h)) (fun _ => rfl) = boxH (tileAt t) := boxH_named (off1_at t) _
@[sl_canon] theorem off2_isH (t : Fin grid0.N) (h : Finishes t) :
    fromH.slice (Rect.unit (s := S4224x2048) (k0_off2 (grid0.coords t)) S704x2048.size (k0_off2_inb (grid0.coords t) h)) (fun _ => rfl) = boxH (tileAt t) := boxH_named (off2_at t) _
@[sl_canon] theorem off2_isH' (t : Fin grid0.N) (h : Finishes t) :
    fromH.slice (Rect.unit (s := S4224x2048) (k0_off2 (grid0.coords t)) ![704, 2048] (k0_off2_inb (grid0.coords t) h)) (fun _ => rfl) = boxH (tileAt t) := boxH_named (off2_at t) _
@[sl_canon] theorem cellH_is : (cc0_scratch2.slice (Rect.unit (s := S2) ![1] S1.size inb_S2_S1_1)).squeeze S_ squeezes_S1_S_ = cellH := rfl
@[sl_canon] theorem cellH_is' : (cc0_scratch2.slice (Rect.unit (s := S2) ![1] ![1] inb_S2_S1_1)).squeeze S_ squeezes_S1_S_ = cellH := rfl
end Names

/-! ## Whole loads and stores -/

theorem read_all {s : Shape} {e : EltTy} (v : View sig .tc .vmem s e) (f : v.ty.Contents (Elt F)) {o : Fin s.rank → ℕ} (inb : ∀ a, o a + s.size a ≤ s.size a)
    (z : Vec F s e) (L : List (View.Piece (Elt F) s e)) : v.read (Elt F) (v.writes (Elt F) f (⟨Rect.unit o s.size inb, z⟩ :: L)) = z := by
  funext q
  exact View.read_writes_cons_unit_of_mem v f inb z L q q rfl fun a => by have := inb a; omega

/-- A tile after a step's product is added to it. -/
def added (du : Vec F S704x2048 .f32) (dz : Vec F S704x1280 .bf16) (w : Vec F S1x2048x1280 .bf16) : Vec F S704x2048 .f32 := k0_pay2 du dz w
abbrev allT {e : EltTy} (x : Vec F S704x2048 e) : Vec F S704x2048 e := View.ld x (Rect.unit (s := S704x2048) ![0, 0] S704x2048.size inb_S704x2048_S704x2048_0_0)
abbrev allZ {e : EltTy} (x : Vec F S704x1280 e) : Vec F S704x1280 e := View.ld x (Rect.unit (s := S704x1280) ![0, 0] S704x1280.size inb_S704x1280_S704x1280_0_0)
abbrev allW {e : EltTy} (x : Vec F S1x2048x1280 e) : Vec F S1x2048x1280 e := View.ld x (Rect.unit (s := S1x2048x1280) ![0, 0, 0] S1x2048x1280.size inb_S1x2048x1280_S1x2048x1280_0_0_0)
abbrev allG {e : EltTy} (x : Vec F S1x2048 e) : Vec F S1x2048 e := View.ld x (Rect.unit (s := S1x2048) ![0, 0] S1x2048.size inb_S1x2048_S1x2048_0_0)
theorem allT_eq {e : EltTy} (x : Vec F S704x2048 e) : allT x = x := View.ld_unit_zero (S := S704x2048) (by decide) _ x
theorem allZ_eq {e : EltTy} (x : Vec F S704x1280 e) : allZ x = x := View.ld_unit_zero (S := S704x1280) (by decide) _ x
theorem allW_eq {e : EltTy} (x : Vec F S1x2048x1280 e) : allW x = x := View.ld_unit_zero (S := S1x2048x1280) (by decide) _ x
theorem allG_eq {e : EltTy} (x : Vec F S1x2048 e) : allG x = x := View.ld_unit_zero (S := S1x2048) (by decide) _ x
theorem added_at (du : Vec F S704x2048 .f32) (dz : Vec F S704x1280 .bf16) (w : Vec F S1x2048x1280 .bf16) :
    k0_pay2 (allT du) (allZ dz) (allW w) = added du dz w := by rw [allT_eq, allZ_eq, allW_eq]; rfl
theorem added_after {x du : Vec F S704x2048 .f32} (h : x = du) (dz : Vec F S704x1280 .bf16) (w : Vec F S1x2048x1280 .bf16) :
    k0_pay2 x (allZ dz) (allW w) = added du dz w := by rw [h, allZ_eq, allW_eq]; rfl

/-! ## What the loop over a tile's rows leaves -/

theorem tile_done {b du du' h h' dr dr' : Vec F S704x2048 .f32} {g g' : Vec F S1x2048 .f32} (r : Vec F S704x1 .f32) {n : ℕ} (hn : n = 4)
    (eg : g = g') (ed : du = du') (eh : h = h') (er : dr = dr') : mixed b (outTile g du h r dr) n = outTile g' du' h' r dr' := by
  subst hn eg ed eh er; exact mixed_four _ _
theorem sum_done {a a' z : Vec F S1x2048 .f32} {du du' h h' : Vec F S704x2048 .f32} (r : Vec F S704x1 .f32) {n : ℕ} (hn : n = 4)
    (ea : a = a') (ed : du = du') (eh : h = h') : k0_pay8 a (gSum du h r z n) = k0_pay8 a' (gSum du' h' r z 4) := by
  subst hn ea ed eh; rfl

end Cert.Kernel15Ideal.NormBwd

end
-- ==== Proof.NormBStepA.lean ====
/-
  One run of the body of the first norm's gradient kernel, lower half of the rows: the steps that do not finish a tile.
-/

module

public import proofs.«01_k».proof.Proof.NormBNames

@[expose] public section

set_option maxRecDepth 16384

noncomputable section

namespace Cert.Kernel15Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal.Gen

variable {F : FTy → Type} [FloatOps F]

local notation "𝕄" => MT nD τ sig Unit (Elt F) ℕ (Pipeline.UD sig nD τ) ℕ

set_option maxHeartbeats 2000000 in
/-- The first step of all. -/
theorem stepA0 (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .hbm S4224x2048 .f32) (w8 : a8.IsWhole) (a9 : Memref sig .tc .vmem S1x2048 .f32) (w9 : a9.IsWhole) (a10 : Memref sig .tc .vmem S704x2048 .f32) (w10 : a10.IsWhole) (a11 : Memref sig .tc .vmem S1x2048 .f32) (w11 : a11.IsWhole) (hc0 : Starts t) (hc1 : Clears t) (hc2 : Adds t) (hc3 : ¬Finishes t)
    (dz : Vec F S704x1280 .bf16) (w : Vec F S1x2048x1280 .bf16) (r : Vec F S704x1 .f32) (g : Vec F S1x2048 .f32) (dg0 : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ owns (c : Thread nD τ) a9 fullShare dg0 ∗ (∃ d, owns (c : Thread nD τ) a10 fullShare d) ∗ (∃ d, owns (c : Thread nD τ) a11 fullShare d) ∗ (holds c (boxR (tileAt t)) fR) ∗ (holds c (boxH (tileAt t)) fH) ∗ atRest c cellRLoc ∗ (∃ e, holds c landR e) ∗ atRest c cellHLoc ∗ (∃ e, holds c landH e) ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a9 fullShare dg0 ∗ owns (c : Thread nD τ) a10 fullShare (added k0_pay1 dz w) ∗ owns (c : Thread nD τ) a11 fullShare dg0 ∗ flyR c (tileAt t) fR ∗ flyH c (tileAt t) fH ∗ (∃ W', owes (c : Thread nD τ) 0 W')) -∗ K ⟨⟩))
      ⊢ wp frame (wpE (defs₀ (F := F)) Variants.none c none) Set.univ (cc0_du_norm1_b (grid0.coords t) a2 w2 a3 w3 fromR (Memref.isWhole_whole _) fromH (Memref.isWhole_whole _) a6 w6 a7 w7 a8 w8 a9 w9 a10 w10 a11 w11 landR (Memref.isWhole_whole _) landH (Memref.isWhole_whole _) cc0_scratch2) K := by
  haveI : Fact (Starts t) := ⟨hc0⟩; haveI : Fact (Clears t) := ⟨hc1⟩; haveI : Fact (Adds t) := ⟨hc2⟩; haveI : Fact (¬Finishes t) := ⟨hc3⟩
  simp only [cc0_du_norm1_b_eq_skeleton]; unfold cc0_du_norm1_b_skel
  unfold owns flyR flyH
  iintro ⟨⟨%f0, %hf0, H0⟩, ⟨%f1, %hf1, H1⟩, ⟨%f2, %hf2, H2⟩, ⟨%f3, %hf3, H3⟩, ⟨%f5, %hf5, H5⟩, ⟨%d4, %f4, -, H4⟩, ⟨%d6, %f6, -, H6⟩, HsR, HsH, HR, ⟨%eR, HlR⟩, HH, ⟨%eH, HlH⟩, HW, Hk⟩
  subst hf0 hf1 hf2 hf3 hf5
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H5]
  · iexists _; isplitr; swap; · iexact H5
    ipureintro; rfl
  isplitl [H4]
  · iexists _; isplitr; swap; · iexact H4
    ipureintro; exact (read_all _ _ _ _ _).trans ((added_after ((congrArg allT (read_all a10.view _ _ _ _)).trans (allT_eq _)) _ _))
  isplitl [H6]
  · iexists _; isplitr; swap; · iexact H6
    ipureintro; exact (read_all _ _ _ _ _).trans (allG_eq _)
  isplitl [HR]
  · iexists _; isplitr; swap; · iexact HR
    ipureintro; exact View.read_writes_whole _ _ _
  isplitl [HH]
  · iexists _; isplitr; swap; · iexact HH
    ipureintro; exact View.read_writes_whole _ _ _
  iexists _; iexact HW

set_option maxHeartbeats 2000000 in
/-- The first step of a later tile. -/
theorem stepA (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .hbm S4224x2048 .f32) (w8 : a8.IsWhole) (a9 : Memref sig .tc .vmem S1x2048 .f32) (w9 : a9.IsWhole) (a10 : Memref sig .tc .vmem S704x2048 .f32) (w10 : a10.IsWhole) (a11 : Memref sig .tc .vmem S1x2048 .f32) (w11 : a11.IsWhole) (hc0 : Starts t) (hc1 : ¬Clears t) (hc2 : Adds t) (hc3 : ¬Finishes t)
    (dz : Vec F S704x1280 .bf16) (w : Vec F S1x2048x1280 .bf16) (r : Vec F S704x1 .f32) (g : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ (∃ d, owns (c : Thread nD τ) a10 fullShare d) ∗ (holds c (boxR (tileAt t)) fR) ∗ (holds c (boxH (tileAt t)) fH) ∗ atRest c cellRLoc ∗ (∃ e, holds c landR e) ∗ atRest c cellHLoc ∗ (∃ e, holds c landH e) ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a10 fullShare (added k0_pay1 dz w) ∗ flyR c (tileAt t) fR ∗ flyH c (tileAt t) fH ∗ (∃ W', owes (c : Thread nD τ) 0 W')) -∗ K ⟨⟩))
      ⊢ wp frame (wpE (defs₀ (F := F)) Variants.none c none) Set.univ (cc0_du_norm1_b (grid0.coords t) a2 w2 a3 w3 fromR (Memref.isWhole_whole _) fromH (Memref.isWhole_whole _) a6 w6 a7 w7 a8 w8 a9 w9 a10 w10 a11 w11 landR (Memref.isWhole_whole _) landH (Memref.isWhole_whole _) cc0_scratch2) K := by
  haveI : Fact (Starts t) := ⟨hc0⟩; haveI : Fact (¬Clears t) := ⟨hc1⟩; haveI : Fact (Adds t) := ⟨hc2⟩; haveI : Fact (¬Finishes t) := ⟨hc3⟩
  simp only [cc0_du_norm1_b_eq_skeleton]; unfold cc0_du_norm1_b_skel
  unfold owns flyR flyH
  iintro ⟨⟨%f0, %hf0, H0⟩, ⟨%f1, %hf1, H1⟩, ⟨%f2, %hf2, H2⟩, ⟨%f3, %hf3, H3⟩, ⟨%d4, %f4, -, H4⟩, HsR, HsH, HR, ⟨%eR, HlR⟩, HH, ⟨%eH, HlH⟩, HW, Hk⟩
  subst hf0 hf1 hf2 hf3
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans ((added_after ((congrArg allT (read_all a10.view _ _ _ _)).trans (allT_eq _)) _ _))
  isplitl [HR]
  · iexists _; isplitr; swap; · iexact HR
    ipureintro; exact View.read_writes_whole _ _ _
  isplitl [HH]
  · iexists _; isplitr; swap; · iexact HH
    ipureintro; exact View.read_writes_whole _ _ _
  iexists _; iexact HW

set_option maxHeartbeats 2000000 in
/-- A step that is neither the first nor the last of its tile. -/
theorem stepB (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .hbm S4224x2048 .f32) (w8 : a8.IsWhole) (a9 : Memref sig .tc .vmem S1x2048 .f32) (w9 : a9.IsWhole) (a10 : Memref sig .tc .vmem S704x2048 .f32) (w10 : a10.IsWhole) (a11 : Memref sig .tc .vmem S1x2048 .f32) (w11 : a11.IsWhole) (hc0 : ¬Starts t) (hc1 : ¬Clears t) (hc2 : Adds t) (hc3 : ¬Finishes t)
    (dz : Vec F S704x1280 .bf16) (w : Vec F S1x2048x1280 .bf16) (r : Vec F S704x1 .f32) (g : Vec F S1x2048 .f32) (du : Vec F S704x2048 .f32)
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ owns (c : Thread nD τ) a10 fullShare du ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a10 fullShare (added du dz w) ∗ (∃ W', owes (c : Thread nD τ) 0 W')) -∗ K ⟨⟩))
      ⊢ wp frame (wpE (defs₀ (F := F)) Variants.none c none) Set.univ (cc0_du_norm1_b (grid0.coords t) a2 w2 a3 w3 fromR (Memref.isWhole_whole _) fromH (Memref.isWhole_whole _) a6 w6 a7 w7 a8 w8 a9 w9 a10 w10 a11 w11 landR (Memref.isWhole_whole _) landH (Memref.isWhole_whole _) cc0_scratch2) K := by
  haveI : Fact (¬Starts t) := ⟨hc0⟩; haveI : Fact (¬Clears t) := ⟨hc1⟩; haveI : Fact (Adds t) := ⟨hc2⟩; haveI : Fact (¬Finishes t) := ⟨hc3⟩
  simp only [cc0_du_norm1_b_eq_skeleton]; unfold cc0_du_norm1_b_skel
  unfold owns
  iintro ⟨⟨%f0, %hf0, H0⟩, ⟨%f1, %hf1, H1⟩, ⟨%f2, %hf2, H2⟩, ⟨%f3, %hf3, H3⟩, ⟨%f4, %hf4, H4⟩, HW, Hk⟩
  subst hf0 hf1 hf2 hf3 hf4
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact (read_all _ _ _ _ _).trans (added_at _ _ _)
  iexists _; iexact HW

end Cert.Kernel15Ideal.NormBwd

end
-- ==== Proof.NormBStepD.lean ====
/-
  One run of the body of the first norm's gradient kernel, lower half of the rows: the last step of a tile.
-/

module

public import proofs.«01_k».proof.Proof.NormBNames

@[expose] public section

set_option maxRecDepth 16384

noncomputable section

namespace Cert.Kernel15Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal.Gen

variable {F : FTy → Type} [FloatOps F]

local notation "𝕄" => MT nD τ sig Unit (Elt F) ℕ (Pipeline.UD sig nD τ) ℕ

set_option maxHeartbeats 2000000 in
/-- The last step of a tile. -/
theorem stepD (c : Dev nD) (t : Fin cfg0.N) (a2 : Memref sig .tc .vmem S704x1280 .bf16) (w2 : a2.IsWhole) (a3 : Memref sig .tc .vmem S1x2048x1280 .bf16) (w3 : a3.IsWhole) (a6 : Memref sig .tc .vmem S704x1 .f32) (w6 : a6.IsWhole) (a7 : Memref sig .tc .vmem S1x2048 .f32) (w7 : a7.IsWhole) (a8 : Memref sig .tc .hbm S4224x2048 .f32) (w8 : a8.IsWhole) (a9 : Memref sig .tc .vmem S1x2048 .f32) (w9 : a9.IsWhole) (a10 : Memref sig .tc .vmem S704x2048 .f32) (w10 : a10.IsWhole) (a11 : Memref sig .tc .vmem S1x2048 .f32) (w11 : a11.IsWhole) (hc0 : ¬Starts t) (hc1 : ¬Clears t) (hc2 : Adds t) (hc3 : Finishes t)
    (dz : Vec F S704x1280 .bf16) (w : Vec F S1x2048x1280 .bf16) (r : Vec F S704x1 .f32) (g : Vec F S1x2048 .f32) (du : Vec F S704x2048 .f32) (dg : Vec F S1x2048 .f32) (fR : BufOf (F := F) c (boxR (tileAt t))) (fH : BufOf (F := F) c (boxH (tileAt t)))
    (W : Waits sig Unit) (K : PUnit → sProp 𝕄) :
    iprop(owns (c : Thread nD τ) a2 fullShare dz ∗ owns (c : Thread nD τ) a3 fullShare w ∗ owns (c : Thread nD τ) a6 fullShare r ∗ owns (c : Thread nD τ) a7 fullShare g ∗ owns (c : Thread nD τ) a10 fullShare du ∗ owns (c : Thread nD τ) a11 fullShare dg ∗ flyR c (tileAt t) fR ∗ flyH c (tileAt t) fH ∗ owes (c : Thread nD τ) 0 W
        ∗ (iprop(owns (c : Thread nD τ) a2 fullShare dz ∗ owns (c : Thread nD τ) a3 fullShare w ∗ owns (c : Thread nD τ) a6 fullShare r ∗ owns (c : Thread nD τ) a7 fullShare g ∗ owns (c : Thread nD τ) a10 fullShare (outTile g (added du dz w) ((boxH (tileAt t)).view.read (Elt F) fH) r ((boxR (tileAt t)).view.read (Elt F) fR)) ∗ owns (c : Thread nD τ) a11 fullShare (k0_pay8 dg (gSum (added du dz w) ((boxH (tileAt t)).view.read (Elt F) fH) r k0_pay3 4)) ∗ (holds c (boxR (tileAt t)) fR) ∗ (holds c (boxH (tileAt t)) fH) ∗ atRest c cellRLoc ∗ (∃ e, holds c landR e) ∗ atRest c cellHLoc ∗ (∃ e, holds c landH e) ∗ (∃ W', owes (c : Thread nD τ) 0 W')) -∗ K ⟨⟩))
      ⊢ wp frame (wpE (defs₀ (F := F)) Variants.none c none) Set.univ (cc0_du_norm1_b (grid0.coords t) a2 w2 a3 w3 fromR (Memref.isWhole_whole _) fromH (Memref.isWhole_whole _) a6 w6 a7 w7 a8 w8 a9 w9 a10 w10 a11 w11 landR (Memref.isWhole_whole _) landH (Memref.isWhole_whole _) cc0_scratch2) K := by
  haveI : Fact (¬Starts t) := ⟨hc0⟩; haveI : Fact (¬Clears t) := ⟨hc1⟩; haveI : Fact (Adds t) := ⟨hc2⟩; haveI : Fact (Finishes t) := ⟨hc3⟩
  simp only [cc0_du_norm1_b_eq_skeleton]; unfold cc0_du_norm1_b_skel
  unfold owns flyR flyH
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%eR, %hR, HR⟩, ⟨%eH, %hH, HH⟩, HW, Hk⟩
  subst hf0 hf1 hf2 hf3 hf4 hf6
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact hL4.trans (tile_done _ rfl (allG_eq _) ((read_all a10.view _ _ _ _).trans (added_at _ _ _)) hH hR)
  isplitl [H6]
  · iexists _; isplitr; swap; · iexact H6
    ipureintro; exact (read_all _ _ _ _ _).trans (sum_done _ rfl (allG_eq _) ((read_all a10.view _ _ _ _).trans (added_at _ _ _)) hH)
  isplitl [HR_src]
  · iexact HR_src
  isplitl [HH_src]
  · iexact HH_src
  isplitl [HR]
  · iexact HR
  isplitl [HR_dst]
  · iexists _; iexact HR_dst
  isplitl [HH]
  · iexact HH
  isplitl [HH_dst]
  · iexists _; iexact HH_dst
  iexists _; iexact HW

end Cert.Kernel15Ideal.NormBwd

end
-- ==== Proof.NormBCall.lean ====
/-
  The whole call of the first norm's gradient kernel, lower half of the rows. What every step leaves is named: a tile's sum of products, the
  finished tile, and the sum for the scale. Every step carries on what holds between two steps, and the call ends with
  the three results holding what the steps wrote.
-/

module

public import proofs.«01_k».proof.Proof.NormBStepA
public import proofs.«01_k».proof.Proof.NormBStepD

public import Idealize.ShloMosaic.Lib.Pipeline.TableIdle

@[expose] public section

set_option maxRecDepth 16384

noncomputable section

namespace Cert.Kernel15Ideal.NormBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel15Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the steps leave -/

/-- Step `k` of the 24, and a tile's last step. -/
def stp (k : ℕ) : Fin cfg0.N := ⟨k % 24, by rw [show cfg0.N = 24 from N_0]; omega⟩
def lastOf (u : Fin 3) : Fin cfg0.N := stp (8 * u.val + 7)
theorem lt24 (t : Fin cfg0.N) : t.val < 24 := lt_of_lt_of_eq t.isLt (show cfg0.N = 24 from N_0)
theorem stp_val (t : Fin cfg0.N) : stp t.val = t := Fin.ext (Nat.mod_eq_of_lt (lt24 t))
theorem lastOf_at (t : Fin cfg0.N) (h : t.val % 8 = 7) : lastOf (tileAt t) = t :=
  (congrArg stp (by show 8 * (t.val / 8) + 7 = t.val; omega)).trans (stp_val t)

/-- The blocks of the five staged arrays at a step. -/
def dzAt (c : Dev nD) (t : Fin cfg0.N) : Vec F S704x1280 .bf16 := iblk m c 0 t
def wAt (c : Dev nD) (t : Fin cfg0.N) : Vec F S1x2048x1280 .bf16 := iblk m c 1 t
def rAt (c : Dev nD) (t : Fin cfg0.N) : Vec F S704x1 .f32 := iblk m c 2 t
def gAt (c : Dev nD) (t : Fin cfg0.N) : Vec F S1x2048 .f32 := iblk m c 3 t
def dg0At (c : Dev nD) (t : Fin cfg0.N) : Vec F S1x2048 .f32 := iblk m c 4 t
/-- A tile's rows of the two arrays copied from. -/
def srcR (c : Dev nD) (u : Fin 3) : BufOf (F := F) c (boxR u) := V m c main_arg2
def srcH (c : Dev nD) (u : Fin 3) : BufOf (F := F) c (boxH u) := V m c main_arg3
def rowsR (c : Dev nD) (u : Fin 3) : Vec F S704x2048 .f32 := (boxR u).view.read (Elt F) (srcR m c u)
def rowsH (c : Dev nD) (u : Fin 3) : Vec F S704x2048 .f32 := (boxH u).view.read (Elt F) (srcH m c u)

/-- The sum of a tile's products before step `k`: cleared at each tile's first step. -/
def duSum (c : Dev nD) : ℕ → Vec F S704x2048 .f32
  | 0 => k0_pay1
  | k + 1 => added (if k % 8 = 0 then k0_pay1 else duSum c k) (dzAt m c (stp k)) (wAt m c (stp k))
/-- A finished tile. -/
def tileEnd (c : Dev nD) (u : Fin 3) : Vec F S704x2048 .f32 :=
  outTile (gAt m c (lastOf u)) (duSum m c (8 * u.val + 8)) (rowsH m c u) (rAt m c (lastOf u)) (rowsR m c u)
/-- A tile's part of the scale's gradient, and the sum of the first `k` tiles' parts. -/
def scalePart (c : Dev nD) (u : Fin 3) : FVec F S1x2048 .f32 :=
  gSum (duSum m c (8 * u.val + 8)) (rowsH m c u) (rAt m c (lastOf u)) k0_pay3 4
def dgSum (c : Dev nD) : ℕ → Vec F S1x2048 .f32
  | 0 => dg0At m c (stp 0)
  | k + 1 => k0_pay8 (dgSum c k) (scalePart m c (Fin.ofNat 3 k))

theorem duSum_first (c : Dev nD) (t : Fin cfg0.N) (h : t.val % 8 = 0) :
    duSum m c (t.val + 1) = added k0_pay1 (iblk m c 0 t) (iblk m c 1 t) := by
  show added _ (dzAt m c (stp t.val)) (wAt m c (stp t.val)) = _; rw [if_pos h, stp_val]; rfl
theorem duSum_next (c : Dev nD) (t : Fin cfg0.N) (h : t.val % 8 ≠ 0) :
    duSum m c (t.val + 1) = added (duSum m c t.val) (iblk m c 0 t) (iblk m c 1 t) := by
  show added _ (dzAt m c (stp t.val)) (wAt m c (stp t.val)) = _; rw [if_neg h, stp_val]; rfl
theorem duSum_last (c : Dev nD) (t : Fin cfg0.N) (h : t.val % 8 = 7) :
    duSum m c (8 * (tileAt t).val + 8) = added (duSum m c t.val) (iblk m c 0 t) (iblk m c 1 t) :=
  (congrArg (duSum m c) (by show 8 * (t.val / 8) + 8 = t.val + 1; omega)).trans (duSum_next m c t (by omega))
theorem tileEnd_at (c : Dev nD) (t : Fin cfg0.N) (h : t.val % 8 = 7) : tileEnd m c (tileAt t)
    = outTile (iblk m c 3 t) (added (duSum m c t.val) (iblk m c 0 t) (iblk m c 1 t)) ((boxH (tileAt t)).view.read (Elt F) (srcH m c (tileAt t)))
        (iblk m c 2 t) ((boxR (tileAt t)).view.read (Elt F) (srcR m c (tileAt t))) := by
  unfold tileEnd; rw [lastOf_at t h, duSum_last m c t h]; rfl
theorem dgSum_at (c : Dev nD) (t : Fin cfg0.N) (h : t.val % 8 = 7) : dgSum m c ((t.val + 1) / 8)
    = k0_pay8 (dgSum m c (t.val / 8)) (gSum (added (duSum m c t.val) (iblk m c 0 t) (iblk m c 1 t))
        ((boxH (tileAt t)).view.read (Elt F) (srcH m c (tileAt t))) (iblk m c 2 t) k0_pay3 4) := by
  have ht := lt24 t
  rw [show (t.val + 1) / 8 = t.val / 8 + 1 by omega]
  show k0_pay8 _ (scalePart m c (Fin.ofNat 3 (t.val / 8))) = _
  rw [show Fin.ofNat 3 (t.val / 8) = tileAt t from Fin.ext (Nat.mod_eq_of_lt (show t.val / 8 < 3 by omega))]
  unfold scalePart; rw [lastOf_at t h, duSum_last m c t h]; rfl
theorem dgSum_kept (c : Dev nD) (t : Fin cfg0.N) (h : t.val % 8 ≠ 7) : dgSum m c ((t.val + 1) / 8) = dgSum m c (t.val / 8) :=
  congrArg (dgSum m c) (by omega)

theorem dg_first (c : Dev nD) (t : Fin cfg0.N) (h : t.val = 0) : iblk m c 4 t = dgSum m c ((t.val + 1) / 8) := by
  have e : stp 0 = t := (congrArg stp h.symm).trans (stp_val t)
  have e1 : (t.val + 1) / 8 = 0 := by omega
  rw [e1]
  show _ = dg0At m c (stp 0)
  rw [e]; rfl

/-! ## What holds between two steps -/

/-- What is left of the two arrays while tile `u`'s rows are being copied. -/
def restR (c : Dev nD) (u : Fin 3) : sProp 𝕄 := fromR.view.loc (c : Thread nD τ) ↦[fromR.view.set \ (boxR u).view.set]{fullShare} (V m c main_arg2)
def restH (c : Dev nD) (u : Fin 3) : sProp 𝕄 := fromH.view.loc (c : Thread nD τ) ↦[fromH.view.set \ (boxH u).view.set]{fullShare} (V m c main_arg3)
theorem takeR (c : Dev nD) (u : Fin 3) : (holds c fromR (V m c main_arg2) : sProp 𝕄) ⊢ iprop(holds c (boxR u) (srcR m c u) ∗ restR m c u) :=
  (pointsTo_split_subset (View.set_slice_subset _ _)).1
theorem giveR (c : Dev nD) (u : Fin 3) : iprop(holds c (boxR u) (srcR m c u) ∗ restR m c u) ⊢ (holds c fromR (V m c main_arg2) : sProp 𝕄) :=
  (pointsTo_split_subset (View.set_slice_subset _ _)).2
theorem takeH (c : Dev nD) (u : Fin 3) : (holds c fromH (V m c main_arg3) : sProp 𝕄) ⊢ iprop(holds c (boxH u) (srcH m c u) ∗ restH m c u) :=
  (pointsTo_split_subset (View.set_slice_subset _ _)).1
theorem giveH (c : Dev nD) (u : Fin 3) : iprop(holds c (boxH u) (srcH m c u) ∗ restH m c u) ⊢ (holds c fromH (V m c main_arg3) : sProp 𝕄) :=
  (pointsTo_split_subset (View.set_slice_subset _ _)).2

/-- Between two tiles: nothing under way. -/
def atEase (c : Dev nD) : sProp 𝕄 :=
  iprop((∃ e, holds c landR e) ∗ (∃ e, holds c landH e) ∗ atRest c cellRLoc ∗ atRest c cellHLoc
    ∗ holds c fromR (V m c main_arg2) ∗ holds c fromH (V m c main_arg3))
/-- Within tile `u`: both copies under way. -/
def copying (c : Dev nD) (u : Fin 3) : sProp 𝕄 :=
  iprop(flyR c u (srcR m c u) ∗ flyH c u (srcH m c u) ∗ restR m c u ∗ restH m c u)
/-- Before step `k`: the copies and the generator register. -/
def heldAt (c : Dev nD) (k : ℕ) : sProp 𝕄 :=
  iprop((∃ r, prngReg c r) ∗ (if k % 8 = 0 then atEase m c else copying m c (Fin.ofNat 3 (k / 8))))
theorem held_ease (c : Dev nD) (k : ℕ) (h : k % 8 = 0) : heldAt m c k = iprop((∃ r, prngReg c r) ∗ atEase m c) := by
  unfold heldAt; rw [if_pos h]
theorem held_fly (c : Dev nD) (t : Fin cfg0.N) (k : ℕ) (h : k % 8 ≠ 0) (hk : k / 8 = t.val / 8) :
    heldAt m c k = iprop((∃ r, prngReg c r) ∗ copying m c (tileAt t)) := by
  have ht := lt24 t
  unfold heldAt; rw [if_neg h, hk, show Fin.ofNat 3 (t.val / 8) = tileAt t from Fin.ext (Nat.mod_eq_of_lt (show t.val / 8 < 3 by omega))]

/-- The windows, step by step. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => if t.val % 8 = 7 then tileEnd m c (tileAt t) else duSum m c (t.val + 1)
    | ⟨6, _⟩ => dgSum m c ((t.val + 1) / 8)
  Φ t := heldAt m c t.val
  q _ := fullShare
  owed _ := 0

theorem A_eq (c : Dev nD) (w : Fin cfg0.W) : (dats m 0 c).A w = V m c (Pipeline.arrRef spec0 w) := by
  dsimp only [dats]
theorem held_before (c : Dev nD) (t : Fin cfg0.N) : (dats m 0 c).Φ t.castSucc = heldAt m c t.val := by
  dsimp only [dats]; simp only [Fin.coe_castSucc]
theorem held_after (c : Dev nD) (t : Fin cfg0.N) : (dats m 0 c).Φ t.succ = heldAt m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = if t.val % 8 = 7 then tileEnd m c (tileAt t) else duSum m c (t.val + 1) := by dsimp only [dats]
theorem after_5_end (c : Dev nD) (t : Fin cfg0.N) (h : t.val % 8 = 7) : (dats m 0 c).after 5 t = tileEnd m c (tileAt t) := by rw [after_5, if_pos h]
theorem after_5_mid (c : Dev nD) (t : Fin cfg0.N) (h : t.val % 8 ≠ 7) : (dats m 0 c).after 5 t = duSum m c (t.val + 1) := by rw [after_5, if_neg h]
theorem after_6 (c : Dev nD) (t : Fin cfg0.N) : (dats m 0 c).after 6 t = dgSum m c ((t.val + 1) / 8) := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-! ### When the two outputs are written -/

theorem idle_5 : ∀ t : Fin cfg0.N, cfg0.idle 5 (cfg0.grid.coords t) = false :=
  (by decide +kernel : ∀ t : Fin grid0.N, idle0 5 (grid0.coords t) = false)
theorem idle_6 : ∀ t : Fin cfg0.N, cfg0.idle 6 (cfg0.grid.coords t) = decide (t.val ≠ 0 ∧ t.val % 8 ≠ 7) :=
  (by decide +kernel : ∀ t : Fin grid0.N, idle0 6 (grid0.coords t) = decide (t.val ≠ 0 ∧ t.val % 8 ≠ 7))
theorem flush_5 (t : Fin cfg0.N) : (cfg0.win 5).flush t = decide (t.val % 8 = 7) := by
  rw [Bool.eq_iff_iff, flush0_5, decide_eq_true_iff]
theorem flush_6 (t : Fin cfg0.N) : (cfg0.win 6).flush t = decide (t.val % 24 = 23) := by
  rw [Bool.eq_iff_iff, flush0_6, decide_eq_true_iff]
theorem fresh_5 (n : ℕ) (h : n ≤ cfg0.N) : cfg0.fresh 5 n = decide (n % 8 = 0) :=
  Cfg.fresh_tab cfg0 5 (fun n => decide (n % 8 = 0)) rfl (fun t => by
    rw [idle_5, flush_5, Bool.false_and, Bool.or_false, decide_eq_decide]; omega) n h
theorem fresh_6 (n : ℕ) (h : n ≤ cfg0.N) : cfg0.fresh 6 n = decide (n % 24 = 0) :=
  Cfg.fresh_tab cfg0 6 (fun n => decide (n % 24 = 0)) rfl (fun t => by
    have ht := lt24 t
    rw [idle_6, flush_6, Bool.eq_iff_iff]; simp only [Bool.or_eq_true, Bool.and_eq_true, decide_eq_true_iff]; omega) n h

theorem before_5 (c : Dev nD) (t : Fin cfg0.N) (h : t.val % 8 ≠ 0) (d) : (dats m 0 c).before 5 t d = duSum m c t.val := by
  rw [Dat.before_out_traj _ 5 rfl (fun _ _ => rfl) (fun t _ hi _ => absurd hi (by rw [idle_5]; exact Bool.false_ne_true)) t.val t rfl d,
    fresh_5 _ (le_of_lt t.isLt), if_neg (by rw [decide_eq_true_iff]; exact h), after_5_mid _ _ _ (by dsimp only; omega)]
  exact congrArg (duSum m c) (by dsimp only; omega)
theorem before_6 (c : Dev nD) (t : Fin cfg0.N) (h : t.val ≠ 0) (d) : (dats m 0 c).before 6 t d = dgSum m c (t.val / 8) := by
  have ht := lt24 t
  rw [Dat.before_out_traj _ 6 rfl (fun _ _ => rfl) (fun t h0 hi _ => by
      rw [idle_6, decide_eq_true_iff] at hi
      rw [after_6, after_6]; exact congrArg (dgSum m c) (by dsimp only; omega)) t.val t rfl d,
    fresh_6 _ (le_of_lt t.isLt), if_neg (by rw [decide_eq_true_iff]; omega), after_6]
  exact congrArg (dgSum m c) (by dsimp only; omega)

/-- What a step gives back of an output's window: what it wrote, or, where it writes nothing, what it found. -/
def back (c : Dev nD) (w : Fin cfg0.W) (t : Fin cfg0.N) : sProp 𝕄 := (dats m 0 c).leavesExact w t
theorem back_5 (c : Dev nD) (t : Fin cfg0.N) : back m c 5 t = (owns (c : Thread nD τ) (stg5 t) fullShare ((dats m 0 c).after 5 t)) := by
  unfold back Dat.leavesExact; rw [idle_5]
theorem back_6_at (c : Dev nD) (t : Fin cfg0.N) (h : t.val = 0 ∨ t.val % 8 = 7) : back m c 6 t = (owns (c : Thread nD τ) (stg6 t) fullShare ((dats m 0 c).after 6 t)) := by
  unfold back Dat.leavesExact; rw [idle_6, decide_eq_false (by omega)]
theorem back_6_mid (c : Dev nD) (t : Fin cfg0.N) (h0 : t.val ≠ 0) (h : t.val % 8 ≠ 7) :
    back m c 6 t = iprop(∃ d, owns (c : Thread nD τ) (stg6 t) fullShare ((dats m 0 c).before 6 t d)) :=
  Dat.leavesExact_idle _ 6 t (by rw [idle_6]; exact decide_eq_true ⟨h0, h⟩) (by rw [flush_6]; exact decide_eq_false (by omega))

/-! ## Every step carries it on -/

/-- What the body is given at step `t`, window by window, -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))
/-- and what it gives back. -/
def givenBack (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ back m c 5 t ∗ back m c 6 t)

set_option maxHeartbeats 3200000 in
theorem step_sound (c : Dev nD) (t : Fin cfg0.N) :
    given m c t ⊢ wp frame (wpE (defs₀ (F := F)) Variants.none c none) Set.univ (bodyAt0 t) (fun _ => givenBack m c t) := by
  unfold given givenBack bodyAt0
  simp only [before_0, before_1, before_2, before_3, before_4]
  rw [after_0, after_1, after_2, after_3, after_4, back_5]
  rw [held_before m c t, held_after m c t]
  unfold Dat.owesAt Pipeline.owesWithin
  rw [show (dats m 0 c).owed t.castSucc = 0 from rfl, show (dats m 0 c).owed t.succ = 0 from rfl]
  have hN : t.val < 24 := lt24 t
  by_cases h0 : t.val % 8 = 0
  · by_cases hz : t.val = 0
    · rw [back_6_at m c t (Or.inl hz), after_6]
      rw [held_ease m c t.val h0, held_fly m c t (t.val + 1) (by omega) (by omega), after_5_mid m c t (by omega), duSum_first m c t h0]
      unfold atEase copying
      iintro ⟨⟨Hg, HlR, HlH, HR, HH, HsR, HsH⟩, ⟨%W, -, HW⟩, ⟨%d0, H0⟩, ⟨%d1, H1⟩, ⟨%d2, H2⟩, ⟨%d3, H3⟩, ⟨%d7, H7⟩, ⟨%d4, H4⟩, ⟨%d6, H6⟩⟩
      ihave HtR := (takeR m c (tileAt t)) $$ HsR
      icases HtR with ⟨HsR, HrR⟩
      ihave HtH := (takeH m c (tileAt t)) $$ HsH
      icases HtH with ⟨HsH, HrH⟩
      iapply (stepA0 c t _ _ _ _ _ _ _ _ _ _ _ _ _ _ _ _ ((starts_iff t).mpr h0) ((clears_iff t).mpr hz) (adds_all t) (fun h => absurd ((finishes_iff t).mp h) (by omega)) (iblk m c 0 t) (iblk m c 1 t) (iblk m c 2 t) (iblk m c 3 t) (iblk m c 4 t) (srcR m c (tileAt t)) (srcH m c (tileAt t)) W _)
      isplitl [H0]; · iexact H0
      isplitl [H1]; · iexact H1
      isplitl [H2]; · iexact H2
      isplitl [H3]; · iexact H3
      isplitl [H7]; · iexact H7
      isplitl [H4]; · iexists _; iexact H4
      isplitl [H6]; · iexists _; iexact H6
      isplitl [HsR]; · iexact HsR
      isplitl [HsH]; · iexact HsH
      isplitl [HR]; · iexact HR
      isplitl [HlR]; · iexact HlR
      isplitl [HH]; · iexact HH
      isplitl [HlH]; · iexact HlH
      isplitl [HW]; · iexact HW
      iintro ⟨H0, H1, H2, H3, H7, H4, H6, HR, HH, ⟨%W', HW'⟩⟩
      isplitl [Hg HR HH HrR HrH]
      · isplitl [Hg]; · iexact Hg
        isplitl [HR]; · iexact HR
        isplitl [HH]; · iexact HH
        isplitl [HrR]; · iexact HrR
        iexact HrH
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H7]; · iexact H7
      isplitl [H4]; · iexact H4
      iapply (Entails.of_eq (congrArg (fun x => (owns (c : Thread nD τ) (stg6 t) fullShare x : sProp 𝕄)) (dg_first m c t hz))); iexact H6
    · rw [back_6_mid m c t hz (by omega)]
      rw [held_ease m c t.val h0, held_fly m c t (t.val + 1) (by omega) (by omega), after_5_mid m c t (by omega), duSum_first m c t h0]
      unfold atEase copying
      iintro ⟨⟨Hg, HlR, HlH, HR, HH, HsR, HsH⟩, ⟨%W, -, HW⟩, ⟨%d0, H0⟩, ⟨%d1, H1⟩, ⟨%d2, H2⟩, ⟨%d3, H3⟩, ⟨%d7, H7⟩, ⟨%d4, H4⟩, ⟨%d6, H6⟩⟩
      ihave HtR := (takeR m c (tileAt t)) $$ HsR
      icases HtR with ⟨HsR, HrR⟩
      ihave HtH := (takeH m c (tileAt t)) $$ HsH
      icases HtH with ⟨HsH, HrH⟩
      iapply (stepA c t _ _ _ _ _ _ _ _ _ _ _ _ _ _ _ _ ((starts_iff t).mpr h0) (fun h => absurd ((clears_iff t).mp h) (by omega)) (adds_all t) (fun h => absurd ((finishes_iff t).mp h) (by omega)) (iblk m c 0 t) (iblk m c 1 t) (iblk m c 2 t) (iblk m c 3 t) (srcR m c (tileAt t)) (srcH m c (tileAt t)) W _)
      isplitl [H0]; · iexact H0
      isplitl [H1]; · iexact H1
      isplitl [H2]; · iexact H2
      isplitl [H3]; · iexact H3
      isplitl [H4]; · iexists _; iexact H4
      isplitl [HsR]; · iexact HsR
      isplitl [HsH]; · iexact HsH
      isplitl [HR]; · iexact HR
      isplitl [HlR]; · iexact HlR
      isplitl [HH]; · iexact HH
      isplitl [HlH]; · iexact HlH
      isplitl [HW]; · iexact HW
      iintro ⟨H0, H1, H2, H3, H4, HR, HH, ⟨%W', HW'⟩⟩
      isplitl [Hg HR HH HrR HrH]
      · isplitl [Hg]; · iexact Hg
        isplitl [HR]; · iexact HR
        isplitl [HH]; · iexact HH
        isplitl [HrR]; · iexact HrR
        iexact HrH
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H7]; · iexact H7
      isplitl [H4]; · iexact H4
      iexists _; iexact H6
  by_cases h7 : t.val % 8 = 7
  · simp only [before_5 m c t h0, before_6 m c t (by omega)]
    rw [held_fly m c t t.val h0 rfl, held_ease m c (t.val + 1) (by omega), after_5_end m c t h7, back_6_at m c t (Or.inr h7), after_6, tileEnd_at m c t h7, dgSum_at m c t h7]
    unfold atEase copying
    iintro ⟨⟨Hg, HR, HH, HrR, HrH⟩, ⟨%W, -, HW⟩, ⟨%d0, H0⟩, ⟨%d1, H1⟩, ⟨%d2, H2⟩, ⟨%d3, H3⟩, ⟨%d7, H7⟩, ⟨%d4, H4⟩, ⟨%d6, H6⟩⟩
    iapply (stepD c t _ _ _ _ _ _ _ _ _ _ _ _ _ _ _ _ (fun h => absurd ((starts_iff t).mp h) (by omega)) (fun h => absurd ((clears_iff t).mp h) (by omega)) (adds_all t) ((finishes_iff t).mpr h7) (iblk m c 0 t) (iblk m c 1 t) (iblk m c 2 t) (iblk m c 3 t) (duSum m c t.val) (dgSum m c (t.val / 8)) (srcR m c (tileAt t)) (srcH m c (tileAt t)) W _)
    isplitl [H0]; · iexact H0
    isplitl [H1]; · iexact H1
    isplitl [H2]; · iexact H2
    isplitl [H3]; · iexact H3
    isplitl [H4]; · iexact H4
    isplitl [H6]; · iexact H6
    isplitl [HR]; · iexact HR
    isplitl [HH]; · iexact HH
    isplitl [HW]; · iexact HW
    iintro ⟨H0, H1, H2, H3, H4, H6, HsR, HsH, HR, HlR, HH, HlH, ⟨%W', HW'⟩⟩
    isplitl [Hg HsR HsH HR HlR HH HlH HrR HrH]
    · isplitl [Hg]; · iexact Hg
      isplitl [HlR]; · iexact HlR
      isplitl [HlH]; · iexact HlH
      isplitl [HR]; · iexact HR
      isplitl [HH]; · iexact HH
      isplitl [HsR HrR]
      · iapply (giveR m c (tileAt t))
        isplitl [HsR]; · iexact HsR
        iexact HrR
      iapply (giveH m c (tileAt t))
      isplitl [HsH]; · iexact HsH
      iexact HrH
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H7]; · iexact H7
    isplitl [H4]; · iexact H4
    iexact H6
  simp only [before_5 m c t h0]
  rw [held_fly m c t t.val h0 rfl, held_fly m c t (t.val + 1) (by omega) (by omega), after_5_mid m c t h7, duSum_next m c t h0, back_6_mid m c t (by omega) h7]
  iintro ⟨HΦ, ⟨%W, -, HW⟩, ⟨%d0, H0⟩, ⟨%d1, H1⟩, ⟨%d2, H2⟩, ⟨%d3, H3⟩, ⟨%d7, H7⟩, ⟨%d4, H4⟩, ⟨%d6, H6⟩⟩
  iapply (stepB c t _ _ _ _ _ _ _ _ _ _ _ _ _ _ _ _ (fun h => absurd ((starts_iff t).mp h) (by omega)) (fun h => absurd ((clears_iff t).mp h) (by omega)) (adds_all t) (fun h => absurd ((finishes_iff t).mp h) (by omega)) (iblk m c 0 t) (iblk m c 1 t) (iblk m c 2 t) (iblk m c 3 t) (duSum m c t.val) W _)
  isplitl [H0]; · iexact H0
  isplitl [H1]; · iexact H1
  isplitl [H2]; · iexact H2
  isplitl [H3]; · iexact H3
  isplitl [H4]; · iexact H4
  isplitl [HW]; · iexact HW
  iintro ⟨H0, H1, H2, H3, H4, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H7]; · iexact H7
  isplitl [H4]; · iexact H4
  iexists _; iexact H6

theorem defs₀_row (t : Fin cfg0.N) : defs₀ (F := F) .tc cfg0.body (cfg0.bodyArgs t (cfg0.slots t)) = bodyAt0 t := by
  unfold defs₀; rw [Defs.onTc_tc]

theorem steps_sound (c : Dev nD) : BodyObligation (dats (F := F) m 0 c) (defs₀ (F := F)) Variants.none () Set.univ := fun t => by
  rw [bigSep_W0, bigSep_W0, defs₀_row]
  exact triple_restated (step_sound m c t) rfl .rfl fun _ => .rfl

/-! ## The call -/

/-- The cells the copies are counted on. -/
def copyCells : Fin 2 → SemLoc sig := fun j => (![SemLoc.dma 11, SemLoc.dma 12] : Fin 2 → SemLoc sig) j
theorem copyCells_own : Pipeline.OwnSemFacts spec0 copyCells := by decide
theorem copyCells_eq (c : Dev nD) :
    (Pipeline.ownSems0 (Ix := Unit) (Name := ℕ) (U := Pipeline.UD sig nD τ) (Lvl := ℕ) (Val := Elt F) (τ := τ) copyCells c : sProp 𝕄)
      = iprop(atRest c cellRLoc ∗ atRest c cellHLoc) := by
  rw [Pipeline.ownSems0_eq_of_list c copyCells [0, 1] (by decide) (by decide)]; rfl
abbrev readRefs : Finset (Ref sig .tc) := {main_arg2, main_arg3}
theorem readRefs_sub : readRefs ⊆ Pipeline.restRefs sig spec0 := by decide

theorem ends_eq (c : Dev nD) :
    (Pipeline.ΦD copyCells spec0 readRefs (V m) c : sProp 𝕄)
      = iprop(((∃ e, holds c landR e) ∗ (∃ e, holds c landH e)) ∗ (∃ r, prngReg c r) ∗ (atRest c cellRLoc ∗ atRest c cellHLoc)
          ∗ holds c fromR (V m c main_arg2) ∗ holds c fromH (V m c main_arg3)) := by
  rw [Pipeline.ΦD_eq, scopedRest0_eq, copyCells_eq, BI.bigSep_insert (by decide), BI.bigSep_singleton]
  simp only [holds, landR, landH, fromR, fromH, Memref.view_whole, View.set_whole]
  rfl

theorem call_begins (c : Dev nD) : Pipeline.ΦD copyCells spec0 readRefs (V m) c ⊢ (dats m 0 c).Φ 0 := by
  rw [ends_eq, show (dats m 0 c).Φ 0 = heldAt m c 0 from rfl, held_ease m c 0 rfl]
  unfold atEase
  iintro ⟨⟨HlR, HlH⟩, Hg, ⟨HR, HH⟩, HsR, HsH⟩
  isplitl [Hg]; · iexact Hg
  isplitl [HlR]; · iexact HlR
  isplitl [HlH]; · iexact HlH
  isplitl [HR]; · iexact HR
  isplitl [HH]; · iexact HH
  isplitl [HsR]; · iexact HsR
  iexact HsH

theorem call_ends (c : Dev nD) : (dats m 0 c).Φ (Fin.last cfg0.N) ⊢ Pipeline.ΦD copyCells spec0 readRefs (V m) c := by
  rw [ends_eq, show (dats m 0 c).Φ (Fin.last cfg0.N) = heldAt m c grid0.N from rfl, held_ease m c _ (by rw [N_0])]
  unfold atEase
  iintro ⟨Hg, HlR, HlH, HR, HH, HsR, HsH⟩
  isplitl [HlR HlH]
  · isplitl [HlR]; · iexact HlR
    iexact HlH
  isplitl [Hg]; · iexact Hg
  isplitl [HR HH]
  · isplitl [HR]; · iexact HR
    iexact HH
  isplitl [HsR]; · iexact HsR
  iexact HsH

set_option maxHeartbeats 800000 in
theorem main_reaches : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program: it ends, the windows' arrays hold what the steps wrote, every other array is as the call found it,
    and every semaphore is at zero. -/
theorem call_run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 copyCells defs₀ Variants.none copyCells_own readRefs readRefs_sub m ρ main
    (hbody := fun c => (steps_sound m c).loose) (hshare := fun c => (dats m 0 c).share_full fun _ => rfl)
    (howed := fun _ _ => rfl) (V := V m) (hmain := main_reaches m) (hA := A_eq m) (hin := call_begins m) (hout := call_ends m)

/-- The arguments are unchanged and every semaphore is at zero. -/
theorem call_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c),
      ((h.1 c).1 4).trans (((dats m 0 c).arrAt_in 4 rfl _).trans ((A_eq m c 4).trans (V_main_arg6 m c)))⟩, h.2⟩) (call_run m ρ)

end Cert.Kernel15Ideal.NormBwd

end
-- ==== Proof.NormBRef.lean ====
/-
  The gradient through the first normalisation, lower half of the rows, as the reference computes it, read entry by entry.
-/

module

public import proofs.«01_k».proof.Proof.Gen.Reference15Ideal
public import proofs.«01_k».proof.Proof.Gen.Reference15Ideal.Run
public import proofs.«01_k».proof.Proof.Gen.Reference15Ideal.Read
public import proofs.«01_k».proof.Proof.NormForms
public import Idealize.ShloMosaic.Lib.Pointwise
public import Idealize.ShloMosaic.Lib.Claim
public import Idealize.ShloMosaic.Lib.Pipeline.ValueKit

@[expose] public section

set_option maxRecDepth 16384

noncomputable section

namespace Cert.Reference15Ideal.Read

open Idealize.ShloMosaic Cert.Reference15Ideal.Gen Cert.NormForms

variable (x0 : FVec Ideal S4224x10240 .f32) (x1 : FVec Ideal S2048x10240 .f32) (x2 x3 : FVec Ideal S4224x2048 .f32) (x4 : FVec Ideal S1x2048 .f32)

/-- The row of the whole arrays that is row `t` of this half. -/
def grow (t : Fin 2112) : Fin 4224 := ⟨2112 + t.val, by omega⟩

/-- This half's rows of the three arrays. -/
theorem v0_apply (t : Fin 2112) (j : Fin 2048) : val_main_v0 (F := Ideal) x3 (ix2 t j) = x3 (ix2 (grow t) j) := by
  unfold grow
  pointwise [val_main_v0]
theorem v17_apply (t : Fin 2112) (j : Fin 2048) : val_main_v17 (F := Ideal) x2 (ix2 t j) = x2 (ix2 (grow t) j) := by
  unfold grow
  pointwise [val_main_v17]
theorem v18_apply (t : Fin 2112) (j : Fin 10240) : val_main_v18 (F := Ideal) x0 (ix2 t j) = x0 (ix2 (grow t) j) := by
  unfold grow
  pointwise [val_main_v18]

/-- The gradient of the normalised rows: the product with the weight. -/
theorem v19_apply (t : Fin 2112) (j : Fin 2048) : val_main_v19 (F := Ideal) x0 x1 (ix2 t j) = ∑ k : Fin 10240, x0 (ix2 (grow t) k) * x1 (ix2 j k) := by
  pointwise [val_main_v19]
  exact Fin.sum_fin_congr fun k => congrArg₂ (· * ·) (v18_apply x0 t k) rfl

/-- The gradient of the scale. -/
theorem v22_apply (j : Fin 2048) : val_main_v22 (F := Ideal) x0 x1 x3 (ix2 0 j)
    = ∑ t : Fin 2112, x3 (ix2 (grow t) j) * val_main_v8 (F := Ideal) x3 (ix2 t 0) * val_main_v19 (F := Ideal) x0 x1 (ix2 t j) := by
  pointwise [val_main_v22, val_main_v21, val_main_cst_3, val_main_v20, val_main_v13, val_main_v12]
  exact Fin.sum_fin_congr fun t => congrArg₂ (· * ·) (congrArg₂ (· * ·) (v0_apply x3 t j) rfl) rfl

/-- A row's mean square, and a bit more. -/
theorem v7_apply (t : Fin 2112) : val_main_v7 (F := Ideal) x3 (ix2 t 0)
    = Ideal.div (∑ k : Fin 2048, x3 (ix2 (grow t) k) * x3 (ix2 (grow t) k)) (Ideal.ofBits .f32 0x45000000#32) + Ideal.ofBits .f32 0x358637BD#32 := by
  pointwise [val_main_v7, val_main_v5, val_main_v6, val_main_v4, val_main_v3, val_main_v2, val_main_v1, val_main_cst, val_main_cst_0, val_main_cst_1]
  refine congrArg₂ (· + ·) (congrArg₂ Ideal.div (Fin.sum_fin_congr fun k => congrArg₂ (· * ·) (v0_apply x3 t k) (v0_apply x3 t k)) rfl) rfl

/-- It is positive. -/
theorem v7_pos (t : Fin 2112) : 0 < val_main_v7 (F := Ideal) x3 (ix2 t 0) := by
  rw [v7_apply, const_2048, Ideal.div_coe (by norm_num)]
  exact lt_of_lt_of_le const_eps (le_add_of_nonneg_left (α := EReal) (mul_nonneg (Finset.sum_nonneg fun k _ => square_nonneg _) (EReal.coe_nonneg.mpr (by norm_num))))

theorem v8_apply (t : Fin 2112) : val_main_v8 (F := Ideal) x3 (ix2 t 0) = Ideal.rsqrt (val_main_v7 (F := Ideal) x3 (ix2 t 0)) := by
  pointwise [val_main_v8]

/-- The gradient of the rows, in the kernel's form. -/
theorem v39_apply (t : Fin 2112) (j : Fin 2048) : val_main_v39 (F := Ideal) x0 x1 x2 x3 x4 (ix2 t j)
    = x2 (ix2 (grow t) j) + val_main_v8 (F := Ideal) x3 (ix2 t 0) * (val_main_v19 (F := Ideal) x0 x1 (ix2 t j) * x4 (ix2 0 j))
      - x3 (ix2 (grow t) j) * (val_main_v8 (F := Ideal) x3 (ix2 t 0) * val_main_v8 (F := Ideal) x3 (ix2 t 0) * val_main_v8 (F := Ideal) x3 (ix2 t 0)
        * Ideal.div (∑ k : Fin 2048, val_main_v19 (F := Ideal) x0 x1 (ix2 t k) * x4 (ix2 0 k) * x3 (ix2 (grow t) k)) (Ideal.ofBits .f32 0x45000000#32)) := by
  rw [const_2048, v8_apply, two_forms _ _ _ _ (v7_pos x3 t), ← v17_apply x2, ← v0_apply x3]
  have hS : ∑ k : Fin 2048, val_main_v0 (F := Ideal) x3 (ix2 t k) * (val_main_v19 (F := Ideal) x0 x1 (ix2 t k) * x4 (ix2 0 k))
      = ∑ k : Fin 2048, val_main_v19 (F := Ideal) x0 x1 (ix2 t k) * x4 (ix2 0 k) * x3 (ix2 (grow t) k) := Fin.sum_fin_congr fun k => by rw [mul_comm, v0_apply]
  rw [← hS]
  pointwise [val_main_v39, val_main_v38, val_main_v37, val_main_v36, val_main_v35, val_main_v34, val_main_cst_6, val_main_v33, val_main_v32, val_main_cst_5, val_main_v31,
    val_main_v30, val_main_v29, val_main_v28, val_main_v27, val_main_v26, val_main_cst_4, val_main_v25, val_main_v24, val_main_v23, val_main_v11, val_main_v10, val_main_cst_2, val_main_v9]
  rw [Fin.sum_univ_one, const_2048, const_half, v8_apply, mul_comm (Ideal.rsqrt _) (val_main_v19 (F := Ideal) x0 x1 (ix2 t j) * _)]

/-- The whole array of rows: this half, and the other, which stays what it was. -/
theorem v41_apply (x5 : FVec Ideal S4224x2048 .f32) (t : Fin 2112) (j : Fin 2048) : val_main_v41 (F := Ideal) x0 x1 x2 x3 x4 x5 (ix2 (grow t) j) = val_main_v39 (F := Ideal) x0 x1 x2 x3 x4 (ix2 t j) := by
  have ht := t.isLt
  unfold grow
  pointwise [val_main_v41]
theorem v41_kept (x5 : FVec Ideal S4224x2048 .f32) (i : S4224x2048.Idx) (h : (i 0).val < 2112) : val_main_v41 (F := Ideal) x0 x1 x2 x3 x4 x5 i = x5 i := by
  pointwise [val_main_v41, val_main_v40]
  exact dif_pos h

/-- The scale's gradient, added to the earlier one. -/
theorem v42_apply (x6 : FVec Ideal S1x2048 .f32) (j : Fin 2048) : val_main_v42 (F := Ideal) x0 x1 x3 x6 (ix2 0 j) = x6 (ix2 0 j) + val_main_v22 (F := Ideal) x0 x1 x3 (ix2 0 j) := by
  pointwise [val_main_v42]

end Cert.Reference15Ideal.Read
-- ==== Proof.NormBValue.lean ====
/-
  What the call leaves, entry by entry: the sum of products, the finished rows, and the sum for the scale, each as the
  reference computes it.
-/

module

public import proofs.«01_k».proof.Proof.NormBCall
public import proofs.«01_k».proof.Proof.NormBRef

@[expose] public section

set_option maxRecDepth 16384

noncomputable section

namespace Cert.Kernel15Ideal.NormBwd

open Idealize.ShloMosaic Idealize.ShloMosaic.TcCoe Idealize.SL.Sem Cert.Kernel15Ideal.Gen
open Cert.Reference15Ideal.Read

/-! ## One step, and one tile -/

theorem added_apply (du : FVec Ideal S704x2048 .f32) (dz : FVec Ideal S704x1280 .bf16) (w : FVec Ideal S1x2048x1280 .bf16) (p : Fin 704) (j : Fin 2048) :
    added (F := Ideal) du dz w (ix2 p j) = du (ix2 p j) + ∑ l : Fin 1280, dz (ix2 p l) * w (ix3 0 j l) := by
  unfold added
  pointwise [k0_pay2]

/-- Row `p` of a tile is row `p % 176` of trip `p / 176`. -/
theorem row_ld {e : EltTy} (x : Vec Ideal S704x2048 e) (p : Fin 704) (j : Fin 2048) (q : Fin 4) (p' : Fin 176) (h : 176 * q.val + p'.val = p.val) :
    View.ld x (rowBox q) (ix2 p' j) = x (ix2 p j) := by
  rw [View.ld_apply]
  refine congrArg x (funext fun a => Fin.ext ?_)
  rw [Rect.idx_unit_val]
  match a with
  | 0 => exact h
  | 1 => exact Nat.zero_add _
theorem col_ld {e : EltTy} (x : Vec Ideal S704x1 e) (p : Fin 704) (q : Fin 4) (p' : Fin 176) (h : 176 * q.val + p'.val = p.val) :
    View.ld x (colBox q) (ix2 p' 0) = x (ix2 p 0) := by
  rw [View.ld_apply]
  refine congrArg x (funext fun a => Fin.ext ?_)
  rw [Rect.idx_unit_val]
  match a with
  | 0 => exact h
  | 1 => exact Nat.zero_add _

theorem rows_apply (g : FVec Ideal S1x2048 .f32) (du h : FVec Ideal S176x2048 .f32) (r : FVec Ideal S176x1 .f32) (dr : FVec Ideal S176x2048 .f32) (p : Fin 176) (j : Fin 2048) :
    k0_pay6 (F := Ideal) g du h r dr (ix2 p j)
      = dr (ix2 p j) + r (ix2 p 0) * (du (ix2 p j) * g (ix2 0 j))
        - h (ix2 p j) * (r (ix2 p 0) * r (ix2 p 0) * r (ix2 p 0) * Ideal.div (∑ k : Fin 2048, du (ix2 p k) * g (ix2 0 k) * h (ix2 p k)) (Ideal.ofBits .f32 0x45000000#32)) := by
  pointwise [k0_pay6, k0_pay4, k0_pay5]

theorem part_apply (a : FVec Ideal S1x2048 .f32) (du h : FVec Ideal S176x2048 .f32) (r : FVec Ideal S176x1 .f32) (j : Fin 2048) :
    k0_pay7 (F := Ideal) a du h r (ix2 0 j) = a (ix2 0 j) + ∑ p : Fin 176, du (ix2 p j) * (h (ix2 p j) * r (ix2 p 0)) := by
  pointwise [k0_pay7, k0_pay4, k0_pay5]

/-- Trip `q`'s rows of a tile, and of a column. -/
abbrev ldT (x : FVec Ideal S704x2048 .f32) (q : Fin 4) : FVec Ideal S176x2048 .f32 := View.ld (Val := Elt Ideal) (e' := .f32) (x : Vec Ideal _ .f32) (rowBox q)
abbrev ldC (x : FVec Ideal S704x1 .f32) (q : Fin 4) : FVec Ideal S176x1 .f32 := View.ld (Val := Elt Ideal) (e' := .f32) (x : Vec Ideal _ .f32) (colBox q)

section Tile
variable (g : FVec Ideal S1x2048 .f32) (du h : FVec Ideal S704x2048 .f32) (r : FVec Ideal S704x1 .f32) (dr : FVec Ideal S704x2048 .f32)

theorem outTile_apply (p : Fin 704) (j : Fin 2048) : outTile (F := Ideal) g du h r dr (ix2 p j)
    = dr (ix2 p j) + r (ix2 p 0) * (du (ix2 p j) * g (ix2 0 j))
      - h (ix2 p j) * (r (ix2 p 0) * r (ix2 p 0) * r (ix2 p 0) * Ideal.div (∑ k : Fin 2048, du (ix2 p k) * g (ix2 0 k) * h (ix2 p k)) (Ideal.ofBits .f32 0x45000000#32)) := by
  have hp := p.isLt
  have hq : p.val / 176 < 4 := by omega
  have hr : p.val % 176 < 176 := Nat.mod_lt _ (by decide)
  have hs : 176 * (⟨p.val / 176, hq⟩ : Fin 4).val + (⟨p.val % 176, hr⟩ : Fin 176).val = p.val := Nat.div_add_mod _ _
  have hx : rowIn (ix2 p j) = ix2 (⟨p.val % 176, hr⟩ : Fin 176) j := by
    funext a
    match a with
    | 0 => rfl
    | 1 => rfl
  have key := rows_apply g (ldT du ⟨p.val / 176, hq⟩) (ldT h ⟨p.val / 176, hq⟩) (ldC r ⟨p.val / 176, hq⟩) (ldT dr ⟨p.val / 176, hq⟩) ⟨p.val % 176, hr⟩ j
  have hd : ∀ k, ldT du ⟨p.val / 176, hq⟩ (ix2 (⟨p.val % 176, hr⟩ : Fin 176) k) = du (ix2 p k) := fun k => row_ld (e := .f32) du p k _ _ hs
  have hh : ∀ k, ldT h ⟨p.val / 176, hq⟩ (ix2 (⟨p.val % 176, hr⟩ : Fin 176) k) = h (ix2 p k) := fun k => row_ld (e := .f32) h p k _ _ hs
  have hc : ldC r ⟨p.val / 176, hq⟩ (ix2 (⟨p.val % 176, hr⟩ : Fin 176) 0) = r (ix2 p 0) := col_ld (e := .f32) r p _ _ hs
  have ho : ldT dr ⟨p.val / 176, hq⟩ (ix2 (⟨p.val % 176, hr⟩ : Fin 176) j) = dr (ix2 p j) := row_ld (e := .f32) dr p j _ _ hs
  simp only [hd, hh, hc, ho] at key
  unfold outTile
  rw [hx]
  exact key

theorem gSum_apply (a : FVec Ideal S1x2048 .f32) (j : Fin 2048) : gSum (F := Ideal) du h r a 4 (ix2 0 j)
    = a (ix2 0 j) + ∑ p : Fin 704, du (ix2 p j) * (h (ix2 p j) * r (ix2 p 0)) := by
  rw [Fin.sum_univ_tiles 4 176 rfl, Fin.sum_univ_four, ← add_assoc, ← add_assoc, ← add_assoc]
  have step : ∀ (b : FVec Ideal S1x2048 .f32) (q : Fin 4), k0_pay7 (F := Ideal) b (View.ld du (rowBox q)) (View.ld h (rowBox q)) (View.ld r (colBox q)) (ix2 0 j)
      = b (ix2 0 j) + ∑ p : Fin 176, du (ix2 (⟨q.val * 176 + p.val, by omega⟩ : Fin 704) j) * (h (ix2 (⟨q.val * 176 + p.val, by omega⟩ : Fin 704) j) * r (ix2 (⟨q.val * 176 + p.val, by omega⟩ : Fin 704) 0)) := by
    intro b q
    rw [part_apply]
    refine congrArg₂ (· + ·) rfl (Fin.sum_fin_congr fun p => ?_)
    have hs : 176 * q.val + p.val = (⟨q.val * 176 + p.val, by omega⟩ : Fin 704).val := by show _ = q.val * 176 + p.val; omega
    exact congrArg₂ (· * ·) (row_ld (e := .f32) du _ j q p hs) (congrArg₂ (· * ·) (row_ld (e := .f32) h _ j q p hs) (col_ld (e := .f32) r _ q p hs))
  have e3 := step (gSum (F := Ideal) du h r a 3) 3
  have e2 := step (gSum (F := Ideal) du h r a 2) 2
  have e1 := step (gSum (F := Ideal) du h r a 1) 1
  have e0 := step a 0
  refine e3.trans (congrArg₂ (· + ·) (e2.trans (congrArg₂ (· + ·) (e1.trans (congrArg₂ (· + ·) e0 rfl)) rfl)) rfl)
end Tile

/-! ## The arrays -/

variable (m : (ℓ : Loc nD τ sig) → Buf (Elt Ideal) ℓ) (c : Dev nD)

/-- The seven arguments. -/
abbrev DZ : FVec Ideal S4224x10240 .f32 := m ((c : Thread nD τ).loc main_arg0)
abbrev W1 : FVec Ideal S2048x10240 .f32 := m ((c : Thread nD τ).loc main_arg1)
abbrev DR : FVec Ideal S4224x2048 .f32 := m ((c : Thread nD τ).loc main_arg2)
abbrev HH : FVec Ideal S4224x2048 .f32 := m ((c : Thread nD τ).loc main_arg3)
abbrev GG : FVec Ideal S1x2048 .f32 := m ((c : Thread nD τ).loc main_arg4)
abbrev DH0 : FVec Ideal S4224x2048 .f32 := m ((c : Thread nD τ).loc main_arg5)
abbrev DG0 : FVec Ideal S1x2048 .f32 := m ((c : Thread nD τ).loc main_arg6)

/-- The reference's two results, of the call's arguments. -/
abbrev refRows : S4224x2048.Idx → EReal := val_main_v41 (F := Ideal) (DZ m c) (W1 m c) (DR m c) (HH m c) (GG m c) (DH0 m c)
abbrev refScale : S1x2048.Idx → EReal := val_main_v42 (F := Ideal) (DZ m c) (W1 m c) (HH m c) (DG0 m c)

/-- Where every block of a step lies. -/
theorem idx : ∀ t : Fin cfg0.N, win0_0.index t = ![t.val / 8 + 3, t.val % 8] ∧ win0_1.index t = ![t.val % 8, 0, 0] ∧ win0_2.index t = ![t.val / 8 + 3, 0]
    ∧ win0_3.index t = ![0, 0] ∧ win0_4.index t = ![0, 0] ∧ win0_5.index t = ![t.val / 8 + 3, 0] ∧ win0_6.index t = ![0, 0] :=
  (by decide +kernel : ∀ t : Fin grid0.N, _)

/-- Row `p` of tile `u`, counted in this half; column `l` of slot `s`. -/
def trow (u : Fin 3) (p : Fin 704) : Fin 2112 := ⟨704 * u.val + p.val, by omega⟩
def tcol (s : Fin 8) (l : Fin 1280) : Fin 10240 := ⟨s.val * 1280 + l.val, by omega⟩
def slotAt (t : Fin cfg0.N) : Fin 8 := ⟨t.val % 8, Nat.mod_lt _ (by decide)⟩

theorem dzAt_apply (t : Fin cfg0.N) (p : Fin 704) (l : Fin 1280) : dzAt m c t (ix2 p l) = DZ m c (ix2 (grow (trow (tileAt t) p)) (tcol (slotAt t) l)) := by
  unfold dzAt grow trow tcol tileAt slotAt
  blk_simp [iblk]
  entry_read
  pointwise
  blk_ext [iblk, V, idx t]

theorem wAt_apply (t : Fin cfg0.N) (j : Fin 2048) (l : Fin 1280) : wAt m c t (ix3 0 j l) = W1 m c (ix2 j (tcol (slotAt t) l)) := by
  unfold wAt tcol slotAt
  blk_simp [iblk]
  entry_read
  pointwise
  blk_ext [iblk, V, idx t]

/-- What the call is given for a row's scale is the reference's. -/
theorem host_r (t : Fin 2112) : V m c main_v11 (ix2 (grow t) 0) = val_main_v8 (F := Ideal) (HH m c) (ix2 t 0) := by
  rw [v8_apply, v7_apply]
  unfold V
  after_results_simp
  pointwise

theorem rAt_apply (t : Fin cfg0.N) (p : Fin 704) : rAt m c t (ix2 p 0) = val_main_v8 (F := Ideal) (HH m c) (ix2 (trow (tileAt t) p) 0) := by
  rw [← host_r m c]
  unfold rAt grow trow tileAt
  blk_ext [iblk, idx t]

theorem gAt_eq (t : Fin cfg0.N) : gAt m c t = GG m c := by
  unfold gAt
  blk_ext! [iblk, V, idx t]

theorem rowsR_apply (u : Fin 3) (p : Fin 704) (j : Fin 2048) : rowsR m c u (ix2 p j) = DR m c (ix2 (grow (trow u p)) j) := by
  refine Eq.trans (b := DR m c ((Rect.unit (s := S4224x2048) ![704 * (u.val + 3), 0] S704x2048.size (box_inb u)).idx (ix2 p j))) ?_ (congrArg (DR m c) (funext fun a => Fin.ext ?_))
  · unfold rowsR srcR
    rw [V_main_arg2]
    rfl
  · rw [Rect.idx_unit_val]
    match a with
    | 0 => show 704 * (u.val + 3) + p.val = 2112 + (704 * u.val + p.val); omega
    | 1 => exact Nat.zero_add _

theorem rowsH_apply (u : Fin 3) (p : Fin 704) (j : Fin 2048) : rowsH m c u (ix2 p j) = HH m c (ix2 (grow (trow u p)) j) := by
  refine Eq.trans (b := HH m c ((Rect.unit (s := S4224x2048) ![704 * (u.val + 3), 0] S704x2048.size (box_inb u)).idx (ix2 p j))) ?_ (congrArg (HH m c) (funext fun a => Fin.ext ?_))
  · unfold rowsH srcH
    rw [V_main_arg3]
    rfl
  · rw [Rect.idx_unit_val]
    match a with
    | 0 => show 704 * (u.val + 3) + p.val = 2112 + (704 * u.val + p.val); omega
    | 1 => exact Nat.zero_add _

/-! ## What the steps leave -/

/-- A tile's sum after `s` of its eight slots. -/
theorem duSum_part (u : Fin 3) (p : Fin 704) (j : Fin 2048) (s : ℕ) (hs : s < 8) :
    duSum m c (8 * u.val + (s + 1)) (ix2 p j)
      = ∑ b ∈ Finset.range (s + 1), ∑ l : Fin 1280, DZ m c (ix2 (grow (trow u p)) (tcol (Fin.ofNat 8 b) l)) * W1 m c (ix2 j (tcol (Fin.ofNat 8 b) l)) := by
  have step : ∀ (a : FVec Ideal S704x2048 .f32) (k : ℕ) (hk : k < 8), added (F := Ideal) a (dzAt m c (stp (8 * u.val + k))) (wAt m c (stp (8 * u.val + k))) (ix2 p j)
      = a (ix2 p j) + ∑ l : Fin 1280, DZ m c (ix2 (grow (trow u p)) (tcol (Fin.ofNat 8 k) l)) * W1 m c (ix2 j (tcol (Fin.ofNat 8 k) l)) := by
    intro a k hk
    have hu := u.isLt
    have hv : (stp (8 * u.val + k)).val = 8 * u.val + k := Nat.mod_eq_of_lt (by omega)
    have ht : tileAt (stp (8 * u.val + k)) = u := Fin.ext (by show (stp (8 * u.val + k)).val / 8 = u.val; omega)
    have hl : slotAt (stp (8 * u.val + k)) = Fin.ofNat 8 k := Fin.ext (by show (stp (8 * u.val + k)).val % 8 = k % 8; omega)
    rw [added_apply]
    refine congrArg₂ (· + ·) rfl (Fin.sum_fin_congr fun l => ?_)
    rw [dzAt_apply, wAt_apply, ht, hl]
  induction s with
  | zero =>
    rw [Finset.sum_range_one]
    show added (F := Ideal) (if (8 * u.val + 0) % 8 = 0 then k0_pay1 (F := Ideal) else duSum m c (8 * u.val + 0)) (dzAt m c (stp (8 * u.val + 0))) (wAt m c (stp (8 * u.val + 0))) (ix2 p j) = _
    rw [step _ 0 hs, if_pos (by omega)]
    refine (congrArg₂ (· + ·) (x' := (0 : EReal)) ?_ rfl).trans (zero_add _)
    pointwise [k0_pay1]
  | succ s ih =>
    rw [Finset.sum_range_succ, ← ih (by omega)]
    show added (F := Ideal) (if (8 * u.val + (s + 1)) % 8 = 0 then k0_pay1 (F := Ideal) else duSum m c (8 * u.val + (s + 1))) (dzAt m c (stp (8 * u.val + (s + 1)))) (wAt m c (stp (8 * u.val + (s + 1)))) (ix2 p j) = _
    rw [step _ (s + 1) hs, if_neg (by omega)]

/-- A tile's whole sum: the reference's product. -/
theorem duSum_apply (u : Fin 3) (p : Fin 704) (j : Fin 2048) :
    duSum m c (8 * u.val + 8) (ix2 p j) = val_main_v19 (F := Ideal) (DZ m c) (W1 m c) (ix2 (trow u p) j) := by
  rw [duSum_part m c u p j 7 (by decide), v19_apply, Fin.sum_univ_tiles 8 1280 rfl, Finset.sum_range]
  refine Fin.sum_fin_congr fun b => Fin.sum_fin_congr fun l => ?_
  rw [show Fin.ofNat 8 b.val = b from Fin.ext (Nat.mod_eq_of_lt b.isLt)]
  rfl

theorem tile_lastOf (u : Fin 3) : tileAt (lastOf u) = u := Fin.ext (by
  have hu := u.isLt
  show (8 * u.val + 7) % 24 / 8 = u.val
  omega)

/-- The finished rows. -/
theorem tileEnd_apply (u : Fin 3) (p : Fin 704) (j : Fin 2048) :
    tileEnd m c u (ix2 p j) = val_main_v39 (F := Ideal) (DZ m c) (W1 m c) (DR m c) (HH m c) (GG m c) (ix2 (trow u p) j) := by
  unfold tileEnd
  rw [outTile_apply, v39_apply, rAt_apply, tile_lastOf, gAt_eq, rowsR_apply, rowsH_apply, duSum_apply]
  refine congrArg₂ (· - ·) rfl (congrArg₂ (· * ·) rfl (congrArg₂ (· * ·) rfl (congrArg₂ Ideal.div (Fin.sum_fin_congr fun k => ?_) rfl)))
  rw [rowsH_apply, duSum_apply]

/-- A tile's part of the scale's gradient. -/
theorem scalePart_apply (u : Fin 3) (j : Fin 2048) : scalePart m c u (ix2 0 j)
    = ∑ p : Fin 704, HH m c (ix2 (grow (trow u p)) j) * val_main_v8 (F := Ideal) (HH m c) (ix2 (trow u p) 0) * val_main_v19 (F := Ideal) (DZ m c) (W1 m c) (ix2 (trow u p) j) := by
  unfold scalePart
  rw [gSum_apply]
  refine (congrArg₂ (· + ·) (x' := (0 : EReal)) ?_ (Fin.sum_fin_congr fun p => ?_)).trans (zero_add _)
  · pointwise [k0_pay3]
  · rw [duSum_apply, rowsH_apply, rAt_apply, tile_lastOf, mul_comm]

theorem dg0_eq (t : Fin cfg0.N) : dg0At m c t = DG0 m c := by
  unfold dg0At
  blk_ext! [iblk, V, idx t]

theorem dgSum_apply (k : ℕ) (j : Fin 2048) : dgSum m c k (ix2 0 j) = DG0 m c (ix2 0 j) + ∑ u ∈ Finset.range k, scalePart m c (Fin.ofNat 3 u) (ix2 0 j) := by
  induction k with
  | zero =>
    rw [Finset.sum_range_zero, add_zero]
    unfold dgSum
    rw [dg0_eq]
  | succ k ih =>
    rw [Finset.sum_range_succ, ← add_assoc, ← ih]
    conv_lhs => unfold dgSum
    pointwise [k0_pay8]

/-- The whole sum: the earlier one, and the reference's gradient of the scale. -/
theorem dg_apply (j : Fin 2048) : dgSum m c 3 (ix2 0 j) = refScale m c (ix2 0 j) := by
  refine Eq.trans ?_ (v42_apply _ _ _ _ j).symm
  rw [dgSum_apply, v22_apply, Fin.sum_univ_tiles 3 704 rfl, Finset.sum_range]
  refine congrArg₂ (· + ·) rfl (Fin.sum_fin_congr fun u => ?_)
  rw [show Fin.ofNat 3 u.val = u from Fin.ext (Nat.mod_eq_of_lt u.isLt), scalePart_apply]
  refine Fin.sum_fin_congr fun p => ?_
  rw [show trow u p = (⟨u.val * 704 + p.val, by omega⟩ : Fin 2112) from Fin.ext (by show 704 * u.val + p.val = u.val * 704 + p.val; omega)]

/-! ## The two results -/

/-- The second half of the rows is written, a tile at a time; the first half keeps what was there. -/
theorem final5 : (dats m 0 c).arrAt 5 cfg0.N = refRows m c := by
  refine (dats m 0 c).arrAt_eq_of_coversWhere_of_agree 5 _ (fun β => 3 ≤ β (0 : Fin _)) (by decide +kernel) (fun t hf y => ?_) (fun j hj => ?_)
  · have ht : t.val % 8 = 7 := by rw [flush_5, decide_eq_true_iff] at hf; exact hf
    blk_simp [idx t]
    rw [after_5_end m c t ht, eq_ix2 y]
    refine (tileEnd_apply m c (tileAt t) _ _).trans ((v41_apply _ _ _ _ _ (DH0 m c) _ _).symm.trans ?_)
    unfold grow trow tileAt
    blk_ext [idx t]
  · have h0 : (j 0).val < 2112 := by
      have h1 : ¬ 3 ≤ (j 0).val / 704 := hj
      omega
    refine Eq.trans (b := DH0 m c j) ?_ ?_
    · rw [A_eq]
      unfold V
      after_results_simp
      rfl
    · exact (v41_kept _ _ _ _ _ _ j h0).symm

theorem final6 : (dats m 0 c).arrAt 6 cfg0.N = refScale m c := by
  refine (dats m 0 c).arrAt_eq_of_after_last 6 (stp 23) (by decide +kernel) _ fun j => ?_
  blk_simp [idx (stp 23)]
  rw [after_6, eq_ix2 j]
  have h0 : j 0 = (0 : Fin 1) := Subsingleton.elim (α := Fin 1) _ _
  rw [h0]
  exact dg_apply m c _

/-- The whole program's results. -/
theorem call_values (ρ : Dev nD → PrngReg) : θ_run defs (onTc (τ := τ) (main (F := Ideal))) ⟨m, fun _ => 0, ρ⟩ (fun r => ∀ c : Dev nD,
      r.2.mem ((c.tc : Thread nD τ).loc main_v12_0) = refRows m c
      ∧ r.2.mem ((c.tc : Thread nD τ).loc main_v12_1) = refScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h.1 c).1 5).trans (final5 m c),
      ((h.1 c).1 6).trans (final6 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c),
      ((h.1 c).1 4).trans (((dats m 0 c).arrAt_in 4 rfl _).trans ((A_eq m c 4).trans (V_main_arg6 m c)))⟩) (call_run m ρ)

end Cert.Kernel15Ideal.NormBwd
-- ==== Proof.PoolFwdRef.lean ====
/-
  The pooling mixer's forward pass, entry by entry, and the reference's two results read so.
-/

module

public import proofs.«01_k».proof.Proof.Gen.Reference16Ideal
public import proofs.«01_k».proof.Proof.Gen.Reference16Ideal.Run
public import proofs.«01_k».proof.Proof.Gen.Reference16Ideal.Read
public import proofs.«01_k».proof.Proof.Spec
public import proofs.«01_k».proof.Proof.Windows

@[expose] public section

set_option maxRecDepth 16384

noncomputable section

namespace Cert.PoolSpec

open Idealize.ShloMosaic

/-- Column `j` of the values: the first of the projection's columns. -/
def vcol (j : Fin 2048) : Fin 10240 := ⟨j.val, by omega⟩

section
variable (p : (⟨2, ![4224, 10240]⟩ : Shape).Idx → EReal) (w : (⟨3, ![4, 512, 512]⟩ : Shape).Idx → EReal)

/-- The values of column `j` counted from 16 rows before the first; nothing there. -/
def padS (j : Fin 2048) (n : ℕ) : EReal := if h : 16 ≤ n ∧ n < 4240 then p (ix2 ⟨n - 16, by omega⟩ (vcol j)) else 0

theorem padS_row (j : Fin 2048) (n : ℕ) (hn : n < 4224) : padS p j (n + 16) = p (ix2 ⟨n, hn⟩ (vcol j)) := by
  unfold padS
  rw [dif_pos (show 16 ≤ n + 16 ∧ n + 16 < 4240 by omega)]
  exact congrArg (fun q => p (ix2 q (vcol j))) (Fin.ext (by show n + 16 - 16 = n; omega))

theorem padS_before (j : Fin 2048) (n : ℕ) (hn : n < 16) : padS p j n = 0 := dif_neg (by omega)

/-- The mean of the rows group `g` pools at row `r`, less the row's own value. -/
def poolS (g : Fin 4) (r : ℕ) (c : Fin 512) : EReal :=
  Ideal.div (∑ j ∈ Finset.range (winN g), padS p (gcol g c) (r + 16 - j)) (count g r) - padS p (gcol g c) (r + 16)

/-- The pooled rows times the group's weights. -/
def mixS (g : Fin 4) (r : ℕ) (k : Fin 512) : EReal := ∑ c : Fin 512, poolS p g r c * w (ix3 g c k)
end

/-- A window of `W` rows and one column ending at the row. -/
theorem window_back {W L N C : ℕ} (x : FVec Ideal (⟨2, ![N, C]⟩ : Shape) .f32) (init : FVec Ideal (⟨0, ![]⟩ : Shape) .f32)
    (h : (⟨2, ![N, C]⟩ : Shape).ReduceWindows (![W, 1] : Fin 2 → ℕ) ![1, 1] ![L, 0] ![0, 0] (⟨2, ![N, C]⟩ : Shape)) (hu : 0 < (⟨0, ![]⟩ : Shape).numel)
    (h0 : init ix0 = 0) (hL : L + 1 = W) (hL16 : L ≤ 16) (r : Fin N) (c : Fin C) (Q : ℕ → EReal)
    (hx : ∀ n (hn : n < N), x (ix2 ⟨n, hn⟩ c) = Q (n + 16)) (hQ : ∀ n, n < 16 → Q n = 0) :
    Host.reduceWindowAdd ![W, 1] ![1, 1] ![L, 0] ![0, 0] x init h hu (ix2 r c) = ∑ j ∈ Finset.range W, Q (r.val + 16 - j) := by
  show Host.reduceWindow (fun a b : EReal => a + b) ![W, 1] ![1, 1] ![L, 0] ![0, 0] x (fun _ : (⟨0, ![]⟩ : Shape).Idx => init (Shape.Idx.first hu)) h hu (ix2 r c) = _
  unfold Host.reduceWindow
  have hi : init (Shape.Idx.first hu) = 0 := (congrArg init (funext fun a => a.elim0)).trans h0
  have hr := r.isLt
  have hc := c.isLt
  dsimp only
  refine (foldl_sum _ _ _).trans ?_
  rw [hi, zero_add, ← Fin.sum_univ_def, ← Finset.sum_range_reflect]
  refine (Finset.sum_congr rfl fun n _ => ?_ : _ = ∑ n : Fin (Routing.shape2 W 1).numel, Q (r.val + 16 - (W - 1 - n.val))).trans
    ((Finset.sum_range fun j => Q (r.val + 16 - (W - 1 - j))).symm.trans (by rw [Routing.numel_col]))
  have hn : n.val < W := (n.cast (Routing.numel_col W)).isLt
  have hw0 : ((Routing.shape2 W 1).rowMajor.symm n 0).val = n.val := by rw [Routing.symm_col]; rfl
  have hw1 : ((Routing.shape2 W 1).rowMajor.symm n 1).val = 0 := by rw [Routing.symm_col]; rfl
  by_cases hl : L ≤ r.val + n.val
  · refine (dif_pos fun a => ?_).trans ((congrArg x (funext fun a => Fin.ext ?_)).trans ((hx (r.val + n.val - L) (by omega)).trans (congrArg Q (by omega))))
    · match a with
      | ⟨0, _⟩ =>
        show L ≤ r.val * 1 + ((Routing.shape2 W 1).rowMajor.symm n 0).val ∧ r.val * 1 + ((Routing.shape2 W 1).rowMajor.symm n 0).val - L < N
        rw [hw0]; omega
      | ⟨1, _⟩ =>
        show 0 ≤ c.val * 1 + ((Routing.shape2 W 1).rowMajor.symm n 1).val ∧ c.val * 1 + ((Routing.shape2 W 1).rowMajor.symm n 1).val - 0 < C
        rw [hw1]; omega
    · match a with
      | ⟨0, _⟩ =>
        show r.val * 1 + ((Routing.shape2 W 1).rowMajor.symm n 0).val - L = r.val + n.val - L
        rw [hw0]; omega
      | ⟨1, _⟩ =>
        show c.val * 1 + ((Routing.shape2 W 1).rowMajor.symm n 1).val - 0 = c.val
        rw [hw1]; omega
  · refine (dif_neg fun hh => hl ?_).trans (hQ _ (by omega)).symm
    have h1 : L ≤ r.val * 1 + ((Routing.shape2 W 1).rowMajor.symm n 0).val := (hh 0).1
    rw [hw0] at h1; omega

end Cert.PoolSpec

namespace Cert.Reference16Ideal.Read

open Idealize.ShloMosaic Cert.PoolSpec Cert.Reference16Ideal.Gen

variable (x0 : FVec Ideal S4224x10240 .f32) (x1 : FVec Ideal S4x512x512 .f32)

theorem v0_apply (t : Fin 4224) (c : Fin 512) : val_main_v0 (F := Ideal) x0 (ix2 t c) = padS x0 (gcol 0 c) (t.val + 16) := by
  rw [padS_row x0 _ _ t.isLt, gcol_0]
  pointwise [val_main_v0, vcol]

/-- The pooled rows of group 0. -/
theorem v12_apply (t : Fin 4224) (c : Fin 512) : val_main_v12 (F := Ideal) x0 (ix2 t c) = poolS x0 0 t.val c := by
  pointwise [val_main_v12, val_main_v11, v0_apply, val_main_v10, val_main_v9, val_main_v8, val_main_v7, val_main_v6, val_main_v5, val_main_v4, val_main_v3, val_main_c, val_main_c_0]
  rw [show IntOp.addi (1#32) (BitVec.ofNat 32 t.val) = BitVec.ofNat 32 (t.val + 1) from (BitVec.add_comm _ _).trans (BitVec.ofNat_add _ _).symm]
  unfold val_main_v2
  rw [window_back (val_main_v0 (F := Ideal) x0) _ _ _ (by pointwise [val_main_v1, val_main_cst]) rfl (by omega) t c (padS x0 (gcol 0 c))
    (fun n hn => v0_apply x0 ⟨n, hn⟩ c) (padS_before x0 _)]
  rfl

theorem v13_apply (t : Fin 4224) (c : Fin 512) : val_main_v13 (F := Ideal) x0 (ix2 t c) = padS x0 (gcol 1 c) (t.val + 16) := by
  rw [padS_row x0 _ _ t.isLt, gcol_1]
  pointwise [val_main_v13, vcol]

/-- The pooled rows of group 1. -/
theorem v25_apply (t : Fin 4224) (c : Fin 512) : val_main_v25 (F := Ideal) x0 (ix2 t c) = poolS x0 1 t.val c := by
  pointwise [val_main_v25, val_main_v24, v13_apply, val_main_v23, val_main_v22, val_main_v21, val_main_v20, val_main_v19, val_main_v18, val_main_v17, val_main_v16, val_main_c_2, val_main_c_3]
  rw [show IntOp.addi (1#32) (BitVec.ofNat 32 t.val) = BitVec.ofNat 32 (t.val + 1) from (BitVec.add_comm _ _).trans (BitVec.ofNat_add _ _).symm]
  unfold val_main_v15
  rw [window_back (val_main_v13 (F := Ideal) x0) _ _ _ (by pointwise [val_main_v14, val_main_cst_1]) rfl (by omega) t c (padS x0 (gcol 1 c))
    (fun n hn => v13_apply x0 ⟨n, hn⟩ c) (padS_before x0 _)]
  rfl

theorem v26_apply (t : Fin 4224) (c : Fin 512) : val_main_v26 (F := Ideal) x0 (ix2 t c) = padS x0 (gcol 2 c) (t.val + 16) := by
  rw [padS_row x0 _ _ t.isLt, gcol_2]
  pointwise [val_main_v26, vcol]

/-- The pooled rows of group 2. -/
theorem v38_apply (t : Fin 4224) (c : Fin 512) : val_main_v38 (F := Ideal) x0 (ix2 t c) = poolS x0 2 t.val c := by
  pointwise [val_main_v38, val_main_v37, v26_apply, val_main_v36, val_main_v35, val_main_v34, val_main_v33, val_main_v32, val_main_v31, val_main_v30, val_main_v29, val_main_c_5, val_main_c_6]
  rw [show IntOp.addi (1#32) (BitVec.ofNat 32 t.val) = BitVec.ofNat 32 (t.val + 1) from (BitVec.add_comm _ _).trans (BitVec.ofNat_add _ _).symm]
  unfold val_main_v28
  rw [window_back (val_main_v26 (F := Ideal) x0) _ _ _ (by pointwise [val_main_v27, val_main_cst_4]) rfl (by omega) t c (padS x0 (gcol 2 c))
    (fun n hn => v26_apply x0 ⟨n, hn⟩ c) (padS_before x0 _)]
  rfl

theorem v39_apply (t : Fin 4224) (c : Fin 512) : val_main_v39 (F := Ideal) x0 (ix2 t c) = padS x0 (gcol 3 c) (t.val + 16) := by
  rw [padS_row x0 _ _ t.isLt, gcol_3]
  pointwise [val_main_v39, vcol]

/-- The pooled rows of group 3. -/
theorem v51_apply (t : Fin 4224) (c : Fin 512) : val_main_v51 (F := Ideal) x0 (ix2 t c) = poolS x0 3 t.val c := by
  pointwise [val_main_v51, val_main_v50, v39_apply, val_main_v49, val_main_v48, val_main_v47, val_main_v46, val_main_v45, val_main_v44, val_main_v43, val_main_v42, val_main_c_8, val_main_c_9]
  rw [show IntOp.addi (1#32) (BitVec.ofNat 32 t.val) = BitVec.ofNat 32 (t.val + 1) from (BitVec.add_comm _ _).trans (BitVec.ofNat_add _ _).symm]
  unfold val_main_v41
  rw [window_back (val_main_v39 (F := Ideal) x0) _ _ _ (by pointwise [val_main_v40, val_main_cst_7]) rfl (by omega) t c (padS x0 (gcol 3 c))
    (fun n hn => v39_apply x0 ⟨n, hn⟩ c) (padS_before x0 _)]
  rfl

/-- The pooled rows of the four groups. -/
theorem v56_apply (t : Fin 4224) (g : Fin 4) (c : Fin 512) : val_main_v56 (F := Ideal) x0 (ix3 t g c) = poolS x0 g t.val c := by
  match g with
  | 0 => pointwise [val_main_v56, val_main_v52, v12_apply]
  | 1 => pointwise [val_main_v56, val_main_v53, v25_apply]
  | 2 => pointwise [val_main_v56, val_main_v54, v38_apply]
  | 3 => pointwise [val_main_v56, val_main_v55, v51_apply]

/-- The first result. -/
theorem v60_apply (t : Fin 4224) (g : Fin 4) (c : Fin 512) : val_main_v60 (F := Ideal) x0 (ix2 t (gcol g c)) = poolS x0 g t.val c := by
  unfold gcol
  pointwise [val_main_v60, val_main_v59]
  exact v56_apply x0 t g c

/-- The second result. -/
theorem v61_apply (t : Fin 4224) (g : Fin 4) (k : Fin 512) : val_main_v61 (F := Ideal) x0 x1 (ix2 t (gcol g k)) = mixS x0 x1 g t.val k := by
  unfold gcol
  pointwise [val_main_v61, val_main_v58, val_main_v57, v56_apply, mixS]
  all_goals exact Finset.sum_congr rfl fun c _ => mul_comm _ _

end Cert.Reference16Ideal.Read
-- ==== Proof.PoolFwd.lean ====
/-
  The pooling mixer's forward pass: each step's tiles are the reference's rows.
-/

module

public import proofs.«01_k».proof.Proof.Gen.Kernel16Ideal.Value
public import proofs.«01_k».proof.Proof.PoolFwdRef
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.Kernel16Ideal.PoolFwd

open Idealize.ShloMosaic Idealize.ShloMosaic.TcCoe Idealize.SL.Sem Cert.PoolSpec Cert.Kernel16Ideal Cert.Kernel16Ideal.Gen

/-! ## Sums of a window by doubling

`s` is 400 rows, the 16 before the step's and the step's; added to itself moved by a row it holds sums of two, and so on. -/

section Roll
/-- Column `c` of `s` is `Q`'s from row `m` on. -/
def Rows (s : FVec Ideal S400x512 .f32) (c : Fin 512) (Q : ℕ → EReal) (m : ℕ) : Prop := ∀ n (hn : n < 400), m ≤ n → s (ix2 ⟨n, hn⟩ c) = Q n

variable {s : FVec Ideal S400x512 .f32} {c : Fin 512} {Q : ℕ → EReal} {m : ℕ}
theorem roll_1 (h : Rows s c Q m) :
    Rows (addf s (dynamicRotate 0 1#32 none s rotates_S400x512_d0)) c (fun n => Q n + Q (n - 1)) (m + 1) := by
  intro n hn hnm
  pointwise
  rw [h n hn (by omega), ← h (n - 1) (by omega) (by omega)]
  refine congrArg (fun q => Q n + s (ix2 q c)) (Fin.ext ?_)
  show (n + 400 - 1) % 400 = n - 1
  omega
theorem roll_2 (h : Rows s c Q m) :
    Rows (addf s (dynamicRotate 0 2#32 none s rotates_S400x512_d0)) c (fun n => Q n + Q (n - 2)) (m + 2) := by
  intro n hn hnm
  pointwise
  rw [h n hn (by omega), ← h (n - 2) (by omega) (by omega)]
  refine congrArg (fun q => Q n + s (ix2 q c)) (Fin.ext ?_)
  show (n + 400 - 2) % 400 = n - 2
  omega
theorem roll_4 (h : Rows s c Q m) :
    Rows (addf s (dynamicRotate 0 4#32 none s rotates_S400x512_d0)) c (fun n => Q n + Q (n - 4)) (m + 4) := by
  intro n hn hnm
  pointwise
  rw [h n hn (by omega), ← h (n - 4) (by omega) (by omega)]
  refine congrArg (fun q => Q n + s (ix2 q c)) (Fin.ext ?_)
  show (n + 400 - 4) % 400 = n - 4
  omega
theorem roll_8 (h : Rows s c Q m) :
    Rows (addf s (dynamicRotate 0 8#32 none s rotates_S400x512_d0)) c (fun n => Q n + Q (n - 8)) (m + 8) := by
  intro n hn hnm
  pointwise
  rw [h n hn (by omega), ← h (n - 8) (by omega) (by omega)]
  refine congrArg (fun q => Q n + s (ix2 q c)) (Fin.ext ?_)
  show (n + 400 - 8) % 400 = n - 8
  omega

theorem rows_concat (v : FVec Ideal S384x512 .f32) (h : FVec Ideal S16x512 .f32) (b : ℕ) (c : Fin 512) (Q : ℕ → EReal)
    (hv : ∀ r : Fin 384, v (ix2 r c) = Q (b + 16 + r.val)) (hh : ∀ r : Fin 16, h (ix2 r c) = Q (b + r.val)) :
    Rows (concatenate S400x512 0 [⟨S16x512, h⟩, ⟨S384x512, v⟩] concatenates_S16x512_S384x512_S400x512_d0) c (fun n => Q (b + n)) 0 := by
  intro n hn _
  pointwise
  split
  · exact hh _
  · refine (hv _).trans (congrArg Q ?_)
    show b + 16 + (n - 16) = b + n
    omega
end Roll

section Step
variable (i : grid0.Coords)

/-- The step's first row, counted from one. -/
theorem pay3_apply (b : ℕ) (hb : (i 0).val * 384 = b) (r : Fin 384) : IntOp.addi (k0_pay3 i (ix2 r 0)) 1#32 = BitVec.ofNat 32 (b + r.val + 1) := by
  pointwise [k0_pay3]
  rw [← hb]
  simp only [Scalar.muli, IntOp.muli, IntOp.addi, ← BitVec.ofNat_mul, ← BitVec.ofNat_add]

variable (v : FVec Ideal S384x512 .f32) (h : FVec Ideal S16x512 .f32) (b : ℕ) (hb : (i 0).val * 384 = b) (c : Fin 512) (Q : ℕ → EReal)
  (hv : ∀ r : Fin 384, v (ix2 r c) = Q (b + 16 + r.val)) (hh : ∀ r : Fin 16, h (ix2 r c) = Q (b + r.val)) (r : Fin 384)

/-- The window that ends at the step's row `r`, by the place of its rows among the 400. -/
theorem window_eq (g : Fin 4) : ∑ j ∈ Finset.range (winN g), Q (b + (16 + r.val - j)) = ∑ j ∈ Finset.range (winN g), Q (b + r.val + 16 - j) :=
  Finset.sum_congr rfl fun j hj => congrArg Q (by
    have hj : j < winN g := Finset.mem_range.mp hj
    have h16 : winN g ≤ 16 := (by decide : ∀ g, winN g ≤ 16) g
    omega)

include hb hv hh

theorem pool0_apply : k0_pay4 (F := Ideal) i v h (ix2 r c)
    = Ideal.div (∑ j ∈ Finset.range (winN 0), Q (b + r.val + 16 - j)) (count 0 (b + r.val)) - Q (b + r.val + 16) := by
  unfold k0_pay4
  have hr := roll_1 (rows_concat v h b c Q hv hh)
  have hs := hr (16 + r.val) (by omega) (by omega)
  rw [← window_eq b Q r 0]
  revert hs
  generalize addf (F := Ideal) (s := S400x512) (φ := .f32) _ _ = s
  intro hs
  pointwise
  rw [hs, pay3_apply i b hb r, hv r, show b + 16 + r.val = b + r.val + 16 by omega]
  show Ideal.div _ _ - _ = Ideal.div (∑ j ∈ Finset.range 2, Q (b + (16 + r.val - j))) _ - _
  simp only [Finset.sum_range_succ, Finset.sum_range_zero, zero_add, Nat.sub_sub, Nat.sub_zero, Nat.reduceAdd, add_assoc]
  rfl

theorem pool1_apply : k0_pay8 (F := Ideal) (k0_pay3 i) v (k0_pay7 v h) (ix2 r c)
    = Ideal.div (∑ j ∈ Finset.range (winN 1), Q (b + r.val + 16 - j)) (count 1 (b + r.val)) - Q (b + r.val + 16) := by
  unfold k0_pay8 k0_pay7
  have hr := roll_2 (roll_1 (rows_concat v h b c Q hv hh))
  have hs := hr (16 + r.val) (by omega) (by omega)
  rw [← window_eq b Q r 1]
  revert hs
  generalize addf (F := Ideal) (s := S400x512) (φ := .f32) _ _ = s
  intro hs
  pointwise
  rw [hs, pay3_apply i b hb r, hv r, show b + 16 + r.val = b + r.val + 16 by omega]
  show Ideal.div _ _ - _ = Ideal.div (∑ j ∈ Finset.range 4, Q (b + (16 + r.val - j))) _ - _
  simp only [Finset.sum_range_succ, Finset.sum_range_zero, zero_add, Nat.sub_sub, Nat.sub_zero, Nat.reduceAdd, add_assoc]
  rfl

theorem pool2_apply : k0_pay11 (F := Ideal) (k0_pay3 i) v h (ix2 r c)
    = Ideal.div (∑ j ∈ Finset.range (winN 2), Q (b + r.val + 16 - j)) (count 2 (b + r.val)) - Q (b + r.val + 16) := by
  unfold k0_pay11
  have hr := roll_4 (roll_2 (roll_1 (rows_concat v h b c Q hv hh)))
  have hs := hr (16 + r.val) (by omega) (by omega)
  rw [← window_eq b Q r 2]
  revert hs
  generalize addf (F := Ideal) (s := S400x512) (φ := .f32) _ _ = s
  intro hs
  pointwise
  rw [hs, pay3_apply i b hb r, hv r, show b + 16 + r.val = b + r.val + 16 by omega]
  show Ideal.div _ _ - _ = Ideal.div (∑ j ∈ Finset.range 8, Q (b + (16 + r.val - j))) _ - _
  simp only [Finset.sum_range_succ, Finset.sum_range_zero, zero_add, Nat.sub_sub, Nat.sub_zero, Nat.reduceAdd, add_assoc]
  rfl

theorem pool3_apply : k0_pay14 (F := Ideal) (k0_pay3 i) v h (ix2 r c)
    = Ideal.div (∑ j ∈ Finset.range (winN 3), Q (b + r.val + 16 - j)) (count 3 (b + r.val)) - Q (b + r.val + 16) := by
  unfold k0_pay14
  have hr := roll_8 (roll_4 (roll_2 (roll_1 (rows_concat v h b c Q hv hh))))
  have hs := hr (16 + r.val) (by omega) (by omega)
  rw [← window_eq b Q r 3]
  revert hs
  generalize addf (F := Ideal) (s := S400x512) (φ := .f32) _ _ = s
  intro hs
  pointwise
  rw [hs, pay3_apply i b hb r, hv r, show b + 16 + r.val = b + r.val + 16 by omega]
  show Ideal.div _ _ - _ = Ideal.div (∑ j ∈ Finset.range 16, Q (b + (16 + r.val - j))) _ - _
  simp only [Finset.sum_range_succ, Finset.sum_range_zero, zero_add, Nat.sub_sub, Nat.sub_zero, Nat.reduceAdd, add_assoc]
  rfl
end Step

section Mix
variable (i : grid0.Coords) (v : FVec Ideal S384x512 .f32) (h : FVec Ideal S16x512 .f32) (w : FVec Ideal S1x512x512 .bf16) (r : Fin 384) (k : Fin 512)

/-- The linear map of a group at a row and a column. -/
theorem mix0_apply : k0_pay6 (F := Ideal) i v h w (ix2 r k) = ∑ c : Fin 512, k0_pay4 (F := Ideal) i v h (ix2 r c) * w (ix3 0 c k) := by
  pointwise [k0_pay6]

theorem mix1_apply : k0_pay10 (F := Ideal) (k0_pay3 i) v (k0_pay7 v h) w (ix2 r k) = ∑ c : Fin 512, k0_pay8 (F := Ideal) (k0_pay3 i) v (k0_pay7 v h) (ix2 r c) * w (ix3 0 c k) := by
  pointwise [k0_pay10]

theorem mix2_apply : k0_pay13 (F := Ideal) (k0_pay11 (k0_pay3 i) v h) w (ix2 r k) = ∑ c : Fin 512, k0_pay11 (F := Ideal) (k0_pay3 i) v h (ix2 r c) * w (ix3 0 c k) := by
  pointwise [k0_pay13]

theorem mix3_apply : k0_pay16 (F := Ideal) (k0_pay3 i) v h w (ix2 r k) = ∑ c : Fin 512, k0_pay14 (F := Ideal) (k0_pay3 i) v h (ix2 r c) * w (ix3 0 c k) := by
  pointwise [k0_pay16]
end Mix

variable (m : (ℓ : Loc nD τ sig) → Buf (Elt Ideal) ℓ) (c : Dev nD)

/-- Where every block of a grid point lies. -/
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)
theorem step_eq : ∀ t : Fin cfg0.N, ((grid0.coords t) 0).val * 384 = t.val * 384 :=
  (by decide +kernel : ∀ t : Fin grid0.N, _)
theorem lt_11 (t : Fin cfg0.N) : t.val < 11 := t.isLt

/-- The arguments. -/
abbrev PJ : FVec Ideal S4224x10240 .f32 := m ((c : Thread nD τ).loc main_arg0)
abbrev PW : FVec Ideal S4x512x512 .f32 := m ((c : Thread nD τ).loc main_arg1)

/-- The results as the reference's functions of the arguments. -/
abbrev ref2 : Buf (Elt Ideal) ((c : Thread nD τ).loc (Pipeline.arrRef spec0 2)) := Cert.Reference16Ideal.Read.val_main_v60 (F := Ideal) (PJ m c)
abbrev ref3 : Buf (Elt Ideal) ((c : Thread nD τ).loc (Pipeline.arrRef spec0 3)) := Cert.Reference16Ideal.Read.val_main_v61 (F := Ideal) (PJ m c) (PW m c)

/-- The weights as the host prepares them. -/
theorem host0 : V m c main_v0 = (truncf (F := Ideal) .bf16 (PW m c) bitsLt_bf16_f32 : FVec Ideal S4x512x512 .bf16) := by
  unfold V; after_results; try rfl

/-- The step's tile of the values. -/
theorem tile_apply (t : Fin cfg0.N) (r : Fin 384) (j : Fin 2048) :
    (iblk m c 0 t : FVec Ideal S384x2048 .f32) (ix2 r j) = padS (PJ m c) j (t.val * 384 + 16 + r.val) := by
  have ht := lt_11 t
  rw [show t.val * 384 + 16 + r.val = (t.val * 384 + r.val) + 16 by omega, padS_row (PJ m c) j (t.val * 384 + r.val) (by omega)]
  unfold vcol
  blk_ext [iblk, V, idx t]

/-- The step's weights. -/
theorem wts_apply (t : Fin cfg0.N) (g : Fin 4) (a k : Fin 512) : (iblk m c 1 t : FVec Ideal S4x512x512 .bf16) (ix3 g a k) = PW m c (ix3 g a k) := by
  blk_simp [iblk, idx t]
  rw [host0]
  pointwise
  blk_ext [idx t]

/-- What the scratch holds when a step begins: the 16 rows before the step's. -/
def before (t : Fin cfg0.N) : FVec Ideal S16x2048 .f32 :=
  if t.val % 11 = 0 then k0_pay2 else (outsAt0 m c (t.val - 1) (Nat.lt_of_le_of_lt (Nat.sub_le _ _) t.isLt)).2.2

/-- Every step leaves its last 16 rows there. -/
theorem left (t : Fin cfg0.N) (r : Fin 16) (j : Fin 2048) : (outsAt0 m c t.val t.isLt).2.2 (ix2 r j) = padS (PJ m c) j ((t.val + 1) * 384 + r.val) := by
  have hx : (outsAt0 m c t.val t.isLt).2.2 = k0_pay1 (View.ld (iblk m c 0 t) (Rect.unit (s := S384x2048) ![368, 0] S16x2048.size inb_S384x2048_S16x2048_368_0)) := by
    by_cases h0 : t.val % 11 = 0
    · rw [outsAt0_A m c t h0]; frame_out; rfl
    · rw [outsAt0_B m c t h0]; frame_out; rfl
  rw [hx]
  pointwise [k0_pay1]
  refine Eq.trans ?_ ((tile_apply m c t ⟨368 + r.val, by omega⟩ j).trans (congrArg (padS (PJ m c) j) ?_))
  · blk_ext
  · show t.val * 384 + 16 + (368 + r.val) = _
    omega

theorem before_apply (t : Fin cfg0.N) (r : Fin 16) (j : Fin 2048) : before m c t (ix2 r j) = padS (PJ m c) j (t.val * 384 + r.val) := by
  have ht := lt_11 t
  unfold before
  split
  · next h0 =>
    rw [padS_before (PJ m c) j _ (by omega)]
    pointwise [k0_pay2]
  · next h0 =>
    refine (left m c ⟨t.val - 1, Nat.lt_of_le_of_lt (Nat.sub_le _ _) t.isLt⟩ r j).trans (congrArg (padS (PJ m c) j) ?_)
    show (t.val - 1 + 1) * 384 + r.val = _
    omega

/-- The results at a step's rows. -/
theorem ref2_at (t : Fin cfg0.N) (y : S384x2048.Idx) (g : Fin 4) (r : Fin 384) (k : Fin 512) (h0 : (y 0).val = r.val) (h1 : (y 1).val = g.val * 512 + k.val) :
    ref2 m c (((cfg0.win 2).blk t).view.emb y) = poolS (PJ m c) g (t.val * 384 + r.val) k := by
  have ht := lt_11 t
  refine Eq.trans (congrArg (ref2 m c) ?_) (Cert.Reference16Ideal.Read.v60_apply (PJ m c) ⟨t.val * 384 + r.val, by omega⟩ g k)
  unfold gcol
  blk_ext [idx t]
theorem ref3_at (t : Fin cfg0.N) (y : S384x2048.Idx) (g : Fin 4) (r : Fin 384) (k : Fin 512) (h0 : (y 0).val = r.val) (h1 : (y 1).val = g.val * 512 + k.val) :
    ref3 m c (((cfg0.win 3).blk t).view.emb y) = mixS (PJ m c) (PW m c) g (t.val * 384 + r.val) k := by
  have ht := lt_11 t
  refine Eq.trans (congrArg (ref3 m c) ?_) (Cert.Reference16Ideal.Read.v61_apply (PJ m c) (PW m c) ⟨t.val * 384 + r.val, by omega⟩ g k)
  unfold gcol
  blk_ext [idx t]

/-- The difference of a group at a row of the step, and its linear map. -/
theorem d0_apply (t : Fin cfg0.N) (r : Fin 384) (k : Fin 512) :
    k0_pay4 (F := Ideal) (grid0.coords t) (View.ld (iblk m c 0 t) (Rect.unit (s := S384x2048) ![0, 0] S384x512.size inb_S384x2048_S384x512_0_0)) (View.ld (before m c t) (Rect.unit (s := S16x2048) ![0, 0] S16x512.size inb_S16x2048_S16x512_0_0)) (ix2 r k)
      = poolS (PJ m c) 0 (t.val * 384 + r.val) k := by
  refine pool0_apply (grid0.coords t) _ _ (t.val * 384) (step_eq t) k (padS (PJ m c) (gcol 0 k)) (fun r => ?_) (fun r => ?_) r
  · refine Eq.trans ?_ (tile_apply m c t r (gcol 0 k))
    rw [gcol_0]
    pointwise
  · refine Eq.trans ?_ (before_apply m c t r (gcol 0 k))
    rw [gcol_0]
    pointwise
theorem y0_apply (t : Fin cfg0.N) (r : Fin 384) (k : Fin 512) :
    k0_pay6 (F := Ideal) (grid0.coords t) (View.ld (iblk m c 0 t) (Rect.unit (s := S384x2048) ![0, 0] S384x512.size inb_S384x2048_S384x512_0_0)) (View.ld (before m c t) (Rect.unit (s := S16x2048) ![0, 0] S16x512.size inb_S16x2048_S16x512_0_0)) (View.ld (iblk m c 1 t) (Rect.unit (s := S4x512x512) ![0, 0, 0] S1x512x512.size inb_S4x512x512_S1x512x512_0_0_0)) (ix2 r k)
      = mixS (PJ m c) (PW m c) 0 (t.val * 384 + r.val) k := by
  refine (mix0_apply _ _ _ _ r k).trans (Finset.sum_congr rfl fun a _ => congrArg₂ (· * ·) (d0_apply m c t r a) ?_)
  refine Eq.trans ?_ (wts_apply m c t 0 a k)
  pointwise

theorem d1_apply (t : Fin cfg0.N) (r : Fin 384) (k : Fin 512) :
    k0_pay8 (F := Ideal) (k0_pay3 (grid0.coords t)) (View.ld (iblk m c 0 t) (Rect.unit (s := S384x2048) ![0, 512] S384x512.size inb_S384x2048_S384x512_0_512)) (k0_pay7 (View.ld (iblk m c 0 t) (Rect.unit (s := S384x2048) ![0, 512] S384x512.size inb_S384x2048_S384x512_0_512)) (View.ld (before m c t) (Rect.unit (s := S16x2048) ![0, 512] S16x512.size inb_S16x2048_S16x512_0_512))) (ix2 r k)
      = poolS (PJ m c) 1 (t.val * 384 + r.val) k := by
  refine pool1_apply (grid0.coords t) _ _ (t.val * 384) (step_eq t) k (padS (PJ m c) (gcol 1 k)) (fun r => ?_) (fun r => ?_) r
  · refine Eq.trans ?_ (tile_apply m c t r (gcol 1 k))
    rw [gcol_1]
    pointwise
  · refine Eq.trans ?_ (before_apply m c t r (gcol 1 k))
    rw [gcol_1]
    pointwise
theorem y1_apply (t : Fin cfg0.N) (r : Fin 384) (k : Fin 512) :
    k0_pay10 (F := Ideal) (k0_pay3 (grid0.coords t)) (View.ld (iblk m c 0 t) (Rect.unit (s := S384x2048) ![0, 512] S384x512.size inb_S384x2048_S384x512_0_512)) (k0_pay7 (View.ld (iblk m c 0 t) (Rect.unit (s := S384x2048) ![0, 512] S384x512.size inb_S384x2048_S384x512_0_512)) (View.ld (before m c t) (Rect.unit (s := S16x2048) ![0, 512] S16x512.size inb_S16x2048_S16x512_0_512))) (View.ld (iblk m c 1 t) (Rect.unit (s := S4x512x512) ![1, 0, 0] S1x512x512.size inb_S4x512x512_S1x512x512_1_0_0)) (ix2 r k)
      = mixS (PJ m c) (PW m c) 1 (t.val * 384 + r.val) k := by
  refine (mix1_apply _ _ _ _ r k).trans (Finset.sum_congr rfl fun a _ => congrArg₂ (· * ·) (d1_apply m c t r a) ?_)
  refine Eq.trans ?_ (wts_apply m c t 1 a k)
  pointwise

theorem d2_apply (t : Fin cfg0.N) (r : Fin 384) (k : Fin 512) :
    k0_pay11 (F := Ideal) (k0_pay3 (grid0.coords t)) (View.ld (iblk m c 0 t) (Rect.unit (s := S384x2048) ![0, 1024] S384x512.size inb_S384x2048_S384x512_0_1024)) (View.ld (before m c t) (Rect.unit (s := S16x2048) ![0, 1024] S16x512.size inb_S16x2048_S16x512_0_1024)) (ix2 r k)
      = poolS (PJ m c) 2 (t.val * 384 + r.val) k := by
  refine pool2_apply (grid0.coords t) _ _ (t.val * 384) (step_eq t) k (padS (PJ m c) (gcol 2 k)) (fun r => ?_) (fun r => ?_) r
  · refine Eq.trans ?_ (tile_apply m c t r (gcol 2 k))
    rw [gcol_2]
    pointwise
  · refine Eq.trans ?_ (before_apply m c t r (gcol 2 k))
    rw [gcol_2]
    pointwise
theorem y2_apply (t : Fin cfg0.N) (r : Fin 384) (k : Fin 512) :
    k0_pay13 (F := Ideal) (k0_pay11 (k0_pay3 (grid0.coords t)) (View.ld (iblk m c 0 t) (Rect.unit (s := S384x2048) ![0, 1024] S384x512.size inb_S384x2048_S384x512_0_1024)) (View.ld (before m c t) (Rect.unit (s := S16x2048) ![0, 1024] S16x512.size inb_S16x2048_S16x512_0_1024))) (View.ld (iblk m c 1 t) (Rect.unit (s := S4x512x512) ![2, 0, 0] S1x512x512.size inb_S4x512x512_S1x512x512_2_0_0)) (ix2 r k)
      = mixS (PJ m c) (PW m c) 2 (t.val * 384 + r.val) k := by
  refine (mix2_apply _ _ _ _ r k).trans (Finset.sum_congr rfl fun a _ => congrArg₂ (· * ·) (d2_apply m c t r a) ?_)
  refine Eq.trans ?_ (wts_apply m c t 2 a k)
  pointwise

theorem d3_apply (t : Fin cfg0.N) (r : Fin 384) (k : Fin 512) :
    k0_pay14 (F := Ideal) (k0_pay3 (grid0.coords t)) (View.ld (iblk m c 0 t) (Rect.unit (s := S384x2048) ![0, 1536] S384x512.size inb_S384x2048_S384x512_0_1536)) (View.ld (before m c t) (Rect.unit (s := S16x2048) ![0, 1536] S16x512.size inb_S16x2048_S16x512_0_1536)) (ix2 r k)
      = poolS (PJ m c) 3 (t.val * 384 + r.val) k := by
  refine pool3_apply (grid0.coords t) _ _ (t.val * 384) (step_eq t) k (padS (PJ m c) (gcol 3 k)) (fun r => ?_) (fun r => ?_) r
  · refine Eq.trans ?_ (tile_apply m c t r (gcol 3 k))
    rw [gcol_3]
    pointwise
  · refine Eq.trans ?_ (before_apply m c t r (gcol 3 k))
    rw [gcol_3]
    pointwise
theorem y3_apply (t : Fin cfg0.N) (r : Fin 384) (k : Fin 512) :
    k0_pay16 (F := Ideal) (k0_pay3 (grid0.coords t)) (View.ld (iblk m c 0 t) (Rect.unit (s := S384x2048) ![0, 1536] S384x512.size inb_S384x2048_S384x512_0_1536)) (View.ld (before m c t) (Rect.unit (s := S16x2048) ![0, 1536] S16x512.size inb_S16x2048_S16x512_0_1536)) (View.ld (iblk m c 1 t) (Rect.unit (s := S4x512x512) ![3, 0, 0] S1x512x512.size inb_S4x512x512_S1x512x512_3_0_0)) (ix2 r k)
      = mixS (PJ m c) (PW m c) 3 (t.val * 384 + r.val) k := by
  refine (mix3_apply _ _ _ _ r k).trans (Finset.sum_congr rfl fun a _ => congrArg₂ (· * ·) (d3_apply m c t r a) ?_)
  refine Eq.trans ?_ (wts_apply m c t 3 a k)
  pointwise

/-- A place in a piece by its two coordinates. -/
theorem eta (x : S384x512.Idx) : x = ix2 (n0 := 384) (n1 := 512) (x 0) (x 1) := funext fun a => by
  match a with
  | ⟨0, _⟩ => rfl
  | ⟨1, _⟩ => rfl

/-- What a step writes is its block of the reference's result. -/
theorem point2 (t : Fin cfg0.N) (y : S384x2048.Idx) : (outsAt0 m c t.val t.isLt).1 y = ref2 m c (((cfg0.win 2).blk t).view.emb y) := by
  by_cases h : t.val % 11 = 0
  · have hb : before m c t = k0_pay2 := if_pos h
    rw [outsAt0_A m c t h]
    frame_open
    simp (disch := decide) only [↓ View.readCov_skip, ↓ View.readCov_cons_toLoadRect, ↓ View.readCov_fill]
    frame_out
    rw [← hb]
    canon_tiles x h
    · rw [eta x]; exact (d3_apply m c t (x 0) (x 1)).trans (ref2_at m c t y 3 (x 0) (x 1) h0 (by show (y 1).val = 3 * 512 + (x 1).val; omega)).symm
    · rw [eta x]; exact (d2_apply m c t (x 0) (x 1)).trans (ref2_at m c t y 2 (x 0) (x 1) h0 (by show (y 1).val = 2 * 512 + (x 1).val; omega)).symm
    · rw [eta x]; exact (d1_apply m c t (x 0) (x 1)).trans (ref2_at m c t y 1 (x 0) (x 1) h0 (by show (y 1).val = 1 * 512 + (x 1).val; omega)).symm
    · rw [eta x]; exact (d0_apply m c t (x 0) (x 1)).trans (ref2_at m c t y 0 (x 0) (x 1) h0 (by show (y 1).val = 0 * 512 + (x 1).val; omega)).symm
  · have hb : before m c t = (outsAt0 m c (t.val - 1) (Nat.lt_of_le_of_lt (Nat.sub_le _ _) t.isLt)).2.2 := if_neg h
    rw [outsAt0_B m c t h]
    frame_out
    simp only [read_unread_whole]
    rw [← hb]
    canon_tiles x h
    · rw [eta x]; exact (d3_apply m c t (x 0) (x 1)).trans (ref2_at m c t y 3 (x 0) (x 1) h0 (by show (y 1).val = 3 * 512 + (x 1).val; omega)).symm
    · rw [eta x]; exact (d2_apply m c t (x 0) (x 1)).trans (ref2_at m c t y 2 (x 0) (x 1) h0 (by show (y 1).val = 2 * 512 + (x 1).val; omega)).symm
    · rw [eta x]; exact (d1_apply m c t (x 0) (x 1)).trans (ref2_at m c t y 1 (x 0) (x 1) h0 (by show (y 1).val = 1 * 512 + (x 1).val; omega)).symm
    · rw [eta x]; exact (d0_apply m c t (x 0) (x 1)).trans (ref2_at m c t y 0 (x 0) (x 1) h0 (by show (y 1).val = 0 * 512 + (x 1).val; omega)).symm

/-- The blocks tile the result, so the result is the reference's. -/
theorem final2 : (dats m 0 c).arrAt 2 cfg0.N = ref2 m c := by
  refine (dats m 0 c).arrAt_eq_of_covers 2 _ (by decide +kernel) fun t _ y => ?_
  blk_simp
  rw [after0_2]
  exact point2 m c t y

/-- What a step writes is its block of the reference's result. -/
theorem point3 (t : Fin cfg0.N) (y : S384x2048.Idx) : (outsAt0 m c t.val t.isLt).2.1 y = ref3 m c (((cfg0.win 3).blk t).view.emb y) := by
  by_cases h : t.val % 11 = 0
  · have hb : before m c t = k0_pay2 := if_pos h
    rw [outsAt0_A m c t h]
    frame_open
    simp (disch := decide) only [↓ View.readCov_skip, ↓ View.readCov_cons_toLoadRect, ↓ View.readCov_fill]
    frame_out
    rw [← hb]
    canon_tiles x h
    · rw [eta x]; exact (y3_apply m c t (x 0) (x 1)).trans (ref3_at m c t y 3 (x 0) (x 1) h0 (by show (y 1).val = 3 * 512 + (x 1).val; omega)).symm
    · rw [eta x]; exact (y2_apply m c t (x 0) (x 1)).trans (ref3_at m c t y 2 (x 0) (x 1) h0 (by show (y 1).val = 2 * 512 + (x 1).val; omega)).symm
    · rw [eta x]; exact (y1_apply m c t (x 0) (x 1)).trans (ref3_at m c t y 1 (x 0) (x 1) h0 (by show (y 1).val = 1 * 512 + (x 1).val; omega)).symm
    · rw [eta x]; exact (y0_apply m c t (x 0) (x 1)).trans (ref3_at m c t y 0 (x 0) (x 1) h0 (by show (y 1).val = 0 * 512 + (x 1).val; omega)).symm
  · have hb : before m c t = (outsAt0 m c (t.val - 1) (Nat.lt_of_le_of_lt (Nat.sub_le _ _) t.isLt)).2.2 := if_neg h
    rw [outsAt0_B m c t h]
    frame_out
    simp only [read_unread_whole]
    rw [← hb]
    canon_tiles x h
    · rw [eta x]; exact (y3_apply m c t (x 0) (x 1)).trans (ref3_at m c t y 3 (x 0) (x 1) h0 (by show (y 1).val = 3 * 512 + (x 1).val; omega)).symm
    · rw [eta x]; exact (y2_apply m c t (x 0) (x 1)).trans (ref3_at m c t y 2 (x 0) (x 1) h0 (by show (y 1).val = 2 * 512 + (x 1).val; omega)).symm
    · rw [eta x]; exact (y1_apply m c t (x 0) (x 1)).trans (ref3_at m c t y 1 (x 0) (x 1) h0 (by show (y 1).val = 1 * 512 + (x 1).val; omega)).symm
    · rw [eta x]; exact (y0_apply m c t (x 0) (x 1)).trans (ref3_at m c t y 0 (x 0) (x 1) h0 (by show (y 1).val = 0 * 512 + (x 1).val; omega)).symm

/-- The blocks tile the result, so the result is the reference's. -/
theorem final3 : (dats m 0 c).arrAt 3 cfg0.N = ref3 m c := by
  refine (dats m 0 c).arrAt_eq_of_covers 3 _ (by decide +kernel) fun t _ y => ?_
  blk_simp
  rw [after0_3]
  exact point3 m c t y

end Cert.Kernel16Ideal.PoolFwd
-- ==== Proof.lean ====
/-
  The claims, put together: each call ends with its arguments unchanged and every counter at zero, and in exact arithmetic
  its results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Call
public import proofs.«01_k».proof.Proof.Ends
public import proofs.«01_k».proof.Proof.Gen.On_written
public import proofs.«01_k».proof.Proof.Gen.On_written14
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Reference13Ideal.Run
public import proofs.«01_k».proof.Proof.Gen.Reference13Ideal.Read
public import proofs.«01_k».proof.Proof.Gen.Kernel14.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Hidden
public import proofs.«01_k».proof.Proof.GradW2
public import proofs.«01_k».proof.Proof.GradW1
public import proofs.«01_k».proof.Proof.Merged
public import proofs.«01_k».proof.Proof.GradWout
public import proofs.«01_k».proof.Proof.GradWinA
public import proofs.«01_k».proof.Proof.GradWinB
public import proofs.«01_k».proof.Proof.Projection
public import proofs.«01_k».proof.Proof.Mlp
public import proofs.«01_k».proof.Proof.WoutNorm
public import proofs.«01_k».proof.Proof.Norm
public import proofs.«01_k».proof.Proof.NormValue
public import proofs.«01_k».proof.Proof.NormAValue
public import proofs.«01_k».proof.Proof.NormBValue
public import proofs.«01_k».proof.Proof.PoolFwd
public import Idealize.ShloMosaic.Adequacy
public import Idealize.ShloMosaic.Init

@[expose] public section

noncomputable section

namespace Cert.Proof

open Idealize.ShloMosaic Idealize.SL.Sem Cert.Kernel

/-- The two printed kernels run the same body at every grid point. -/
theorem bodies_same : Cert.Kernel.defs₀ (F := Bits) = Cert.KernelIdeal.defs₀ (F := Bits) := by
  refine congrArg Defs.onTc ?_
  funext l a
  match l, a with
  | ⟨0, _⟩, (t, s) => rfl

/-- So their body tables are equal. -/
theorem defs_same : Cert.Kernel.defs (F := Bits) = Cert.KernelIdeal.defs (F := Bits) :=
  congrArg (Pipeline.defs Cert.Kernel.pcfgs) bodies_same

set_option maxHeartbeats 1000000 in
/-- The kernel on machine words: the run written for every float instance, read at this one. -/
theorem frame_kernel : Cert.quiescent_Kernel :=
  fun m ρ _ => (congrArg (fun d => θ_run d (onTc (τ := Cert.Kernel.τ) (Cert.Kernel.main (F := Bits))) ⟨m, fun _ => 0, ρ⟩ _)
    defs_same).mpr (Cert.KernelIdeal.PoolBwd.call_frame (F := Bits) m ρ)

theorem frame_kernelIdeal : Cert.quiescent_KernelIdeal :=
  fun m ρ _ => Cert.KernelIdeal.PoolBwd.call_frame m ρ

/-- The reference is host operations alone; its run gives the arguments, and it declares no semaphore. -/
theorem frame_referenceIdeal : Cert.quiescent_ReferenceIdeal :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run m ρ)

/-- On the columns the call writes, and on all of the two gradients, the kernel's results are the reference's. -/
theorem algebraic : Cert.algebraic_KernelIdeal_ReferenceIdeal_on_written := by
  intro m g m' g' _ hm
  refine ⟨fun c => Cert.KernelIdeal.PoolBwd.refProj m c, fun c => Cert.KernelIdeal.PoolBwd.refWeight m c,
    fun c => Cert.KernelIdeal.PoolBwd.refScale m c, ?_, ?_⟩
  · refine (θ_run _ _ _).mono (fun r h c => ?_) (Cert.KernelIdeal.PoolBwd.call_values m g)
    obtain ⟨h0, h1, h2, ha⟩ := h c
    refine ⟨fun i hi => ?_, fun i _ => congrFun h1 i, fun i _ => congrFun h2 i, ha⟩
    rw [h0, eq_ix2 i]
    rw [eq_ix2 i] at hi
    exact Cert.KernelIdeal.PoolBwd.proj_eq m c _ _ (Cert.KernelIdeal.PoolBwd.written_col _ _ _ _ _ _ hi)
  · refine (θ_run _ _ _).mono (fun r h c => ?_) (Cert.ReferenceIdeal.Value.run m' g')
    obtain ⟨h0, h1, h2, ha⟩ := h c
    obtain ⟨e0, e1, e2, e3⟩ := hm c
    rw [Cert.ReferenceIdeal.Read.val_main_v134_eq, e0, e1, e2, e3] at h0
    rw [Cert.ReferenceIdeal.Read.val_main_v87_eq, e0, e2, e3] at h1
    rw [Cert.ReferenceIdeal.Read.val_main_v79_eq, e0, e1, e3] at h2
    exact ⟨fun i _ => congrFun h0 i, fun i _ => congrFun h1 i, fun i _ => congrFun h2 i, ha⟩

/-! ## The hidden gradient -/

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2Ideal : Cert.quiescent_Reference2Ideal :=
  fun m ρ _ => (θ_run Cert.Reference2Ideal.defs _ _).mono
    (fun r h => ⟨fun c => (h c).2, Idealize.ShloMosaic.sem_eq_zero_of_no_sems (by decide) r.2⟩)
    (Cert.Reference2Ideal.Value.run m ρ)

theorem algebraic2 : Cert.algebraic_Kernel2Ideal_Reference2Ideal := by
  intro m g m' g' _ hm
  refine ⟨fun c => Cert.Kernel2Ideal.Hidden.ref3 m c, ?_, ?_⟩
  · refine (θ_run _ _ _).mono (fun r h c => ?_) (Cert.Kernel2Ideal.Value.run_blocks m g)
    exact ⟨(h c).1.trans (Cert.Kernel2Ideal.Hidden.final3 m c), (h c).2⟩
  · refine (θ_run _ _ _).mono (fun r h c => ?_) (Cert.Reference2Ideal.Value.run m' g')
    obtain ⟨h0, ha⟩ := h c
    obtain ⟨e0, e1, e2⟩ := hm c
    rw [Cert.Reference2Ideal.Read.val_main_v12_eq, e0, e1, e2] at h0
    exact ⟨h0, ha⟩

/-! ## The gradient of the second weight of the MLP -/

theorem frame_kernel3 : Cert.quiescent_Kernel3 := fun m ρ _ => Cert.Kernel3.Gen.frame (F := Bits) m ρ

theorem frame_kernel3Ideal : Cert.quiescent_Kernel3Ideal := fun m ρ _ => Cert.Kernel3Ideal.Gen.frame (F := Ideal) m ρ

theorem frame_reference3Ideal : Cert.quiescent_Reference3Ideal :=
  fun m ρ _ => (θ_run Cert.Reference3Ideal.defs _ _).mono
    (fun r h => ⟨fun c => (h c).2, Idealize.ShloMosaic.sem_eq_zero_of_no_sems (by decide) r.2⟩)
    (Cert.Reference3Ideal.Value.run m ρ)

theorem algebraic3 : Cert.algebraic_Kernel3Ideal_Reference3Ideal := by
  intro m g m' g' _ hm
  refine ⟨fun c => Cert.Kernel3Ideal.GradW2.ref2 m c, ?_, ?_⟩
  · refine (θ_run _ _ _).mono (fun r h c => ?_) (Cert.Kernel3Ideal.Value.run_blocks m g)
    exact ⟨(h c).1.trans (Cert.Kernel3Ideal.GradW2.final2 m c), (h c).2⟩
  · refine (θ_run _ _ _).mono (fun r h c => ?_) (Cert.Reference3Ideal.Value.run m' g')
    obtain ⟨h0, ha⟩ := h c
    obtain ⟨e0, e1⟩ := hm c
    rw [Cert.Reference3Ideal.Read.val_main_v7_eq, e0, e1] at h0
    exact ⟨h0, ha⟩

/-! ## The gradient of the first weight of the MLP -/

theorem frame_kernel4 : Cert.quiescent_Kernel4 := fun m ρ _ => Cert.Kernel4.Gen.frame (F := Bits) m ρ

theorem frame_kernel4Ideal : Cert.quiescent_Kernel4Ideal := fun m ρ _ => Cert.Kernel4Ideal.Gen.frame (F := Ideal) m ρ

theorem frame_reference4Ideal : Cert.quiescent_Reference4Ideal :=
  fun m ρ _ => (θ_run Cert.Reference4Ideal.defs _ _).mono
    (fun r h => ⟨fun c => (h c).2, Idealize.ShloMosaic.sem_eq_zero_of_no_sems (by decide) r.2⟩)
    (Cert.Reference4Ideal.Value.run m ρ)

theorem algebraic4 : Cert.algebraic_Kernel4Ideal_Reference4Ideal := by
  intro m g m' g' _ hm
  refine ⟨fun c => Cert.Kernel4Ideal.GradW1.ref2 m c, ?_, ?_⟩
  · refine (θ_run _ _ _).mono (fun r h c => ?_) (Cert.Kernel4Ideal.Value.run_blocks m g)
    exact ⟨(h c).1.trans (Cert.Kernel4Ideal.GradW1.final2 m c), (h c).2⟩
  · refine (θ_run _ _ _).mono (fun r h c => ?_) (Cert.Reference4Ideal.Value.run m' g')
    obtain ⟨h0, ha⟩ := h c
    obtain ⟨e0, e1⟩ := hm c
    rw [Cert.Reference4Ideal.Read.val_main_v6_eq, e0, e1] at h0
    exact ⟨h0, ha⟩

/-! ## The gradient of the merged mixers -/

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5Ideal : Cert.quiescent_Reference5Ideal :=
  fun m ρ _ => (θ_run Cert.Reference5Ideal.defs _ _).mono
    (fun r h => ⟨fun c => (h c).2, Idealize.ShloMosaic.sem_eq_zero_of_no_sems (by decide) r.2⟩)
    (Cert.Reference5Ideal.Value.run m ρ)

theorem algebraic5 : Cert.algebraic_Kernel5Ideal_Reference5Ideal := by
  intro m g m' g' _ hm
  refine ⟨fun c => Cert.Kernel5Ideal.Merged.ref2 m c, ?_, ?_⟩
  · refine (θ_run _ _ _).mono (fun r h c => ?_) (Cert.Kernel5Ideal.Value.run_blocks m g)
    exact ⟨(h c).1.trans (Cert.Kernel5Ideal.Merged.final2 m c), (h c).2⟩
  · refine (θ_run _ _ _).mono (fun r h c => ?_) (Cert.Reference5Ideal.Value.run m' g')
    obtain ⟨h0, ha⟩ := h c
    obtain ⟨e0, e1⟩ := hm c
    rw [Cert.Reference5Ideal.Read.val_main_v2_eq, e0, e1] at h0
    exact ⟨h0, ha⟩

/-! ## The gradient of the output projection -/

theorem frame_kernel6 : Cert.quiescent_Kernel6 := fun m ρ _ => Cert.Kernel6.Gen.frame (F := Bits) m ρ

theorem frame_kernel6Ideal : Cert.quiescent_Kernel6Ideal := fun m ρ _ => Cert.Kernel6Ideal.Gen.frame (F := Ideal) m ρ

theorem frame_reference6Ideal : Cert.quiescent_Reference6Ideal :=
  fun m ρ _ => (θ_run Cert.Reference6Ideal.defs _ _).mono
    (fun r h => ⟨fun c => (h c).2, Idealize.ShloMosaic.sem_eq_zero_of_no_sems (by decide) r.2⟩)
    (Cert.Reference6Ideal.Value.run m ρ)

theorem algebraic6 : Cert.algebraic_Kernel6Ideal_Reference6Ideal := by
  intro m g m' g' _ hm
  refine ⟨fun c => Cert.Kernel6Ideal.GradWout.ref2 m c, ?_, ?_⟩
  · refine (θ_run _ _ _).mono (fun r h c => ?_) (Cert.Kernel6Ideal.Value.run_blocks m g)
    exact ⟨(h c).1.trans (Cert.Kernel6Ideal.GradWout.final2 m c), (h c).2⟩
  · refine (θ_run _ _ _).mono (fun r h c => ?_) (Cert.Reference6Ideal.Value.run m' g')
    obtain ⟨h0, ha⟩ := h c
    obtain ⟨e0, e1⟩ := hm c
    rw [Cert.Reference6Ideal.Read.val_main_v5_eq, e0, e1] at h0
    exact ⟨h0, ha⟩

/-! ## The gradient of the first rows of the input projection -/

theorem frame_kernel7 : Cert.quiescent_Kernel7 := fun m ρ _ => Cert.Kernel7.Gen.frame (F := Bits) m ρ

theorem frame_kernel7Ideal : Cert.quiescent_Kernel7Ideal := fun m ρ _ => Cert.Kernel7Ideal.Gen.frame (F := Ideal) m ρ

theorem frame_reference7Ideal : Cert.quiescent_Reference7Ideal :=
  fun m ρ _ => (θ_run Cert.Reference7Ideal.defs _ _).mono
    (fun r h => ⟨fun c => (h c).2, Idealize.ShloMosaic.sem_eq_zero_of_no_sems (by decide) r.2⟩)
    (Cert.Reference7Ideal.Value.run m ρ)

theorem algebraic7 : Cert.algebraic_Kernel7Ideal_Reference7Ideal := by
  intro m g m' g' _ hm
  refine ⟨fun c => Cert.Kernel7Ideal.GradWinA.ref2 m c, ?_, ?_⟩
  · refine (θ_run _ _ _).mono (fun r h c => ?_) (Cert.Kernel7Ideal.Value.run_blocks m g)
    exact ⟨(h c).1.trans (Cert.Kernel7Ideal.GradWinA.final2 m c), (h c).2⟩
  · refine (θ_run _ _ _).mono (fun r h c => ?_) (Cert.Reference7Ideal.Value.run m' g')
    obtain ⟨h0, ha⟩ := h c
    obtain ⟨e0, e1⟩ := hm c
    rw [Cert.Reference7Ideal.Read.val_main_v7_eq, e0, e1] at h0
    exact ⟨h0, ha⟩

/-! ## The gradient of the last rows of the input projection -/

theorem frame_kernel8 : Cert.quiescent_Kernel8 := fun m ρ _ => Cert.Kernel8.Gen.frame (F := Bits) m ρ

theorem frame_kernel8Ideal : Cert.quiescent_Kernel8Ideal := fun m ρ _ => Cert.Kernel8Ideal.Gen.frame (F := Ideal) m ρ

theorem frame_reference8Ideal : Cert.quiescent_Reference8Ideal :=
  fun m ρ _ => (θ_run Cert.Reference8Ideal.defs _ _).mono
    (fun r h => ⟨fun c => (h c).2, Idealize.ShloMosaic.sem_eq_zero_of_no_sems (by decide) r.2⟩)
    (Cert.Reference8Ideal.Value.run m ρ)

theorem algebraic8 : Cert.algebraic_Kernel8Ideal_Reference8Ideal := by
  intro m g m' g' _ hm
  refine ⟨fun c => Cert.Kernel8Ideal.GradWinB.ref2 m c, ?_, ?_⟩
  · refine (θ_run _ _ _).mono (fun r h c => ?_) (Cert.Kernel8Ideal.Value.run_blocks m g)
    exact ⟨(h c).1.trans (Cert.Kernel8Ideal.GradWinB.final2 m c), (h c).2⟩
  · refine (θ_run _ _ _).mono (fun r h c => ?_) (Cert.Reference8Ideal.Value.run m' g')
    obtain ⟨h0, ha⟩ := h c
    obtain ⟨e0, e1⟩ := hm c
    rw [Cert.Reference8Ideal.Read.val_main_v7_eq, e0, e1] at h0
    exact ⟨h0, ha⟩

/-! ## The input projection -/

theorem frame_kernel9 : Cert.quiescent_Kernel9 := fun m ρ _ => Cert.Kernel9.Gen.frame (F := Bits) m ρ

theorem frame_kernel9Ideal : Cert.quiescent_Kernel9Ideal := fun m ρ _ => Cert.Kernel9Ideal.Gen.frame (F := Ideal) m ρ

theorem frame_reference9Ideal : Cert.quiescent_Reference9Ideal :=
  fun m ρ _ => (θ_run Cert.Reference9Ideal.defs _ _).mono
    (fun r h => ⟨fun c => (h c).2, Idealize.ShloMosaic.sem_eq_zero_of_no_sems (by decide) r.2⟩)
    (Cert.Reference9Ideal.Value.run m ρ)

theorem algebraic9 : Cert.algebraic_Kernel9Ideal_Reference9Ideal := by
  intro m g m' g' _ hm
  refine ⟨fun c => Cert.Kernel9Ideal.Projection.ref2 m c, ?_, ?_⟩
  · refine (θ_run _ _ _).mono (fun r h c => ?_) (Cert.Kernel9Ideal.Value.run_blocks m g)
    exact ⟨(h c).1.trans (Cert.Kernel9Ideal.Projection.final2 m c), (h c).2⟩
  · refine (θ_run _ _ _).mono (fun r h c => ?_) (Cert.Reference9Ideal.Value.run m' g')
    obtain ⟨h0, ha⟩ := h c
    obtain ⟨e0, e1⟩ := hm c
    rw [Cert.Reference9Ideal.Read.val_main_v0_eq, e0, e1] at h0
    exact ⟨h0, ha⟩

/-! ## The hidden layer -/

theorem frame_kernel10 : Cert.quiescent_Kernel10 := fun m ρ _ => Cert.Kernel10.Gen.frame (F := Bits) m ρ

theorem frame_kernel10Ideal : Cert.quiescent_Kernel10Ideal := fun m ρ _ => Cert.Kernel10Ideal.Gen.frame (F := Ideal) m ρ

theorem frame_reference10Ideal : Cert.quiescent_Reference10Ideal :=
  fun m ρ _ => (θ_run Cert.Reference10Ideal.defs _ _).mono
    (fun r h => ⟨fun c => (h c).2.2, Idealize.ShloMosaic.sem_eq_zero_of_no_sems (by decide) r.2⟩)
    (Cert.Reference10Ideal.Value.run m ρ)

theorem algebraic10 : Cert.algebraic_Kernel10Ideal_Reference10Ideal := by
  intro m g m' g' _ hm
  refine ⟨fun c => Cert.Kernel10Ideal.Mlp.ref2 m c, fun c => Cert.Kernel10Ideal.Mlp.ref3 m c, ?_, ?_⟩
  · refine (θ_run _ _ _).mono (fun r h c => ?_) (Cert.Kernel10Ideal.Value.run_blocks m g)
    exact ⟨(h c).1.trans (Cert.Kernel10Ideal.Mlp.final2 m c), (h c).2.1.trans (Cert.Kernel10Ideal.Mlp.final3 m c), (h c).2.2⟩
  · refine (θ_run _ _ _).mono (fun r h c => ?_) (Cert.Reference10Ideal.Value.run m' g')
    obtain ⟨h0, h1, ha⟩ := h c
    obtain ⟨e0, e1⟩ := hm c
    rw [Cert.Reference10Ideal.Read.val_main_v3_eq, e0, e1] at h0
    rw [Cert.Reference10Ideal.Read.val_main_v4_eq, e0, e1] at h1
    exact ⟨h0, h1, ha⟩

/-! ## The output projection with its norm -/

theorem frame_kernel11 : Cert.quiescent_Kernel11 := fun m ρ _ => Cert.Kernel11.Gen.frame (F := Bits) m ρ

theorem frame_kernel11Ideal : Cert.quiescent_Kernel11Ideal := fun m ρ _ => Cert.Kernel11Ideal.Gen.frame (F := Ideal) m ρ

theorem frame_reference11Ideal : Cert.quiescent_Reference11Ideal :=
  fun m ρ _ => (θ_run Cert.Reference11Ideal.defs _ _).mono
    (fun r h => ⟨fun c => (h c).2.2.2, Idealize.ShloMosaic.sem_eq_zero_of_no_sems (by decide) r.2⟩)
    (Cert.Reference11Ideal.Value.run m ρ)

theorem algebraic11 : Cert.algebraic_Kernel11Ideal_Reference11Ideal := by
  intro m g m' g' _ hm
  refine ⟨fun c => Cert.Kernel11Ideal.WoutNorm.ref4 m c, fun c => Cert.Kernel11Ideal.WoutNorm.ref5 m c, fun c => Cert.Kernel11Ideal.WoutNorm.ref6 m c, ?_, ?_⟩
  · refine (θ_run _ _ _).mono (fun r h c => ?_) (Cert.Kernel11Ideal.Value.run_blocks m g)
    exact ⟨(h c).1.trans (Cert.Kernel11Ideal.WoutNorm.final4 m c), (h c).2.1.trans (Cert.Kernel11Ideal.WoutNorm.final5 m c), (h c).2.2.1.trans (Cert.Kernel11Ideal.WoutNorm.final6 m c), (h c).2.2.2⟩
  · refine (θ_run _ _ _).mono (fun r h c => ?_) (Cert.Reference11Ideal.Value.run m' g')
    obtain ⟨h0, h1, h2, ha⟩ := h c
    obtain ⟨e0, e1, e2, e3⟩ := hm c
    rw [Cert.Reference11Ideal.Read.val_main_v1_eq, e0, e1, e2] at h0
    rw [Cert.Reference11Ideal.Read.val_main_v14_eq, e0, e1, e2, e3] at h1
    rw [Cert.Reference11Ideal.Read.val_main_v9_eq, e0, e1, e2] at h2
    exact ⟨h0, h1, h2, ha⟩

/-! ## The norm -/

theorem frame_kernel12 : Cert.quiescent_Kernel12 := fun m ρ _ => Cert.Kernel12.Gen.frame (F := Bits) m ρ

theorem frame_kernel12Ideal : Cert.quiescent_Kernel12Ideal := fun m ρ _ => Cert.Kernel12Ideal.Gen.frame (F := Ideal) m ρ

theorem frame_reference12Ideal : Cert.quiescent_Reference12Ideal :=
  fun m ρ _ => (θ_run Cert.Reference12Ideal.defs _ _).mono
    (fun r h => ⟨fun c => (h c).2.2, Idealize.ShloMosaic.sem_eq_zero_of_no_sems (by decide) r.2⟩)
    (Cert.Reference12Ideal.Value.run m ρ)

theorem algebraic12 : Cert.algebraic_Kernel12Ideal_Reference12Ideal := by
  intro m g m' g' _ hm
  refine ⟨fun c => Cert.Kernel12Ideal.Norm.ref2 m c, fun c => Cert.Kernel12Ideal.Norm.ref3 m c, ?_, ?_⟩
  · refine (θ_run _ _ _).mono (fun r h c => ?_) (Cert.Kernel12Ideal.Value.run_blocks m g)
    exact ⟨(h c).1.trans (Cert.Kernel12Ideal.Norm.final2 m c), (h c).2.1.trans (Cert.Kernel12Ideal.Norm.final3 m c), (h c).2.2⟩
  · refine (θ_run _ _ _).mono (fun r h c => ?_) (Cert.Reference12Ideal.Value.run m' g')
    obtain ⟨h0, h1, ha⟩ := h c
    obtain ⟨e0, e1⟩ := hm c
    rw [Cert.Reference12Ideal.Read.val_main_v12_eq, e0, e1] at h0
    rw [Cert.Reference12Ideal.Read.val_main_v7_eq, e0] at h1
    exact ⟨h0, h1, ha⟩

/-! ## The gradient of the MLP's input, through the norm -/

/-- The two printed kernels run the same body at every grid point. -/
theorem bodies13_same : Cert.Kernel13.defs₀ (F := Bits) = Cert.Kernel13Ideal.defs₀ (F := Bits) := by
  refine congrArg Defs.onTc ?_
  funext l a
  match l, a with
  | ⟨0, _⟩, (t, s) => rfl

/-- So their body tables are equal. -/
theorem defs13_same : Cert.Kernel13.defs (F := Bits) = Cert.Kernel13Ideal.defs (F := Bits) :=
  congrArg (Pipeline.defs Cert.Kernel13.pcfgs) bodies13_same

set_option maxHeartbeats 1000000 in
/-- The kernel on machine words: the run written for every float instance, read at this one. -/
theorem frame_kernel13 : Cert.quiescent_Kernel13 :=
  fun m ρ _ => (congrArg (fun d => θ_run d (onTc (τ := Cert.Kernel13.τ) (Cert.Kernel13.main (F := Bits))) ⟨m, fun _ => 0, ρ⟩ _)
    defs13_same).mpr (Cert.Kernel13Ideal.NormBwd.call_frame (F := Bits) m ρ)

theorem frame_kernel13Ideal : Cert.quiescent_Kernel13Ideal :=
  fun m ρ _ => Cert.Kernel13Ideal.NormBwd.call_frame m ρ

theorem frame_reference13Ideal : Cert.quiescent_Reference13Ideal :=
  fun m ρ _ => (θ_run Cert.Reference13Ideal.defs _ _).mono
    (fun r h => ⟨fun c => (h c).2.2.2, Idealize.ShloMosaic.sem_eq_zero_of_no_sems (by decide) r.2⟩)
    (Cert.Reference13Ideal.Value.run m ρ)

theorem algebraic13 : Cert.algebraic_Kernel13Ideal_Reference13Ideal := by
  intro m g m' g' _ hm
  refine ⟨fun c => Cert.Kernel13Ideal.NormBwd.refRows m c, fun c => Cert.Kernel13Ideal.NormBwd.refRowsB m c,
    fun c => Cert.Kernel13Ideal.NormBwd.refScale m c, Cert.Kernel13Ideal.NormBwd.call_values m g, ?_⟩
  refine (θ_run _ _ _).mono (fun r h c => ?_) (Cert.Reference13Ideal.Value.run m' g')
  obtain ⟨h0, h1, h2, ha⟩ := h c
  obtain ⟨e0, e1, e2, e3, e4⟩ := hm c
  rw [Cert.Reference13Ideal.Read.val_main_v36_eq, e0, e1, e2, e3, e4] at h0
  rw [Cert.Reference13Ideal.Read.val_main_v37_eq, e0, e1, e2, e3, e4] at h1
  rw [Cert.Reference13Ideal.Read.val_main_v19_eq, e0, e1, e3] at h2
  exact ⟨h0, h1, h2, ha⟩

/-! ## The gradient of the residual stream through the first norm: the first half of the rows -/

/-- The two printed kernels run the same body at every grid point. -/
theorem bodies14_same : Cert.Kernel14.defs₀ (F := Bits) = Cert.Kernel14Ideal.defs₀ (F := Bits) := by
  refine congrArg Defs.onTc ?_
  funext l a
  match l, a with
  | ⟨0, _⟩, (t, s) => rfl

/-- So their body tables are equal. -/
theorem defs14_same : Cert.Kernel14.defs (F := Bits) = Cert.Kernel14Ideal.defs (F := Bits) :=
  congrArg (Pipeline.defs Cert.Kernel14.pcfgs) bodies14_same

set_option maxHeartbeats 1000000 in
/-- The kernel on machine words: the run written for every float instance, read at this one. -/
theorem frame_kernel14 : Cert.quiescent_Kernel14 :=
  fun m ρ _ => (congrArg (fun d => θ_run d (onTc (τ := Cert.Kernel14.τ) (Cert.Kernel14.main (F := Bits))) ⟨m, fun _ => 0, ρ⟩ _)
    defs14_same).mpr (Cert.Kernel14Ideal.NormBwd.call_frame (F := Bits) m ρ)

theorem frame_kernel14Ideal : Cert.quiescent_Kernel14Ideal :=
  fun m ρ _ => Cert.Kernel14Ideal.NormBwd.call_frame m ρ

theorem frame_reference14Ideal : Cert.quiescent_Reference14Ideal :=
  fun m ρ _ => (θ_run Cert.Reference14Ideal.defs _ _).mono
    (fun r h => ⟨fun c => (h c).2.2, Idealize.ShloMosaic.sem_eq_zero_of_no_sems (by decide) r.2⟩)
    (Cert.Reference14Ideal.Value.run m ρ)

theorem algebraic14 : Cert.algebraic_Kernel14Ideal_Reference14Ideal_on_written14 := by
  intro m g m' g' _ hm
  refine ⟨fun c => Cert.Kernel14Ideal.NormBwd.refRows m c, fun c => Cert.Kernel14Ideal.NormBwd.refScale m c, ?_, ?_⟩
  · refine (θ_run _ _ _).mono (fun r h c => ?_) (Cert.Kernel14Ideal.NormBwd.call_values m g)
    obtain ⟨h0, h1, ha⟩ := h c
    refine ⟨fun i hi => ?_, fun i _ => congrFun h1 i, ha⟩
    rw [h0, eq_ix2 i]
    rw [eq_ix2 i] at hi
    exact Cert.Kernel14Ideal.NormBwd.rows_written m c _ _ (Cert.Kernel14Ideal.NormBwd.written_row _ _ _ _ _ _ _ hi)
  · refine (θ_run _ _ _).mono (fun r h c => ?_) (Cert.Reference14Ideal.Value.run m' g')
    obtain ⟨h0, h1, ha⟩ := h c
    obtain ⟨e0, e1, e2, e3, e4⟩ := hm c
    rw [Cert.Reference14Ideal.Read.val_main_v41_eq, e0, e1, e2, e3, e4] at h0
    rw [Cert.Reference14Ideal.Read.val_main_v22_eq, e0, e1, e3] at h1
    exact ⟨fun i _ => congrFun h0 i, fun i _ => congrFun h1 i, ha⟩

/-! ## The second half of the rows, over the results of the first -/

/-- The two printed kernels run the same body at every grid point. -/
theorem bodies15_same : Cert.Kernel15.defs₀ (F := Bits) = Cert.Kernel15Ideal.defs₀ (F := Bits) := by
  refine congrArg Defs.onTc ?_
  funext l a
  match l, a with
  | ⟨0, _⟩, (t, s) => rfl

/-- So their body tables are equal. -/
theorem defs15_same : Cert.Kernel15.defs (F := Bits) = Cert.Kernel15Ideal.defs (F := Bits) :=
  congrArg (Pipeline.defs Cert.Kernel15.pcfgs) bodies15_same

set_option maxHeartbeats 1000000 in
/-- The kernel on machine words: the run written for every float instance, read at this one. -/
theorem frame_kernel15 : Cert.quiescent_Kernel15 :=
  fun m ρ _ => (congrArg (fun d => θ_run d (onTc (τ := Cert.Kernel15.τ) (Cert.Kernel15.main (F := Bits))) ⟨m, fun _ => 0, ρ⟩ _)
    defs15_same).mpr (Cert.Kernel15Ideal.NormBwd.call_frame (F := Bits) m ρ)

theorem frame_kernel15Ideal : Cert.quiescent_Kernel15Ideal :=
  fun m ρ _ => Cert.Kernel15Ideal.NormBwd.call_frame m ρ

theorem frame_reference15Ideal : Cert.quiescent_Reference15Ideal :=
  fun m ρ _ => (θ_run Cert.Reference15Ideal.defs _ _).mono
    (fun r h => ⟨fun c => (h c).2.2, Idealize.ShloMosaic.sem_eq_zero_of_no_sems (by decide) r.2⟩)
    (Cert.Reference15Ideal.Value.run m ρ)

theorem algebraic15 : Cert.algebraic_Kernel15Ideal_Reference15Ideal := by
  intro m g m' g' _ hm
  refine ⟨fun c => Cert.Kernel15Ideal.NormBwd.refRows m c, fun c => Cert.Kernel15Ideal.NormBwd.refScale m c, Cert.Kernel15Ideal.NormBwd.call_values m g, ?_⟩
  refine (θ_run _ _ _).mono (fun r h c => ?_) (Cert.Reference15Ideal.Value.run m' g')
  obtain ⟨h0, h1, ha⟩ := h c
  obtain ⟨e0, e1, e2, e3, e4, e5, e6⟩ := hm c
  rw [Cert.Reference15Ideal.Read.val_main_v41_eq, e0, e1, e2, e3, e4, e5] at h0
  replace h1 := h1.trans (Cert.Reference15Ideal.Read.val_main_v42_eq _ _ _ _)
  rw [e0, e1, e3, e6] at h1
  exact ⟨h0, h1, ha⟩

/-! ## The pooling mixer's forward pass -/

theorem frame_kernel16 : Cert.quiescent_Kernel16 := fun m ρ _ => Cert.Kernel16.Gen.frame (F := Bits) m ρ

theorem frame_kernel16Ideal : Cert.quiescent_Kernel16Ideal := fun m ρ _ => Cert.Kernel16Ideal.Gen.frame (F := Ideal) m ρ

theorem frame_reference16Ideal : Cert.quiescent_Reference16Ideal :=
  fun m ρ _ => (θ_run Cert.Reference16Ideal.defs _ _).mono
    (fun r h => ⟨fun c => (h c).2.2, Idealize.ShloMosaic.sem_eq_zero_of_no_sems (by decide) r.2⟩)
    (Cert.Reference16Ideal.Value.run m ρ)

theorem algebraic16 : Cert.algebraic_Kernel16Ideal_Reference16Ideal := by
  intro m g m' g' _ hm
  refine ⟨fun c => Cert.Kernel16Ideal.PoolFwd.ref2 m c, fun c => Cert.Kernel16Ideal.PoolFwd.ref3 m c, ?_, ?_⟩
  · refine (θ_run _ _ _).mono (fun r h c => ?_) (Cert.Kernel16Ideal.Value.run_blocks m g)
    exact ⟨(h c).1.trans (Cert.Kernel16Ideal.PoolFwd.final2 m c), (h c).2.1.trans (Cert.Kernel16Ideal.PoolFwd.final3 m c), (h c).2.2⟩
  · refine (θ_run _ _ _).mono (fun r h c => ?_) (Cert.Reference16Ideal.Value.run m' g')
    obtain ⟨h0, h1, ha⟩ := h c
    obtain ⟨e0, e1⟩ := hm c
    rw [Cert.Reference16Ideal.Read.val_main_v60_eq, e0] at h0
    rw [Cert.Reference16Ideal.Read.val_main_v61_eq, e0, e1] at h1
    exact ⟨h0, h1, ha⟩

/-! ## All of them -/

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts, Cert.Kernel15.Gen.facts, Cert.Kernel15Ideal.Gen.facts, Cert.Reference15Ideal.Gen.facts,
  Cert.Kernel16.Gen.facts, Cert.Kernel16Ideal.Gen.facts, Cert.Reference16Ideal.Gen.facts,
  Cert.On_written.Gen.facts, Cert.On_written14.Gen.facts,
  frame_kernel, frame_kernelIdeal, frame_referenceIdeal, frame_kernel2, frame_kernel2Ideal, frame_reference2Ideal,
  frame_kernel3, frame_kernel3Ideal, frame_reference3Ideal, frame_kernel4, frame_kernel4Ideal, frame_reference4Ideal,
  frame_kernel5, frame_kernel5Ideal, frame_reference5Ideal, frame_kernel6, frame_kernel6Ideal, frame_reference6Ideal,
  frame_kernel7, frame_kernel7Ideal, frame_reference7Ideal, frame_kernel8, frame_kernel8Ideal, frame_reference8Ideal,
  frame_kernel9, frame_kernel9Ideal, frame_reference9Ideal, frame_kernel10, frame_kernel10Ideal, frame_reference10Ideal,
  frame_kernel11, frame_kernel11Ideal, frame_reference11Ideal, frame_kernel12, frame_kernel12Ideal, frame_reference12Ideal,
  frame_kernel13, frame_kernel13Ideal, frame_reference13Ideal, frame_kernel14, frame_kernel14Ideal, frame_reference14Ideal,
  frame_kernel15, frame_kernel15Ideal, frame_reference15Ideal, frame_kernel16, frame_kernel16Ideal, frame_reference16Ideal,
  trivial, algebraic, trivial, algebraic2, trivial, algebraic3,
  trivial, algebraic4, trivial, algebraic5, trivial, algebraic6,
  trivial, algebraic7, trivial, algebraic8, trivial, algebraic9,
  trivial, algebraic10, trivial, algebraic11, trivial, algebraic12,
  trivial, algebraic13, trivial, algebraic14, trivial, algebraic15,
  trivial, algebraic16⟩

end Cert.Proof

end
